-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mkv (m : (ℓ : Loc Cert.Mkv.nD Cert.Mkv.τ Cert.Mkv.sig) → Buf (Elt Bits) ℓ) : Prop :=
  True

def Pre_MkvIdeal (m : (ℓ : Loc Cert.MkvIdeal.nD Cert.MkvIdeal.τ Cert.MkvIdeal.sig) → Buf (Elt Ideal) ℓ) : Prop :=
  True

def Pre_MkvRefIdeal (m : (ℓ : Loc Cert.MkvRefIdeal.nD Cert.MkvRefIdeal.τ Cert.MkvRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Mkv [hMkv : Cert.Mkv.Facts] : Prop :=
  ∀ (m : (ℓ : Loc Cert.Mkv.nD Cert.Mkv.τ Cert.Mkv.sig) → Buf (Elt Bits) ℓ) (g : Dev Cert.Mkv.nD → PrngReg), Pre_Mkv m →
    θ_run (Cert.Mkv.defs (F := Bits)) (onTc (τ := Cert.Mkv.τ) (Cert.Mkv.main (F := Bits))) ⟨m, fun _ => 0, g⟩ (fun r => (∀ c : Dev Cert.Mkv.nD,
      r.2.mem ((c.tc : Thread Cert.Mkv.nD Cert.Mkv.τ).loc Cert.Mkv.main_arg0) = m ((c.tc : Thread Cert.Mkv.nD Cert.Mkv.τ).loc Cert.Mkv.main_arg0)
      ∧ r.2.mem ((c.tc : Thread Cert.Mkv.nD Cert.Mkv.τ).loc Cert.Mkv.main_arg1) = m ((c.tc : Thread Cert.Mkv.nD Cert.Mkv.τ).loc Cert.Mkv.main_arg1)
      ∧ r.2.mem ((c.tc : Thread Cert.Mkv.nD Cert.Mkv.τ).loc Cert.Mkv.main_arg2) = m ((c.tc : Thread Cert.Mkv.nD Cert.Mkv.τ).loc Cert.Mkv.main_arg2)
      ∧ r.2.mem ((c.tc : Thread Cert.Mkv.nD Cert.Mkv.τ).loc Cert.Mkv.main_arg3) = m ((c.tc : Thread Cert.Mkv.nD Cert.Mkv.τ).loc Cert.Mkv.main_arg3))
      ∧ r.2.sem = fun _ => 0)

def quiescent_MkvIdeal [hMkvIdeal : Cert.MkvIdeal.Facts] : Prop :=
  ∀ (m : (ℓ : Loc Cert.MkvIdeal.nD Cert.MkvIdeal.τ Cert.MkvIdeal.sig) → Buf (Elt Ideal) ℓ) (g : Dev Cert.MkvIdeal.nD → PrngReg), Pre_MkvIdeal m →
    θ_run (Cert.MkvIdeal.defs (F := Ideal)) (onTc (τ := Cert.MkvIdeal.τ) (Cert.MkvIdeal.main (F := Ideal))) ⟨m, fun _ => 0, g⟩ (fun r => (∀ c : Dev Cert.MkvIdeal.nD,
      r.2.mem ((c.tc : Thread Cert.MkvIdeal.nD Cert.MkvIdeal.τ).loc Cert.MkvIdeal.main_arg0) = m ((c.tc : Thread Cert.MkvIdeal.nD Cert.MkvIdeal.τ).loc Cert.MkvIdeal.main_arg0)
      ∧ r.2.mem ((c.tc : Thread Cert.MkvIdeal.nD Cert.MkvIdeal.τ).loc Cert.MkvIdeal.main_arg1) = m ((c.tc : Thread Cert.MkvIdeal.nD Cert.MkvIdeal.τ).loc Cert.MkvIdeal.main_arg1)
      ∧ r.2.mem ((c.tc : Thread Cert.MkvIdeal.nD Cert.MkvIdeal.τ).loc Cert.MkvIdeal.main_arg2) = m ((c.tc : Thread Cert.MkvIdeal.nD Cert.MkvIdeal.τ).loc Cert.MkvIdeal.main_arg2)
      ∧ r.2.mem ((c.tc : Thread Cert.MkvIdeal.nD Cert.MkvIdeal.τ).loc Cert.MkvIdeal.main_arg3) = m ((c.tc : Thread Cert.MkvIdeal.nD Cert.MkvIdeal.τ).loc Cert.MkvIdeal.main_arg3))
      ∧ r.2.sem = fun _ => 0)

def quiescent_MkvRefIdeal [hMkvRefIdeal : Cert.MkvRefIdeal.Facts] : Prop :=
  ∀ (m : (ℓ : Loc Cert.MkvRefIdeal.nD Cert.MkvRefIdeal.τ Cert.MkvRefIdeal.sig) → Buf (Elt Ideal) ℓ) (g : Dev Cert.MkvRefIdeal.nD → PrngReg), Pre_MkvRefIdeal m →
    θ_run (Cert.MkvRefIdeal.defs (F := Ideal)) (onTc (τ := Cert.MkvRefIdeal.τ) (Cert.MkvRefIdeal.main (F := Ideal))) ⟨m, fun _ => 0, g⟩ (fun r => (∀ c : Dev Cert.MkvRefIdeal.nD,
      r.2.mem ((c.tc : Thread Cert.MkvRefIdeal.nD Cert.MkvRefIdeal.τ).loc Cert.MkvRefIdeal.main_arg0) = m ((c.tc : Thread Cert.MkvRefIdeal.nD Cert.MkvRefIdeal.τ).loc Cert.MkvRefIdeal.main_arg0)
      ∧ r.2.mem ((c.tc : Thread Cert.MkvRefIdeal.nD Cert.MkvRefIdeal.τ).loc Cert.MkvRefIdeal.main_arg1) = m ((c.tc : Thread Cert.MkvRefIdeal.nD Cert.MkvRefIdeal.τ).loc Cert.MkvRefIdeal.main_arg1)
      ∧ r.2.mem ((c.tc : Thread Cert.MkvRefIdeal.nD Cert.MkvRefIdeal.τ).loc Cert.MkvRefIdeal.main_arg2) = m ((c.tc : Thread Cert.MkvRefIdeal.nD Cert.MkvRefIdeal.τ).loc Cert.MkvRefIdeal.main_arg2)
      ∧ r.2.mem ((c.tc : Thread Cert.MkvRefIdeal.nD Cert.MkvRefIdeal.τ).loc Cert.MkvRefIdeal.main_arg3) = m ((c.tc : Thread Cert.MkvRefIdeal.nD Cert.MkvRefIdeal.τ).loc Cert.MkvRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def preserves_Attn_AttnIdeal : Prop :=
  IdealRules.named_const.Statement Cert.AttnIdeal.κ "neg" .f32 0xF149F2CA#32 ⊥

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v13)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v13) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v67) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v30)) (v1 : (c : Dev Cert.FfnIdeal.nD) → Buf (Elt Ideal) ((c.tc : Thread Cert.FfnIdeal.nD Cert.FfnIdeal.τ).loc Cert.FfnIdeal.main_v31)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v30) = v0 c
          ∧ r.2.mem ((c.tc : Thread Cert.FfnIdeal.nD Cert.FfnIdeal.τ).loc Cert.FfnIdeal.main_v31) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v51) = v0 c
          ∧ r.2.mem ((c.tc : Thread Cert.FfnRefIdeal.nD Cert.FfnRefIdeal.τ).loc Cert.FfnRefIdeal.main_v53) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Mkv_MkvIdeal : Prop :=
  True

def algebraic_MkvIdeal_MkvRefIdeal [hMkvIdeal : Cert.MkvIdeal.Facts] [hMkvRefIdeal : Cert.MkvRefIdeal.Facts] : Prop :=
  ∀ (m : (ℓ : Loc Cert.MkvIdeal.nD Cert.MkvIdeal.τ Cert.MkvIdeal.sig) → Buf (Elt Ideal) ℓ) (g : Dev Cert.MkvIdeal.nD → PrngReg)
    (m' : (ℓ : Loc Cert.MkvRefIdeal.nD Cert.MkvRefIdeal.τ Cert.MkvRefIdeal.sig) → Buf (Elt Ideal) ℓ) (g' : Dev Cert.MkvRefIdeal.nD → PrngReg), Pre_MkvIdeal m →
    (∀ c : Dev Cert.MkvIdeal.nD,
      m' ((c.tc : Thread Cert.MkvRefIdeal.nD Cert.MkvRefIdeal.τ).loc Cert.MkvRefIdeal.main_arg0) = m ((c.tc : Thread Cert.MkvIdeal.nD Cert.MkvIdeal.τ).loc Cert.MkvIdeal.main_arg0)
      ∧ m' ((c.tc : Thread Cert.MkvRefIdeal.nD Cert.MkvRefIdeal.τ).loc Cert.MkvRefIdeal.main_arg1) = m ((c.tc : Thread Cert.MkvIdeal.nD Cert.MkvIdeal.τ).loc Cert.MkvIdeal.main_arg1)
      ∧ m' ((c.tc : Thread Cert.MkvRefIdeal.nD Cert.MkvRefIdeal.τ).loc Cert.MkvRefIdeal.main_arg2) = m ((c.tc : Thread Cert.MkvIdeal.nD Cert.MkvIdeal.τ).loc Cert.MkvIdeal.main_arg2)
      ∧ m' ((c.tc : Thread Cert.MkvRefIdeal.nD Cert.MkvRefIdeal.τ).loc Cert.MkvRefIdeal.main_arg3) = m ((c.tc : Thread Cert.MkvIdeal.nD Cert.MkvIdeal.τ).loc Cert.MkvIdeal.main_arg3)) →
    ∃ (v0 : (c : Dev Cert.MkvIdeal.nD) → Buf (Elt Ideal) ((c.tc : Thread Cert.MkvIdeal.nD Cert.MkvIdeal.τ).loc Cert.MkvIdeal.main_v8)) (v1 : (c : Dev Cert.MkvIdeal.nD) → Buf (Elt Ideal) ((c.tc : Thread Cert.MkvIdeal.nD Cert.MkvIdeal.τ).loc Cert.MkvIdeal.main_v9)),
      θ_run (Cert.MkvIdeal.defs (F := Ideal)) (onTc (τ := Cert.MkvIdeal.τ) (Cert.MkvIdeal.main (F := Ideal))) ⟨m, fun _ => 0, g⟩ (fun r => ∀ c : Dev Cert.MkvIdeal.nD,
          r.2.mem ((c.tc : Thread Cert.MkvIdeal.nD Cert.MkvIdeal.τ).loc Cert.MkvIdeal.main_v8) = v0 c
          ∧ r.2.mem ((c.tc : Thread Cert.MkvIdeal.nD Cert.MkvIdeal.τ).loc Cert.MkvIdeal.main_v9) = v1 c
          ∧ r.2.mem ((c.tc : Thread Cert.MkvIdeal.nD Cert.MkvIdeal.τ).loc Cert.MkvIdeal.main_arg0) = m ((c.tc : Thread Cert.MkvIdeal.nD Cert.MkvIdeal.τ).loc Cert.MkvIdeal.main_arg0)
          ∧ r.2.mem ((c.tc : Thread Cert.MkvIdeal.nD Cert.MkvIdeal.τ).loc Cert.MkvIdeal.main_arg1) = m ((c.tc : Thread Cert.MkvIdeal.nD Cert.MkvIdeal.τ).loc Cert.MkvIdeal.main_arg1)
          ∧ r.2.mem ((c.tc : Thread Cert.MkvIdeal.nD Cert.MkvIdeal.τ).loc Cert.MkvIdeal.main_arg2) = m ((c.tc : Thread Cert.MkvIdeal.nD Cert.MkvIdeal.τ).loc Cert.MkvIdeal.main_arg2)
          ∧ r.2.mem ((c.tc : Thread Cert.MkvIdeal.nD Cert.MkvIdeal.τ).loc Cert.MkvIdeal.main_arg3) = m ((c.tc : Thread Cert.MkvIdeal.nD Cert.MkvIdeal.τ).loc Cert.MkvIdeal.main_arg3))
      ∧ θ_run (Cert.MkvRefIdeal.defs (F := Ideal)) (onTc (τ := Cert.MkvRefIdeal.τ) (Cert.MkvRefIdeal.main (F := Ideal))) ⟨m', fun _ => 0, g'⟩ (fun r => ∀ c : Dev Cert.MkvRefIdeal.nD,
          r.2.mem ((c.tc : Thread Cert.MkvRefIdeal.nD Cert.MkvRefIdeal.τ).loc Cert.MkvRefIdeal.main_v20) = v0 c
          ∧ r.2.mem ((c.tc : Thread Cert.MkvRefIdeal.nD Cert.MkvRefIdeal.τ).loc Cert.MkvRefIdeal.main_v21) = v1 c
          ∧ r.2.mem ((c.tc : Thread Cert.MkvRefIdeal.nD Cert.MkvRefIdeal.τ).loc Cert.MkvRefIdeal.main_arg0) = m' ((c.tc : Thread Cert.MkvRefIdeal.nD Cert.MkvRefIdeal.τ).loc Cert.MkvRefIdeal.main_arg0)
          ∧ r.2.mem ((c.tc : Thread Cert.MkvRefIdeal.nD Cert.MkvRefIdeal.τ).loc Cert.MkvRefIdeal.main_arg1) = m' ((c.tc : Thread Cert.MkvRefIdeal.nD Cert.MkvRefIdeal.τ).loc Cert.MkvRefIdeal.main_arg1)
          ∧ r.2.mem ((c.tc : Thread Cert.MkvRefIdeal.nD Cert.MkvRefIdeal.τ).loc Cert.MkvRefIdeal.main_arg2) = m' ((c.tc : Thread Cert.MkvRefIdeal.nD Cert.MkvRefIdeal.τ).loc Cert.MkvRefIdeal.main_arg2)
          ∧ r.2.mem ((c.tc : Thread Cert.MkvRefIdeal.nD Cert.MkvRefIdeal.τ).loc Cert.MkvRefIdeal.main_arg3) = m' ((c.tc : Thread Cert.MkvRefIdeal.nD Cert.MkvRefIdeal.τ).loc Cert.MkvRefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v39)) (v1 : (c : Dev Cert.InProjIdeal.nD) → Buf (Elt Ideal) ((c.tc : Thread Cert.InProjIdeal.nD Cert.InProjIdeal.τ).loc Cert.InProjIdeal.main_v40)) (v2 : (c : Dev Cert.InProjIdeal.nD) → Buf (Elt Ideal) ((c.tc : Thread Cert.InProjIdeal.nD Cert.InProjIdeal.τ).loc Cert.InProjIdeal.main_v41)) (v3 : (c : Dev Cert.InProjIdeal.nD) → Buf (Elt Ideal) ((c.tc : Thread Cert.InProjIdeal.nD Cert.InProjIdeal.τ).loc Cert.InProjIdeal.main_v42)) (v4 : (c : Dev Cert.InProjIdeal.nD) → Buf (Elt Ideal) ((c.tc : Thread Cert.InProjIdeal.nD Cert.InProjIdeal.τ).loc Cert.InProjIdeal.main_v43)) (v5 : (c : Dev Cert.InProjIdeal.nD) → Buf (Elt Ideal) ((c.tc : Thread Cert.InProjIdeal.nD Cert.InProjIdeal.τ).loc Cert.InProjIdeal.main_v45)) (v6 : (c : Dev Cert.InProjIdeal.nD) → Buf (Elt Ideal) ((c.tc : Thread Cert.InProjIdeal.nD Cert.InProjIdeal.τ).loc Cert.InProjIdeal.main_v47)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v39) = v0 c
          ∧ r.2.mem ((c.tc : Thread Cert.InProjIdeal.nD Cert.InProjIdeal.τ).loc Cert.InProjIdeal.main_v40) = v1 c
          ∧ r.2.mem ((c.tc : Thread Cert.InProjIdeal.nD Cert.InProjIdeal.τ).loc Cert.InProjIdeal.main_v41) = v2 c
          ∧ r.2.mem ((c.tc : Thread Cert.InProjIdeal.nD Cert.InProjIdeal.τ).loc Cert.InProjIdeal.main_v42) = v3 c
          ∧ r.2.mem ((c.tc : Thread Cert.InProjIdeal.nD Cert.InProjIdeal.τ).loc Cert.InProjIdeal.main_v43) = v4 c
          ∧ r.2.mem ((c.tc : Thread Cert.InProjIdeal.nD Cert.InProjIdeal.τ).loc Cert.InProjIdeal.main_v45) = v5 c
          ∧ r.2.mem ((c.tc : Thread Cert.InProjIdeal.nD Cert.InProjIdeal.τ).loc Cert.InProjIdeal.main_v47) = v6 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v85) = v0 c
          ∧ r.2.mem ((c.tc : Thread Cert.InProjRefIdeal.nD Cert.InProjRefIdeal.τ).loc Cert.InProjRefIdeal.main_v86) = v1 c
          ∧ r.2.mem ((c.tc : Thread Cert.InProjRefIdeal.nD Cert.InProjRefIdeal.τ).loc Cert.InProjRefIdeal.main_v87) = v2 c
          ∧ r.2.mem ((c.tc : Thread Cert.InProjRefIdeal.nD Cert.InProjRefIdeal.τ).loc Cert.InProjRefIdeal.main_v88) = v3 c
          ∧ r.2.mem ((c.tc : Thread Cert.InProjRefIdeal.nD Cert.InProjRefIdeal.τ).loc Cert.InProjRefIdeal.main_v89) = v4 c
          ∧ r.2.mem ((c.tc : Thread Cert.InProjRefIdeal.nD Cert.InProjRefIdeal.τ).loc Cert.InProjRefIdeal.main_v90) = v5 c
          ∧ r.2.mem ((c.tc : Thread Cert.InProjRefIdeal.nD Cert.InProjRefIdeal.τ).loc Cert.InProjRefIdeal.main_v91) = v6 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hMkv : Cert.Mkv.Facts) (hMkvIdeal : Cert.MkvIdeal.Facts) (hMkvRefIdeal : Cert.MkvRefIdeal.Facts) (hInProj : Cert.InProj.Facts) (hInProjIdeal : Cert.InProjIdeal.Facts) (hInProjRefIdeal : Cert.InProjRefIdeal.Facts) (hPre_finite : Cert.Pre_finite.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Mkv (hMkv := hMkv)
    ∧ quiescent_MkvIdeal (hMkvIdeal := hMkvIdeal)
    ∧ quiescent_MkvRefIdeal (hMkvRefIdeal := hMkvRefIdeal)
    ∧ quiescent_InProj (hInProj := hInProj)
    ∧ quiescent_InProjIdeal (hInProjIdeal := hInProjIdeal)
    ∧ quiescent_InProjRefIdeal (hInProjRefIdeal := hInProjRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Ffn_FfnIdeal
    ∧ algebraic_FfnIdeal_FfnRefIdeal (hFfnIdeal := hFfnIdeal) (hFfnRefIdeal := hFfnRefIdeal)
    ∧ preserves_Mkv_MkvIdeal
    ∧ algebraic_MkvIdeal_MkvRefIdeal (hMkvIdeal := hMkvIdeal) (hMkvRefIdeal := hMkvRefIdeal)
    ∧ preserves_InProj_InProjIdeal
    ∧ algebraic_InProjIdeal_InProjRefIdeal (hInProjIdeal := hInProjIdeal) (hInProjRefIdeal := hInProjRefIdeal)
-- ==== Pre_finite.lean ====
abbrev S4x4096x4x128 : Shape := ⟨4, ![4, 4096, 4, 128]⟩
abbrev S1x4x64 : Shape := ⟨3, ![1, 4, 64]⟩
abbrev S1x4x128 : Shape := ⟨3, ![1, 4, 128]⟩
abbrev S_ : Shape := ⟨0, ![]⟩

class Facts : Prop where
  bcast_S_S4x4096x4x128 : S_.BroadcastsInDim S4x4096x4x128 (![] : Fin 0 → Fin S4x4096x4x128.rank)
  reducesTo_S4x4096x4x128_S_d0_1_2_3 : S4x4096x4x128.ReducesTo [0, 1, 2, 3] S_
  h_S_ : 0 < S_.numel
  bcast_S_S1x4x64 : S_.BroadcastsInDim S1x4x64 (![] : Fin 0 → Fin S1x4x64.rank)
  reducesTo_S1x4x64_S_d0_1_2 : S1x4x64.ReducesTo [0, 1, 2] S_

variable [Facts]

def fn_part1 {F : FTy → Type} [FloatOps F] (main_v13 : IVec S_ 1) (main_v16 : IVec S1x4x64 1) : IVec S_ 1 :=
  let main_c_5 : IVec S_ 1 := constantI S_ 1 1#1
  let main_v17 : IVec S_ 1 := (fun x v => Host.reduce IntOp.andi x v reducesTo_S1x4x64_S_d0_1_2 h_S_) main_v16 main_c_5
  let main_v18 : IVec S_ 1 := andi main_v13 main_v17
  main_v18

def fn {F : FTy → Type} [FloatOps F] (main_arg0 : FVec F S4x4096x4x128 .f32) (main_arg1 : FVec F S4x4096x4x128 .f32) (main_arg2 : FVec F S4x4096x4x128 .f32) (main_arg3 : FVec F S1x4x64 .f32) (main_arg4 : FVec F S1x4x128 .f32) : IVec S_ 1 :=
  let main_v0 : FVec F S4x4096x4x128 .f32 := Host.absf main_arg0
  let main_cst : FVec F S_ .f32 := constant S_ .f32 0x7F800000#32
  let main_v1 : FVec F S4x4096x4x128 .f32 := broadcastInDim S4x4096x4x128 ![] bcast_S_S4x4096x4x128 main_cst
  let main_v2 : IVec S4x4096x4x128 1 := cmpf .olt main_v0 main_v1
  let main_c : IVec S_ 1 := constantI S_ 1 1#1
  let main_v3 : IVec S_ 1 := (fun x v => Host.reduce IntOp.andi x v reducesTo_S4x4096x4x128_S_d0_1_2_3 h_S_) main_v2 main_c
  let main_v4 : FVec F S4x4096x4x128 .f32 := Host.absf main_arg1
  let main_cst_0 : FVec F S_ .f32 := constant S_ .f32 0x7F800000#32
  let main_v5 : FVec F S4x4096x4x128 .f32 := broadcastInDim S4x4096x4x128 ![] bcast_S_S4x4096x4x128 main_cst_0
  let main_v6 : IVec S4x4096x4x128 1 := cmpf .olt main_v4 main_v5
  let main_c_1 : IVec S_ 1 := constantI S_ 1 1#1
  let main_v7 : IVec S_ 1 := (fun x v => Host.reduce IntOp.andi x v reducesTo_S4x4096x4x128_S_d0_1_2_3 h_S_) main_v6 main_c_1
  let main_v8 : IVec S_ 1 := andi main_v3 main_v7
  let main_v9 : FVec F S4x4096x4x128 .f32 := Host.absf main_arg2
  let main_cst_2 : FVec F S_ .f32 := constant S_ .f32 0x7F800000#32
  let main_v10 : FVec F S4x4096x4x128 .f32 := broadcastInDim S4x4096x4x128 ![] bcast_S_S4x4096x4x128 main_cst_2
  let main_v11 : IVec S4x4096x4x128 1 := cmpf .olt main_v9 main_v10
  let main_c_3 : IVec S_ 1 := constantI S_ 1 1#1
  let main_v12 : IVec S_ 1 := (fun x v => Host.reduce IntOp.andi x v reducesTo_S4x4096x4x128_S_d0_1_2_3 h_S_) main_v11 main_c_3
  let main_v13 : IVec S_ 1 := andi main_v8 main_v12
  let main_v14 : FVec F S1x4x64 .f32 := Host.absf main_arg3
  let main_cst_4 : FVec F S_ .f32 := constant S_ .f32 0x7F800000#32
  let main_v15 : FVec F S1x4x64 .f32 := broadcastInDim S1x4x64 ![] bcast_S_S1x4x64 main_cst_4
  let main_v16 : IVec S1x4x64 1 := cmpf .olt main_v14 main_v15
  fn_part1 (F := F) main_v13 main_v16
-- ==== Attn.lean ====
abbrev S4x4096x4x128 : Shape := ⟨4, ![4, 4096, 4, 128]⟩
abbrev S1x4x64 : Shape := ⟨3, ![1, 4, 64]⟩
abbrev S1x4x128 : Shape := ⟨3, ![1, 4, 128]⟩
abbrev S_ : Shape := ⟨0, ![]⟩
abbrev S16384x512 : Shape := ⟨2, ![16384, 512]⟩
abbrev S4x64 : Shape := ⟨2, ![4, 64]⟩
abbrev S4x128 : Shape := ⟨2, ![4, 128]⟩
abbrev S4x1x128 : Shape := ⟨3, ![4, 1, 128]⟩
abbrev S512x256 : Shape := ⟨2, ![512, 256]⟩
abbrev S4096x256 : Shape := ⟨2, ![4096, 256]⟩
abbrev S2x1x128 : Shape := ⟨3, ![2, 1, 128]⟩
abbrev S2x8x128x512 : Shape := ⟨4, ![2, 8, 128, 512]⟩
abbrev S2x512x1024 : Shape := ⟨3, ![2, 512, 1024]⟩
abbrev S2x1x1024 : Shape := ⟨3, ![2, 1, 1024]⟩
abbrev S2x128x1024 : Shape := ⟨3, ![2, 128, 1024]⟩
abbrev S512x128 : Shape := ⟨2, ![512, 128]⟩
abbrev S128x512 : Shape := ⟨2, ![128, 512]⟩
abbrev S1x1x128x512 : Shape := ⟨4, ![1, 1, 128, 512]⟩
abbrev S128x1024 : Shape := ⟨2, ![128, 1024]⟩
abbrev S512x1024 : Shape := ⟨2, ![512, 1024]⟩
abbrev S1x512x1024 : Shape := ⟨3, ![1, 512, 1024]⟩
abbrev S1x1x1024 : Shape := ⟨3, ![1, 1, 1024]⟩
abbrev S1x1024 : Shape := ⟨2, ![1, 1024]⟩
abbrev S1024 : Shape := ⟨1, ![1024]⟩
abbrev S1x128x1024 : Shape := ⟨3, ![1, 128, 1024]⟩
abbrev S1x64 : Shape := ⟨2, ![1, 64]⟩
abbrev S1 : Shape := ⟨1, ![1]⟩
abbrev S1x1 : Shape := ⟨2, ![1, 1]⟩
abbrev S512 : Shape := ⟨1, ![512]⟩
abbrev S1x512 : Shape := ⟨2, ![1, 512]⟩
abbrev S1x1x128 : Shape := ⟨3, ![1, 1, 128]⟩
abbrev S1x128 : Shape := ⟨2, ![1, 128]⟩

abbrev nBuf : Space → Nat
  | .hbm => 21
  | .vmem => 17
  | .smem => 0
  | _ => 0

abbrev bufTy : (tb : Table) → Fin (tcTables nBuf tb) → BufTy
  | .hbm, ⟨0, _⟩ => ⟨S4x4096x4x128, .f32⟩
  | .hbm, ⟨1, _⟩ => ⟨S4x4096x4x128, .f32⟩
  | .hbm, ⟨2, _⟩ => ⟨S4x4096x4x128, .f32⟩
  | .hbm, ⟨3, _⟩ => ⟨S1x4x64, .f32⟩
  | .hbm, ⟨4, _⟩ => ⟨S1x4x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4x4096x4x128, .f32⟩
  | .hbm, ⟨10, _⟩ => ⟨S4x4096x4x128, .f32⟩
  | .hbm, ⟨11, _⟩ => ⟨S4x4096x4x128, .bf16⟩
  | .hbm, ⟨12, _⟩ => ⟨S16384x512, .bf16⟩
  | .hbm, ⟨13, _⟩ => ⟨S4x4096x4x128, .bf16⟩
  | .hbm, ⟨14, _⟩ => ⟨S16384x512, .bf16⟩
  | .hbm, ⟨15, _⟩ => ⟨S4x4096x4x128, .bf16⟩
  | .hbm, ⟨16, _⟩ => ⟨S16384x512, .bf16⟩
  | .hbm, ⟨17, _⟩ => ⟨S4x64, .f32⟩
  | .hbm, ⟨18, _⟩ => ⟨S4x128, .f32⟩
  | .hbm, ⟨19, _⟩ => ⟨S4x1x128, .f32⟩
  | .hbm, ⟨20, _⟩ => ⟨S16384x512, .bf16⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4x64, .f32⟩
  | .local _ .vmem, ⟨7, _⟩ => ⟨S2x1x128, .f32⟩
  | .local _ .vmem, ⟨8, _⟩ => ⟨S2x1x128, .f32⟩
  | .local _ .vmem, ⟨9, _⟩ => ⟨S512x256, .bf16⟩
  | .local _ .vmem, ⟨10, _⟩ => ⟨S512x256, .bf16⟩
  | .local _ .vmem, ⟨11, _⟩ => ⟨S2x8x128x512, .bf16⟩
  | .local _ .vmem, ⟨12, _⟩ => ⟨S2x512x1024, .f32⟩
  | .local _ .vmem, ⟨13, _⟩ => ⟨S2x512x1024, .f32⟩
  | .local _ .vmem, ⟨14, _⟩ => ⟨S2x1x1024, .f32⟩
  | .local _ .vmem, ⟨15, _⟩ => ⟨S2x1x1024, .f32⟩
  | .local _ .vmem, ⟨16, _⟩ => ⟨S2x128x1024, .f32⟩
  | _, _ => ⟨S4x4096x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 2, 8], ![false, false, false]⟩

def k0_mult1 : BitVec 32 :=
  let c0_i32_21 : BitVec 32 := 0#32
  c0_i32_21
@[reducible] def k0_t1_loop (i : grid0.Coords) : Scf.Loop 32 :=
  let c0_i32_37 : BitVec 32 := 0#32
  let arg2 : BitVec 32 := BitVec.ofNat 32 (i 2).val
  let c0_i32_31 : BitVec 32 := 0#32
  let v61 : BitVec 1 := Scalar.cmpi .sgt arg2 c0_i32_31
  let v62 : BitVec 32 := Scalar.extui v61
  let c0_i32_32 : BitVec 32 := 0#32
  let v63 : BitVec 1 := Scalar.cmpi .slt arg2 c0_i32_32
  let v64 : BitVec 32 := Scalar.extui v63
  let v65 : BitVec 32 := Scalar.subi v62 v64
  let c2_i32 : BitVec 32 := 2#32
  let c0_i32_33 : BitVec 32 := 0#32
  let v66 : BitVec 1 := Scalar.cmpi .sgt c2_i32 c0_i32_33
  let v67 : BitVec 32 := Scalar.extui v66
  let c0_i32_34 : BitVec 32 := 0#32
  let v68 : BitVec 1 := Scalar.cmpi .slt c2_i32 c0_i32_34
  let v69 : BitVec 32 := Scalar.extui v68
  let v70 : BitVec 32 := Scalar.subi v67 v69
  let v71 : BitVec 1 := Scalar.cmpi .ne v65 v70
  let v72 : BitVec 32 := Scalar.remsi arg2 c2_i32
  let c0_i32_35 : BitVec 32 := 0#32
  let v73 : BitVec 1 := Scalar.cmpi .ne v72 c0_i32_35
  let v74 : BitVec 1 := Scalar.andi v71 v73
  let v60 : BitVec 32 := Scalar.divsi arg2 c2_i32
  let c1_i32 : BitVec 32 := 1#32
  let v75 : BitVec 32 := Scalar.subi v60 c1_i32
  let v76 : BitVec 32 := Scalar.select v74 v75 v60
  let v77 : BitVec 32 := Scalar.subi v76 c0_i32_37
  let c1_i32_38 : BitVec 32 := 1#32
  let v79 : BitVec 32 := Scalar.divsi v77 c1_i32_38
  let v80 : BitVec 32 := Scalar.muli v79 c1_i32_38
  let v81 : BitVec 32 := Scalar.addi c0_i32_37 v80
  let c1_i32_39 : BitVec 32 := 1#32
  ⟨c0_i32_37, v81, c1_i32_39⟩
def k0_mult2 (i : grid0.Coords) (k0_t1 : Fin (k0_t1_loop i).trips) : BitVec 32 :=
  let c2_i32_92 : BitVec 32 := 2#32
  let c0_i32_37 : BitVec 32 := 0#32
  let c1_i32_39 : BitVec 32 := 1#32
  let arg15 : BitVec 32 := Scf.iv c0_i32_37 c1_i32_39 k0_t1
  let v185 : BitVec 32 := Scalar.muli c2_i32_92 arg15
  let c1_i32_93 : BitVec 32 := 1#32
  let v186 : BitVec 32 := Scalar.addi v185 c1_i32_93
  let c512_i32 : BitVec 32 := 512#32
  let v187 : BitVec 32 := Scalar.muli v186 c512_i32
  v187
def k0_off1 (i : grid0.Coords) (k0_t1 : Fin (k0_t1_loop i).trips) (c1_i32_93 : BitVec 32) : Fin 2 → Nat :=
  let c2_i32_92 : BitVec 32 := 2#32
  let c0_i32_37 : BitVec 32 := 0#32
  let c1_i32_39 : BitVec 32 := 1#32
  let arg15 : BitVec 32 := Scf.iv c0_i32_37 c1_i32_39 k0_t1
  let v185 : BitVec 32 := Scalar.muli c2_i32_92 arg15
  let v186 : BitVec 32 := Scalar.addi v185 c1_i32_93
  let c512_i32 : BitVec 32 := 512#32
  let v187 : BitVec 32 := Scalar.muli v186 c512_i32
  let v188 : BitVec 32 := v187
  let v189 : Index := Scalar.indexCast v188
  let c0_94 : Index := 0#32
  ![v189.toNat, 0]
def k0_off2 (i : grid0.Coords) (k0_t1 : Fin (k0_t1_loop i).trips) (c1_i32_93 : BitVec 32) : Fin 2 → Nat :=
  let c2_i32_92 : BitVec 32 := 2#32
  let c0_i32_37 : BitVec 32 := 0#32
  let c1_i32_39 : BitVec 32 := 1#32
  let arg15 : BitVec 32 := Scf.iv c0_i32_37 c1_i32_39 k0_t1
  let v185 : BitVec 32 := Scalar.muli c2_i32_92 arg15
  let v186 : BitVec 32 := Scalar.addi v185 c1_i32_93
  let c512_i32 : BitVec 32 := 512#32
  let v187 : BitVec 32 := Scalar.muli v186 c512_i32
  let v188 : BitVec 32 := v187
  let v196 : Index := Scalar.indexCast v188
  let c128_99 : Index := 128#32
  ![v196.toNat, 128]
def k0_off3 (i : grid0.Coords) (k0_t1 : Fin (k0_t1_loop i).trips) : Fin 4 → Nat :=
  let c0_142 : Index := 0#32
  let c2_i32_104 : BitVec 32 := 2#32
  let c0_i32_37 : BitVec 32 := 0#32
  let c1_i32_39 : BitVec 32 := 1#32
  let arg15 : BitVec 32 := Scf.iv c0_i32_37 c1_i32_39 k0_t1
  let v203 : BitVec 32 := Scalar.muli c2_i32_104 arg15
  let v258 : Index := Scalar.indexCast v203
  let c0_143 : Index := 0#32
  let c0_144 : Index := 0#32
  ![0, v258.toNat, 0, 0]
def k0_off4 (i : grid0.Coords) (k0_t1 : Fin (k0_t1_loop i).trips) : Fin 4 → Nat :=
  let c1_152 : Index := 1#32
  let c2_i32_104 : BitVec 32 := 2#32
  let c0_i32_37 : BitVec 32 := 0#32
  let c1_i32_39 : BitVec 32 := 1#32
  let arg15 : BitVec 32 := Scf.iv c0_i32_37 c1_i32_39 k0_t1
  let v203 : BitVec 32 := Scalar.muli c2_i32_104 arg15
  let v270 : Index := Scalar.indexCast v203
  let c0_153 : Index := 0#32
  let c0_154 : Index := 0#32
  ![1, v270.toNat, 0, 0]
def k0_mult3 (i : grid0.Coords) (k0_t1 : Fin (k0_t1_loop i).trips) : BitVec 32 :=
  let c2_i32_159 : BitVec 32 := 2#32
  let c0_i32_37 : BitVec 32 := 0#32
  let c1_i32_39 : BitVec 32 := 1#32
  let arg15 : BitVec 32 := Scf.iv c0_i32_37 c1_i32_39 k0_t1
  let v278 : BitVec 32 := Scalar.muli c2_i32_159 arg15
  let c2_i32_160 : BitVec 32 := 2#32
  let v279 : BitVec 32 := Scalar.addi v278 c2_i32_160
  let c512_i32_161 : BitVec 32 := 512#32
  let v280 : BitVec 32 := Scalar.muli v279 c512_i32_161
  v280
def k0_off5 (i : grid0.Coords) (k0_t1 : Fin (k0_t1_loop i).trips) : Fin 4 → Nat :=
  let c0_211 : Index := 0#32
  let c2_i32_172 : BitVec 32 := 2#32
  let c0_i32_37 : BitVec 32 := 0#32
  let c1_i32_39 : BitVec 32 := 1#32
  let arg15 : BitVec 32 := Scf.iv c0_i32_37 c1_i32_39 k0_t1
  let v296 : BitVec 32 := Scalar.muli c2_i32_172 arg15
  let c1_i32_173 : BitVec 32 := 1#32
  let v297 : BitVec 32 := Scalar.addi v296 c1_i32_173
  let v352 : Index := Scalar.indexCast v297
  let c0_212 : Index := 0#32
  let c0_213 : Index := 0#32
  ![0, v352.toNat, 0, 0]
def k0_off6 (i : grid0.Coords) (k0_t1 : Fin (k0_t1_loop i).trips) : Fin 4 → Nat :=
  let c1_221 : Index := 1#32
  let c2_i32_172 : BitVec 32 := 2#32
  let c0_i32_37 : BitVec 32 := 0#32
  let c1_i32_39 : BitVec 32 := 1#32
  let arg15 : BitVec 32 := Scf.iv c0_i32_37 c1_i32_39 k0_t1
  let v296 : BitVec 32 := Scalar.muli c2_i32_172 arg15
  let c1_i32_173 : BitVec 32 := 1#32
  let v297 : BitVec 32 := Scalar.addi v296 c1_i32_173
  let v364 : Index := Scalar.indexCast v297
  let c0_222 : Index := 0#32
  let c0_223 : Index := 0#32
  ![1, v364.toNat, 0, 0]
@[reducible] def k0_t2_loop (i : grid0.Coords) : Scf.Loop 32 :=
  let c0_i32_37 : BitVec 32 := 0#32
  let arg2 : BitVec 32 := BitVec.ofNat 32 (i 2).val
  let c0_i32_31 : BitVec 32 := 0#32
  let v61 : BitVec 1 := Scalar.cmpi .sgt arg2 c0_i32_31
  let v62 : BitVec 32 := Scalar.extui v61
  let c0_i32_32 : BitVec 32 := 0#32
  let v63 : BitVec 1 := Scalar.cmpi .slt arg2 c0_i32_32
  let v64 : BitVec 32 := Scalar.extui v63
  let v65 : BitVec 32 := Scalar.subi v62 v64
  let c2_i32 : BitVec 32 := 2#32
  let c0_i32_33 : BitVec 32 := 0#32
  let v66 : BitVec 1 := Scalar.cmpi .sgt c2_i32 c0_i32_33
  let v67 : BitVec 32 := Scalar.extui v66
  let c0_i32_34 : BitVec 32 := 0#32
  let v68 : BitVec 1 := Scalar.cmpi .slt c2_i32 c0_i32_34
  let v69 : BitVec 32 := Scalar.extui v68
  let v70 : BitVec 32 := Scalar.subi v67 v69
  let v71 : BitVec 1 := Scalar.cmpi .ne v65 v70
  let v72 : BitVec 32 := Scalar.remsi arg2 c2_i32
  let c0_i32_35 : BitVec 32 := 0#32
  let v73 : BitVec 1 := Scalar.cmpi .ne v72 c0_i32_35
  let v74 : BitVec 1 := Scalar.andi v71 v73
  let v60 : BitVec 32 := Scalar.divsi arg2 c2_i32
  let c1_i32 : BitVec 32 := 1#32
  let v75 : BitVec 32 := Scalar.subi v60 c1_i32
  let v76 : BitVec 32 := Scalar.select v74 v75 v60
  let v77 : BitVec 32 := Scalar.subi v76 c0_i32_37
  let c1_i32_38 : BitVec 32 := 1#32
  let v79 : BitVec 32 := Scalar.divsi v77 c1_i32_38
  let v80 : BitVec 32 := Scalar.muli v79 c1_i32_38
  let v81 : BitVec 32 := Scalar.addi c0_i32_37 v80
  let v78 : BitVec 32 := Scalar.addi c0_i32_37 v77
  let c1_i32_40 : BitVec 32 := 1#32
  ⟨v81, v78, c1_i32_40⟩
def k0_mult4 (i : grid0.Coords) (k0_t2 : Fin (k0_t2_loop i).trips) : BitVec 32 :=
  let c2_i32_92 : BitVec 32 := 2#32
  let c0_i32_37 : BitVec 32 := 0#32
  let arg2 : BitVec 32 := BitVec.ofNat 32 (i 2).val
  let c0_i32_31 : BitVec 32 := 0#32
  let v61 : BitVec 1 := Scalar.cmpi .sgt arg2 c0_i32_31
  let v62 : BitVec 32 := Scalar.extui v61
  let c0_i32_32 : BitVec 32 := 0#32
  let v63 : BitVec 1 := Scalar.cmpi .slt arg2 c0_i32_32
  let v64 : BitVec 32 := Scalar.extui v63
  let v65 : BitVec 32 := Scalar.subi v62 v64
  let c2_i32 : BitVec 32 := 2#32
  let c0_i32_33 : BitVec 32 := 0#32
  let v66 : BitVec 1 := Scalar.cmpi .sgt c2_i32 c0_i32_33
  let v67 : BitVec 32 := Scalar.extui v66
  let c0_i32_34 : BitVec 32 := 0#32
  let v68 : BitVec 1 := Scalar.cmpi .slt c2_i32 c0_i32_34
  let v69 : BitVec 32 := Scalar.extui v68
  let v70 : BitVec 32 := Scalar.subi v67 v69
  let v71 : BitVec 1 := Scalar.cmpi .ne v65 v70
  let v72 : BitVec 32 := Scalar.remsi arg2 c2_i32
  let c0_i32_35 : BitVec 32 := 0#32
  let v73 : BitVec 1 := Scalar.cmpi .ne v72 c0_i32_35
  let v74 : BitVec 1 := Scalar.andi v71 v73
  let v60 : BitVec 32 := Scalar.divsi arg2 c2_i32
  let c1_i32 : BitVec 32 := 1#32
  let v75 : BitVec 32 := Scalar.subi v60 c1_i32
  let v76 : BitVec 32 := Scalar.select v74 v75 v60
  let v77 : BitVec 32 := Scalar.subi v76 c0_i32_37
  let c1_i32_38 : BitVec 32 := 1#32
  let v79 : BitVec 32 := Scalar.divsi v77 c1_i32_38
  let v80 : BitVec 32 := Scalar.muli v79 c1_i32_38
  let v81 : BitVec 32 := Scalar.addi c0_i32_37 v80
  let c1_i32_40 : BitVec 32 := 1#32
  let arg15 : BitVec 32 := Scf.iv v81 c1_i32_40 k0_t2
  let v185 : BitVec 32 := Scalar.muli c2_i32_92 arg15
  let c1_i32_93 : BitVec 32 := 1#32
  let v186 : BitVec 32 := Scalar.addi v185 c1_i32_93
  let c512_i32 : BitVec 32 := 512#32
  let v187 : BitVec 32 := Scalar.muli v186 c512_i32
  v187
def k0_off7 (i : grid0.Coords) (k0_t2 : Fin (k0_t2_loop i).trips) (c1_i32_93 : BitVec 32) : Fin 2 → Nat :=
  let c2_i32_92 : BitVec 32 := 2#32
  let c0_i32_37 : BitVec 32 := 0#32
  let arg2 : BitVec 32 := BitVec.ofNat 32 (i 2).val
  let c0_i32_31 : BitVec 32 := 0#32
  let v61 : BitVec 1 := Scalar.cmpi .sgt arg2 c0_i32_31
  let v62 : BitVec 32 := Scalar.extui v61
  let c0_i32_32 : BitVec 32 := 0#32
  let v63 : BitVec 1 := Scalar.cmpi .slt arg2 c0_i32_32
  let v64 : BitVec 32 := Scalar.extui v63
  let v65 : BitVec 32 := Scalar.subi v62 v64
  let c2_i32 : BitVec 32 := 2#32
  let c0_i32_33 : BitVec 32 := 0#32
  let v66 : BitVec 1 := Scalar.cmpi .sgt c2_i32 c0_i32_33
  let v67 : BitVec 32 := Scalar.extui v66
  let c0_i32_34 : BitVec 32 := 0#32
  let v68 : BitVec 1 := Scalar.cmpi .slt c2_i32 c0_i32_34
  let v69 : BitVec 32 := Scalar.extui v68
  let v70 : BitVec 32 := Scalar.subi v67 v69
  let v71 : BitVec 1 := Scalar.cmpi .ne v65 v70
  let v72 : BitVec 32 := Scalar.remsi arg2 c2_i32
  let c0_i32_35 : BitVec 32 := 0#32
  let v73 : BitVec 1 := Scalar.cmpi .ne v72 c0_i32_35
  let v74 : BitVec 1 := Scalar.andi v71 v73
  let v60 : BitVec 32 := Scalar.divsi arg2 c2_i32
  let c1_i32 : BitVec 32 := 1#32
  let v75 : BitVec 32 := Scalar.subi v60 c1_i32
  let v76 : BitVec 32 := Scalar.select v74 v75 v60
  let v77 : BitVec 32 := Scalar.subi v76 c0_i32_37
  let c1_i32_38 : BitVec 32 := 1#32
  let v79 : BitVec 32 := Scalar.divsi v77 c1_i32_38
  let v80 : BitVec 32 := Scalar.muli v79 c1_i32_38
  let v81 : BitVec 32 := Scalar.addi c0_i32_37 v80
  let c1_i32_40 : BitVec 32 := 1#32
  let arg15 : BitVec 32 := Scf.iv v81 c1_i32_40 k0_t2
  let v185 : BitVec 32 := Scalar.muli c2_i32_92 arg15
  let v186 : BitVec 32 := Scalar.addi v185 c1_i32_93
  let c512_i32 : BitVec 32 := 512#32
  let v187 : BitVec 32 := Scalar.muli v186 c512_i32
  let v188 : BitVec 32 := v187
  let v189 : Index := Scalar.indexCast v188
  let c0_94 : Index := 0#32
  ![v189.toNat, 0]
def k0_off8 (i : grid0.Coords) (k0_t2 : Fin (k0_t2_loop i).trips) (c1_i32_93 : BitVec 32) : Fin 2 → Nat :=
  let c2_i32_92 : BitVec 32 := 2#32
  let c0_i32_37 : BitVec 32 := 0#32
  let arg2 : BitVec 32 := BitVec.ofNat 32 (i 2).val
  let c0_i32_31 : BitVec 32 := 0#32
  let v61 : BitVec 1 := Scalar.cmpi .sgt arg2 c0_i32_31
  let v62 : BitVec 32 := Scalar.extui v61
  let c0_i32_32 : BitVec 32 := 0#32
  let v63 : BitVec 1 := Scalar.cmpi .slt arg2 c0_i32_32
  let v64 : BitVec 32 := Scalar.extui v63
  let v65 : BitVec 32 := Scalar.subi v62 v64
  let c2_i32 : BitVec 32 := 2#32
  let c0_i32_33 : BitVec 32 := 0#32
  let v66 : BitVec 1 := Scalar.cmpi .sgt c2_i32 c0_i32_33
  let v67 : BitVec 32 := Scalar.extui v66
  let c0_i32_34 : BitVec 32 := 0#32
  let v68 : BitVec 1 := Scalar.cmpi .slt c2_i32 c0_i32_34
  let v69 : BitVec 32 := Scalar.extui v68
  let v70 : BitVec 32 := Scalar.subi v67 v69
  let v71 : BitVec 1 := Scalar.cmpi .ne v65 v70
  let v72 : BitVec 32 := Scalar.remsi arg2 c2_i32
  let c0_i32_35 : BitVec 32 := 0#32
  let v73 : BitVec 1 := Scalar.cmpi .ne v72 c0_i32_35
  let v74 : BitVec 1 := Scalar.andi v71 v73
  let v60 : BitVec 32 := Scalar.divsi arg2 c2_i32
  let c1_i32 : BitVec 32 := 1#32
  let v75 : BitVec 32 := Scalar.subi v60 c1_i32
  let v76 : BitVec 32 := Scalar.select v74 v75 v60
  let v77 : BitVec 32 := Scalar.subi v76 c0_i32_37
  let c1_i32_38 : BitVec 32 := 1#32
  let v79 : BitVec 32 := Scalar.divsi v77 c1_i32_38
  let v80 : BitVec 32 := Scalar.muli v79 c1_i32_38
  let v81 : BitVec 32 := Scalar.addi c0_i32_37 v80
  let c1_i32_40 : BitVec 32 := 1#32
  let arg15 : BitVec 32 := Scf.iv v81 c1_i32_40 k0_t2
  let v185 : BitVec 32 := Scalar.muli c2_i32_92 arg15
  let v186 : BitVec 32 := Scalar.addi v185 c1_i32_93
  let c512_i32 : BitVec 32 := 512#32
  let v187 : BitVec 32 := Scalar.muli v186 c512_i32
  let v188 : BitVec 32 := v187
  let v196 : Index := Scalar.indexCast v188
  let c128_99 : Index := 128#32
  ![v196.toNat, 128]
def k0_off9 (i : grid0.Coords) (k0_t2 : Fin (k0_t2_loop i).trips) : Fin 4 → Nat :=
  let c0_142 : Index := 0#32
  let c2_i32_104 : BitVec 32 := 2#32
  let c0_i32_37 : BitVec 32 := 0#32
  let arg2 : BitVec 32 := BitVec.ofNat 32 (i 2).val
  let c0_i32_31 : BitVec 32 := 0#32
  let v61 : BitVec 1 := Scalar.cmpi .sgt arg2 c0_i32_31
  let v62 : BitVec 32 := Scalar.extui v61
  let c0_i32_32 : BitVec 32 := 0#32
  let v63 : BitVec 1 := Scalar.cmpi .slt arg2 c0_i32_32
  let v64 : BitVec 32 := Scalar.extui v63
  let v65 : BitVec 32 := Scalar.subi v62 v64
  let c2_i32 : BitVec 32 := 2#32
  let c0_i32_33 : BitVec 32 := 0#32
  let v66 : BitVec 1 := Scalar.cmpi .sgt c2_i32 c0_i32_33
  let v67 : BitVec 32 := Scalar.extui v66
  let c0_i32_34 : BitVec 32 := 0#32
  let v68 : BitVec 1 := Scalar.cmpi .slt c2_i32 c0_i32_34
  let v69 : BitVec 32 := Scalar.extui v68
  let v70 : BitVec 32 := Scalar.subi v67 v69
  let v71 : BitVec 1 := Scalar.cmpi .ne v65 v70
  let v72 : BitVec 32 := Scalar.remsi arg2 c2_i32
  let c0_i32_35 : BitVec 32 := 0#32
  let v73 : BitVec 1 := Scalar.cmpi .ne v72 c0_i32_35
  let v74 : BitVec 1 := Scalar.andi v71 v73
  let v60 : BitVec 32 := Scalar.divsi arg2 c2_i32
  let c1_i32 : BitVec 32 := 1#32
  let v75 : BitVec 32 := Scalar.subi v60 c1_i32
  let v76 : BitVec 32 := Scalar.select v74 v75 v60
  let v77 : BitVec 32 := Scalar.subi v76 c0_i32_37
  let c1_i32_38 : BitVec 32 := 1#32
  let v79 : BitVec 32 := Scalar.divsi v77 c1_i32_38
  let v80 : BitVec 32 := Scalar.muli v79 c1_i32_38
  let v81 : BitVec 32 := Scalar.addi c0_i32_37 v80
  let c1_i32_40 : BitVec 32 := 1#32
  let arg15 : BitVec 32 := Scf.iv v81 c1_i32_40 k0_t2
  let v203 : BitVec 32 := Scalar.muli c2_i32_104 arg15
  let v258 : Index := Scalar.indexCast v203
  let c0_143 : Index := 0#32
  let c0_144 : Index := 0#32
  ![0, v258.toNat, 0, 0]
def k0_off10 (i : grid0.Coords) (k0_t2 : Fin (k0_t2_loop i).trips) : Fin 4 → Nat :=
  let c1_152 : Index := 1#32
  let c2_i32_104 : BitVec 32 := 2#32
  let c0_i32_37 : BitVec 32 := 0#32
  let arg2 : BitVec 32 := BitVec.ofNat 32 (i 2).val
  let c0_i32_31 : BitVec 32 := 0#32
  let v61 : BitVec 1 := Scalar.cmpi .sgt arg2 c0_i32_31
  let v62 : BitVec 32 := Scalar.extui v61
  let c0_i32_32 : BitVec 32 := 0#32
  let v63 : BitVec 1 := Scalar.cmpi .slt arg2 c0_i32_32
  let v64 : BitVec 32 := Scalar.extui v63
  let v65 : BitVec 32 := Scalar.subi v62 v64
  let c2_i32 : BitVec 32 := 2#32
  let c0_i32_33 : BitVec 32 := 0#32
  let v66 : BitVec 1 := Scalar.cmpi .sgt c2_i32 c0_i32_33
  let v67 : BitVec 32 := Scalar.extui v66
  let c0_i32_34 : BitVec 32 := 0#32
  let v68 : BitVec 1 := Scalar.cmpi .slt c2_i32 c0_i32_34
  let v69 : BitVec 32 := Scalar.extui v68
  let v70 : BitVec 32 := Scalar.subi v67 v69
  let v71 : BitVec 1 := Scalar.cmpi .ne v65 v70
  let v72 : BitVec 32 := Scalar.remsi arg2 c2_i32
  let c0_i32_35 : BitVec 32 := 0#32
  let v73 : BitVec 1 := Scalar.cmpi .ne v72 c0_i32_35
  let v74 : BitVec 1 := Scalar.andi v71 v73
  let v60 : BitVec 32 := Scalar.divsi arg2 c2_i32
  let c1_i32 : BitVec 32 := 1#32
  let v75 : BitVec 32 := Scalar.subi v60 c1_i32
  let v76 : BitVec 32 := Scalar.select v74 v75 v60
  let v77 : BitVec 32 := Scalar.subi v76 c0_i32_37
  let c1_i32_38 : BitVec 32 := 1#32
  let v79 : BitVec 32 := Scalar.divsi v77 c1_i32_38
  let v80 : BitVec 32 := Scalar.muli v79 c1_i32_38
  let v81 : BitVec 32 := Scalar.addi c0_i32_37 v80
  let c1_i32_40 : BitVec 32 := 1#32
  let arg15 : BitVec 32 := Scf.iv v81 c1_i32_40 k0_t2
  let v203 : BitVec 32 := Scalar.muli c2_i32_104 arg15
  let v270 : Index := Scalar.indexCast v203
  let c0_153 : Index := 0#32
  let c0_154 : Index := 0#32
  ![1, v270.toNat, 0, 0]
def k0_mult5 (i : grid0.Coords) (k0_t2 : Fin (k0_t2_loop i).trips) : BitVec 32 :=
  let c2_i32_159 : BitVec 32 := 2#32
  let c0_i32_37 : BitVec 32 := 0#32
  let arg2 : BitVec 32 := BitVec.ofNat 32 (i 2).val
  let c0_i32_31 : BitVec 32 := 0#32
  let v61 : BitVec 1 := Scalar.cmpi .sgt arg2 c0_i32_31
  let v62 : BitVec 32 := Scalar.extui v61
  let c0_i32_32 : BitVec 32 := 0#32
  let v63 : BitVec 1 := Scalar.cmpi .slt arg2 c0_i32_32
  let v64 : BitVec 32 := Scalar.extui v63
  let v65 : BitVec 32 := Scalar.subi v62 v64
  let c2_i32 : BitVec 32 := 2#32
  let c0_i32_33 : BitVec 32 := 0#32
  let v66 : BitVec 1 := Scalar.cmpi .sgt c2_i32 c0_i32_33
  let v67 : BitVec 32 := Scalar.extui v66
  let c0_i32_34 : BitVec 32 := 0#32
  let v68 : BitVec 1 := Scalar.cmpi .slt c2_i32 c0_i32_34
  let v69 : BitVec 32 := Scalar.extui v68
  let v70 : BitVec 32 := Scalar.subi v67 v69
  let v71 : BitVec 1 := Scalar.cmpi .ne v65 v70
  let v72 : BitVec 32 := Scalar.remsi arg2 c2_i32
  let c0_i32_35 : BitVec 32 := 0#32
  let v73 : BitVec 1 := Scalar.cmpi .ne v72 c0_i32_35
  let v74 : BitVec 1 := Scalar.andi v71 v73
  let v60 : BitVec 32 := Scalar.divsi arg2 c2_i32
  let c1_i32 : BitVec 32 := 1#32
  let v75 : BitVec 32 := Scalar.subi v60 c1_i32
  let v76 : BitVec 32 := Scalar.select v74 v75 v60
  let v77 : BitVec 32 := Scalar.subi v76 c0_i32_37
  let c1_i32_38 : BitVec 32 := 1#32
  let v79 : BitVec 32 := Scalar.divsi v77 c1_i32_38
  let v80 : BitVec 32 := Scalar.muli v79 c1_i32_38
  let v81 : BitVec 32 := Scalar.addi c0_i32_37 v80
  let c1_i32_40 : BitVec 32 := 1#32
  let arg15 : BitVec 32 := Scf.iv v81 c1_i32_40 k0_t2
  let v278 : BitVec 32 := Scalar.muli c2_i32_159 arg15
  let c2_i32_160 : BitVec 32 := 2#32
  let v279 : BitVec 32 := Scalar.addi v278 c2_i32_160
  let c512_i32_161 : BitVec 32 := 512#32
  let v280 : BitVec 32 := Scalar.muli v279 c512_i32_161
  v280
def k0_off11 (i : grid0.Coords) (k0_t2 : Fin (k0_t2_loop i).trips) : Fin 4 → Nat :=
  let c0_211 : Index := 0#32
  let c2_i32_172 : BitVec 32 := 2#32
  let c0_i32_37 : BitVec 32 := 0#32
  let arg2 : BitVec 32 := BitVec.ofNat 32 (i 2).val
  let c0_i32_31 : BitVec 32 := 0#32
  let v61 : BitVec 1 := Scalar.cmpi .sgt arg2 c0_i32_31
  let v62 : BitVec 32 := Scalar.extui v61
  let c0_i32_32 : BitVec 32 := 0#32
  let v63 : BitVec 1 := Scalar.cmpi .slt arg2 c0_i32_32
  let v64 : BitVec 32 := Scalar.extui v63
  let v65 : BitVec 32 := Scalar.subi v62 v64
  let c2_i32 : BitVec 32 := 2#32
  let c0_i32_33 : BitVec 32 := 0#32
  let v66 : BitVec 1 := Scalar.cmpi .sgt c2_i32 c0_i32_33
  let v67 : BitVec 32 := Scalar.extui v66
  let c0_i32_34 : BitVec 32 := 0#32
  let v68 : BitVec 1 := Scalar.cmpi .slt c2_i32 c0_i32_34
  let v69 : BitVec 32 := Scalar.extui v68
  let v70 : BitVec 32 := Scalar.subi v67 v69
  let v71 : BitVec 1 := Scalar.cmpi .ne v65 v70
  let v72 : BitVec 32 := Scalar.remsi arg2 c2_i32
  let c0_i32_35 : BitVec 32 := 0#32
  let v73 : BitVec 1 := Scalar.cmpi .ne v72 c0_i32_35
  let v74 : BitVec 1 := Scalar.andi v71 v73
  let v60 : BitVec 32 := Scalar.divsi arg2 c2_i32
  let c1_i32 : BitVec 32 := 1#32
  let v75 : BitVec 32 := Scalar.subi v60 c1_i32
  let v76 : BitVec 32 := Scalar.select v74 v75 v60
  let v77 : BitVec 32 := Scalar.subi v76 c0_i32_37
  let c1_i32_38 : BitVec 32 := 1#32
  let v79 : BitVec 32 := Scalar.divsi v77 c1_i32_38
  let v80 : BitVec 32 := Scalar.muli v79 c1_i32_38
  let v81 : BitVec 32 := Scalar.addi c0_i32_37 v80
  let c1_i32_40 : BitVec 32 := 1#32
  let arg15 : BitVec 32 := Scf.iv v81 c1_i32_40 k0_t2
  let v296 : BitVec 32 := Scalar.muli c2_i32_172 arg15
  let c1_i32_173 : BitVec 32 := 1#32
  let v297 : BitVec 32 := Scalar.addi v296 c1_i32_173
  let v352 : Index := Scalar.indexCast v297
  let c0_212 : Index := 0#32
  let c0_213 : Index := 0#32
  ![0, v352.toNat, 0, 0]
def k0_off12 (i : grid0.Coords) (k0_t2 : Fin (k0_t2_loop i).trips) : Fin 4 → Nat :=
  let c1_221 : Index := 1#32
  let c2_i32_172 : BitVec 32 := 2#32
  let c0_i32_37 : BitVec 32 := 0#32
  let arg2 : BitVec 32 := BitVec.ofNat 32 (i 2).val
  let c0_i32_31 : BitVec 32 := 0#32
  let v61 : BitVec 1 := Scalar.cmpi .sgt arg2 c0_i32_31
  let v62 : BitVec 32 := Scalar.extui v61
  let c0_i32_32 : BitVec 32 := 0#32
  let v63 : BitVec 1 := Scalar.cmpi .slt arg2 c0_i32_32
  let v64 : BitVec 32 := Scalar.extui v63
  let v65 : BitVec 32 := Scalar.subi v62 v64
  let c2_i32 : BitVec 32 := 2#32
  let c0_i32_33 : BitVec 32 := 0#32
  let v66 : BitVec 1 := Scalar.cmpi .sgt c2_i32 c0_i32_33
  let v67 : BitVec 32 := Scalar.extui v66
  let c0_i32_34 : BitVec 32 := 0#32
  let v68 : BitVec 1 := Scalar.cmpi .slt c2_i32 c0_i32_34
  let v69 : BitVec 32 := Scalar.extui v68
  let v70 : BitVec 32 := Scalar.subi v67 v69
  let v71 : BitVec 1 := Scalar.cmpi .ne v65 v70
  let v72 : BitVec 32 := Scalar.remsi arg2 c2_i32
  let c0_i32_35 : BitVec 32 := 0#32
  let v73 : BitVec 1 := Scalar.cmpi .ne v72 c0_i32_35
  let v74 : BitVec 1 := Scalar.andi v71 v73
  let v60 : BitVec 32 := Scalar.divsi arg2 c2_i32
  let c1_i32 : BitVec 32 := 1#32
  let v75 : BitVec 32 := Scalar.subi v60 c1_i32
  let v76 : BitVec 32 := Scalar.select v74 v75 v60
  let v77 : BitVec 32 := Scalar.subi v76 c0_i32_37
  let c1_i32_38 : BitVec 32 := 1#32
  let v79 : BitVec 32 := Scalar.divsi v77 c1_i32_38
  let v80 : BitVec 32 := Scalar.muli v79 c1_i32_38
  let v81 : BitVec 32 := Scalar.addi c0_i32_37 v80
  let c1_i32_40 : BitVec 32 := 1#32
  let arg15 : BitVec 32 := Scf.iv v81 c1_i32_40 k0_t2
  let v296 : BitVec 32 := Scalar.muli c2_i32_172 arg15
  let c1_i32_173 : BitVec 32 := 1#32
  let v297 : BitVec 32 := Scalar.addi v296 c1_i32_173
  let v364 : Index := Scalar.indexCast v297
  let c0_222 : Index := 0#32
  let c0_223 : Index := 0#32
  ![1, v364.toNat, 0, 0]
def k0_cond2 (i : grid0.Coords) : BitVec 1 :=
  let arg2 : BitVec 32 := BitVec.ofNat 32 (i 2).val
  let c2_i32_41 : BitVec 32 := 2#32
  let c0_i32_42 : BitVec 32 := 0#32
  let v82 : BitVec 1 := Scalar.cmpi .eq c2_i32_41 c0_i32_42
  let c1_i32_43 : BitVec 32 := 1#32
  let v83 : BitVec 32 := Scalar.select v82 c1_i32_43 c2_i32_41
  let v84 : BitVec 32 := Scalar.remsi arg2 v83
  let c0_i32_45 : BitVec 32 := 0#32
  let v86 : BitVec 1 := Scalar.cmpi .slt v84 c0_i32_45
  let c0_i32_46 : BitVec 32 := 0#32
  let v87 : BitVec 1 := Scalar.cmpi .slt v83 c0_i32_46
  let v88 : BitVec 1 := Scalar.xori v86 v87
  let c0_i32_44 : BitVec 32 := 0#32
  let v85 : BitVec 1 := Scalar.cmpi .ne v84 c0_i32_44
  let v89 : BitVec 1 := Scalar.andi v88 v85
  let v90 : BitVec 32 := Scalar.addi v84 v83
  let v91 : BitVec 32 := Scalar.select v89 v90 v84
  let c1_i32_47 : BitVec 32 := 1#32
  let v92 : BitVec 1 := Scalar.cmpi .eq v91 c1_i32_47
  let v93 : BitVec 32 := Scalar.extui v92
  let c0_i32_48 : BitVec 32 := 0#32
  let v94 : BitVec 1 := Scalar.cmpi .ne v93 c0_i32_48
  v94

def k0_mult6 (i : grid0.Coords) : BitVec 32 :=
  let arg2 : BitVec 32 := BitVec.ofNat 32 (i 2).val
  let c512_i32 : BitVec 32 := 512#32
  let v185 : BitVec 32 := Scalar.muli arg2 c512_i32
  v185
def k0_off13 (i : grid0.Coords) : Fin 2 → Nat :=
  let arg2 : BitVec 32 := BitVec.ofNat 32 (i 2).val
  let c512_i32 : BitVec 32 := 512#32
  let v185 : BitVec 32 := Scalar.muli arg2 c512_i32
  let v186 : BitVec 32 := v185
  let v187 : Index := Scalar.indexCast v186
  let c0_92 : Index := 0#32
  ![v187.toNat, 0]
def k0_off14 (i : grid0.Coords) : Fin 2 → Nat :=
  let arg2 : BitVec 32 := BitVec.ofNat 32 (i 2).val
  let c512_i32 : BitVec 32 := 512#32
  let v185 : BitVec 32 := Scalar.muli arg2 c512_i32
  let v186 : BitVec 32 := v185
  let v194 : Index := Scalar.indexCast v186
  let c128_97 : Index := 128#32
  ![v194.toNat, 128]
def k0_off15 (i : grid0.Coords) : Fin 4 → Nat :=
  let c0_140 : Index := 0#32
  let arg2 : BitVec 32 := BitVec.ofNat 32 (i 2).val
  let c1_i32_102 : BitVec 32 := 1#32
  let v201 : BitVec 32 := Scalar.subi arg2 c1_i32_102
  let v256 : Index := Scalar.indexCast v201
  let c0_141 : Index := 0#32
  let c0_142 : Index := 0#32
  ![0, v256.toNat, 0, 0]
def k0_off16 (i : grid0.Coords) : Fin 4 → Nat :=
  let c1_150 : Index := 1#32
  let arg2 : BitVec 32 := BitVec.ofNat 32 (i 2).val
  let c1_i32_102 : BitVec 32 := 1#32
  let v201 : BitVec 32 := Scalar.subi arg2 c1_i32_102
  let v268 : Index := Scalar.indexCast v201
  let c0_151 : Index := 0#32
  let c0_152 : Index := 0#32
  ![1, v268.toNat, 0, 0]
def k0_off17 (i : grid0.Coords) : Fin 4 → Nat :=
  let c0_208 : Index := 0#32
  let arg2 : BitVec 32 := BitVec.ofNat 32 (i 2).val
  let v372 : Index := Scalar.indexCast arg2
  let c0_209 : Index := 0#32
  let c0_210 : Index := 0#32
  ![0, v372.toNat, 0, 0]
def k0_off18 (i : grid0.Coords) : Fin 4 → Nat :=
  let c1_218 : Index := 1#32
  let arg2 : BitVec 32 := BitVec.ofNat 32 (i 2).val
  let v384 : Index := Scalar.indexCast arg2
  let c0_219 : Index := 0#32
  let c0_220 : Index := 0#32
  ![1, v384.toNat, 0, 0]
def k0_cond3 (i : grid0.Coords) : BitVec 1 :=
  let arg2 : BitVec 32 := BitVec.ofNat 32 (i 2).val
  let c2_i32_49 : BitVec 32 := 2#32
  let c0_i32_50 : BitVec 32 := 0#32
  let v95 : BitVec 1 := Scalar.cmpi .eq c2_i32_49 c0_i32_50
  let c1_i32_51 : BitVec 32 := 1#32
  let v96 : BitVec 32 := Scalar.select v95 c1_i32_51 c2_i32_49
  let v97 : BitVec 32 := Scalar.remsi arg2 v96
  let c0_i32_53 : BitVec 32 := 0#32
  let v99 : BitVec 1 := Scalar.cmpi .slt v97 c0_i32_53
  let c0_i32_54 : BitVec 32 := 0#32
  let v100 : BitVec 1 := Scalar.cmpi .slt v96 c0_i32_54
  let v101 : BitVec 1 := Scalar.xori v99 v100
  let c0_i32_52 : BitVec 32 := 0#32
  let v98 : BitVec 1 := Scalar.cmpi .ne v97 c0_i32_52
  let v102 : BitVec 1 := Scalar.andi v101 v98
  let v103 : BitVec 32 := Scalar.addi v97 v96
  let v104 : BitVec 32 := Scalar.select v102 v103 v97
  let c0_i32_55 : BitVec 32 := 0#32
  let v105 : BitVec 1 := Scalar.cmpi .eq v104 c0_i32_55
  let v106 : BitVec 32 := Scalar.extui v105
  let c0_i32_56 : BitVec 32 := 0#32
  let v107 : BitVec 1 := Scalar.cmpi .ne v106 c0_i32_56
  v107

def k0_off19 (i : grid0.Coords) : Fin 4 → Nat :=
  let c0_142 : Index := 0#32
  let arg2 : BitVec 32 := BitVec.ofNat 32 (i 2).val
  let v281 : Index := Scalar.indexCast arg2
  let c0_143 : Index := 0#32
  let c0_144 : Index := 0#32
  ![0, v281.toNat, 0, 0]
def k0_off20 (i : grid0.Coords) : Fin 4 → Nat :=
  let c1_152 : Index := 1#32
  let arg2 : BitVec 32 := BitVec.ofNat 32 (i 2).val
  let v293 : Index := Scalar.indexCast arg2
  let c0_153 : Index := 0#32
  let c0_154 : Index := 0#32
  ![1, v293.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S2x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnIdeal.lean ====
variable {F : FTy → Type} [FloatOps F] [Named F]
def κ : String → Option EReal := fun
  | "neg" => some ⊥
  | _ => none
-- ==== AttnRefIdeal.lean ====
abbrev S4x4096x4x128 : Shape := ⟨4, ![4, 4096, 4, 128]⟩
abbrev S1x4x64 : Shape := ⟨3, ![1, 4, 64]⟩
abbrev S1x4x128 : Shape := ⟨3, ![1, 4, 128]⟩
abbrev S4x4096x4x2x64 : Shape := ⟨5, ![4, 4096, 4, 2, 64]⟩
abbrev S4x64 : Shape := ⟨2, ![4, 64]⟩
abbrev S1x64 : Shape := ⟨2, ![1, 64]⟩
abbrev S64 : Shape := ⟨1, ![64]⟩
abbrev S_ : Shape := ⟨0, ![]⟩
abbrev S4x4x2x4096x4096 : Shape := ⟨5, ![4, 4, 2, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x1x4096x4096 : Shape := ⟨5, ![1, 1, 1, 4096, 4096]⟩
abbrev S4x4x2x4096 : Shape := ⟨4, ![4, 4, 2, 4096]⟩
abbrev S4x4x2x4096x1 : Shape := ⟨5, ![4, 4, 2, 4096, 1]⟩
abbrev S4x4x1x4096x4096 : Shape := ⟨5, ![4, 4, 1, 4096, 4096]⟩
abbrev S4x4x4096x4096 : Shape := ⟨4, ![4, 4, 4096, 4096]⟩
abbrev S4x4x128x4096 : Shape := ⟨4, ![4, 4, 128, 4096]⟩
abbrev S4x4096x4 : Shape := ⟨3, ![4, 4096, 4]⟩
abbrev S4x4096x4x1 : Shape := ⟨4, ![4, 4096, 4, 1]⟩
abbrev S4x128 : Shape := ⟨2, ![4, 128]⟩
abbrev S1x1x4x128 : Shape := ⟨4, ![1, 1, 4, 128]⟩
abbrev S16384x512 : Shape := ⟨2, ![16384, 512]⟩

abbrev nBuf : Space → Nat
  | .hbm => 88
  | .vmem => 0
  | .smem => 0
  | _ => 0

abbrev bufTy : (tb : Table) → Fin (tcTables nBuf tb) → BufTy
  | .hbm, ⟨0, _⟩ => ⟨S4x4096x4x128, .f32⟩
  | .hbm, ⟨1, _⟩ => ⟨S4x4096x4x128, .f32⟩
  | .hbm, ⟨2, _⟩ => ⟨S4x4096x4x128, .f32⟩
  | .hbm, ⟨3, _⟩ => ⟨S1x4x64, .f32⟩
  | .hbm, ⟨4, _⟩ => ⟨S1x4x128, .f32⟩
  | .hbm, ⟨5, _⟩ => ⟨S4x4096x4x2x64, .f32⟩
  | .hbm, ⟨6, _⟩ => ⟨S4x4096x4x2x64, .f32⟩
  | .hbm, ⟨7, _⟩ => ⟨S4x64, .f32⟩
  | .hbm, ⟨8, _⟩ => ⟨S1x64, .f32⟩
  | .hbm, ⟨9, _⟩ => ⟨S64, .f32⟩
  | .hbm, ⟨10, _⟩ => ⟨S1x64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S4x4x2x4096x4096, .f32⟩
  | .hbm, ⟨28, _⟩ => ⟨S_, .f32⟩
  | .hbm, ⟨29, _⟩ => ⟨S4x4x2x4096x4096, .f32⟩
  | .hbm, ⟨30, _⟩ => ⟨S4x4x2x4096x4096, .f32⟩
  | .hbm, ⟨31, _⟩ => ⟨S4096, .i32⟩
  | .hbm, ⟨32, _⟩ => ⟨S1x4096, .i32⟩
  | .hbm, ⟨33, _⟩ => ⟨S4096x1, .i32⟩
  | .hbm, ⟨34, _⟩ => ⟨S4096x4096, .i32⟩
  | .hbm, ⟨35, _⟩ => ⟨S4096x4096, .i32⟩
  | .hbm, ⟨36, _⟩ => ⟨S4096x4096, .i1⟩
  | .hbm, ⟨37, _⟩ => ⟨S1x1x1x4096x4096, .i1⟩
  | .hbm, ⟨38, _⟩ => ⟨S_, .f32⟩
  | .hbm, ⟨39, _⟩ => ⟨S_, .f32⟩
  | .hbm, ⟨40, _⟩ => ⟨S4x4x2x4096x4096, .i1⟩
  | .hbm, ⟨41, _⟩ => ⟨S4x4x2x4096x4096, .f32⟩
  | .hbm, ⟨42, _⟩ => ⟨S4x4x2x4096x4096, .f32⟩
  | .hbm, ⟨43, _⟩ => ⟨S_, .f32⟩
  | .hbm, ⟨44, _⟩ => ⟨S4x4x2x4096, .f32⟩
  | .hbm, ⟨45, _⟩ => ⟨S_, .f32⟩
  | .hbm, ⟨46, _⟩ => ⟨S4x4x2x4096, .f32⟩
  | .hbm, ⟨47, _⟩ => ⟨S4x4x2x4096, .f32⟩
  | .hbm, ⟨48, _⟩ => ⟨S4x4x2x4096x1, .f32⟩
  | .hbm, ⟨49, _⟩ => ⟨S4x4x2x4096x4096, .f32⟩
  | .hbm, ⟨50, _⟩ => ⟨S4x4x2x4096x4096, .f32⟩
  | .hbm, ⟨51, _⟩ => ⟨S4x4x2x4096x4096, .f32⟩
  | .hbm, ⟨52, _⟩ => ⟨S_, .f32⟩
  | .hbm, ⟨53, _⟩ => ⟨S4x4x2x4096, .f32⟩
  | .hbm, ⟨54, _⟩ => ⟨S4x4x2x4096x1, .f32⟩
  | .hbm, ⟨55, _⟩ => ⟨S4x4x2x4096x4096, .f32⟩
  | .hbm, ⟨56, _⟩ => ⟨S4x4x2x4096x4096, .f32⟩
  | .hbm, ⟨57, _⟩ => ⟨S4x4x1x4096x4096, .f32⟩
  | .hbm, ⟨58, _⟩ => ⟨S4x4x4096x4096, .f32⟩
  | .hbm, ⟨59, _⟩ => ⟨S4x4x1x4096x4096, .f32⟩
  | .hbm, ⟨60, _⟩ => ⟨S4x4x4096x4096, .f32⟩
  | .hbm, ⟨61, _⟩ => ⟨S4x4x4096x4096, .f32⟩
  | .hbm, ⟨62, _⟩ => ⟨S4x4x4096x4096, .f32⟩
  | .hbm, ⟨63, _⟩ => ⟨S4x4x4096x4096, .f32⟩
  | .hbm, ⟨64, _⟩ => ⟨S4x4x128x4096, .f32⟩
  | .hbm, ⟨65, _⟩ => ⟨S4x4096x4x128, .f32⟩
  | .hbm, ⟨66, _⟩ => ⟨S4x4096x4x128, .f32⟩
  | .hbm, ⟨67, _⟩ => ⟨S_, .f32⟩
  | .hbm, ⟨68, _⟩ => ⟨S4x4096x4, .f32⟩
  | .hbm, ⟨69, _⟩ => ⟨S4x4096x4x1, .f32⟩
  | .hbm, ⟨70, _⟩ => ⟨S_, .f32⟩
  | .hbm, ⟨71, _⟩ => ⟨S4x4096x4x1, .f32⟩
  | .hbm, ⟨72, _⟩ => ⟨S4x4096x4x1, .f32⟩
  | .hbm, ⟨73, _⟩ => ⟨S_, .f32⟩
  | .hbm, ⟨74, _⟩ => ⟨S4x4096x4x1, .f32⟩
  | .hbm, ⟨75, _⟩ => ⟨S4x4096x4x1, .f32⟩
  | .hbm, ⟨76, _⟩ => ⟨S4x4096x4x1, .f32⟩
  | .hbm, ⟨77, _⟩ => ⟨S4x4096x4x128, .f32⟩
  | .hbm, ⟨78, _⟩ => ⟨S4x4096x4x128, .f32⟩
  | .hbm, ⟨79, _⟩ => ⟨S4x128, .f32⟩
  | .hbm, ⟨80, _⟩ => ⟨S1x1x4x128, .f32⟩
  | .hbm, ⟨81, _⟩ => ⟨S4x4096x4x128, .f32⟩
  | .hbm, ⟨82, _⟩ => ⟨S4x4096x4x128, .f32⟩
  | .hbm, ⟨83, _⟩ => ⟨S_, .f32⟩
  | .hbm, ⟨84, _⟩ => ⟨S4x4096x4x128, .f32⟩
  | .hbm, ⟨85, _⟩ => ⟨S4x4096x4x128, .f32⟩
  | .hbm, ⟨86, _⟩ => ⟨S16384x512, .f32⟩
  | .hbm, ⟨87, _⟩ => ⟨S16384x512, .bf16⟩
  | _, _ => ⟨S4x4096x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_7 : Ref sig .tc := ⟨.hbm, 67, rfl⟩
abbrev main_v51 : Ref sig .tc := ⟨.hbm, 68, rfl⟩
abbrev main_v52 : Ref sig .tc := ⟨.hbm, 69, rfl⟩
abbrev main_cst_8 : Ref sig .tc := ⟨.hbm, 70, rfl⟩
abbrev main_v53 : Ref sig .tc := ⟨.hbm, 71, rfl⟩
abbrev main_v54 : Ref sig .tc := ⟨.hbm, 72, rfl⟩
abbrev main_cst_9 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_10 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩

abbrev nD : Nat := 1
abbrev τ : Topo := Topo.v7x

variable {F : FTy → Type} [FloatOps F]
-- ==== Ffn.lean ====
abbrev S16384x1024 : Shape := ⟨2, ![16384, 1024]⟩
abbrev S1x1024x5504 : Shape := ⟨3, ![1, 1024, 5504]⟩
abbrev S1x3x5504 : Shape := ⟨3, ![1, 3, 5504]⟩
abbrev S1x5504 : Shape := ⟨2, ![1, 5504]⟩
abbrev S1x2752x1024 : Shape := ⟨3, ![1, 2752, 1024]⟩
abbrev S1x1024 : Shape := ⟨2, ![1, 1024]⟩
abbrev S1024x5504 : Shape := ⟨2, ![1024, 5504]⟩
abbrev S1024x2752 : Shape := ⟨2, ![1024, 2752]⟩
abbrev S_ : Shape := ⟨0, ![]⟩
abbrev S1024x2816 : Shape := ⟨2, ![1024, 2816]⟩
abbrev S1024x5632 : Shape := ⟨2, ![1024, 5632]⟩
abbrev S3x5504 : Shape := ⟨2, ![3, 5504]⟩
abbrev S3x2752 : Shape := ⟨2, ![3, 2752]⟩
abbrev S3x2816 : Shape := ⟨2, ![3, 2816]⟩
abbrev S3x5632 : Shape := ⟨2, ![3, 5632]⟩
abbrev S5504 : Shape := ⟨1, ![5504]⟩
abbrev S1x2752 : Shape := ⟨2, ![1, 2752]⟩
abbrev S1x2816 : Shape := ⟨2, ![1, 2816]⟩
abbrev S1x5632 : Shape := ⟨2, ![1, 5632]⟩
abbrev S2752x1024 : Shape := ⟨2, ![2752, 1024]⟩
abbrev S2816x1024 : Shape := ⟨2, ![2816, 1024]⟩
abbrev S1024 : Shape := ⟨1, ![1024]⟩
abbrev S4x8x5632 : Shape := ⟨3, ![4, 8, 5632]⟩
abbrev S512x1024 : Shape := ⟨2, ![512, 1024]⟩
abbrev S1x8x5632 : Shape := ⟨3, ![1, 8, 5632]⟩
abbrev S520x5632 : Shape := ⟨2, ![520, 5632]⟩
abbrev S8x5632 : Shape := ⟨2, ![8, 5632]⟩
abbrev S1024x1408 : Shape := ⟨2, ![1024, 1408]⟩
abbrev S512x1408 : Shape := ⟨2, ![512, 1408]⟩
abbrev S1x1408 : Shape := ⟨2, ![1, 1408]⟩
abbrev S1408x1024 : Shape := ⟨2, ![1408, 1024]⟩
abbrev S512 : Shape := ⟨1, ![512]⟩
abbrev S512x1 : Shape := ⟨2, ![512, 1]⟩
abbrev S4x2x5632 : Shape := ⟨3, ![4, 2, 5632]⟩
abbrev S4x2x2752 : Shape := ⟨3, ![4, 2, 2752]⟩
abbrev S4x2x5504 : Shape := ⟨3, ![4, 2, 5504]⟩
abbrev S4x4096x1024 : Shape := ⟨3, ![4, 4096, 1024]⟩
abbrev S1x4x2x5504 : Shape := ⟨4, ![1, 4, 2, 5504]⟩

abbrev nBuf : Space → Nat
  | .hbm => 54
  | .vmem => 14
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1x1024x5504, .f32⟩
  | .hbm, ⟨3, _⟩ => ⟨S1x3x5504, .f32⟩
  | .hbm, ⟨4, _⟩ => ⟨S1x5504, .f32⟩
  | .hbm, ⟨5, _⟩ => ⟨S1x2752x1024, .f32⟩
  | .hbm, ⟨6, _⟩ => ⟨S1x1024, .f32⟩
  | .hbm, ⟨7, _⟩ => ⟨S1024x5504, .f32⟩
  | .hbm, ⟨8, _⟩ => ⟨S1024x2752, .f32⟩
  | .hbm, ⟨9, _⟩ => ⟨S_, .i32⟩
  | .hbm, ⟨10, _⟩ => ⟨S_, .f32⟩
  | .hbm, ⟨11, _⟩ => ⟨S1024x2816, .f32⟩
  | .hbm, ⟨12, _⟩ => ⟨S1024x2752, .f32⟩
  | .hbm, ⟨13, _⟩ => ⟨S_, .i32⟩
  | .hbm, ⟨14, _⟩ => ⟨S_, .f32⟩
  | .hbm, ⟨15, _⟩ => ⟨S1024x2816, .f32⟩
  | .hbm, ⟨16, _⟩ => ⟨S1024x5632, .f32⟩
  | .hbm, ⟨17, _⟩ => ⟨S1024x5632, .bf16⟩
  | .hbm, ⟨18, _⟩ => ⟨S3x5504, .f32⟩
  | .hbm, ⟨19, _⟩ => ⟨S3x2752, .f32⟩
  | .hbm, ⟨20, _⟩ => ⟨S_, .i32⟩
  | .hbm, ⟨21, _⟩ => ⟨S_, .f32⟩
  | .hbm, ⟨22, _⟩ => ⟨S3x2816, .f32⟩
  | .hbm, ⟨23, _⟩ => ⟨S3x2752, .f32⟩
  | .hbm, ⟨24, _⟩ => ⟨S_, .i32⟩
  | .hbm, ⟨25, _⟩ => ⟨S_, .f32⟩
  | .hbm, ⟨26, _⟩ => ⟨S3x2816, .f32⟩
  | .hbm, ⟨27, _⟩ => ⟨S3x5632, .f32⟩
  | .hbm, ⟨28, _⟩ => ⟨S5504, .f32⟩
  | .hbm, ⟨29, _⟩ => ⟨S1x5504, .f32⟩
  | .hbm, ⟨30, _⟩ => ⟨S1x2752, .f32⟩
  | .hbm, ⟨31, _⟩ => ⟨S_, .i32⟩
  | .hbm, ⟨32, _⟩ => ⟨S_, .f32⟩
  | .hbm, ⟨33, _⟩ => ⟨S1x2816, .f32⟩
  | .hbm, ⟨34, _⟩ => ⟨S1x2752, .f32⟩
  | .hbm, ⟨35, _⟩ => ⟨S_, .i32⟩
  | .hbm, ⟨36, _⟩ => ⟨S_, .f32⟩
  | .hbm, ⟨37, _⟩ => ⟨S1x2816, .f32⟩
  | .hbm, ⟨38, _⟩ => ⟨S1x5632, .f32⟩
  | .hbm, ⟨39, _⟩ => ⟨S2752x1024, .f32⟩
  | .hbm, ⟨40, _⟩ => ⟨S_, .i32⟩
  | .hbm, ⟨41, _⟩ => ⟨S_, .f32⟩
  | .hbm, ⟨42, _⟩ => ⟨S2816x1024, .f32⟩
  | .hbm, ⟨43, _⟩ => ⟨S2816x1024, .bf16⟩
  | .hbm, ⟨44, _⟩ => ⟨S1024, .f32⟩
  | .hbm, ⟨45, _⟩ => ⟨S1x1024, .f32⟩
  | .hbm, ⟨46, _⟩ => ⟨S16384x1024, .f32⟩
  | .hbm, ⟨47, _⟩ => ⟨S4x8x5632, .f32⟩
  | .hbm, ⟨48, _⟩ => ⟨S4x2x5632, .f32⟩
  | .hbm, ⟨49, _⟩ => ⟨S4x2x2752, .f32⟩
  | .hbm, ⟨50, _⟩ => ⟨S4x2x2752, .f32⟩
  | .hbm, ⟨51, _⟩ => ⟨S4x2x5504, .f32⟩
  | .hbm, ⟨52, _⟩ => ⟨S4x4096x1024, .f32⟩
  | .hbm, ⟨53, _⟩ => ⟨S1x4x2x5504, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x5632, .bf16⟩
  | .local _ .vmem, ⟨5, _⟩ => ⟨S3x5632, .f32⟩
  | .local _ .vmem, ⟨6, _⟩ => ⟨S1x5632, .f32⟩
  | .local _ .vmem, ⟨7, _⟩ => ⟨S2816x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x8x5632, .f32⟩
  | .local _ .vmem, ⟨12, _⟩ => ⟨S1x8x5632, .f32⟩
  | .local _ .vmem, ⟨13, _⟩ => ⟨S520x5632, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_call1_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_call2_v0 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_call3_v0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_call4_v0 : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_call5_v0 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_call6_v0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25_0 : Ref sig .tc := ⟨.hbm, 46, rfl⟩
abbrev main_v25_1 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnRefIdeal.lean ====
abbrev S16384x1024 : Shape := ⟨2, ![16384, 1024]⟩
abbrev S1x1024x5504 : Shape := ⟨3, ![1, 1024, 5504]⟩
abbrev S1x3x5504 : Shape := ⟨3, ![1, 3, 5504]⟩
abbrev S1x5504 : Shape := ⟨2, ![1, 5504]⟩
abbrev S1x2752x1024 : Shape := ⟨3, ![1, 2752, 1024]⟩
abbrev S1x1024 : Shape := ⟨2, ![1, 1024]⟩
abbrev S4x4096x1024 : Shape := ⟨3, ![4, 4096, 1024]⟩
abbrev S1024x5504 : Shape := ⟨2, ![1024, 5504]⟩
abbrev S4x4096x5504 : Shape := ⟨3, ![4, 4096, 5504]⟩
abbrev S_ : Shape := ⟨0, ![]⟩
abbrev S4x2x5504 : Shape := ⟨3, ![4, 2, 5504]⟩
abbrev S4x4098x5504 : Shape := ⟨3, ![4, 4098, 5504]⟩
abbrev S5504 : Shape := ⟨1, ![5504]⟩
abbrev S1x1x5504 : Shape := ⟨3, ![1, 1, 5504]⟩
abbrev S4x4096x2752 : Shape := ⟨3, ![4, 4096, 2752]⟩
abbrev S2752x1024 : Shape := ⟨2, ![2752, 1024]⟩
abbrev S4x4096 : Shape := ⟨2, ![4, 4096]⟩
abbrev S4x4096x1 : Shape := ⟨3, ![4, 4096, 1]⟩
abbrev S1024 : Shape := ⟨1, ![1024]⟩
abbrev S1x1x1024 : Shape := ⟨3, ![1, 1, 1024]⟩
abbrev S1x4x2x5504 : Shape := ⟨4, ![1, 4, 2, 5504]⟩

abbrev nBuf : Space → Nat
  | .hbm => 73
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1x1024x5504, .f32⟩
  | .hbm, ⟨3, _⟩ => ⟨S1x3x5504, .f32⟩
  | .hbm, ⟨4, _⟩ => ⟨S1x5504, .f32⟩
  | .hbm, ⟨5, _⟩ => ⟨S1x2752x1024, .f32⟩
  | .hbm, ⟨6, _⟩ => ⟨S1x1024, .f32⟩
  | .hbm, ⟨7, _⟩ => ⟨S16384x1024, .f32⟩
  | .hbm, ⟨8, _⟩ => ⟨S4x4096x1024, .f32⟩
  | .hbm, ⟨9, _⟩ => ⟨S1024x5504, .f32⟩
  | .hbm, ⟨10, _⟩ => ⟨S4x4096x5504, .f32⟩
  | .hbm, ⟨11, _⟩ => ⟨S_, .f32⟩
  | .hbm, ⟨12, _⟩ => ⟨S4x2x5504, .f32⟩
  | .hbm, ⟨13, _⟩ => ⟨S4x4098x5504, .f32⟩
  | .hbm, ⟨14, _⟩ => ⟨S5504, .f32⟩
  | .hbm, ⟨15, _⟩ => ⟨S4x4096x5504, .f32⟩
  | .hbm, ⟨16, _⟩ => ⟨S1x1x5504, .f32⟩
  | .hbm, ⟨17, _⟩ => ⟨S5504, .f32⟩
  | .hbm, ⟨18, _⟩ => ⟨S1x1x5504, .f32⟩
  | .hbm, ⟨19, _⟩ => ⟨S4x4096x5504, .f32⟩
  | .hbm, ⟨20, _⟩ => ⟨S4x4096x5504, .f32⟩
  | .hbm, ⟨21, _⟩ => ⟨S1x1x5504, .f32⟩
  | .hbm, ⟨22, _⟩ => ⟨S4x4096x5504, .f32⟩
  | .hbm, ⟨23, _⟩ => ⟨S4x4096x5504, .f32⟩
  | .hbm, ⟨24, _⟩ => ⟨S4x4096x5504, .f32⟩
  | .hbm, ⟨25, _⟩ => ⟨S1x1x5504, .f32⟩
  | .hbm, ⟨26, _⟩ => ⟨S5504, .f32⟩
  | .hbm, ⟨27, _⟩ => ⟨S1x1x5504, .f32⟩
  | .hbm, ⟨28, _⟩ => ⟨S4x4096x5504, .f32⟩
  | .hbm, ⟨29, _⟩ => ⟨S4x4096x5504, .f32⟩
  | .hbm, ⟨30, _⟩ => ⟨S4x4096x5504, .f32⟩
  | .hbm, ⟨31, _⟩ => ⟨S4x4096x5504, .f32⟩
  | .hbm, ⟨32, _⟩ => ⟨S1x1x5504, .f32⟩
  | .hbm, ⟨33, _⟩ => ⟨S5504, .f32⟩
  | .hbm, ⟨34, _⟩ => ⟨S1x1x5504, .f32⟩
  | .hbm, ⟨35, _⟩ => ⟨S4x4096x5504, .f32⟩
  | .hbm, ⟨36, _⟩ => ⟨S4x4096x5504, .f32⟩
  | .hbm, ⟨37, _⟩ => ⟨S4x4096x5504, .f32⟩
  | .hbm, ⟨38, _⟩ => ⟨S4x4096x2752, .f32⟩
  | .hbm, ⟨39, _⟩ => ⟨S4x4096x2752, .f32⟩
  | .hbm, ⟨40, _⟩ => ⟨S4x4096x2752, .f32⟩
  | .hbm, ⟨41, _⟩ => ⟨S4x4096x2752, .f32⟩
  | .hbm, ⟨42, _⟩ => ⟨S_, .f32⟩
  | .hbm, ⟨43, _⟩ => ⟨S4x4096x2752, .f32⟩
  | .hbm, ⟨44, _⟩ => ⟨S4x4096x2752, .f32⟩
  | .hbm, ⟨45, _⟩ => ⟨S_, .f32⟩
  | .hbm, ⟨46, _⟩ => ⟨S4x4096x2752, .f32⟩
  | .hbm, ⟨47, _⟩ => ⟨S4x4096x2752, .f32⟩
  | .hbm, ⟨48, _⟩ => ⟨S4x4096x2752, .f32⟩
  | .hbm, ⟨49, _⟩ => ⟨S4x4096x2752, .f32⟩
  | .hbm, ⟨50, _⟩ => ⟨S2752x1024, .f32⟩
  | .hbm, ⟨51, _⟩ => ⟨S4x4096x1024, .f32⟩
  | .hbm, ⟨52, _⟩ => ⟨S4x4096x1024, .f32⟩
  | .hbm, ⟨53, _⟩ => ⟨S_, .f32⟩
  | .hbm, ⟨54, _⟩ => ⟨S4x4096, .f32⟩
  | .hbm, ⟨55, _⟩ => ⟨S4x4096x1, .f32⟩
  | .hbm, ⟨56, _⟩ => ⟨S_, .f32⟩
  | .hbm, ⟨57, _⟩ => ⟨S4x4096x1, .f32⟩
  | .hbm, ⟨58, _⟩ => ⟨S4x4096x1, .f32⟩
  | .hbm, ⟨59, _⟩ => ⟨S_, .f32⟩
  | .hbm, ⟨60, _⟩ => ⟨S4x4096x1, .f32⟩
  | .hbm, ⟨61, _⟩ => ⟨S4x4096x1, .f32⟩
  | .hbm, ⟨62, _⟩ => ⟨S4x4096x1, .f32⟩
  | .hbm, ⟨63, _⟩ => ⟨S4x4096x1024, .f32⟩
  | .hbm, ⟨64, _⟩ => ⟨S4x4096x1024, .f32⟩
  | .hbm, ⟨65, _⟩ => ⟨S1024, .f32⟩
  | .hbm, ⟨66, _⟩ => ⟨S1x1x1024, .f32⟩
  | .hbm, ⟨67, _⟩ => ⟨S4x4096x1024, .f32⟩
  | .hbm, ⟨68, _⟩ => ⟨S4x4096x1024, .f32⟩
  | .hbm, ⟨69, _⟩ => ⟨S4x4096x1024, .f32⟩
  | .hbm, ⟨70, _⟩ => ⟨S4x4096x1024, .f32⟩
  | .hbm, ⟨71, _⟩ => ⟨S4x2x5504, .f32⟩
  | .hbm, ⟨72, _⟩ => ⟨S1x4x2x5504, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_0 : Ref sig .tc := ⟨.hbm, 53, rfl⟩
abbrev main_v37 : Ref sig .tc := ⟨.hbm, 54, rfl⟩
abbrev main_v38 : Ref sig .tc := ⟨.hbm, 55, rfl⟩
abbrev main_cst_1 : Ref sig .tc := ⟨.hbm, 56, rfl⟩
abbrev main_v39 : Ref sig .tc := ⟨.hbm, 57, rfl⟩
abbrev main_v40 : Ref sig .tc := ⟨.hbm, 58, rfl⟩
abbrev main_cst_2 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== Mkv.lean ====
abbrev S4x256x1024 : Shape := ⟨3, ![4, 256, 1024]⟩
abbrev S1x1024 : Shape := ⟨2, ![1, 1024]⟩
abbrev S1x1024x1024 : Shape := ⟨3, ![1, 1024, 1024]⟩
abbrev S1024x1024 : Shape := ⟨2, ![1024, 1024]⟩
abbrev S1024 : Shape := ⟨1, ![1024]⟩
abbrev S1024x4x256 : Shape := ⟨3, ![1024, 4, 256]⟩
abbrev S256x1024 : Shape := ⟨2, ![256, 1024]⟩
abbrev S256x4x256 : Shape := ⟨3, ![256, 4, 256]⟩
abbrev S256 : Shape := ⟨1, ![256]⟩
abbrev S256x1 : Shape := ⟨2, ![256, 1]⟩
abbrev S256x256 : Shape := ⟨2, ![256, 256]⟩
abbrev S256x1x256 : Shape := ⟨3, ![256, 1, 256]⟩
abbrev S1x4x256x4x256 : Shape := ⟨5, ![1, 4, 256, 4, 256]⟩

abbrev nBuf : Space → Nat
  | .hbm => 17
  | .vmem => 13
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S1x1024x1024, .f32⟩
  | .hbm, ⟨3, _⟩ => ⟨S1x1024x1024, .f32⟩
  | .hbm, ⟨4, _⟩ => ⟨S1024x1024, .f32⟩
  | .hbm, ⟨5, _⟩ => ⟨S1024, .f32⟩
  | .hbm, ⟨6, _⟩ => ⟨S1x1024, .f32⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S1024x4x256, .f32⟩
  | .hbm, ⟨12, _⟩ => ⟨S1024x4x256, .f32⟩
  | .hbm, ⟨13, _⟩ => ⟨S1024x1024, .bf16⟩
  | .hbm, ⟨14, _⟩ => ⟨S1024x1024, .bf16⟩
  | .hbm, ⟨15, _⟩ => ⟨S1x4x256x4x256, .f32⟩
  | .hbm, ⟨16, _⟩ => ⟨S1x4x256x4x256, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S256x4x256, .f32⟩
  | .local _ .vmem, ⟨6, _⟩ => ⟨S256x4x256, .f32⟩
  | .local _ .vmem, ⟨7, _⟩ => ⟨S256x4x256, .f32⟩
  | .local _ .vmem, ⟨8, _⟩ => ⟨S256x4x256, .f32⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MkvRefIdeal.lean ====
abbrev S4x256x1024 : Shape := ⟨3, ![4, 256, 1024]⟩
abbrev S1x1024 : Shape := ⟨2, ![1, 1024]⟩
abbrev S1x1024x1024 : Shape := ⟨3, ![1, 1024, 1024]⟩
abbrev S_ : Shape := ⟨0, ![]⟩
abbrev S4x256 : Shape := ⟨2, ![4, 256]⟩
abbrev S4x256x1 : Shape := ⟨3, ![4, 256, 1]⟩
abbrev S1024 : Shape := ⟨1, ![1024]⟩
abbrev S1x1x1024 : Shape := ⟨3, ![1, 1, 1024]⟩
abbrev S1024x1024 : Shape := ⟨2, ![1024, 1024]⟩
abbrev S4x256x4x256 : Shape := ⟨4, ![4, 256, 4, 256]⟩
abbrev S1x4x256x4x256 : Shape := ⟨5, ![1, 4, 256, 4, 256]⟩

abbrev nBuf : Space → Nat
  | .hbm => 29
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S1x1024x1024, .f32⟩
  | .hbm, ⟨3, _⟩ => ⟨S1x1024x1024, .f32⟩
  | .hbm, ⟨4, _⟩ => ⟨S4x256x1024, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x1024, .f32⟩
  | .hbm, ⟨16, _⟩ => ⟨S4x256x1024, .f32⟩
  | .hbm, ⟨17, _⟩ => ⟨S1024, .f32⟩
  | .hbm, ⟨18, _⟩ => ⟨S1x1x1024, .f32⟩
  | .hbm, ⟨19, _⟩ => ⟨S4x256x1024, .f32⟩
  | .hbm, ⟨20, _⟩ => ⟨S4x256x1024, .f32⟩
  | .hbm, ⟨21, _⟩ => ⟨S1024x1024, .f32⟩
  | .hbm, ⟨22, _⟩ => ⟨S4x256x1024, .f32⟩
  | .hbm, ⟨23, _⟩ => ⟨S4x256x4x256, .f32⟩
  | .hbm, ⟨24, _⟩ => ⟨S1024x1024, .f32⟩
  | .hbm, ⟨25, _⟩ => ⟨S4x256x1024, .f32⟩
  | .hbm, ⟨26, _⟩ => ⟨S4x256x4x256, .f32⟩
  | .hbm, ⟨27, _⟩ => ⟨S1x4x256x4x256, .f32⟩
  | .hbm, ⟨28, _⟩ => ⟨S1x4x256x4x256, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== InProj.lean ====
abbrev S4x4096x1024 : Shape := ⟨3, ![4, 4096, 1024]⟩
abbrev S1x1024 : Shape := ⟨2, ![1, 1024]⟩
abbrev S1x1024x3592 : Shape := ⟨3, ![1, 1024, 3592]⟩
abbrev S1x8 : Shape := ⟨2, ![1, 8]⟩
abbrev S8 : Shape := ⟨1, ![8]⟩
abbrev S_ : Shape := ⟨0, ![]⟩
abbrev S4096 : Shape := ⟨1, ![4096]⟩
abbrev S4096x1 : Shape := ⟨2, ![4096, 1]⟩
abbrev S4096x8 : Shape := ⟨2, ![4096, 8]⟩
abbrev S4096x48 : Shape := ⟨2, ![4096, 48]⟩
abbrev S4096x128 : Shape := ⟨2, ![4096, 128]⟩
abbrev S1024x3592 : Shape := ⟨2, ![1024, 3592]⟩
abbrev S1024x2048 : Shape := ⟨2, ![1024, 2048]⟩
abbrev S1024x1536 : Shape := ⟨2, ![1024, 1536]⟩
abbrev S1024x8 : Shape := ⟨2, ![1024, 8]⟩
abbrev S1024x128 : Shape := ⟨2, ![1024, 128]⟩
abbrev S128 : Shape := ⟨1, ![128]⟩
abbrev S1x128 : Shape := ⟨2, ![1, 128]⟩
abbrev S16384x1024 : Shape := ⟨2, ![16384, 1024]⟩
abbrev S1024 : Shape := ⟨1, ![1024]⟩
abbrev S16384x512 : Shape := ⟨2, ![16384, 512]⟩
abbrev S16384x128 : Shape := ⟨2, ![16384, 128]⟩
abbrev S8x16384 : Shape := ⟨2, ![8, 16384]⟩
abbrev S16384x4x128 : Shape := ⟨3, ![16384, 4, 128]⟩
abbrev S1024x1024 : Shape := ⟨2, ![1024, 1024]⟩
abbrev S1024x512 : Shape := ⟨2, ![1024, 512]⟩
abbrev S8x1024 : Shape := ⟨2, ![8, 1024]⟩
abbrev S1024x4x128 : Shape := ⟨3, ![1024, 4, 128]⟩
abbrev S1024x1 : Shape := ⟨2, ![1024, 1]⟩
abbrev S128x1024 : Shape := ⟨2, ![128, 1024]⟩
abbrev S1024x1x128 : Shape := ⟨3, ![1024, 1, 128]⟩
abbrev S4x4096x4x128 : Shape := ⟨4, ![4, 4096, 4, 128]⟩
abbrev S1x4x4096x4x128 : Shape := ⟨5, ![1, 4, 4096, 4, 128]⟩

abbrev nBuf : Space → Nat
  | .hbm => 72
  | .vmem => 35
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x3592, .f32⟩
  | .hbm, ⟨3, _⟩ => ⟨S1x8, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S4096, .i32⟩
  | .hbm, ⟨16, _⟩ => ⟨S4096, .f32⟩
  | .hbm, ⟨17, _⟩ => ⟨S4096x1, .f32⟩
  | .hbm, ⟨18, _⟩ => ⟨S1x8, .f32⟩
  | .hbm, ⟨19, _⟩ => ⟨S4096x8, .f32⟩
  | .hbm, ⟨20, _⟩ => ⟨S4096x8, .f32⟩
  | .hbm, ⟨21, _⟩ => ⟨S4096x8, .f32⟩
  | .hbm, ⟨22, _⟩ => ⟨S4096x8, .f32⟩
  | .hbm, ⟨23, _⟩ => ⟨S4096x8, .f32⟩
  | .hbm, ⟨24, _⟩ => ⟨S_, .f32⟩
  | .hbm, ⟨25, _⟩ => ⟨S4096x48, .f32⟩
  | .hbm, ⟨26, _⟩ => ⟨S_, .f32⟩
  | .hbm, ⟨27, _⟩ => ⟨S4096x48, .f32⟩
  | .hbm, ⟨28, _⟩ => ⟨S_, .f32⟩
  | .hbm, ⟨29, _⟩ => ⟨S4096x8, .f32⟩
  | .hbm, ⟨30, _⟩ => ⟨S4096x128, .f32⟩
  | .hbm, ⟨31, _⟩ => ⟨S4096x8, .f32⟩
  | .hbm, ⟨32, _⟩ => ⟨S4096x128, .f32⟩
  | .hbm, ⟨33, _⟩ => ⟨S4096x128, .f32⟩
  | .hbm, ⟨34, _⟩ => ⟨S1024x3592, .f32⟩
  | .hbm, ⟨35, _⟩ => ⟨S1024x2048, .f32⟩
  | .hbm, ⟨36, _⟩ => ⟨S1024x2048, .bf16⟩
  | .hbm, ⟨37, _⟩ => ⟨S1024x1536, .f32⟩
  | .hbm, ⟨38, _⟩ => ⟨S1024x1536, .bf16⟩
  | .hbm, ⟨39, _⟩ => ⟨S1024x8, .f32⟩
  | .hbm, ⟨40, _⟩ => ⟨S_, .i32⟩
  | .hbm, ⟨41, _⟩ => ⟨S_, .f32⟩
  | .hbm, ⟨42, _⟩ => ⟨S1024x128, .f32⟩
  | .hbm, ⟨43, _⟩ => ⟨S1024x128, .bf16⟩
  | .hbm, ⟨44, _⟩ => ⟨S8, .f32⟩
  | .hbm, ⟨45, _⟩ => ⟨S_, .i32⟩
  | .hbm, ⟨46, _⟩ => ⟨S_, .f32⟩
  | .hbm, ⟨47, _⟩ => ⟨S128, .f32⟩
  | .hbm, ⟨48, _⟩ => ⟨S1x128, .f32⟩
  | .hbm, ⟨49, _⟩ => ⟨S16384x1024, .f32⟩
  | .hbm, ⟨50, _⟩ => ⟨S1024, .f32⟩
  | .hbm, ⟨51, _⟩ => ⟨S1x1024, .f32⟩
  | .hbm, ⟨52, _⟩ => ⟨S16384x512, .bf16⟩
  | .hbm, ⟨53, _⟩ => ⟨S16384x512, .bf16⟩
  | .hbm, ⟨54, _⟩ => ⟨S16384x512, .bf16⟩
  | .hbm, ⟨55, _⟩ => ⟨S16384x512, .bf16⟩
  | .hbm, ⟨56, _⟩ => ⟨S16384x128, .f32⟩
  | .hbm, ⟨57, _⟩ => ⟨S8x16384, .f32⟩
  | .hbm, ⟨58, _⟩ => ⟨S16384x512, .bf16⟩
  | .hbm, ⟨59, _⟩ => ⟨S16384x4x128, .f32⟩
  | .hbm, ⟨60, _⟩ => ⟨S16384x4x128, .f32⟩
  | .hbm, ⟨61, _⟩ => ⟨S16384x512, .bf16⟩
  | .hbm, ⟨62, _⟩ => ⟨S16384x512, .bf16⟩
  | .hbm, ⟨63, _⟩ => ⟨S4x4096x4x128, .bf16⟩
  | .hbm, ⟨64, _⟩ => ⟨S4x4096x4x128, .bf16⟩
  | .hbm, ⟨65, _⟩ => ⟨S4x4096x4x128, .bf16⟩
  | .hbm, ⟨66, _⟩ => ⟨S4x4096x4x128, .bf16⟩
  | .hbm, ⟨67, _⟩ => ⟨S4x4096x4x128, .bf16⟩
  | .hbm, ⟨68, _⟩ => ⟨S4x4096x4x128, .f32⟩
  | .hbm, ⟨69, _⟩ => ⟨S1x4x4096x4x128, .f32⟩
  | .hbm, ⟨70, _⟩ => ⟨S4x4096x4x128, .f32⟩
  | .hbm, ⟨71, _⟩ => ⟨S1x4x4096x4x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2048, .bf16⟩
  | .local _ .vmem, ⟨4, _⟩ => ⟨S1024x1536, .bf16⟩
  | .local _ .vmem, ⟨5, _⟩ => ⟨S1024x128, .bf16⟩
  | .local _ .vmem, ⟨6, _⟩ => ⟨S1x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x128, .f32⟩
  | .local _ .vmem, ⟨22, _⟩ => ⟨S1024x128, .f32⟩
  | .local _ .vmem, ⟨23, _⟩ => ⟨S8x1024, .f32⟩
  | .local _ .vmem, ⟨24, _⟩ => ⟨S8x1024, .f32⟩
  | .local _ .vmem, ⟨25, _⟩ => ⟨S1024x512, .bf16⟩
  | .local _ .vmem, ⟨26, _⟩ => ⟨S1024x512, .bf16⟩
  | .local _ .vmem, ⟨27, _⟩ => ⟨S1024x4x128, .f32⟩
  | .local _ .vmem, ⟨28, _⟩ => ⟨S1024x4x128, .f32⟩
  | .local _ .vmem, ⟨29, _⟩ => ⟨S1024x4x128, .f32⟩
  | .local _ .vmem, ⟨30, _⟩ => ⟨S1024x4x128, .f32⟩
  | .local _ .vmem, ⟨31, _⟩ => ⟨S1024x512, .bf16⟩
  | .local _ .vmem, ⟨32, _⟩ => ⟨S1024x512, .bf16⟩
  | .local _ .vmem, ⟨33, _⟩ => ⟨S1024x512, .bf16⟩
  | .local _ .vmem, ⟨34, _⟩ => ⟨S1024x512, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c : Ref sig .tc := ⟨.hbm, 40, rfl⟩
abbrev main_call0_v0 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_5 : Ref sig .tc := ⟨.hbm, 45, rfl⟩
abbrev main_call1_v0 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38_0 : Ref sig .tc := ⟨.hbm, 52, rfl⟩
abbrev main_v38_1 : Ref sig .tc := ⟨.hbm, 53, rfl⟩
abbrev main_v38_2 : Ref sig .tc := ⟨.hbm, 54, rfl⟩
abbrev main_v38_3 : Ref sig .tc := ⟨.hbm, 55, rfl⟩
abbrev main_v38_4 : Ref sig .tc := ⟨.hbm, 56, rfl⟩
abbrev main_v38_5 : Ref sig .tc := ⟨.hbm, 57, rfl⟩
abbrev main_v38_6 : Ref sig .tc := ⟨.hbm, 58, rfl⟩
abbrev main_v38_7 : Ref sig .tc := ⟨.hbm, 59, rfl⟩
abbrev main_v38_8 : Ref sig .tc := ⟨.hbm, 60, rfl⟩
abbrev main_v38_9 : Ref sig .tc := ⟨.hbm, 61, rfl⟩
abbrev main_v38_10 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x4x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x4x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== InProjRefIdeal.lean ====
abbrev S4x4096x1024 : Shape := ⟨3, ![4, 4096, 1024]⟩
abbrev S1x1024 : Shape := ⟨2, ![1, 1024]⟩
abbrev S1x1024x3592 : Shape := ⟨3, ![1, 1024, 3592]⟩
abbrev S1x8 : Shape := ⟨2, ![1, 8]⟩
abbrev S_ : Shape := ⟨0, ![]⟩
abbrev S4x4096 : Shape := ⟨2, ![4, 4096]⟩
abbrev S4x4096x1 : Shape := ⟨3, ![4, 4096, 1]⟩
abbrev S1024 : Shape := ⟨1, ![1024]⟩
abbrev S1x1x1024 : Shape := ⟨3, ![1, 1, 1024]⟩
abbrev S1024x3592 : Shape := ⟨2, ![1024, 3592]⟩
abbrev S4x4096x3592 : Shape := ⟨3, ![4, 4096, 3592]⟩
abbrev S4x4096x2056 : Shape := ⟨3, ![4, 4096, 2056]⟩
abbrev S4x4096x1536 : Shape := ⟨3, ![4, 4096, 1536]⟩
abbrev S4x4096x512 : Shape := ⟨3, ![4, 4096, 512]⟩
abbrev S4x4096x4x128 : Shape := ⟨4, ![4, 4096, 4, 128]⟩
abbrev S8 : Shape := ⟨1, ![8]⟩
abbrev S4096 : Shape := ⟨1, ![4096]⟩
abbrev S4096x1 : Shape := ⟨2, ![4096, 1]⟩
abbrev S4096x8 : Shape := ⟨2, ![4096, 8]⟩
abbrev S4x4096x4x2x64 : Shape := ⟨5, ![4, 4096, 4, 2, 64]⟩
abbrev S1x4096x1x1x8 : Shape := ⟨5, ![1, 4096, 1, 1, 8]⟩
abbrev S4x4096x4x2x8 : Shape := ⟨5, ![4, 4096, 4, 2, 8]⟩
abbrev S4x4096x4x2x48 : Shape := ⟨5, ![4, 4096, 4, 2, 48]⟩
abbrev S1x4x4096x4x128 : Shape := ⟨5, ![1, 4, 4096, 4, 128]⟩

abbrev nBuf : Space → Nat
  | .hbm => 103
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x3592, .f32⟩
  | .hbm, ⟨3, _⟩ => ⟨S1x8, .f32⟩
  | .hbm, ⟨4, _⟩ => ⟨S4x4096x1024, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x1024, .f32⟩
  | .hbm, ⟨16, _⟩ => ⟨S4x4096x1024, .f32⟩
  | .hbm, ⟨17, _⟩ => ⟨S1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S1024x3592, .f32⟩
  | .hbm, ⟨22, _⟩ => ⟨S4x4096x3592, .f32⟩
  | .hbm, ⟨23, _⟩ => ⟨S4x4096x2056, .f32⟩
  | .hbm, ⟨24, _⟩ => ⟨S4x4096x1536, .f32⟩
  | .hbm, ⟨25, _⟩ => ⟨S4x4096x512, .f32⟩
  | .hbm, ⟨26, _⟩ => ⟨S4x4096x4x128, .f32⟩
  | .hbm, ⟨27, _⟩ => ⟨S4x4096x512, .f32⟩
  | .hbm, ⟨28, _⟩ => ⟨S4x4096x4x128, .f32⟩
  | .hbm, ⟨29, _⟩ => ⟨S4x4096x512, .f32⟩
  | .hbm, ⟨30, _⟩ => ⟨S4x4096x4x128, .f32⟩
  | .hbm, ⟨31, _⟩ => ⟨S4x4096x512, .f32⟩
  | .hbm, ⟨32, _⟩ => ⟨S4x4096x4x128, .f32⟩
  | .hbm, ⟨33, _⟩ => ⟨S8, .f32⟩
  | .hbm, ⟨34, _⟩ => ⟨S_, .f32⟩
  | .hbm, ⟨35, _⟩ => ⟨S8, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S8, .f32⟩
  | .hbm, ⟨44, _⟩ => ⟨S4096, .i32⟩
  | .hbm, ⟨45, _⟩ => ⟨S4096, .f32⟩
  | .hbm, ⟨46, _⟩ => ⟨S4096x1, .f32⟩
  | .hbm, ⟨47, _⟩ => ⟨S1x8, .f32⟩
  | .hbm, ⟨48, _⟩ => ⟨S4096x8, .f32⟩
  | .hbm, ⟨49, _⟩ => ⟨S4096x8, .f32⟩
  | .hbm, ⟨50, _⟩ => ⟨S4096x8, .f32⟩
  | .hbm, ⟨51, _⟩ => ⟨S4x4096x512, .f32⟩
  | .hbm, ⟨52, _⟩ => ⟨S4x4096x4x2x64, .f32⟩
  | .hbm, ⟨53, _⟩ => ⟨S1x4096x1x1x8, .f32⟩
  | .hbm, ⟨54, _⟩ => ⟨S1x4096x1x1x8, .f32⟩
  | .hbm, ⟨55, _⟩ => ⟨S1x4096x1x1x8, .f32⟩
  | .hbm, ⟨56, _⟩ => ⟨S4x4096x4x2x8, .f32⟩
  | .hbm, ⟨57, _⟩ => ⟨S4x4096x4x2x8, .f32⟩
  | .hbm, ⟨58, _⟩ => ⟨S4x4096x4x2x8, .f32⟩
  | .hbm, ⟨59, _⟩ => ⟨S4x4096x4x2x8, .f32⟩
  | .hbm, ⟨60, _⟩ => ⟨S4x4096x4x2x8, .f32⟩
  | .hbm, ⟨61, _⟩ => ⟨S4x4096x4x2x8, .f32⟩
  | .hbm, ⟨62, _⟩ => ⟨S4x4096x4x2x8, .f32⟩
  | .hbm, ⟨63, _⟩ => ⟨S4x4096x4x2x8, .f32⟩
  | .hbm, ⟨64, _⟩ => ⟨S4x4096x4x2x8, .f32⟩
  | .hbm, ⟨65, _⟩ => ⟨S4x4096x4x2x8, .f32⟩
  | .hbm, ⟨66, _⟩ => ⟨S4x4096x4x2x8, .f32⟩
  | .hbm, ⟨67, _⟩ => ⟨S4x4096x4x2x8, .f32⟩
  | .hbm, ⟨68, _⟩ => ⟨S4x4096x4x2x48, .f32⟩
  | .hbm, ⟨69, _⟩ => ⟨S4x4096x4x2x64, .f32⟩
  | .hbm, ⟨70, _⟩ => ⟨S4x4096x4x128, .f32⟩
  | .hbm, ⟨71, _⟩ => ⟨S4x4096x512, .f32⟩
  | .hbm, ⟨72, _⟩ => ⟨S4x4096x4x2x64, .f32⟩
  | .hbm, ⟨73, _⟩ => ⟨S1x4096x1x1x8, .f32⟩
  | .hbm, ⟨74, _⟩ => ⟨S1x4096x1x1x8, .f32⟩
  | .hbm, ⟨75, _⟩ => ⟨S1x4096x1x1x8, .f32⟩
  | .hbm, ⟨76, _⟩ => ⟨S4x4096x4x2x8, .f32⟩
  | .hbm, ⟨77, _⟩ => ⟨S4x4096x4x2x8, .f32⟩
  | .hbm, ⟨78, _⟩ => ⟨S4x4096x4x2x8, .f32⟩
  | .hbm, ⟨79, _⟩ => ⟨S4x4096x4x2x8, .f32⟩
  | .hbm, ⟨80, _⟩ => ⟨S4x4096x4x2x8, .f32⟩
  | .hbm, ⟨81, _⟩ => ⟨S4x4096x4x2x8, .f32⟩
  | .hbm, ⟨82, _⟩ => ⟨S4x4096x4x2x8, .f32⟩
  | .hbm, ⟨83, _⟩ => ⟨S4x4096x4x2x8, .f32⟩
  | .hbm, ⟨84, _⟩ => ⟨S4x4096x4x2x8, .f32⟩
  | .hbm, ⟨85, _⟩ => ⟨S4x4096x4x2x8, .f32⟩
  | .hbm, ⟨86, _⟩ => ⟨S4x4096x4x2x8, .f32⟩
  | .hbm, ⟨87, _⟩ => ⟨S4x4096x4x2x8, .f32⟩
  | .hbm, ⟨88, _⟩ => ⟨S4x4096x4x2x48, .f32⟩
  | .hbm, ⟨89, _⟩ => ⟨S4x4096x4x2x64, .f32⟩
  | .hbm, ⟨90, _⟩ => ⟨S4x4096x4x128, .f32⟩
  | .hbm, ⟨91, _⟩ => ⟨S4x4096x512, .f32⟩
  | .hbm, ⟨92, _⟩ => ⟨S4x4096x4x128, .f32⟩
  | .hbm, ⟨93, _⟩ => ⟨S_, .f32⟩
  | .hbm, ⟨94, _⟩ => ⟨S4x4096x4x128, .f32⟩
  | .hbm, ⟨95, _⟩ => ⟨S4x4096x4x128, .f32⟩
  | .hbm, ⟨96, _⟩ => ⟨S4x4096x4x128, .bf16⟩
  | .hbm, ⟨97, _⟩ => ⟨S4x4096x4x128, .bf16⟩
  | .hbm, ⟨98, _⟩ => ⟨S4x4096x4x128, .bf16⟩
  | .hbm, ⟨99, _⟩ => ⟨S4x4096x4x128, .bf16⟩
  | .hbm, ⟨100, _⟩ => ⟨S4x4096x4x128, .bf16⟩
  | .hbm, ⟨101, _⟩ => ⟨S1x4x4096x4x128, .f32⟩
  | .hbm, ⟨102, _⟩ => ⟨S1x4x4096x4x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_cst_5 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩

abbrev nD : Nat := 1
abbrev τ : Topo := Topo.v7x

variable {F : FTy → Type} [FloatOps F]
-- ==== Proof.AttnLoop.lean ====
module

public import proofs.«01_k».proof.Proof.Gen.AttnIdeal.Skeleton
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the generated instances: the frame kit's (Gen/<Name>/Frame.lean). -/
local notation "𝕄G" => MT nD τ sig Unit (Elt F) ℕ (UR sig nD τ) ℕ
/-- The type of an invariant of the loop over pairs of key blocks. -/
abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (a3 : Memref sig .tc .vmem S512x256 .bf16) (w3 : a3.IsWhole) (a4 : Memref sig .tc .vmem S4096x256 .bf16) (w4 : a4.IsWhole) (a5 : Memref sig .tc .vmem S4096x256 .bf16) (w5 : a5.IsWhole) (a6 : Memref sig .tc .vmem S4x64 .f32) (w6 : a6.IsWhole) (a7 : Memref sig .tc .vmem S2x1x128 .f32) (w7 : a7.IsWhole) (a8 : Memref sig .tc .vmem S512x256 .bf16) (w8 : a8.IsWhole) (a9 : Memref sig .tc .vmem S2x8x128x512 .bf16) (w9 : a9.IsWhole) (a10 : Memref sig .tc .vmem S2x512x1024 .f32) (w10 : a10.IsWhole) (a11 : Memref sig .tc .vmem S2x512x1024 .f32) (w11 : a11.IsWhole) (a12 : Memref sig .tc .vmem S2x1x1024 .f32) (w12 : a12.IsWhole) (a13 : Memref sig .tc .vmem S2x1x1024 .f32) (w13 : a13.IsWhole) (a14 : Memref sig .tc .vmem S2x128x1024 .f32) (w14 : a14.IsWhole) (a2 : BitVec 32) (v17 : FVec F S128x1024 .bf16) (v32 : FVec F S128x1024 .bf16) (c2_i32 : BitVec 32) (v60 : BitVec 32) (v65 : BitVec 32) (v67 : BitVec 32) (v68 : BitVec 1) :=
  Idealize.ShloMosaic.LoopInv (M := MT nD τ sig Ix (Elt F) Name U Lvl) Idealize.ShloMosaic.frame (wpE defs₀ 𝒱 (c : Thread nD τ) bd) E
    (k0_t1_loop i).lb (k0_t1_loop i).ub (k0_t1_loop i).st (k0_t1_ok i) () (k0_t1_body (F := F) i a3 w3 a4 w4 a5 w5 a6 w6 a7 w7 a8 w8 a9 w9 a10 w10 a11 w11 a12 w12 a13 w13 a14 w14 a2 v17 v32 c2_i32 v60 v65 v67 v68)

/-- One trip of that loop: what it reads (a4, a9) and what it writes (a10 to a14), each at some contents. -/
abbrev Trip_k0_t1 (c : Dev nD) (a4 : Memref sig .tc .vmem S4096x256 .bf16) (a9 : Memref sig .tc .vmem S2x8x128x512 .bf16) (a10 : Memref sig .tc .vmem S2x512x1024 .f32) (a11 : Memref sig .tc .vmem S2x512x1024 .f32) (a12 : Memref sig .tc .vmem S2x1x1024 .f32) (a13 : Memref sig .tc .vmem S2x1x1024 .f32) (a14 : Memref sig .tc .vmem S2x128x1024 .f32) (X_arg4 : BufTy.Contents (Elt F) a4.view.ty) (X_arg9 : BufTy.Contents (Elt F) a9.view.ty) (f_arg10 : BufTy.Contents (Elt F) a10.view.ty) (f_arg11 : BufTy.Contents (Elt F) a11.view.ty) (f_arg12 : BufTy.Contents (Elt F) a12.view.ty) (f_arg13 : BufTy.Contents (Elt F) a13.view.ty) (f_arg14 : BufTy.Contents (Elt F) a14.view.ty) : sProp 𝕄G :=
  iprop((a4.view.loc (c : Thread nD τ) ↦[a4.view.set]{fullShare} X_arg4) ∗ (a9.view.loc (c : Thread nD τ) ↦[a9.view.set]{fullShare} X_arg9) ∗ (a10.view.loc (c : Thread nD τ) ↦[a10.view.set]{fullShare} f_arg10) ∗ (a11.view.loc (c : Thread nD τ) ↦[a11.view.set]{fullShare} f_arg11) ∗ (a12.view.loc (c : Thread nD τ) ↦[a12.view.set]{fullShare} f_arg12) ∗ (a13.view.loc (c : Thread nD τ) ↦[a13.view.set]{fullShare} f_arg13) ∗ (a14.view.loc (c : Thread nD τ) ↦[a14.view.set]{fullShare} f_arg14))

section
variable (𝒱 : Variants) (c : Dev nD) (bd : Option 𝒱.V) (i : grid0.Coords) (a3 : Memref sig .tc .vmem S512x256 .bf16) (w3 : a3.IsWhole) (a4 : Memref sig .tc .vmem S4096x256 .bf16) (w4 : a4.IsWhole) (a5 : Memref sig .tc .vmem S4096x256 .bf16) (w5 : a5.IsWhole) (a6 : Memref sig .tc .vmem S4x64 .f32) (w6 : a6.IsWhole) (a7 : Memref sig .tc .vmem S2x1x128 .f32) (w7 : a7.IsWhole) (a8 : Memref sig .tc .vmem S512x256 .bf16) (w8 : a8.IsWhole) (a9 : Memref sig .tc .vmem S2x8x128x512 .bf16) (w9 : a9.IsWhole) (a10 : Memref sig .tc .vmem S2x512x1024 .f32) (w10 : a10.IsWhole) (a11 : Memref sig .tc .vmem S2x512x1024 .f32) (w11 : a11.IsWhole) (a12 : Memref sig .tc .vmem S2x1x1024 .f32) (w12 : a12.IsWhole) (a13 : Memref sig .tc .vmem S2x1x1024 .f32) (w13 : a13.IsWhole) (a14 : Memref sig .tc .vmem S2x128x1024 .f32) (w14 : a14.IsWhole) (a2 : BitVec 32) (v17 : FVec F S128x1024 .bf16) (v32 : FVec F S128x1024 .bf16) (c2_i32 : BitVec 32) (v60 : BitVec 32) (v65 : BitVec 32) (v67 : BitVec 32) (v68 : BitVec 1) (X_arg4 : BufTy.Contents (Elt F) a4.view.ty) (X_arg9 : BufTy.Contents (Elt F) a9.view.ty)
include 𝒱 c bd i a3 w3 a4 w4 a5 w5 a6 w6 a7 w7 a8 w8 a9 w9 a10 w10 a11 w11 a12 w12 a13 w13 a14 w14 a2 v17 v32 c2_i32 v60 v65 v67 v68 X_arg4 X_arg9

/-- ONE TRIP of `k0_t1_loop i` at a symbolic `k`, run by `sl_exec` (its rectangles where the
   program's in-range evidence puts them, their places unread): the pieces it writes into a10,
   a11, a12, a13, a14 are the run's own finds — the witnesses `sl_close` assigns handing the
   buffers to the continuation, as functions of the contents the trip finds in the memrefs it writes
   (the region loads some of them back). `@[irreducible]`: cited, never unfolded. -/
@[irreducible] def trip_k0_t1 (k : Fin (k0_t1_loop i).trips) :
    Σ' (L_arg10 : (BufTy.Contents (Elt F) a10.view.ty → BufTy.Contents (Elt F) a11.view.ty → BufTy.Contents (Elt F) a12.view.ty → BufTy.Contents (Elt F) a13.view.ty → BufTy.Contents (Elt F) a14.view.ty → List (View.Piece (Elt F) S2x512x1024 .f32))) (L_arg11 : (BufTy.Contents (Elt F) a10.view.ty → BufTy.Contents (Elt F) a11.view.ty → BufTy.Contents (Elt F) a12.view.ty → BufTy.Contents (Elt F) a13.view.ty → BufTy.Contents (Elt F) a14.view.ty → List (View.Piece (Elt F) S2x512x1024 .f32))) (L_arg12 : (BufTy.Contents (Elt F) a10.view.ty → BufTy.Contents (Elt F) a11.view.ty → BufTy.Contents (Elt F) a12.view.ty → BufTy.Contents (Elt F) a13.view.ty → BufTy.Contents (Elt F) a14.view.ty → List (View.Piece (Elt F) S2x1x1024 .f32))) (L_arg13 : (BufTy.Contents (Elt F) a10.view.ty → BufTy.Contents (Elt F) a11.view.ty → BufTy.Contents (Elt F) a12.view.ty → BufTy.Contents (Elt F) a13.view.ty → BufTy.Contents (Elt F) a14.view.ty → List (View.Piece (Elt F) S2x1x1024 .f32))) , { L_arg14 : (BufTy.Contents (Elt F) a10.view.ty → BufTy.Contents (Elt F) a11.view.ty → BufTy.Contents (Elt F) a12.view.ty → BufTy.Contents (Elt F) a13.view.ty → BufTy.Contents (Elt F) a14.view.ty → List (View.Piece (Elt F) S2x128x1024 .f32)) // ∀ (E : Set ℕ) (f_arg10 : BufTy.Contents (Elt F) a10.view.ty) (f_arg11 : BufTy.Contents (Elt F) a11.view.ty) (f_arg12 : BufTy.Contents (Elt F) a12.view.ty) (f_arg13 : BufTy.Contents (Elt F) a13.view.ty) (f_arg14 : BufTy.Contents (Elt F) a14.view.ty),
      Trip_k0_t1 (F := F) c a4 a9 a10 a11 a12 a13 a14 X_arg4 X_arg9 f_arg10 f_arg11 f_arg12 f_arg13 f_arg14
      ⊢ wp frame (wpE (defs₀ (F := F)) 𝒱 (c : Thread nD τ) bd) E (k0_t1_body (F := F) i a3 w3 a4 w4 a5 w5 a6 w6 a7 w7 a8 w8 a9 w9 a10 w10 a11 w11 a12 w12 a13 w13 a14 w14 a2 v17 v32 c2_i32 v60 v65 v67 v68 k PUnit.unit)
          (fun _ => Trip_k0_t1 (F := F) c a4 a9 a10 a11 a12 a13 a14 X_arg4 X_arg9 (a10.view.writes (Elt F) f_arg10 (L_arg10 f_arg10 f_arg11 f_arg12 f_arg13 f_arg14)) (a11.view.writes (Elt F) f_arg11 (L_arg11 f_arg10 f_arg11 f_arg12 f_arg13 f_arg14)) (a12.view.writes (Elt F) f_arg12 (L_arg12 f_arg10 f_arg11 f_arg12 f_arg13 f_arg14)) (a13.view.writes (Elt F) f_arg13 (L_arg13 f_arg10 f_arg11 f_arg12 f_arg13 f_arg14)) (a14.view.writes (Elt F) f_arg14 (L_arg14 f_arg10 f_arg11 f_arg12 f_arg13 f_arg14))) } := by
  refine ⟨?_, ?_, ?_, ?_, ?_, fun E f_arg10 f_arg11 f_arg12 f_arg13 f_arg14 => ?run⟩
  case run =>
    unfold k0_t1_body
    iintro ⟨HR_arg4, HR_arg9, HW_arg10, HW_arg11, HW_arg12, HW_arg13, HW_arg14⟩
    sl_exec
    sl_step
    sl_close

/-- The trip's piece lists (plain projections of `trip_…`, for the recursion below to cite without
   its proof), at the contents the trip finds in the written memrefs. -/
abbrev tripL_k0_t1 (k : Fin (k0_t1_loop i).trips) (f_arg10 : BufTy.Contents (Elt F) a10.view.ty) (f_arg11 : BufTy.Contents (Elt F) a11.view.ty) (f_arg12 : BufTy.Contents (Elt F) a12.view.ty) (f_arg13 : BufTy.Contents (Elt F) a13.view.ty) (f_arg14 : BufTy.Contents (Elt F) a14.view.ty) : List (View.Piece (Elt F) S2x512x1024 .f32) × List (View.Piece (Elt F) S2x512x1024 .f32) × List (View.Piece (Elt F) S2x1x1024 .f32) × List (View.Piece (Elt F) S2x1x1024 .f32) × List (View.Piece (Elt F) S2x128x1024 .f32) :=
  ((trip_k0_t1 (F := F) 𝒱 c bd i a3 w3 a4 w4 a5 w5 a6 w6 a7 w7 a8 w8 a9 w9 a10 w10 a11 w11 a12 w12 a13 w13 a14 w14 a2 v17 v32 c2_i32 v60 v65 v67 v68 X_arg4 X_arg9 k).1 f_arg10 f_arg11 f_arg12 f_arg13 f_arg14, (trip_k0_t1 (F := F) 𝒱 c bd i a3 w3 a4 w4 a5 w5 a6 w6 a7 w7 a8 w8 a9 w9 a10 w10 a11 w11 a12 w12 a13 w13 a14 w14 a2 v17 v32 c2_i32 v60 v65 v67 v68 X_arg4 X_arg9 k).2.1 f_arg10 f_arg11 f_arg12 f_arg13 f_arg14, (trip_k0_t1 (F := F) 𝒱 c bd i a3 w3 a4 w4 a5 w5 a6 w6 a7 w7 a8 w8 a9 w9 a10 w10 a11 w11 a12 w12 a13 w13 a14 w14 a2 v17 v32 c2_i32 v60 v65 v67 v68 X_arg4 X_arg9 k).2.2.1 f_arg10 f_arg11 f_arg12 f_arg13 f_arg14, (trip_k0_t1 (F := F) 𝒱 c bd i a3 w3 a4 w4 a5 w5 a6 w6 a7 w7 a8 w8 a9 w9 a10 w10 a11 w11 a12 w12 a13 w13 a14 w14 a2 v17 v32 c2_i32 v60 v65 v67 v68 X_arg4 X_arg9 k).2.2.2.1 f_arg10 f_arg11 f_arg12 f_arg13 f_arg14, (trip_k0_t1 (F := F) 𝒱 c bd i a3 w3 a4 w4 a5 w5 a6 w6 a7 w7 a8 w8 a9 w9 a10 w10 a11 w11 a12 w12 a13 w13 a14 w14 a2 v17 v32 c2_i32 v60 v65 v67 v68 X_arg4 X_arg9 k).2.2.2.2.1 f_arg10 f_arg11 f_arg12 f_arg13 f_arg14)

/-- What a trip leaves does not depend on what the second score buffer held before it. -/
theorem trip_indep (k : Fin (k0_t1_loop i).trips) (f_arg10 : BufTy.Contents (Elt F) a10.view.ty) (f_arg11 g_arg11 : BufTy.Contents (Elt F) a11.view.ty) (f_arg12 : BufTy.Contents (Elt F) a12.view.ty) (f_arg13 : BufTy.Contents (Elt F) a13.view.ty) (f_arg14 : BufTy.Contents (Elt F) a14.view.ty) :
    tripL_k0_t1 (F := F) 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14
      = tripL_k0_t1 (F := F) 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 g_arg11 f_arg12 f_arg13 f_arg14 := by
  unfold tripL_k0_t1 trip_k0_t1
  rfl

/-- The contents of the first score buffer, the running maximum, the running sum and the accumulator before trip `k`,
    from their contents `G_·` at loop entry. -/
def cont (G_arg10 : BufTy.Contents (Elt F) a10.view.ty) (G_arg12 : BufTy.Contents (Elt F) a12.view.ty) (G_arg13 : BufTy.Contents (Elt F) a13.view.ty) (G_arg14 : BufTy.Contents (Elt F) a14.view.ty) : ℕ → BufTy.Contents (Elt F) a10.view.ty × BufTy.Contents (Elt F) a12.view.ty × BufTy.Contents (Elt F) a13.view.ty × BufTy.Contents (Elt F) a14.view.ty
  | 0 => (G_arg10, G_arg12, G_arg13, G_arg14)
  | k + 1 =>
    if h : k < (k0_t1_loop i).trips then
      have p := cont G_arg10 G_arg12 G_arg13 G_arg14 k
      have L := tripL_k0_t1 (F := F) 𝒱 c bd i a3 w3 a4 w4 a5 w5 a6 w6 a7 w7 a8 w8 a9 w9 a10 w10 a11 w11 a12 w12 a13 w13 a14 w14 a2 v17 v32 c2_i32 v60 v65 v67 v68 X_arg4 X_arg9 ⟨k, h⟩ p.1 a11.view.junk p.2.1 p.2.2.1 p.2.2.2
      (a10.view.writes (Elt F) p.1 L.1, a12.view.writes (Elt F) p.2.1 L.2.2.1, a13.view.writes (Elt F) p.2.2.1 L.2.2.2.1, a14.view.writes (Elt F) p.2.2.2 L.2.2.2.2)
    else cont G_arg10 G_arg12 G_arg13 G_arg14 k

theorem cont_succ (G_arg10 : BufTy.Contents (Elt F) a10.view.ty) (G_arg12 : BufTy.Contents (Elt F) a12.view.ty) (G_arg13 : BufTy.Contents (Elt F) a13.view.ty) (G_arg14 : BufTy.Contents (Elt F) a14.view.ty) (k : Fin (k0_t1_loop i).trips) :
    cont (F := F) 𝒱 c bd i a3 w3 a4 w4 a5 w5 a6 w6 a7 w7 a8 w8 a9 w9 a10 w10 a11 w11 a12 w12 a13 w13 a14 w14 a2 v17 v32 c2_i32 v60 v65 v67 v68 X_arg4 X_arg9 G_arg10 G_arg12 G_arg13 G_arg14 (k.val + 1)
      = (fun p => (fun L : _ × _ × _ × _ × _ => (a10.view.writes (Elt F) p.1 L.1, a12.view.writes (Elt F) p.2.1 L.2.2.1, a13.view.writes (Elt F) p.2.2.1 L.2.2.2.1, a14.view.writes (Elt F) p.2.2.2 L.2.2.2.2))
          (tripL_k0_t1 (F := F) 𝒱 c bd i a3 w3 a4 w4 a5 w5 a6 w6 a7 w7 a8 w8 a9 w9 a10 w10 a11 w11 a12 w12 a13 w13 a14 w14 a2 v17 v32 c2_i32 v60 v65 v67 v68 X_arg4 X_arg9 k p.1 a11.view.junk p.2.1 p.2.2.1 p.2.2.2)) (cont (F := F) 𝒱 c bd i a3 w3 a4 w4 a5 w5 a6 w6 a7 w7 a8 w8 a9 w9 a10 w10 a11 w11 a12 w12 a13 w13 a14 w14 a2 v17 v32 c2_i32 v60 v65 v67 v68 X_arg4 X_arg9 G_arg10 G_arg12 G_arg13 G_arg14 k.val) := by
  rw [cont.eq_2]; exact dif_pos k.isLt

end

/-- `g` at 0, `v` afterwards. -/
abbrev sel {α : Type} (g v : α) : ℕ → α
  | 0 => g
  | _ + 1 => v

/-- The invariant before trip `k`: a4 and a9 as read, a11 at anything, the others at `cont`. -/
abbrev invC (𝒱 : Variants) (c : Dev nD) (bd : Option 𝒱.V) (i : grid0.Coords) (a3 : Memref sig .tc .vmem S512x256 .bf16) (w3 : a3.IsWhole) (a4 : Memref sig .tc .vmem S4096x256 .bf16) (w4 : a4.IsWhole) (a5 : Memref sig .tc .vmem S4096x256 .bf16) (w5 : a5.IsWhole) (a6 : Memref sig .tc .vmem S4x64 .f32) (w6 : a6.IsWhole) (a7 : Memref sig .tc .vmem S2x1x128 .f32) (w7 : a7.IsWhole) (a8 : Memref sig .tc .vmem S512x256 .bf16) (w8 : a8.IsWhole) (a9 : Memref sig .tc .vmem S2x8x128x512 .bf16) (w9 : a9.IsWhole) (a10 : Memref sig .tc .vmem S2x512x1024 .f32) (w10 : a10.IsWhole) (a11 : Memref sig .tc .vmem S2x512x1024 .f32) (w11 : a11.IsWhole) (a12 : Memref sig .tc .vmem S2x1x1024 .f32) (w12 : a12.IsWhole) (a13 : Memref sig .tc .vmem S2x1x1024 .f32) (w13 : a13.IsWhole) (a14 : Memref sig .tc .vmem S2x128x1024 .f32) (w14 : a14.IsWhole) (a2 : BitVec 32) (v17 : FVec F S128x1024 .bf16) (v32 : FVec F S128x1024 .bf16) (c2_i32 : BitVec 32) (v60 : BitVec 32) (v65 : BitVec 32) (v67 : BitVec 32) (v68 : BitVec 1) (X_arg4 : BufTy.Contents (Elt F) a4.view.ty) (X_arg9 : BufTy.Contents (Elt F) a9.view.ty) (G_arg10 : BufTy.Contents (Elt F) a10.view.ty) (G_arg12 : BufTy.Contents (Elt F) a12.view.ty) (G_arg13 : BufTy.Contents (Elt F) a13.view.ty) (G_arg14 : BufTy.Contents (Elt F) a14.view.ty) (k : ℕ) (_u : PUnit) : sProp 𝕄G :=
  iprop((a4.view.loc (c : Thread nD τ) ↦[a4.view.set]{fullShare} X_arg4) ∗ (a9.view.loc (c : Thread nD τ) ↦[a9.view.set]{fullShare} X_arg9) ∗ (∃ f, (a10.view.loc (c : Thread nD τ) ↦[a10.view.set]{fullShare} f) ∗ ⌜f = sel G_arg10 (cont (F := F) 𝒱 c bd i a3 w3 a4 w4 a5 w5 a6 w6 a7 w7 a8 w8 a9 w9 a10 w10 a11 w11 a12 w12 a13 w13 a14 w14 a2 v17 v32 c2_i32 v60 v65 v67 v68 X_arg4 X_arg9 G_arg10 G_arg12 G_arg13 G_arg14 k).1 k⌝) ∗ (∃ f, (a11.view.loc (c : Thread nD τ) ↦[a11.view.set]{fullShare} f) ∗ ⌜True⌝) ∗ (∃ f, (a12.view.loc (c : Thread nD τ) ↦[a12.view.set]{fullShare} f) ∗ ⌜f = sel G_arg12 (cont (F := F) 𝒱 c bd i a3 w3 a4 w4 a5 w5 a6 w6 a7 w7 a8 w8 a9 w9 a10 w10 a11 w11 a12 w12 a13 w13 a14 w14 a2 v17 v32 c2_i32 v60 v65 v67 v68 X_arg4 X_arg9 G_arg10 G_arg12 G_arg13 G_arg14 k).2.1 k⌝) ∗ (∃ f, (a13.view.loc (c : Thread nD τ) ↦[a13.view.set]{fullShare} f) ∗ ⌜f = sel G_arg13 (cont (F := F) 𝒱 c bd i a3 w3 a4 w4 a5 w5 a6 w6 a7 w7 a8 w8 a9 w9 a10 w10 a11 w11 a12 w12 a13 w13 a14 w14 a2 v17 v32 c2_i32 v60 v65 v67 v68 X_arg4 X_arg9 G_arg10 G_arg12 G_arg13 G_arg14 k).2.2.1 k⌝) ∗ (∃ f, (a14.view.loc (c : Thread nD τ) ↦[a14.view.set]{fullShare} f) ∗ ⌜f = sel G_arg14 (cont (F := F) 𝒱 c bd i a3 w3 a4 w4 a5 w5 a6 w6 a7 w7 a8 w8 a9 w9 a10 w10 a11 w11 a12 w12 a13 w13 a14 w14 a2 v17 v32 c2_i32 v60 v65 v67 v68 X_arg4 X_arg9 G_arg10 G_arg12 G_arg13 G_arg14 k).2.2.2 k⌝))

set_option warn.classDefReducibility false in
/-- The loop by this invariant. -/
@[sl_loop] def loopInvC (𝒱 : Variants) (c : Dev nD) (bd : Option 𝒱.V) (E : Set ℕ) (i : grid0.Coords) (a3 : Memref sig .tc .vmem S512x256 .bf16) (w3 : a3.IsWhole) (a4 : Memref sig .tc .vmem S4096x256 .bf16) (w4 : a4.IsWhole) (a5 : Memref sig .tc .vmem S4096x256 .bf16) (w5 : a5.IsWhole) (a6 : Memref sig .tc .vmem S4x64 .f32) (w6 : a6.IsWhole) (a7 : Memref sig .tc .vmem S2x1x128 .f32) (w7 : a7.IsWhole) (a8 : Memref sig .tc .vmem S512x256 .bf16) (w8 : a8.IsWhole) (a9 : Memref sig .tc .vmem S2x8x128x512 .bf16) (w9 : a9.IsWhole) (a10 : Memref sig .tc .vmem S2x512x1024 .f32) (w10 : a10.IsWhole) (a11 : Memref sig .tc .vmem S2x512x1024 .f32) (w11 : a11.IsWhole) (a12 : Memref sig .tc .vmem S2x1x1024 .f32) (w12 : a12.IsWhole) (a13 : Memref sig .tc .vmem S2x1x1024 .f32) (w13 : a13.IsWhole) (a14 : Memref sig .tc .vmem S2x128x1024 .f32) (w14 : a14.IsWhole) (a2 : BitVec 32) (v17 : FVec F S128x1024 .bf16) (v32 : FVec F S128x1024 .bf16) (c2_i32 : BitVec 32) (v60 : BitVec 32) (v65 : BitVec 32) (v67 : BitVec 32) (v68 : BitVec 1) (X_arg4 : BufTy.Contents (Elt F) a4.view.ty) (X_arg9 : BufTy.Contents (Elt F) a9.view.ty) (G_arg10 : BufTy.Contents (Elt F) a10.view.ty) (G_arg12 : BufTy.Contents (Elt F) a12.view.ty) (G_arg13 : BufTy.Contents (Elt F) a13.view.ty) (G_arg14 : BufTy.Contents (Elt F) a14.view.ty) :
    LoopInvTy_k0_t1 (F := F) Unit ℕ (UR sig nD τ) ℕ 𝒱 c bd E i a3 w3 a4 w4 a5 w5 a6 w6 a7 w7 a8 w8 a9 w9 a10 w10 a11 w11 a12 w12 a13 w13 a14 w14 a2 v17 v32 c2_i32 v60 v65 v67 v68 where
  inv := invC (F := F) 𝒱 c bd i a3 w3 a4 w4 a5 w5 a6 w6 a7 w7 a8 w8 a9 w9 a10 w10 a11 w11 a12 w12 a13 w13 a14 w14 a2 v17 v32 c2_i32 v60 v65 v67 v68 X_arg4 X_arg9 G_arg10 G_arg12 G_arg13 G_arg14
  step k acc := by
    iintro ⟨HR_arg4, HR_arg9, ⟨%f_arg10, HW_arg10, %h_arg10⟩, ⟨%f_arg11, HW_arg11, -⟩, ⟨%f_arg12, HW_arg12, %h_arg12⟩, ⟨%f_arg13, HW_arg13, %h_arg13⟩, ⟨%f_arg14, HW_arg14, %h_arg14⟩⟩
    iapply (wp_wand_r Idealize.ShloMosaic.frame (wpE (defs₀ (F := F)) 𝒱 (c : Thread nD τ) bd) E)
    isplitl [HR_arg4 HR_arg9 HW_arg10 HW_arg11 HW_arg12 HW_arg13 HW_arg14]
    · iapply ((trip_k0_t1 (F := F) 𝒱 c bd i a3 w3 a4 w4 a5 w5 a6 w6 a7 w7 a8 w8 a9 w9 a10 w10 a11 w11 a12 w12 a13 w13 a14 w14 a2 v17 v32 c2_i32 v60 v65 v67 v68 X_arg4 X_arg9 k).2.2.2.2.2 E f_arg10 f_arg11 f_arg12 f_arg13 f_arg14)
      isplitl [HR_arg4]; · iexact HR_arg4
      isplitl [HR_arg9]; · iexact HR_arg9
      isplitl [HW_arg10]; · iexact HW_arg10
      isplitl [HW_arg11]; · iexact HW_arg11
      isplitl [HW_arg12]; · iexact HW_arg12
      isplitl [HW_arg13]; · iexact HW_arg13
      iexact HW_arg14
    · have hi := trip_indep (F := F) 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 a11.view.junk f_arg12 f_arg13 f_arg14
      iintro %_ ⟨HR_arg4, HR_arg9, HW_arg10, HW_arg11, HW_arg12, HW_arg13, HW_arg14⟩
      isplitl [HR_arg4]; · iexact HR_arg4
      isplitl [HR_arg9]; · iexact HR_arg9
      have e : ∀ {α : Type} (g : α) (w : _ → α) (hw : w (cont (F := F) 𝒱 c bd i a3 w3 a4 w4 a5 w5 a6 w6 a7 w7 a8 w8 a9 w9 a10 w10 a11 w11 a12 w12 a13 w13 a14 w14 a2 v17 v32 c2_i32 v60 v65 v67 v68 X_arg4 X_arg9 G_arg10 G_arg12 G_arg13 G_arg14 0) = g), sel g (w (cont (F := F) 𝒱 c bd i a3 w3 a4 w4 a5 w5 a6 w6 a7 w7 a8 w8 a9 w9 a10 w10 a11 w11 a12 w12 a13 w13 a14 w14 a2 v17 v32 c2_i32 v60 v65 v67 v68 X_arg4 X_arg9 G_arg10 G_arg12 G_arg13 G_arg14 k.val)) k.val = w (cont (F := F) 𝒱 c bd i a3 w3 a4 w4 a5 w5 a6 w6 a7 w7 a8 w8 a9 w9 a10 w10 a11 w11 a12 w12 a13 w13 a14 w14 a2 v17 v32 c2_i32 v60 v65 v67 v68 X_arg4 X_arg9 G_arg10 G_arg12 G_arg13 G_arg14 k.val) := by
        intro α g w hw
        cases h : k.val with
        | zero => exact hw.symm
        | succ n => rfl
      rw [e G_arg10 (fun p => p.1) rfl] at h_arg10
      rw [e G_arg12 (fun p => p.2.1) rfl] at h_arg12
      rw [e G_arg13 (fun p => p.2.2.1) rfl] at h_arg13
      rw [e G_arg14 (fun p => p.2.2.2) rfl] at h_arg14
      dsimp only [sel]
      rw [cont_succ]; dsimp only
      subst h_arg10 h_arg12 h_arg13 h_arg14
      isplitl [HW_arg10]
      · iexists _; isplitl [HW_arg10]; · iexact HW_arg10
        ipureintro; exact congrArg (fun L => a10.view.writes (Elt F) _ L.1) hi
      isplitl [HW_arg11]
      · iexists _; isplitl [HW_arg11]; · iexact HW_arg11
        ipureintro; trivial
      isplitl [HW_arg12]
      · iexists _; isplitl [HW_arg12]; · iexact HW_arg12
        ipureintro; exact congrArg (fun L => a12.view.writes (Elt F) _ L.2.2.1) hi
      isplitl [HW_arg13]
      · iexists _; isplitl [HW_arg13]; · iexact HW_arg13
        ipureintro; exact congrArg (fun L => a13.view.writes (Elt F) _ L.2.2.2.1) hi
      iexists _; isplitl [HW_arg14]; · iexact HW_arg14
      ipureintro; exact congrArg (fun L => a14.view.writes (Elt F) _ L.2.2.2.2) hi

end Cert.AttnIdeal.Gen

end
-- ==== Proof.AttnRuns.lean ====
module

public import proofs.«01_k».proof.Proof.Gen.AttnIdeal.Launch
public import proofs.«01_k».proof.Proof.Gen.AttnIdeal.Skeleton
public import proofs.«01_k».proof.Proof.AttnLoop
public import Idealize.ShloMosaic.Lib.LoopRemainder
public import proofs.«01_k».proof.Proof.Gen.AttnIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The host's operations, then the kernel's region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host writes none of the arguments. -/
theorem V_args (c : Dev nD) : V m c main_arg0 = m ((c : Thread nD τ).loc main_arg0) ∧ V m c main_arg1 = m ((c : Thread nD τ).loc main_arg1) ∧ V m c main_arg2 = m ((c : Thread nD τ).loc main_arg2) ∧ V m c main_arg3 = m ((c : Thread nD τ).loc main_arg3) ∧ V m c main_arg4 = m ((c : Thread nD τ).loc main_arg4) := by
  refine ⟨?_, ?_, ?_, ?_, ?_⟩
  all_goals exact StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem V_main_arg0 (c : Dev nD) : V m c main_arg0 = m ((c : Thread nD τ).loc main_arg0) := (V_args m c).1
theorem V_main_arg1 (c : Dev nD) : V m c main_arg1 = m ((c : Thread nD τ).loc main_arg1) := (V_args m c).2.1
theorem V_main_arg2 (c : Dev nD) : V m c main_arg2 = m ((c : Thread nD τ).loc main_arg2) := (V_args m c).2.2.1
theorem V_main_arg3 (c : Dev nD) : V m c main_arg3 = m ((c : Thread nD τ).loc main_arg3) := (V_args m c).2.2.2.1
theorem V_main_arg4 (c : Dev nD) : V m c main_arg4 = m ((c : Thread nD τ).loc main_arg4) := (V_args m c).2.2.2.2

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's buffer holds its block at every point, for any proof data whose arrays are `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a run, for any proof data whose arrays are `V`'s. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's branch conditions -/

/-- The condition of the body's branch 0. -/
abbrev cond0_0 (i : grid0.Coords) : Prop := (Scalar.cmpi .ne (Scalar.extui (Scalar.cmpi .eq (BitVec.ofNat 32 (i 2).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 64 := Nat.lt_of_lt_of_eq t.isLt N_0
    have e0 : (grid0.coords t 0).val = t.val / 16 % 4 := Pipeline.Grid.coords_val t 0 (by decide) rfl
    have e1 : (grid0.coords t 1).val = t.val / 8 % 2 := Pipeline.Grid.coords_val t 1 (by decide) rfl
    have e2 : (grid0.coords t 2).val = t.val / 1 % 8 := Pipeline.Grid.coords_val t 2 (by decide) rfl
    simp only [cond0_0, e0, e1, e2]
    word_cmp
   : ∀ t : Fin grid0.N, cond0_0 (grid0.coords t) ↔ t.val % 8 = 0)

/-- The condition of the body's branch 1. -/
abbrev cond0_1 (i : grid0.Coords) : Prop := k0_cond2 i = 1#1
/-- It holds at the points ≡ 1 (mod 2) — decided over the grid. -/
theorem hcond0_1 : ∀ t : Fin cfg0.N, cond0_1 (grid0.coords t) ↔ t.val % 2 = 1 :=
  (by decide +kernel : ∀ t : Fin grid0.N, cond0_1 (grid0.coords t) ↔ t.val % 2 = 1)

/-- The condition of the body's branch 2. -/
abbrev cond0_2 (i : grid0.Coords) : Prop := k0_cond3 i = 1#1
/-- It holds at the points ≡ 0 (mod 2) — decided over the grid. -/
theorem hcond0_2 : ∀ t : Fin cfg0.N, cond0_2 (grid0.coords t) ↔ t.val % 2 = 0 :=
  (by decide +kernel : ∀ t : Fin grid0.N, cond0_2 (grid0.coords t) ↔ t.val % 2 = 0)

/-! ## The kernel body on any staging memrefs: a subtype the run finds -/

/-- One staging buffer of output window 5, through which its contents are stated (`View.read_writes_of_cover`: the
    choice does not matter). -/
abbrev VO0_5 : View sig .tc .vmem S512x256 .bf16 := (Memref.whole cc0_stg5_0 : Memref sig .tc .vmem S512x256 .bf16).view
/-- Each window's current staging memref at point `t`, spelled as the pipeline passes it (`bodyAt0`), and its wholeness. -/
abbrev ms0_0 (t : Fin cfg0.N) : Memref sig .tc .vmem S512x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x256 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S2x8x128x512 .bf16 := Memref.whole cc0_scratch0
abbrev scM0_1 : Memref sig .tc .vmem S2x512x1024 .f32 := Memref.whole cc0_scratch1
abbrev scM0_2 : Memref sig .tc .vmem S2x512x1024 .f32 := Memref.whole cc0_scratch2
abbrev scM0_3 : Memref sig .tc .vmem S2x1x1024 .f32 := Memref.whole cc0_scratch3
abbrev scM0_4 : Memref sig .tc .vmem S2x1x1024 .f32 := Memref.whole cc0_scratch4
abbrev scM0_5 : Memref sig .tc .vmem S2x128x1024 .f32 := Memref.whole cc0_scratch5
/-- The scratch `a9` the kernel carries between points, as a view: what it holds is stated through it. -/
abbrev VS0_0 : View sig .tc .vmem S2x8x128x512 .bf16 := scM0_0.view

/-- The invariant with the scratch buffers one by one. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.AttnIdeal.Gen

end
-- ==== Proof.AttnRunA.lean ====
module

public import proofs.«01_k».proof.Proof.AttnRuns

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1064000 in
/-- What the body stores in case A (points 0, 8, … 56), last first, with the proof that it runs and leaves that. -/
noncomputable def kernelRun0_A (c : Dev nD) (i : grid0.Coords) (a3 : Memref sig .tc .vmem S512x256 .bf16) (w3 : a3.IsWhole) (a4 : Memref sig .tc .vmem S4096x256 .bf16) (w4 : a4.IsWhole) (a5 : Memref sig .tc .vmem S4096x256 .bf16) (w5 : a5.IsWhole) (a6 : Memref sig .tc .vmem S4x64 .f32) (w6 : a6.IsWhole) (a7 : Memref sig .tc .vmem S2x1x128 .f32) (w7 : a7.IsWhole) (a8 : Memref sig .tc .vmem S512x256 .bf16) (w8 : a8.IsWhole) (a9 : Memref sig .tc .vmem S2x8x128x512 .bf16) (w9 : a9.IsWhole) (a10 : Memref sig .tc .vmem S2x512x1024 .f32) (w10 : a10.IsWhole) (a11 : Memref sig .tc .vmem S2x512x1024 .f32) (w11 : a11.IsWhole) (a12 : Memref sig .tc .vmem S2x1x1024 .f32) (w12 : a12.IsWhole) (a13 : Memref sig .tc .vmem S2x1x1024 .f32) (w13 : a13.IsWhole) (a14 : Memref sig .tc .vmem S2x128x1024 .f32) (w14 : a14.IsWhole) (hc0 : cond0_0 i) (hc1 : ¬cond0_1 i) (hc2 : cond0_2 i)
    (x0 : Vec F S512x256 .bf16) (x1 : Vec F S4096x256 .bf16) (x2 : Vec F S4096x256 .bf16) (x3 : Vec F S4x64 .f32) (x4 : Vec F S2x1x128 .f32) :
    Σ' (L5 : List (View.Piece (Elt F) S512x256 .bf16)), { LS0 : List (View.Piece (Elt F) S2x8x128x512 .bf16) //
      ∀ (E : Set ℕ) (K : PUnit → sProp 𝕄),
        iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d)
            ∗ (iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ (∃ f, a8.view.loc (c : Thread nD τ) ↦[a8.view.set]{fullShare} a8.view.writes (Elt F) f L5) ∗ (∃ f, a9.view.loc (c : Thread nD τ) ↦[a9.view.set]{fullShare} a9.view.writes (Elt F) f LS0) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d)) -∗ K ⟨⟩))
          ⊢ wp frame (wpE (defs₀ (F := F)) Variants.none c none) E (cc0_da_prompt i a3 w3 a4 w4 a5 w5 a6 w6 a7 w7 a8 w8 a9 w9 a10 w10 a11 w11 a12 w12 a13 w13 a14 w14) K } := by
  refine ⟨?_, ?_, fun E K => ?run⟩
  case run =>
    simp only [cc0_da_prompt_eq_skeleton]; unfold cc0_da_prompt_skel
    simp only [k0_part24_eq_skeleton, k0_part1_eq_skeleton, k0_part2_eq_skeleton, k0_part3_eq_skeleton, k0_part4_eq_skeleton, k0_part25_eq_skeleton, k0_part26_eq_skeleton, k0_part27_eq_skeleton, k0_part21_eq_skeleton, k0_part22_eq_skeleton, k0_part23_eq_skeleton, k0_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := w3.eq_unread hf0; obtain rfl := w4.eq_unread hf1; obtain rfl := w5.eq_unread hf2; obtain rfl := w6.eq_unread hf3; obtain rfl := w7.eq_unread hf4
    sl_exec (disch := first | sl_exact hc0 | sl_exact hc1 | sl_exact hc2)
    sl_step
    iapply Hk
    isplitl [H0]
    · iexists _; isplitr; · ipureintro; exact w3.read_unread _
      iexact H0
    isplitl [H1]
    · iexists _; isplitr; · ipureintro; exact w4.read_unread _
      iexact H1
    isplitl [H2]
    · iexists _; isplitr; · ipureintro; exact w5.read_unread _
      iexact H2
    isplitl [H3]
    · iexists _; isplitr; · ipureintro; exact w6.read_unread _
      iexact H3
    isplitl [H4]
    · iexists _; isplitr; · ipureintro; exact w7.read_unread _
      iexact H4
    isplitl [H5]; · iexists _; iexact H5
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.AttnIdeal.Gen

end
-- ==== Proof.AttnRunB.lean ====
module

public import proofs.«01_k».proof.Proof.AttnRunA

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body stores in case B (points 1, 3, … 63), last first, with the proof that it runs and leaves that. -/
noncomputable def kernelRun0_B (c : Dev nD) (i : grid0.Coords) (a3 : Memref sig .tc .vmem S512x256 .bf16) (w3 : a3.IsWhole) (a4 : Memref sig .tc .vmem S4096x256 .bf16) (w4 : a4.IsWhole) (a5 : Memref sig .tc .vmem S4096x256 .bf16) (w5 : a5.IsWhole) (a6 : Memref sig .tc .vmem S4x64 .f32) (w6 : a6.IsWhole) (a7 : Memref sig .tc .vmem S2x1x128 .f32) (w7 : a7.IsWhole) (a8 : Memref sig .tc .vmem S512x256 .bf16) (w8 : a8.IsWhole) (a9 : Memref sig .tc .vmem S2x8x128x512 .bf16) (w9 : a9.IsWhole) (a10 : Memref sig .tc .vmem S2x512x1024 .f32) (w10 : a10.IsWhole) (a11 : Memref sig .tc .vmem S2x512x1024 .f32) (w11 : a11.IsWhole) (a12 : Memref sig .tc .vmem S2x1x1024 .f32) (w12 : a12.IsWhole) (a13 : Memref sig .tc .vmem S2x1x1024 .f32) (w13 : a13.IsWhole) (a14 : Memref sig .tc .vmem S2x128x1024 .f32) (w14 : a14.IsWhole) (hc0 : ¬cond0_0 i) (hc1 : cond0_1 i) (hc2 : ¬cond0_2 i)
    (x0 : Vec F S512x256 .bf16) (x1 : Vec F S4096x256 .bf16) (x2 : Vec F S4096x256 .bf16) (x3 : Vec F S4x64 .f32) (x4 : Vec F S2x1x128 .f32) (xs0 : Vec F S2x8x128x512 .bf16) :
    Σ' (L5 : List (View.Piece (Elt F) S512x256 .bf16)), { LS0 : List (View.Piece (Elt F) S2x8x128x512 .bf16) //
      ∀ (E : Set ℕ) (K : PUnit → sProp 𝕄),
        iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ (∃ d, owns (c : Thread nD τ) a8 fullShare d) ∗ owns (c : Thread nD τ) a9 fullShare xs0 ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d)
            ∗ (iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ (∃ f, a8.view.loc (c : Thread nD τ) ↦[a8.view.set]{fullShare} a8.view.writes (Elt F) f L5) ∗ owns (c : Thread nD τ) a9 fullShare xs0 ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d)) -∗ K ⟨⟩))
          ⊢ wp frame (wpE (defs₀ (F := F)) Variants.none c none) E (cc0_da_prompt i a3 w3 a4 w4 a5 w5 a6 w6 a7 w7 a8 w8 a9 w9 a10 w10 a11 w11 a12 w12 a13 w13 a14 w14) K } := by
  refine ⟨?_, [], fun E K => ?run⟩
  case run =>
    simp only [cc0_da_prompt_eq_skeleton]; unfold cc0_da_prompt_skel
    simp only [k0_part24_eq_skeleton, k0_part25_eq_skeleton, k0_part26_eq_skeleton, k0_part20_eq_skeleton, k0_part15_eq_skeleton, k0_part16_eq_skeleton, k0_part17_eq_skeleton, k0_part18_eq_skeleton, k0_part19_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := w3.eq_unread hf0; obtain rfl := w4.eq_unread hf1; obtain rfl := w5.eq_unread hf2; obtain rfl := w6.eq_unread hf3; obtain rfl := w7.eq_unread hf4; obtain rfl := w9.eq_unread hfs0
    sl_exec (disch := first | sl_exact hc0 | sl_exact hc1 | sl_exact hc2)
    sl_step
    iapply Hk
    isplitl [H0]
    · iexists _; isplitr; · ipureintro; exact w3.read_unread _
      iexact H0
    isplitl [H1]
    · iexists _; isplitr; · ipureintro; exact w4.read_unread _
      iexact H1
    isplitl [H2]
    · iexists _; isplitr; · ipureintro; exact w5.read_unread _
      iexact H2
    isplitl [H3]
    · iexists _; isplitr; · ipureintro; exact w6.read_unread _
      iexact H3
    isplitl [H4]
    · iexists _; isplitr; · ipureintro; exact w7.read_unread _
      iexact H4
    isplitl [H5]; · iexists _; iexact H5
    isplitl [HS0]
    · iexists _; isplitr; · ipureintro; exact w9.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.AttnIdeal.Gen

end
-- ==== Proof.AttnRunC.lean ====
module

public import proofs.«01_k».proof.Proof.AttnRunB

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body stores in case C (points 2, 4, … 62), last first, with the proof that it runs and leaves that. -/
noncomputable def kernelRun0_C (c : Dev nD) (i : grid0.Coords) (a3 : Memref sig .tc .vmem S512x256 .bf16) (w3 : a3.IsWhole) (a4 : Memref sig .tc .vmem S4096x256 .bf16) (w4 : a4.IsWhole) (a5 : Memref sig .tc .vmem S4096x256 .bf16) (w5 : a5.IsWhole) (a6 : Memref sig .tc .vmem S4x64 .f32) (w6 : a6.IsWhole) (a7 : Memref sig .tc .vmem S2x1x128 .f32) (w7 : a7.IsWhole) (a8 : Memref sig .tc .vmem S512x256 .bf16) (w8 : a8.IsWhole) (a9 : Memref sig .tc .vmem S2x8x128x512 .bf16) (w9 : a9.IsWhole) (a10 : Memref sig .tc .vmem S2x512x1024 .f32) (w10 : a10.IsWhole) (a11 : Memref sig .tc .vmem S2x512x1024 .f32) (w11 : a11.IsWhole) (a12 : Memref sig .tc .vmem S2x1x1024 .f32) (w12 : a12.IsWhole) (a13 : Memref sig .tc .vmem S2x1x1024 .f32) (w13 : a13.IsWhole) (a14 : Memref sig .tc .vmem S2x128x1024 .f32) (w14 : a14.IsWhole) (hc0 : ¬cond0_0 i) (hc1 : ¬cond0_1 i) (hc2 : cond0_2 i)
    (x0 : Vec F S512x256 .bf16) (x1 : Vec F S4096x256 .bf16) (x2 : Vec F S4096x256 .bf16) (x3 : Vec F S4x64 .f32) (x4 : Vec F S2x1x128 .f32) (xs0 : Vec F S2x8x128x512 .bf16) :
    Σ' (L5 : List (View.Piece (Elt F) S512x256 .bf16)), { LS0 : List (View.Piece (Elt F) S2x8x128x512 .bf16) //
      ∀ (E : Set ℕ) (K : PUnit → sProp 𝕄),
        iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ (∃ d, owns (c : Thread nD τ) a8 fullShare d) ∗ owns (c : Thread nD τ) a9 fullShare xs0 ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d)
            ∗ (iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ (∃ f, a8.view.loc (c : Thread nD τ) ↦[a8.view.set]{fullShare} a8.view.writes (Elt F) f L5) ∗ owns (c : Thread nD τ) a9 fullShare xs0 ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d)) -∗ K ⟨⟩))
          ⊢ wp frame (wpE (defs₀ (F := F)) Variants.none c none) E (cc0_da_prompt i a3 w3 a4 w4 a5 w5 a6 w6 a7 w7 a8 w8 a9 w9 a10 w10 a11 w11 a12 w12 a13 w13 a14 w14) K } := by
  refine ⟨?_, [], fun E K => ?run⟩
  case run =>
    simp only [cc0_da_prompt_eq_skeleton]; unfold cc0_da_prompt_skel
    simp only [k0_part24_eq_skeleton, k0_part25_eq_skeleton, k0_part26_eq_skeleton, k0_part27_eq_skeleton, k0_part21_eq_skeleton, k0_part22_eq_skeleton, k0_part23_eq_skeleton, k0_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := w3.eq_unread hf0; obtain rfl := w4.eq_unread hf1; obtain rfl := w5.eq_unread hf2; obtain rfl := w6.eq_unread hf3; obtain rfl := w7.eq_unread hf4; obtain rfl := w9.eq_unread hfs0
    sl_exec (disch := first | sl_exact hc0 | sl_exact hc1 | sl_exact hc2)
    sl_step
    iapply Hk
    isplitl [H0]
    · iexists _; isplitr; · ipureintro; exact w3.read_unread _
      iexact H0
    isplitl [H1]
    · iexists _; isplitr; · ipureintro; exact w4.read_unread _
      iexact H1
    isplitl [H2]
    · iexists _; isplitr; · ipureintro; exact w5.read_unread _
      iexact H2
    isplitl [H3]
    · iexists _; isplitr; · ipureintro; exact w6.read_unread _
      iexact H3
    isplitl [H4]
    · iexists _; isplitr; · ipureintro; exact w7.read_unread _
      iexact H4
    isplitl [H5]; · iexists _; iexact H5
    isplitl [HS0]
    · iexists _; isplitr; · ipureintro; exact w9.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.AttnIdeal.Gen

end
-- ==== Proof.AttnFrame.lean ====
module

public import proofs.«01_k».proof.Proof.AttnRunC
public import Idealize.ShloMosaic.Lib.Claim

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section
variable (c : Dev nD) (i : grid0.Coords) (a3 : Memref sig .tc .vmem S512x256 .bf16) (w3 : a3.IsWhole) (a4 : Memref sig .tc .vmem S4096x256 .bf16) (w4 : a4.IsWhole) (a5 : Memref sig .tc .vmem S4096x256 .bf16) (w5 : a5.IsWhole) (a6 : Memref sig .tc .vmem S4x64 .f32) (w6 : a6.IsWhole) (a7 : Memref sig .tc .vmem S2x1x128 .f32) (w7 : a7.IsWhole) (a8 : Memref sig .tc .vmem S512x256 .bf16) (w8 : a8.IsWhole) (a9 : Memref sig .tc .vmem S2x8x128x512 .bf16) (w9 : a9.IsWhole) (a10 : Memref sig .tc .vmem S2x512x1024 .f32) (w10 : a10.IsWhole) (a11 : Memref sig .tc .vmem S2x512x1024 .f32) (w11 : a11.IsWhole) (a12 : Memref sig .tc .vmem S2x1x1024 .f32) (w12 : a12.IsWhole) (a13 : Memref sig .tc .vmem S2x1x1024 .f32) (w13 : a13.IsWhole) (a14 : Memref sig .tc .vmem S2x128x1024 .f32) (w14 : a14.IsWhole)
include c i a3 w3 a4 w4 a5 w5 a6 w6 a7 w7 a8 w8 a9 w9 a10 w10 a11 w11 a12 w12 a13 w13 a14 w14

/-- Case A's two stores fill output 5's block. -/
theorem cover0_A_5 (hc0 : cond0_0 i) (hc1 : ¬cond0_1 i) (hc2 : cond0_2 i)
    (x0 : Vec F S512x256 .bf16) (x1 : Vec F S4096x256 .bf16) (x2 : Vec F S4096x256 .bf16) (x3 : Vec F S4x64 .f32) (x4 : Vec F S2x1x128 .f32) (y : S512x256.Idx) :
    ∃ pc ∈ (kernelRun0_A c i a3 w3 a4 w4 a5 w5 a6 w6 a7 w7 a8 w8 a9 w9 a10 w10 a11 w11 a12 w12 a13 w13 a14 w14 hc0 hc1 hc2 x0 x1 x2 x3 x4).1, y ∈ pc.1.set :=
  View.cover_of_tiledL (kernelRun0_A c i a3 w3 a4 w4 a5 w5 a6 w6 a7 w7 a8 w8 a9 w9 a10 w10 a11 w11 a12 w12 a13 w13 a14 w14 hc0 hc1 hc2 x0 x1 x2 x3 x4).1 S512x128.size (by sl_kernel_rfl) y

/-- What case A leaves in output 5's buffer. -/
def out0_A_5 (hc0 : cond0_0 i) (hc1 : ¬cond0_1 i) (hc2 : cond0_2 i)
    (x0 : Vec F S512x256 .bf16) (x1 : Vec F S4096x256 .bf16) (x2 : Vec F S4096x256 .bf16) (x3 : Vec F S4x64 .f32) (x4 : Vec F S2x1x128 .f32) : Vec F S512x256 .bf16 :=
  VO0_5.read (Elt F) (VO0_5.writes (Elt F) VO0_5.junk (kernelRun0_A c i a3 w3 a4 w4 a5 w5 a6 w6 a7 w7 a8 w8 a9 w9 a10 w10 a11 w11 a12 w12 a13 w13 a14 w14 hc0 hc1 hc2 x0 x1 x2 x3 x4).1)

/-- Case A's sixteen stores fill scratch `a9`. -/
theorem scover0_A_0 (hc0 : cond0_0 i) (hc1 : ¬cond0_1 i) (hc2 : cond0_2 i)
    (x0 : Vec F S512x256 .bf16) (x1 : Vec F S4096x256 .bf16) (x2 : Vec F S4096x256 .bf16) (x3 : Vec F S4x64 .f32) (x4 : Vec F S2x1x128 .f32) (y : S2x8x128x512.Idx) :
    ∃ pc ∈ (kernelRun0_A c i a3 w3 a4 w4 a5 w5 a6 w6 a7 w7 a8 w8 a9 w9 a10 w10 a11 w11 a12 w12 a13 w13 a14 w14 hc0 hc1 hc2 x0 x1 x2 x3 x4).2.1, y ∈ pc.1.set :=
  View.cover_of_tiledL (kernelRun0_A c i a3 w3 a4 w4 a5 w5 a6 w6 a7 w7 a8 w8 a9 w9 a10 w10 a11 w11 a12 w12 a13 w13 a14 w14 hc0 hc1 hc2 x0 x1 x2 x3 x4).2.1 S1x1x128x512.size (by sl_kernel_rfl) y

/-- What case A leaves in scratch `a9`. -/
def sout0_A_0 (hc0 : cond0_0 i) (hc1 : ¬cond0_1 i) (hc2 : cond0_2 i)
    (x0 : Vec F S512x256 .bf16) (x1 : Vec F S4096x256 .bf16) (x2 : Vec F S4096x256 .bf16) (x3 : Vec F S4x64 .f32) (x4 : Vec F S2x1x128 .f32) : Vec F S2x8x128x512 .bf16 :=
  VS0_0.read (Elt F) (VS0_0.writes (Elt F) VS0_0.junk (kernelRun0_A c i a3 w3 a4 w4 a5 w5 a6 w6 a7 w7 a8 w8 a9 w9 a10 w10 a11 w11 a12 w12 a13 w13 a14 w14 hc0 hc1 hc2 x0 x1 x2 x3 x4).2.1)

/-- Case B's two stores fill output 5's block. -/
theorem cover0_B_5 (hc0 : ¬cond0_0 i) (hc1 : cond0_1 i) (hc2 : ¬cond0_2 i)
    (x0 : Vec F S512x256 .bf16) (x1 : Vec F S4096x256 .bf16) (x2 : Vec F S4096x256 .bf16) (x3 : Vec F S4x64 .f32) (x4 : Vec F S2x1x128 .f32) (xs0 : Vec F S2x8x128x512 .bf16) (y : S512x256.Idx) :
    ∃ pc ∈ (kernelRun0_B c i a3 w3 a4 w4 a5 w5 a6 w6 a7 w7 a8 w8 a9 w9 a10 w10 a11 w11 a12 w12 a13 w13 a14 w14 hc0 hc1 hc2 x0 x1 x2 x3 x4 xs0).1, y ∈ pc.1.set :=
  View.cover_of_tiledL (kernelRun0_B c i a3 w3 a4 w4 a5 w5 a6 w6 a7 w7 a8 w8 a9 w9 a10 w10 a11 w11 a12 w12 a13 w13 a14 w14 hc0 hc1 hc2 x0 x1 x2 x3 x4 xs0).1 S512x128.size (by sl_kernel_rfl) y

/-- What case B leaves in output 5's buffer. -/
def out0_B_5 (hc0 : ¬cond0_0 i) (hc1 : cond0_1 i) (hc2 : ¬cond0_2 i)
    (x0 : Vec F S512x256 .bf16) (x1 : Vec F S4096x256 .bf16) (x2 : Vec F S4096x256 .bf16) (x3 : Vec F S4x64 .f32) (x4 : Vec F S2x1x128 .f32) (xs0 : Vec F S2x8x128x512 .bf16) : Vec F S512x256 .bf16 :=
  VO0_5.read (Elt F) (VO0_5.writes (Elt F) VO0_5.junk (kernelRun0_B c i a3 w3 a4 w4 a5 w5 a6 w6 a7 w7 a8 w8 a9 w9 a10 w10 a11 w11 a12 w12 a13 w13 a14 w14 hc0 hc1 hc2 x0 x1 x2 x3 x4 xs0).1)

/-- Case B stores nothing into scratch `a9`: it holds what the point before left. -/
def sout0_B_0 (c : Dev nD) (i : grid0.Coords) (a3 : Memref sig .tc .vmem S512x256 .bf16) (w3 : a3.IsWhole) (a4 : Memref sig .tc .vmem S4096x256 .bf16) (w4 : a4.IsWhole) (a5 : Memref sig .tc .vmem S4096x256 .bf16) (w5 : a5.IsWhole) (a6 : Memref sig .tc .vmem S4x64 .f32) (w6 : a6.IsWhole) (a7 : Memref sig .tc .vmem S2x1x128 .f32) (w7 : a7.IsWhole) (a8 : Memref sig .tc .vmem S512x256 .bf16) (w8 : a8.IsWhole) (a9 : Memref sig .tc .vmem S2x8x128x512 .bf16) (w9 : a9.IsWhole) (a10 : Memref sig .tc .vmem S2x512x1024 .f32) (w10 : a10.IsWhole) (a11 : Memref sig .tc .vmem S2x512x1024 .f32) (w11 : a11.IsWhole) (a12 : Memref sig .tc .vmem S2x1x1024 .f32) (w12 : a12.IsWhole) (a13 : Memref sig .tc .vmem S2x1x1024 .f32) (w13 : a13.IsWhole) (a14 : Memref sig .tc .vmem S2x128x1024 .f32) (w14 : a14.IsWhole) (hc0 : ¬cond0_0 i) (hc1 : cond0_1 i) (hc2 : ¬cond0_2 i)
    (x0 : Vec F S512x256 .bf16) (x1 : Vec F S4096x256 .bf16) (x2 : Vec F S4096x256 .bf16) (x3 : Vec F S4x64 .f32) (x4 : Vec F S2x1x128 .f32) (xs0 : Vec F S2x8x128x512 .bf16) : Vec F S2x8x128x512 .bf16 := xs0

/-- Case C's two stores fill output 5's block. -/
theorem cover0_C_5 (hc0 : ¬cond0_0 i) (hc1 : ¬cond0_1 i) (hc2 : cond0_2 i)
    (x0 : Vec F S512x256 .bf16) (x1 : Vec F S4096x256 .bf16) (x2 : Vec F S4096x256 .bf16) (x3 : Vec F S4x64 .f32) (x4 : Vec F S2x1x128 .f32) (xs0 : Vec F S2x8x128x512 .bf16) (y : S512x256.Idx) :
    ∃ pc ∈ (kernelRun0_C c i a3 w3 a4 w4 a5 w5 a6 w6 a7 w7 a8 w8 a9 w9 a10 w10 a11 w11 a12 w12 a13 w13 a14 w14 hc0 hc1 hc2 x0 x1 x2 x3 x4 xs0).1, y ∈ pc.1.set :=
  View.cover_of_tiledL (kernelRun0_C c i a3 w3 a4 w4 a5 w5 a6 w6 a7 w7 a8 w8 a9 w9 a10 w10 a11 w11 a12 w12 a13 w13 a14 w14 hc0 hc1 hc2 x0 x1 x2 x3 x4 xs0).1 S512x128.size (by sl_kernel_rfl) y

/-- What case C leaves in output 5's buffer. -/
def out0_C_5 (hc0 : ¬cond0_0 i) (hc1 : ¬cond0_1 i) (hc2 : cond0_2 i)
    (x0 : Vec F S512x256 .bf16) (x1 : Vec F S4096x256 .bf16) (x2 : Vec F S4096x256 .bf16) (x3 : Vec F S4x64 .f32) (x4 : Vec F S2x1x128 .f32) (xs0 : Vec F S2x8x128x512 .bf16) : Vec F S512x256 .bf16 :=
  VO0_5.read (Elt F) (VO0_5.writes (Elt F) VO0_5.junk (kernelRun0_C c i a3 w3 a4 w4 a5 w5 a6 w6 a7 w7 a8 w8 a9 w9 a10 w10 a11 w11 a12 w12 a13 w13 a14 w14 hc0 hc1 hc2 x0 x1 x2 x3 x4 xs0).1)

/-- Case C stores nothing into scratch `a9`: it holds what the point before left. -/
def sout0_C_0 (c : Dev nD) (i : grid0.Coords) (a3 : Memref sig .tc .vmem S512x256 .bf16) (w3 : a3.IsWhole) (a4 : Memref sig .tc .vmem S4096x256 .bf16) (w4 : a4.IsWhole) (a5 : Memref sig .tc .vmem S4096x256 .bf16) (w5 : a5.IsWhole) (a6 : Memref sig .tc .vmem S4x64 .f32) (w6 : a6.IsWhole) (a7 : Memref sig .tc .vmem S2x1x128 .f32) (w7 : a7.IsWhole) (a8 : Memref sig .tc .vmem S512x256 .bf16) (w8 : a8.IsWhole) (a9 : Memref sig .tc .vmem S2x8x128x512 .bf16) (w9 : a9.IsWhole) (a10 : Memref sig .tc .vmem S2x512x1024 .f32) (w10 : a10.IsWhole) (a11 : Memref sig .tc .vmem S2x512x1024 .f32) (w11 : a11.IsWhole) (a12 : Memref sig .tc .vmem S2x1x1024 .f32) (w12 : a12.IsWhole) (a13 : Memref sig .tc .vmem S2x1x1024 .f32) (w13 : a13.IsWhole) (a14 : Memref sig .tc .vmem S2x128x1024 .f32) (w14 : a14.IsWhole) (hc0 : ¬cond0_0 i) (hc1 : ¬cond0_1 i) (hc2 : cond0_2 i)
    (x0 : Vec F S512x256 .bf16) (x1 : Vec F S4096x256 .bf16) (x2 : Vec F S4096x256 .bf16) (x3 : Vec F S4x64 .f32) (x4 : Vec F S2x1x128 .f32) (xs0 : Vec F S2x8x128x512 .bf16) : Vec F S2x8x128x512 .bf16 := xs0

end

/-! ## What the outputs hold after each point -/

/-- What the output's buffer and scratch `a9` hold after point `n`: what the point's case leaves, over what the point before left. -/
def outsAt0 (c : Dev nD) : (n : ℕ) → n < cfg0.N → Vec F S512x256 .bf16 × Vec F S2x8x128x512 .bf16
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (fun h => (fun h => by (try dsimp only at h); omega) ((hcond0_1 ⟨0, hn⟩).mp h)) ((hcond0_2 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (fun h => (fun h => by (try dsimp only at h); omega) ((hcond0_1 ⟨0, hn⟩).mp h)) ((hcond0_2 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 8 = 0 then
      if h1 : (n + 1) % 2 = 1 then
        False.elim (by have hN : n + 1 < 64 := lt_of_lt_of_eq hn (show cfg0.N = 64 from N_0); omega)
      else
        if h2 : (n + 1) % 2 = 0 then
          (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩))
        else
          False.elim (by have hN : n + 1 < 64 := lt_of_lt_of_eq hn (show cfg0.N = 64 from N_0); omega)
    else
      if h1 : (n + 1) % 2 = 1 then
        if h2 : (n + 1) % 2 = 0 then
          False.elim (by have hN : n + 1 < 64 := lt_of_lt_of_eq hn (show cfg0.N = 64 from N_0); omega)
        else
          (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)
      else
        if h2 : (n + 1) % 2 = 0 then
          (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)
        else
          False.elim (by have hN : n + 1 < 64 := lt_of_lt_of_eq hn (show cfg0.N = 64 from N_0); omega)

/-- `outsAt0` at a point of case A: that case's contents. -/
theorem outsAt0_A (c : Dev nD) (t : Fin cfg0.N) (h0 : t.val % 8 = 0) (h1 : ¬t.val % 2 = 1) (h2 : t.val % 2 = 0) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) ((hcond0_2 t).mpr h2) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) ((hcond0_2 t).mpr h2) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans ((dif_pos h2).trans rfl))

/-- `outsAt0` at a point of case B: that case's contents, over what the point before left. -/
theorem outsAt0_B (c : Dev nD) (t : Fin cfg0.N) (h0 : ¬t.val % 8 = 0) (h1 : t.val % 2 = 1) (h2 : ¬t.val % 2 = 0) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 8 = 0) (h1 : ¬t.val % 2 = 1) (h2 : t.val % 2 = 0) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The invariant before point `n`: scratch `a9` at what the point before left, the rest at anything. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  cases n with
  | zero => exact absurd rfl hz
  | succ n => rfl

/-! ## The pipeline's proof data -/

/-- The arrays as found; after the body the inputs' buffers at their blocks and the output's at `outsAt0`; the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

/-- The arrays are what the host handed over. -/
theorem A_eq (c : Dev nD) (w : Fin cfg0.W) : (dats m 0 c).A w = V m c (Pipeline.arrRef spec0 w) := by
  dsimp only [dats]

section
variable (c : Dev nD) (t : Fin cfg0.N)
include c t

/-- The invariant at a point's start (the proof data at `t.castSucc`), restated at `t.val`. -/
theorem PhiS_castSucc :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 : (dats m 0 c).after 0 t = iblk m c 0 t := by dsimp only [dats]
theorem after0_1 : (dats m 0 c).after 1 t = iblk m c 1 t := by dsimp only [dats]
theorem after0_2 : (dats m 0 c).after 2 t = iblk m c 2 t := by dsimp only [dats]
theorem after0_3 : (dats m 0 c).after 3 t = iblk m c 3 t := by dsimp only [dats]
theorem after0_4 : (dats m 0 c).after 4 t = iblk m c 4 t := by dsimp only [dats]
theorem after0_5 : (dats m 0 c).after 5 t = (outsAt0 m c t.val t.isLt).1 := by dsimp only [dats]

/-- Each input's current staging buffer holds its block at every point, fetched there or not (`beforeK_W_of`). -/
theorem before0_0 (d) : (dats m 0 c).before 0 t d = iblk m c 0 t :=
  before0_0_of m (dats m 0 c) (A_eq m c 0) (after0_0 m c) t d
theorem before0_1 (d) : (dats m 0 c).before 1 t d = iblk m c 1 t :=
  before0_1_of m (dats m 0 c) (A_eq m c 1) (after0_1 m c) t d
theorem before0_2 (d) : (dats m 0 c).before 2 t d = iblk m c 2 t :=
  before0_2_of m (dats m 0 c) (A_eq m c 2) (after0_2 m c) t d
theorem before0_3 (d) : (dats m 0 c).before 3 t d = iblk m c 3 t :=
  before0_3_of m (dats m 0 c) (A_eq m c 3) (after0_3 m c) t d
theorem before0_4 (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 14400000 in
/-- The body at any point: the point's case is run, over what the point before left in the scratch, and leaves the next point's invariant. -/
theorem sound_body :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · by_cases h1 : t.val % 2 = 1
    · exfalso; omega
    · by_cases h2 : t.val % 2 = 0
      · by_cases hz : t.val = 0
        · rw [PhiS_castSucc m c t, PhiS_zero m c _ _ hz, PhiA0_eq]
          rw [outsAt0_A m c t h0 h1 h2]
          unfold out0_A_5 sout0_A_0; (try dsimp only)
          iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩⟩
          iapply ((kernelRun0_A c (grid0.coords t) _ _ _ _ _ _ _ _ _ _ _ _ _ _ _ _ _ _ _ _ _ _ _ _ ((hcond0_0 t).mpr h0) (fun h => h1 ((hcond0_1 t).mp h)) ((hcond0_2 t).mpr h2) (iblk m c 0 t) (iblk m c 1 t) (iblk m c 2 t) (iblk m c 3 t) (iblk m c 4 t)).2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          isplitl [HS1]; · iexact HS1
          isplitl [HS2]; · iexact HS2
          isplitl [HS3]; · iexact HS3
          isplitl [HS4]; · iexact HS4
          isplitl [HS5]; · iexact HS5
          iintro ⟨H0, H1, H2, H3, H4, ⟨%e5, H5⟩, ⟨%es0, HS0⟩, HS1, HS2, HS3, HS4, HS5⟩
          isplitl [HS0 HS1 HS2 HS3 HS4 HS5 Hg]
          · isplitl [HS0 HS1 HS2 HS3 HS4 HS5]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _)
              isplitl [HS1]
              · iexact HS1
              isplitl [HS2]
              · iexact HS2
              isplitl [HS3]
              · iexact HS3
              isplitl [HS4]
              · iexact HS4
              iexact HS5
            iexact Hg
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover0_A_5 c _ _ _ _ _ _ _ _ _ _ _ _ _ _ _ _ _ _ _ _ _ _ _ _ _ _ _ _ _ _ _ _ _)
        · rw [PhiS_castSucc m c t, PhiS_pos m c _ _ hz]
          rw [outsAt0_A m c t h0 h1 h2]
          unfold out0_A_5 sout0_A_0; (try dsimp only)
          iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩⟩
          iapply ((kernelRun0_A c (grid0.coords t) _ _ _ _ _ _ _ _ _ _ _ _ _ _ _ _ _ _ _ _ _ _ _ _ ((hcond0_0 t).mpr h0) (fun h => h1 ((hcond0_1 t).mp h)) ((hcond0_2 t).mpr h2) (iblk m c 0 t) (iblk m c 1 t) (iblk m c 2 t) (iblk m c 3 t) (iblk m c 4 t)).2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexists _; iexact HS0
          isplitl [HS1]; · iexact HS1
          isplitl [HS2]; · iexact HS2
          isplitl [HS3]; · iexact HS3
          isplitl [HS4]; · iexact HS4
          isplitl [HS5]; · iexact HS5
          iintro ⟨H0, H1, H2, H3, H4, ⟨%e5, H5⟩, ⟨%es0, HS0⟩, HS1, HS2, HS3, HS4, HS5⟩
          isplitl [HS0 HS1 HS2 HS3 HS4 HS5 Hg]
          · isplitl [HS0 HS1 HS2 HS3 HS4 HS5]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _)
              isplitl [HS1]
              · iexact HS1
              isplitl [HS2]
              · iexact HS2
              isplitl [HS3]
              · iexact HS3
              isplitl [HS4]
              · iexact HS4
              iexact HS5
            iexact Hg
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover0_A_5 c _ _ _ _ _ _ _ _ _ _ _ _ _ _ _ _ _ _ _ _ _ _ _ _ _ _ _ _ _ _ _ _ _)
      · exfalso; omega
  · by_cases h1 : t.val % 2 = 1
    · by_cases h2 : t.val % 2 = 0
      · exfalso; omega
      · by_cases hz : t.val = 0
        · exfalso; have hN : t.val < 64 := lt_of_lt_of_eq t.isLt (show cfg0.N = 64 from N_0); omega
        · rw [PhiS_castSucc m c t, PhiS_pos m c _ _ hz]
          rw [outsAt0_B m c t h0 h1 h2]
          unfold out0_B_5 sout0_B_0; (try dsimp only)
          iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩⟩
          iapply ((kernelRun0_B c (grid0.coords t) _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) _).2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          isplitl [HS1]; · iexact HS1
          isplitl [HS2]; · iexact HS2
          isplitl [HS3]; · iexact HS3
          isplitl [HS4]; · iexact HS4
          isplitl [HS5]; · iexact HS5
          iintro ⟨H0, H1, H2, H3, H4, ⟨%e5, H5⟩, HS0, HS1, HS2, HS3, HS4, HS5⟩
          isplitl [HS0 HS1 HS2 HS3 HS4 HS5 Hg]
          · isplitl [HS0 HS1 HS2 HS3 HS4 HS5]
            · isplitl [HS0]
              · iexact HS0
              isplitl [HS1]
              · iexact HS1
              isplitl [HS2]
              · iexact HS2
              isplitl [HS3]
              · iexact HS3
              isplitl [HS4]
              · iexact HS4
              iexact HS5
            iexact Hg
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover0_B_5 c _ _ _ _ _ _ _ _ _ _ _ _ _ _ _ _ _ _ _ _ _ _ _ _ _ _ _ _ _ _ _ _ _ _)
    · by_cases h2 : t.val % 2 = 0
      · by_cases hz : t.val = 0
        · exfalso; have hN : t.val < 64 := lt_of_lt_of_eq t.isLt (show cfg0.N = 64 from N_0); omega
        · rw [PhiS_castSucc m c t, PhiS_pos m c _ _ hz]
          rw [outsAt0_C m c t h0 h1 h2]
          unfold out0_C_5 sout0_C_0; (try dsimp only)
          iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩⟩
          iapply ((kernelRun0_C c (grid0.coords t) _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) _).2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          isplitl [HS1]; · iexact HS1
          isplitl [HS2]; · iexact HS2
          isplitl [HS3]; · iexact HS3
          isplitl [HS4]; · iexact HS4
          isplitl [HS5]; · iexact HS5
          iintro ⟨H0, H1, H2, H3, H4, ⟨%e5, H5⟩, HS0, HS1, HS2, HS3, HS4, HS5⟩
          isplitl [HS0 HS1 HS2 HS3 HS4 HS5 Hg]
          · isplitl [HS0 HS1 HS2 HS3 HS4 HS5]
            · isplitl [HS0]
              · iexact HS0
              isplitl [HS1]
              · iexact HS1
              isplitl [HS2]
              · iexact HS2
              isplitl [HS3]
              · iexact HS3
              isplitl [HS4]
              · iexact HS4
              iexact HS5
            iexact Hg
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover0_C_5 c _ _ _ _ _ _ _ _ _ _ _ _ _ _ _ _ _ _ _ _ _ _ _ _ _ _ _ _ _ _ _ _ _ _)
      · exfalso; omega

end

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5⟩, Hg⟩
  isplitl [HS0 HS1 HS2 HS3 HS4 HS5]
  · isplitl [HS0]
    · iexists _; iexact HS0
    isplitl [HS1]
    · iexact HS1
    isplitl [HS2]
    · iexact HS2
    isplitl [HS3]
    · iexact HS3
    isplitl [HS4]
    · iexact HS4
    iexact HS5
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every execution ends, with every array at what the proof data says and every other buffer as found. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the arguments end as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.AttnIdeal.Gen

end
-- ==== Proof.AttnBlocks.lean ====
module

public import proofs.«01_k».proof.Proof.AttnFrame
public import Idealize.ShloMosaic.Lib.Pipeline.Value

@[expose] public section

noncomputable section

namespace Cert.AttnIdeal.Value

open Cert.AttnIdeal Cert.AttnIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 5's array: the run's contents for that window after the body (`Gen.outsAt0`: its component 0), read through the window's block. -/
theorem flushed5 (c : Dev nD) (t : Fin cfg0.N) :
    (dats m 0 c).flushed 5 t = (cfg0.win 5).cut (grid0.coords t) ((outsAt0 m c t.val t.isLt).1) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — by the frame's rewriting lemma for the case. -/
theorem flushed5_A (c : Dev nD) (t : Fin cfg0.N) (h0 : t.val % 8 = 0) (h1 : ¬t.val % 2 = 1) (h2 : t.val % 2 = 0) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) ((hcond0_2 t).mpr h2) (iblk m c 0 t) (iblk m c 1 t) (iblk m c 2 t) (iblk m c 3 t) (iblk m c 4 t)) := by
  simp only [flushed5, outsAt0_A m c t h0 h1 h2]

/-- … so at a point where case B runs, what its write-back would write is that case's NAMED TERM for the window (`Gen.out0_B_5`: the pieces
    its run found, read back) at the point's memrefs and input blocks, and for an output the case reads back what the point before left (`Gen.outsAt0` at `t - 1`) — by the frame's rewriting lemma for the case. -/
theorem flushed5_B (c : Dev nD) (t : Fin cfg0.N) (h0 : ¬t.val % 8 = 0) (h1 : t.val % 2 = 1) (h2 : ¬t.val % 2 = 0) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2) := by
  simp only [flushed5, outsAt0_B m c t h0 h1 h2]

/-- … so at a point where case C runs, what its write-back would write is that case's NAMED TERM for the window (`Gen.out0_C_5`: the pieces
    its run found, read back) at the point's memrefs and input blocks, and for an output the case reads back what the point before left (`Gen.outsAt0` at `t - 1`) — by the frame's rewriting lemma for the case. -/
theorem flushed5_C (c : Dev nD) (t : Fin cfg0.N) (h0 : ¬t.val % 8 = 0) (h1 : ¬t.val % 2 = 1) (h2 : t.val % 2 = 0) :
    (dats m 0 c).flushed 5 t = (cfg0.win 5).cut (grid0.coords t) (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2) := by
  simp only [flushed5, outsAt0_C m c t h0 h1 h2]

/-- The index map sends distinct grid points to distinct block indices (decided over the 64 points). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S16384x512.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v13) = (dats m 0 c).arrAt 5 cfg0.N :=
  (h c).1 5

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v13) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      kept_main_arg0 m r h c,
      kept_main_arg1 m r h c,
      kept_main_arg2 m r h c,
      kept_main_arg3 m r h c,
      kept_main_arg4 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the points ≡ 0 (mod 8)
    stores the scratch whole without reading what it held, and `acc` does not enter there (nor where no point meets the
    conditions: `acc`, never read). -/
def scAt0_0 (c : Dev nD) (n : ℕ) (hb : n < cfg0.N) (acc : Vec F S2x8x128x512 .bf16) : Vec F S2x8x128x512 .bf16 :=
  if h0 : n % 8 = 0 then
    if h1 : n % 2 = 1 then
      acc
    else
      if h2 : n % 2 = 0 then
        sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 (⟨n, hb⟩ : Fin cfg0.N)).mpr h0) (fun h => h1 ((hcond0_1 (⟨n, hb⟩ : Fin cfg0.N)).mp h)) ((hcond0_2 (⟨n, hb⟩ : Fin cfg0.N)).mpr h2) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N))
      else
        acc
  else
    if h1 : n % 2 = 1 then
      if h2 : n % 2 = 0 then
        acc
      else
        sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc
    else
      if h2 : n % 2 = 0 then
        sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc
      else
        acc

/-- WHAT CARRIED SCRATCH 0 HOLDS after point `t`: the fold of its run up to `t`, from the reset at the run's first point
    `8·(t / 8)` (Lib/Pipeline/Value.lean `Pipeline.eq_accAt_of_mod`, by the frame's `outsAt0_κ`; without enumerating the points). -/
theorem soutsAt0_0_eq (c : Dev nD) (t : Fin cfg0.N) :
    (outsAt0 m c t.val t.isLt).2 = Pipeline.accAt (fun n h => scAt0_0 m c n h (VS0_0.read (Elt F) VS0_0.junk)) (scAt0_0 m c) (8 * (t.val / 8)) (t.val % 8)
      (by have h1 := t.isLt; have h2 := Nat.div_add_mod t.val 8; omega) :=
  Pipeline.eq_accAt_of_mod (fun n h => (outsAt0 m c n h).2) 8 (fun n h => scAt0_0 m c n h (VS0_0.read (Elt F) VS0_0.junk)) (scAt0_0 m c)
    (fun n h hn => by
      have hN := lt_of_lt_of_eq h (show cfg0.N = 64 from N_0)
      by_cases h0 : n % 8 = 0 <;> by_cases h1 : n % 2 = 1 <;> by_cases h2 : n % 2 = 0
      all_goals first | (exfalso; omega) | (rw [outsAt0_A m c ⟨n, h⟩ h0 h1 h2]; dsimp only; unfold scAt0_0; rw [dif_pos h0, dif_neg h1, dif_pos h2] <;> try rfl) | (rw [outsAt0_B m c ⟨n, h⟩ h0 h1 h2]; dsimp only; unfold scAt0_0; rw [dif_neg h0, dif_pos h1, dif_neg h2] <;> try rfl) | (rw [outsAt0_C m c ⟨n, h⟩ h0 h1 h2]; dsimp only; unfold scAt0_0; rw [dif_neg h0, dif_neg h1, dif_pos h2] <;> try rfl))
    (fun n h hn => by
      have hN := lt_of_lt_of_eq h (show cfg0.N = 64 from N_0)
      by_cases h0 : (n + 1) % 8 = 0 <;> by_cases h1 : (n + 1) % 2 = 1 <;> by_cases h2 : (n + 1) % 2 = 0
      all_goals first | (exfalso; omega) | (rw [outsAt0_A m c ⟨n + 1, h⟩ h0 h1 h2]; dsimp only; unfold scAt0_0; rw [dif_pos h0, dif_neg h1, dif_pos h2] <;> try rfl) | (rw [outsAt0_B m c ⟨n + 1, h⟩ h0 h1 h2]; dsimp only; unfold scAt0_0; rw [dif_neg h0, dif_pos h1, dif_neg h2] <;> try rfl) | (rw [outsAt0_C m c ⟨n + 1, h⟩ h0 h1 h2]; dsimp only; unfold scAt0_0; rw [dif_neg h0, dif_neg h1, dif_pos h2] <;> try rfl))
    (by decide) t.val t.isLt _

end Cert.AttnIdeal.Value

end
-- ==== Proof.AttnOps.lean ====
module

public import proofs.«01_k».proof.Proof.Gen.AttnIdeal.Skeleton
public import Idealize.ShloMosaic.Lib.Pipeline.ValueKit
public import Idealize.ShloMosaic.Lib.Pointwise

/-! What the kernel does with one block of keys for one head, as operations on whole blocks and entry by entry. -/

@[expose] public section

set_option maxRecDepth 16384

noncomputable section

namespace Cert.AttnIdeal.Val

open Cert.AttnIdeal Cert.AttnIdeal.Gen
open Idealize.ShloMosaic Idealize.ShloMosaic.TcCoe Idealize.SL.Sem

/-- The new running maximum of a block of scores. -/
def MN (s : FVec Ideal S512x1024 .f32) (m : FVec Ideal S1x1024 .f32) : FVec Ideal S1x1024 .f32 :=
  maximumf m (shapeCast S1x1024 (multiReduction .maximumf [0] S1024 s 0xFF800000#32 reduces_S512x1024_S1024 (.inl rfl) rfl) shapeCasts_S1024_S1x1024)

/-- What the sum and the accumulator are scaled by. -/
def AL (s : FVec Ideal S512x1024 .f32) (m : FVec Ideal S1x1024 .f32) : FVec Ideal S1x1024 .f32 := exp2 (subf m (MN s m))

/-- The block's weights. -/
def PR (s : FVec Ideal S512x1024 .f32) (m : FVec Ideal S1x1024 .f32) : FVec Ideal S512x1024 .f32 :=
  exp2 (subf s (broadcastTo S512x1024 (MN s m) broadcasts_S1x1024_S512x1024))

/-- The new running sum. -/
def LN (s : FVec Ideal S512x1024 .f32) (m l : FVec Ideal S1x1024 .f32) : FVec Ideal S1x1024 .f32 :=
  addf (mulf (AL s m) l) (shapeCast S1x1024 (multiReduction .add [0] S1024 (PR s m) 0#32 reduces_S512x1024_S1024 (.inl rfl) rfl) shapeCasts_S1024_S1x1024)

/-- The new accumulator, of the transposed values of the block. -/
def AN (s : FVec Ideal S512x1024 .f32) (m : FVec Ideal S1x1024 .f32) (a : FVec Ideal S128x1024 .f32) (v : FVec Ideal S128x512 .bf16) :
    FVec Ideal S128x1024 .f32 :=
  addf (mulf (broadcastTo S128x1024 (AL s m) broadcasts_S1x1024_S128x1024) a)
    (matmul dot_S128x512_S512x1024_S128x1024_1_0_0_1_n_n none v (truncf .bf16 (PR s m) bitsLt_bf16_f32) (constant S128x1024 .f32 0x00000000#32))

/-- One column: the maximum so far, the sum so far, the accumulator so far. -/
structure Col where
  m : EReal
  l : EReal
  a : Fin 128 → EReal

/-- The maximum of a column of scores. -/
def cmx (s : Fin 512 → EReal) : EReal := Finset.univ.fold max ⊥ s

/-- A column taken over one block of keys: its scores `s`, its transposed values `v`. -/
def Col.step (s : Fin 512 → EReal) (v : Fin 128 → Fin 512 → EReal) (q : Col) : Col where
  m := max q.m (cmx s)
  l := Ideal.exp2 (q.m - max q.m (cmx s)) * q.l + ∑ r, Ideal.exp2 (s r - max q.m (cmx s))
  a d := Ideal.exp2 (q.m - max q.m (cmx s)) * q.a d + ∑ r, v d r * Ideal.exp2 (s r - max q.m (cmx s))

theorem MN_apply (s : FVec Ideal S512x1024 .f32) (m : FVec Ideal S1x1024 .f32) (c : Fin 1024) :
    MN s m (ix2 0 c) = max (m (ix2 0 c)) (cmx fun r => s (ix2 r c)) := by
  have h : Ideal.ofBits FTy.f32 4286578688#32 = ⊥ := by
    simp [Ideal.ofBits, Ideal.ieee]
  unfold MN cmx
  pointwise
  rw [h]

theorem AL_apply (s : FVec Ideal S512x1024 .f32) (m : FVec Ideal S1x1024 .f32) (c : Fin 1024) :
    AL s m (ix2 0 c) = Ideal.exp2 (m (ix2 0 c) - max (m (ix2 0 c)) (cmx fun r => s (ix2 r c))) := by
  unfold AL
  pointwise [MN_apply]
  rfl

theorem PR_apply (s : FVec Ideal S512x1024 .f32) (m : FVec Ideal S1x1024 .f32) (r : Fin 512) (c : Fin 1024) :
    PR s m (ix2 r c) = Ideal.exp2 (s (ix2 r c) - max (m (ix2 0 c)) (cmx fun r => s (ix2 r c))) := by
  unfold PR
  pointwise [MN_apply]
  rfl

theorem LN_apply (s : FVec Ideal S512x1024 .f32) (m l : FVec Ideal S1x1024 .f32) (c : Fin 1024) :
    LN s m l (ix2 0 c) = Ideal.exp2 (m (ix2 0 c) - max (m (ix2 0 c)) (cmx fun r => s (ix2 r c))) * l (ix2 0 c)
      + ∑ r, Ideal.exp2 (s (ix2 r c) - max (m (ix2 0 c)) (cmx fun r => s (ix2 r c))) := by
  unfold LN
  pointwise [AL_apply, PR_apply]

theorem AN_apply (s : FVec Ideal S512x1024 .f32) (m : FVec Ideal S1x1024 .f32) (a : FVec Ideal S128x1024 .f32) (v : FVec Ideal S128x512 .bf16)
    (d : Fin 128) (c : Fin 1024) :
    AN s m a v (ix2 d c) = Ideal.exp2 (m (ix2 0 c) - max (m (ix2 0 c)) (cmx fun r => s (ix2 r c))) * a (ix2 d c)
      + ∑ r, v (ix2 d r) * Ideal.exp2 (s (ix2 r c) - max (m (ix2 0 c)) (cmx fun r => s (ix2 r c))) := by
  unfold AN
  pointwise [AL_apply, PR_apply]

/-- A column of the three blocks. -/
def col (m l : FVec Ideal S1x1024 .f32) (a : FVec Ideal S128x1024 .f32) (c : Fin 1024) : Col := ⟨m (ix2 0 c), l (ix2 0 c), fun d => a (ix2 d c)⟩

theorem col_step (s : FVec Ideal S512x1024 .f32) (m l : FVec Ideal S1x1024 .f32) (a : FVec Ideal S128x1024 .f32) (v : FVec Ideal S128x512 .bf16) (c : Fin 1024) :
    col (MN s m) (LN s m l) (AN s m a v) c = (col m l a c).step (fun r => s (ix2 r c)) (fun d r => v (ix2 d r)) := by
  unfold col Col.step
  simp only [MN_apply, LN_apply, AN_apply]

end Cert.AttnIdeal.Val

end
-- ==== Proof.AttnSlice.lean ====
module

public import proofs.«01_k».proof.Proof.AttnOps
public import Idealize.ShloMosaic.Lib.VecWindow
public import Idealize.ShloMosaic.Lib.ValueLayout
public import Idealize.ShloMosaic.Lib.Pipeline.ReadBack

/-! The two heads' halves of a scratch buffer, and what is read of them after stores. -/

@[expose] public section

set_option maxRecDepth 16384

noncomputable section

namespace Cert.AttnIdeal.Val

open Cert.AttnIdeal Cert.AttnIdeal.Gen
open Idealize.ShloMosaic Idealize.ShloMosaic.TcCoe Idealize.SL.Sem

variable {sg : RefSig} {κ : Kind} {sp : Space} {n m : ℕ}

theorem window_ix3 {α : Type} (X : Shape.Idx ⟨3, ![2, n, m]⟩ → α) (p : Fin 2) (inb : ∀ a, (![p.val, 0, 0] : Fin 3 → ℕ) a + (![1, n, m] : Fin 3 → ℕ) a ≤ (![2, n, m] : Fin 3 → ℕ) a) (a : Fin n) (b : Fin m) :
    VecWindow.window (s := ⟨3, ![2, n, m]⟩) X ![p.val, 0, 0] ![1, n, m] inb (ix3 0 a b) = X (ix3 p a b) := by
  unfold VecWindow.window
  refine congrArg X (funext fun x => Fin.ext ?_)
  match x with
  | ⟨0, _⟩ => show p.val + 1 * 0 = p.val; omega
  | ⟨1, _⟩ => show 0 + 1 * a.val = a.val; omega
  | ⟨2, _⟩ => show 0 + 1 * b.val = b.val; omega

/-- Head `hd` of a buffer. -/
def hv (X : FVec Ideal ⟨3, ![2, n, m]⟩ .f32) (hd : Fin 2) : FVec Ideal ⟨2, ![n, m]⟩ .f32 := fun j => X (ix3 hd (j 0) (j 1))

/-- A load of one head's half is that half. -/
theorem hv_readAt (p : Fin 2) (v : View sg κ sp ⟨3, ![2, n, m]⟩ .f32) (f : v.ty.Contents (Elt Ideal))
    (inb : ∀ a, (![p.val, 0, 0] : Fin 3 → ℕ) a + (![1, n, m] : Fin 3 → ℕ) a ≤ (![2, n, m] : Fin 3 → ℕ) a) (h : (⟨3, ![1, n, m]⟩ : Shape).ShapeCasts ⟨2, ![n, m]⟩) :
    shapeCast ⟨2, ![n, m]⟩ (v.readAt (Elt Ideal) (Rect.unit (s := ⟨3, ![2, n, m]⟩) ![p.val, 0, 0] ![1, n, m] inb).toLoadRect f) h = hv (v.read (Elt Ideal) f) p := by
  rw [View.readAt_unit (h := rfl) (inb' := inb)]
  funext j
  rw [eq_ix2 j]
  refine (ValueIdx.shapeCast_1ab_ab_apply _ h _ _).trans ?_
  exact window_ix3 _ p inb _ _

/-- After both halves are stored, head 0's is the one stored there … -/
theorem hv_writes0 (v : View sg κ sp ⟨3, ![2, n, m]⟩ .f32) (f : v.ty.Contents (Elt Ideal))
    (inb1 : ∀ a, (![1, 0, 0] : Fin 3 → ℕ) a + (![1, n, m] : Fin 3 → ℕ) a ≤ (![2, n, m] : Fin 3 → ℕ) a)
    (inb0 : ∀ a, (![0, 0, 0] : Fin 3 → ℕ) a + (![1, n, m] : Fin 3 → ℕ) a ≤ (![2, n, m] : Fin 3 → ℕ) a)
    (w1 w0 : FVec Ideal ⟨2, ![n, m]⟩ .f32) (h1 h0 : (⟨2, ![n, m]⟩ : Shape).ShapeCasts ⟨3, ![1, n, m]⟩) (L : List (View.Piece (Elt Ideal) ⟨3, ![2, n, m]⟩ .f32)) :
    hv (v.read (Elt Ideal) (v.writes (Elt Ideal) f (⟨Rect.unit (s := ⟨3, ![2, n, m]⟩) ![1, 0, 0] ![1, n, m] inb1, shapeCast ⟨3, ![1, n, m]⟩ w1 h1⟩ ::
      ⟨Rect.unit (s := ⟨3, ![2, n, m]⟩) ![0, 0, 0] ![1, n, m] inb0, shapeCast ⟨3, ![1, n, m]⟩ w0 h0⟩ :: L))) 0 = w0 := by
  funext j
  rw [eq_ix2 j]
  unfold hv
  refine (View.read_writes_cons_unit_of_not_mem v f inb1 _ _ _ rfl 0 (.inl Nat.zero_lt_one)).trans ?_
  refine (View.read_writes_cons_unit_of_mem v f inb0 _ _ _ (ix3 0 (j 0) (j 1)) rfl ?_).trans ?_
  · intro a
    match a with
    | ⟨0, _⟩ => rfl
    | ⟨1, _⟩ => show (j 0).val = 0 + (j 0).val; omega
    | ⟨2, _⟩ => show (j 1).val = 0 + (j 1).val; omega
  · exact ValueIdx.shapeCast_ab_1ab_apply w0 h0 0 (j 0) (j 1)

/-- … and so is head 1's. -/
theorem hv_writes1 (v : View sg κ sp ⟨3, ![2, n, m]⟩ .f32) (f : v.ty.Contents (Elt Ideal))
    (inb1 : ∀ a, (![1, 0, 0] : Fin 3 → ℕ) a + (![1, n, m] : Fin 3 → ℕ) a ≤ (![2, n, m] : Fin 3 → ℕ) a)
    (w1 : FVec Ideal ⟨2, ![n, m]⟩ .f32) (h1 : (⟨2, ![n, m]⟩ : Shape).ShapeCasts ⟨3, ![1, n, m]⟩) (L : List (View.Piece (Elt Ideal) ⟨3, ![2, n, m]⟩ .f32)) :
    hv (v.read (Elt Ideal) (v.writes (Elt Ideal) f (⟨Rect.unit (s := ⟨3, ![2, n, m]⟩) ![1, 0, 0] ![1, n, m] inb1, shapeCast ⟨3, ![1, n, m]⟩ w1 h1⟩ :: L))) 1 = w1 := by
  funext j
  rw [eq_ix2 j]
  unfold hv
  refine (View.read_writes_cons_unit_of_mem v f inb1 _ _ _ (ix3 0 (j 0) (j 1)) rfl ?_).trans ?_
  · intro a
    match a with
    | ⟨0, _⟩ => rfl
    | ⟨1, _⟩ => show (j 0).val = 0 + (j 0).val; omega
    | ⟨2, _⟩ => show (j 1).val = 0 + (j 1).val; omega
  · exact ValueIdx.shapeCast_ab_1ab_apply w1 h1 0 (j 0) (j 1)

end Cert.AttnIdeal.Val

end
-- ==== Proof.AttnTripA.lean ====
module

public import proofs.«01_k».proof.Proof.AttnLoop
public import proofs.«01_k».proof.Proof.AttnSlice

/-! One trip of the loop over pairs of key blocks, as two steps of the running maximum, sum and accumulator of each head. -/

@[expose] public section

set_option maxRecDepth 16384

noncomputable section

namespace Cert.AttnIdeal.Val

open Cert.AttnIdeal Cert.AttnIdeal.Gen
open Idealize.ShloMosaic Idealize.ShloMosaic.TcCoe Idealize.SL.Sem

/-- The keys of head `hd`: entry `d` of key `κ`, nothing past the last key. -/
def rowK (X : Vec Ideal S4096x256 .bf16) (hd : Fin 2) (κ : ℕ) (d : Fin 128) : EReal :=
  if h : κ < 4096 then X (ix2 ⟨κ, h⟩ ⟨128 * hd.val + d.val, by omega⟩) else 0

/-- The scores of block `j` of keys against the queries `Q`. -/
def SC (X : Vec Ideal S4096x256 .bf16) (Q : FVec Ideal S128x1024 .bf16) (hd : Fin 2) (j : ℕ) : FVec Ideal S512x1024 .f32 :=
  fun p => ∑ d : Fin 128, rowK X hd (512 * j + (p 0).val) d * Q (ix2 d (p 1))

/-- The transposed values of block `j`. -/
def VB (X : Vec Ideal S2x8x128x512 .bf16) (hd : Fin 2) (j : ℕ) : FVec Ideal S128x512 .bf16 :=
  fun p => if h : j < 8 then X (ix4 hd ⟨j, h⟩ (p 0) (p 1)) else 0

theorem trips_eq (i : grid0.Coords) : (k0_t1_loop i).trips = (i 2).val / 2 := by
  unfold k0_t1_loop
  generalize i 2 = j
  revert j
  decide +kernel

theorem trip_lt (i : grid0.Coords) (k : Fin (k0_t1_loop i).trips) : k.val < 4 := by
  have h := trips_eq i
  have h8 : (i 2).val < 8 := (i 2).isLt
  have := k.isLt
  omega

/-- A load of a block of a rank-2 array, entry by entry. -/
theorem readAt2 {sg : RefSig} {κ : Kind} {sp : Space} {e : EltTy} {N D n d : ℕ} (v : View sg κ sp ⟨2, ![N, D]⟩ e) (f : v.ty.Contents (Elt Ideal)) (o p : ℕ)
    (inb : ∀ a, (![o, p] : Fin 2 → ℕ) a + (![n, d] : Fin 2 → ℕ) a ≤ (![N, D] : Fin 2 → ℕ) a) (a : Fin n) (b : Fin d) (a' : Fin N) (b' : Fin D)
    (ha : a'.val = o + a.val) (hb : b'.val = p + b.val) :
    v.readAt (Elt Ideal) (Rect.unit (s := ⟨2, ![N, D]⟩) ![o, p] ![n, d] inb).toLoadRect f (ix2 a b) = v.read (Elt Ideal) f (ix2 a' b') := by
  rw [View.readAt_unit (h := rfl) (inb' := inb)]
  unfold VecWindow.window
  refine congrArg (v.read (Elt Ideal) f) (funext fun x => Fin.ext ?_)
  match x with
  | ⟨0, _⟩ => show o + 1 * a.val = a'.val; omega
  | ⟨1, _⟩ => show p + 1 * b.val = b'.val; omega

/-- A load of one block of a rank-4 array, entry by entry. -/
theorem readAt4 {sg : RefSig} {κ : Kind} {sp : Space} {e : EltTy} {A N n d : ℕ} (v : View sg κ sp ⟨4, ![A, N, n, d]⟩ e) (f : v.ty.Contents (Elt Ideal)) (o p : ℕ)
    (inb : ∀ a, (![o, p, 0, 0] : Fin 4 → ℕ) a + (![1, 1, n, d] : Fin 4 → ℕ) a ≤ (![A, N, n, d] : Fin 4 → ℕ) a) (x y : Fin 1) (a : Fin n) (b : Fin d) (o' : Fin A) (p' : Fin N)
    (ho : o'.val = o) (hp : p'.val = p) :
    v.readAt (Elt Ideal) (Rect.unit (s := ⟨4, ![A, N, n, d]⟩) ![o, p, 0, 0] ![1, 1, n, d] inb).toLoadRect f (ix4 x y a b) = v.read (Elt Ideal) f (ix4 o' p' a b) := by
  rw [View.readAt_unit (h := rfl) (inb' := inb)]
  unfold VecWindow.window
  refine congrArg (v.read (Elt Ideal) f) (funext fun z => Fin.ext ?_)
  match z with
  | ⟨0, _⟩ => show o + 1 * x.val = o'.val; omega
  | ⟨1, _⟩ => show p + 1 * y.val = p'.val; omega
  | ⟨2, _⟩ => show 0 + 1 * a.val = a.val; omega
  | ⟨3, _⟩ => show 0 + 1 * b.val = b.val; omega

theorem cast_11nd {α : Type} {n d : ℕ} (x : (⟨4, ![1, 1, n, d]⟩ : Shape).Idx → α) (h : (⟨4, ![1, 1, n, d]⟩ : Shape).ShapeCasts ⟨2, ![n, d]⟩) (a : Fin n) (b : Fin d) :
    shapeCast ⟨2, ![n, d]⟩ x h (ix2 a b) = x (ix4 0 0 a b) :=
  shapeCast_apply x h _ _ (by
    rw [Shape.rowMajor_val_four, Shape.rowMajor_val_two]
    show ((0 * 1 + 0) * n + a.val) * d + b.val = a.val * d + b.val
    simp only [Nat.zero_mul, Nat.zero_add])

theorem off1_eq (i : grid0.Coords) (k : Fin (k0_t1_loop i).trips) (b : Fin 2) :
    k0_off1 i k (BitVec.ofNat 32 (b.val + 1)) = ![512 * (2 * k.val + (b.val + 1)), 0] := by
  have hk : k.val < 4 := trip_lt i k
  unfold k0_off1
  generalize k.val = n at hk ⊢
  have : ∀ n : Fin 4, ∀ b : Fin 2, (Scalar.indexCast (Scalar.muli (Scalar.addi (Scalar.muli 2#32 (Scf.iv 0#32 1#32 n.val)) (BitVec.ofNat 32 (b.val + 1))) 512#32)).toNat = 512 * (2 * n.val + (b.val + 1)) := by
    decide +kernel
  exact congrArg (fun x => ![x, 0]) (this ⟨n, hk⟩ b)

theorem off2_eq (i : grid0.Coords) (k : Fin (k0_t1_loop i).trips) (b : Fin 2) :
    k0_off2 i k (BitVec.ofNat 32 (b.val + 1)) = ![512 * (2 * k.val + (b.val + 1)), 128] := by
  have hk : k.val < 4 := trip_lt i k
  unfold k0_off2
  generalize k.val = n at hk ⊢
  have : ∀ n : Fin 4, ∀ b : Fin 2, (Scalar.indexCast (Scalar.muli (Scalar.addi (Scalar.muli 2#32 (Scf.iv 0#32 1#32 n.val)) (BitVec.ofNat 32 (b.val + 1))) 512#32)).toNat = 512 * (2 * n.val + (b.val + 1)) := by
    decide +kernel
  exact congrArg (fun x => ![x, 128]) (this ⟨n, hk⟩ b)

/-- The scores read off the keys at the block's offset. -/
theorem SC_eq (hd : Fin 2) {sg : RefSig} {κ : Kind} {sp : Space} (v : View sg κ sp S4096x256 .bf16) (f : v.ty.Contents (Elt Ideal)) (Q : FVec Ideal S128x1024 .bf16)
    (off : Fin 2 → ℕ) (j : ℕ) (ho : off = ![512 * j, 128 * hd.val]) (inb : ∀ a, off a + S512x128.size a ≤ S4096x256.size a) :
    matmul (F := Ideal) (φ₁ := .bf16) dot_S512x128_S128x1024_S512x1024_1_0_0_1_n_n none (shapeCast S512x128 (v.readAt (Elt Ideal) (Rect.unit (s := S4096x256) off S512x128.size inb).toLoadRect f) shapeCasts_S512x128_S512x128) Q
      (constant S512x1024 .f32 0x00000000#32) = SC (v.read (Elt Ideal) f) Q hd j := by
  subst ho
  have hj : 512 * j + 512 ≤ 4096 := inb 0
  have e : ∀ (r : Fin 512) (d : Fin 128), v.readAt (Elt Ideal) (Rect.unit (s := S4096x256) ![512 * j, 128 * hd.val] S512x128.size inb).toLoadRect f (ix2 r d)
      = rowK (v.read (Elt Ideal) f) hd (512 * j + r.val) d := by
    intro r d
    unfold rowK
    rw [dif_pos (show 512 * j + r.val < 4096 by omega)]
    exact readAt2 v f _ _ inb r d _ _ rfl rfl
  generalize v.readAt (Elt Ideal) (Rect.unit (s := S4096x256) ![512 * j, 128 * hd.val] S512x128.size inb).toLoadRect f = W at e
  funext p
  idx_vars p
  unfold SC
  pointwise
  exact Finset.sum_congr rfl fun d _ => congrArg (· * _) (e _ _)

/-- The values read off the scratch at the block's offset. -/
theorem VB_eq (hd : Fin 2) {sg : RefSig} {κ : Kind} {sp : Space} (v : View sg κ sp S2x8x128x512 .bf16) (f : v.ty.Contents (Elt Ideal))
    (off : Fin 4 → ℕ) (j : ℕ) (ho : off = ![hd.val, j, 0, 0]) (inb : ∀ a, off a + S1x1x128x512.size a ≤ S2x8x128x512.size a) :
    shapeCast S128x512 (v.readAt (Elt Ideal) (Rect.unit (s := S2x8x128x512) off S1x1x128x512.size inb).toLoadRect f) shapeCasts_S1x1x128x512_S128x512
      = VB (v.read (Elt Ideal) f) hd j := by
  subst ho
  have hj : j < 8 := inb 1
  funext p
  idx_vars p
  unfold VB
  rw [dif_pos hj]
  refine (cast_11nd _ _ p0 p1).trans ?_
  exact readAt4 v f _ _ inb 0 0 p0 p1 _ _ rfl rfl

theorem off3_eq (i : grid0.Coords) (k : Fin (k0_t1_loop i).trips) : k0_off3 i k = ![0, 2 * k.val + 0, 0, 0] := by
  have hk : k.val < 4 := trip_lt i k
  unfold k0_off3
  generalize k.val = n at hk ⊢
  have : ∀ n : Fin 4, (Scalar.indexCast (Scalar.muli 2#32 (Scf.iv 0#32 1#32 n.val))).toNat = 2 * n.val + 0 := by
    decide +kernel
  exact congrArg (fun x => ![0, x, 0, 0]) (this ⟨n, hk⟩)

theorem off4_eq (i : grid0.Coords) (k : Fin (k0_t1_loop i).trips) : k0_off4 i k = ![1, 2 * k.val + 0, 0, 0] := by
  have hk : k.val < 4 := trip_lt i k
  unfold k0_off4
  generalize k.val = n at hk ⊢
  have : ∀ n : Fin 4, (Scalar.indexCast (Scalar.muli 2#32 (Scf.iv 0#32 1#32 n.val))).toNat = 2 * n.val + 0 := by
    decide +kernel
  exact congrArg (fun x => ![1, x, 0, 0]) (this ⟨n, hk⟩)

theorem off5_eq (i : grid0.Coords) (k : Fin (k0_t1_loop i).trips) : k0_off5 i k = ![0, 2 * k.val + 1, 0, 0] := by
  have hk : k.val < 4 := trip_lt i k
  unfold k0_off5
  generalize k.val = n at hk ⊢
  have : ∀ n : Fin 4, (Scalar.indexCast (Scalar.addi (Scalar.muli 2#32 (Scf.iv 0#32 1#32 n.val)) 1#32)).toNat = 2 * n.val + 1 := by
    decide +kernel
  exact congrArg (fun x => ![0, x, 0, 0]) (this ⟨n, hk⟩)

theorem off6_eq (i : grid0.Coords) (k : Fin (k0_t1_loop i).trips) : k0_off6 i k = ![1, 2 * k.val + 1, 0, 0] := by
  have hk : k.val < 4 := trip_lt i k
  unfold k0_off6
  generalize k.val = n at hk ⊢
  have : ∀ n : Fin 4, (Scalar.indexCast (Scalar.addi (Scalar.muli 2#32 (Scf.iv 0#32 1#32 n.val)) 1#32)).toNat = 2 * n.val + 1 := by
    decide +kernel
  exact congrArg (fun x => ![1, x, 0, 0]) (this ⟨n, hk⟩)

end Cert.AttnIdeal.Val

end
-- ==== Proof.AttnTrip.lean ====
module

public import proofs.«01_k».proof.Proof.AttnLoop
public import proofs.«01_k».proof.Proof.AttnTripA

/-! One trip of the loop over pairs of key blocks, as two steps of the running maximum, sum and accumulator of each head. -/

@[expose] public section

set_option maxRecDepth 16384

noncomputable section

namespace Cert.AttnIdeal.Val

open Cert.AttnIdeal Cert.AttnIdeal.Gen
open Idealize.ShloMosaic Idealize.ShloMosaic.TcCoe Idealize.SL.Sem

section
variable (𝒱 : Variants) (c : Dev nD) (bd : Option 𝒱.V) (i : grid0.Coords) (a3 : Memref sig .tc .vmem S512x256 .bf16) (w3 : a3.IsWhole) (a4 : Memref sig .tc .vmem S4096x256 .bf16) (w4 : a4.IsWhole) (a5 : Memref sig .tc .vmem S4096x256 .bf16) (w5 : a5.IsWhole) (a6 : Memref sig .tc .vmem S4x64 .f32) (w6 : a6.IsWhole) (a7 : Memref sig .tc .vmem S2x1x128 .f32) (w7 : a7.IsWhole) (a8 : Memref sig .tc .vmem S512x256 .bf16) (w8 : a8.IsWhole) (a9 : Memref sig .tc .vmem S2x8x128x512 .bf16) (w9 : a9.IsWhole) (a10 : Memref sig .tc .vmem S2x512x1024 .f32) (w10 : a10.IsWhole) (a11 : Memref sig .tc .vmem S2x512x1024 .f32) (w11 : a11.IsWhole) (a12 : Memref sig .tc .vmem S2x1x1024 .f32) (w12 : a12.IsWhole) (a13 : Memref sig .tc .vmem S2x1x1024 .f32) (w13 : a13.IsWhole) (a14 : Memref sig .tc .vmem S2x128x1024 .f32) (w14 : a14.IsWhole) (a2 : BitVec 32) (v17 : FVec Ideal S128x1024 .bf16) (v32 : FVec Ideal S128x1024 .bf16) (c2_i32 : BitVec 32) (v60 : BitVec 32) (v65 : BitVec 32) (v67 : BitVec 32) (v68 : BitVec 1) (X_arg4 : BufTy.Contents (Elt Ideal) a4.view.ty) (X_arg9 : BufTy.Contents (Elt Ideal) a9.view.ty) (k : Fin (k0_t1_loop i).trips) (f_arg10 : BufTy.Contents (Elt Ideal) a10.view.ty) (f_arg11 : BufTy.Contents (Elt Ideal) a11.view.ty) (f_arg12 : BufTy.Contents (Elt Ideal) a12.view.ty) (f_arg13 : BufTy.Contents (Elt Ideal) a13.view.ty) (f_arg14 : BufTy.Contents (Elt Ideal) a14.view.ty)
include 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14

/-- The trip leaves the scores of block `2k + 2` in the first buffer (head 0). -/
theorem trip_s0 :
    hv (a10.view.read (Elt Ideal) (a10.view.writes (Elt Ideal) f_arg10 (tripL_k0_t1 (F := Ideal) 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14).1)) 0 = SC (a4.view.read (Elt Ideal) X_arg4) v17 0 (2 * k.val + 2) := by
  unfold tripL_k0_t1 trip_k0_t1
  dsimp only

  refine (hv_writes0 _ _ _ _ _ _ _ _ _).trans ?_
  exact SC_eq 0 a4.view X_arg4 v17 _ (2 * k.val + 2) (off1_eq i k 1) _

/-- The trip leaves the scores of block `2k + 2` in the first buffer (head 1). -/
theorem trip_s1 :
    hv (a10.view.read (Elt Ideal) (a10.view.writes (Elt Ideal) f_arg10 (tripL_k0_t1 (F := Ideal) 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14).1)) 1 = SC (a4.view.read (Elt Ideal) X_arg4) v32 1 (2 * k.val + 2) := by
  unfold tripL_k0_t1 trip_k0_t1
  dsimp only

  refine (hv_writes1 _ _ _ _ _ _).trans ?_
  exact SC_eq 1 a4.view X_arg4 v32 _ (2 * k.val + 2) (off2_eq i k 1) _

end

end Cert.AttnIdeal.Val

end
-- ==== Proof.AttnTrip2.lean ====
module

public import proofs.«01_k».proof.Proof.AttnLoop
public import proofs.«01_k».proof.Proof.AttnTrip

/-! One trip of the loop over pairs of key blocks, as two steps of the running maximum, sum and accumulator of each head. -/

@[expose] public section

set_option maxRecDepth 16384

noncomputable section

namespace Cert.AttnIdeal.Val

open Cert.AttnIdeal Cert.AttnIdeal.Gen
open Idealize.ShloMosaic Idealize.ShloMosaic.TcCoe Idealize.SL.Sem

section

variable (𝒱 : Variants) (c : Dev nD) (bd : Option 𝒱.V) (i : grid0.Coords) (a3 : Memref sig .tc .vmem S512x256 .bf16) (w3 : a3.IsWhole) (a4 : Memref sig .tc .vmem S4096x256 .bf16) (w4 : a4.IsWhole) (a5 : Memref sig .tc .vmem S4096x256 .bf16) (w5 : a5.IsWhole) (a6 : Memref sig .tc .vmem S4x64 .f32) (w6 : a6.IsWhole) (a7 : Memref sig .tc .vmem S2x1x128 .f32) (w7 : a7.IsWhole) (a8 : Memref sig .tc .vmem S512x256 .bf16) (w8 : a8.IsWhole) (a9 : Memref sig .tc .vmem S2x8x128x512 .bf16) (w9 : a9.IsWhole) (a10 : Memref sig .tc .vmem S2x512x1024 .f32) (w10 : a10.IsWhole) (a11 : Memref sig .tc .vmem S2x512x1024 .f32) (w11 : a11.IsWhole) (a12 : Memref sig .tc .vmem S2x1x1024 .f32) (w12 : a12.IsWhole) (a13 : Memref sig .tc .vmem S2x1x1024 .f32) (w13 : a13.IsWhole) (a14 : Memref sig .tc .vmem S2x128x1024 .f32) (w14 : a14.IsWhole) (a2 : BitVec 32) (v17 : FVec Ideal S128x1024 .bf16) (v32 : FVec Ideal S128x1024 .bf16) (c2_i32 : BitVec 32) (v60 : BitVec 32) (v65 : BitVec 32) (v67 : BitVec 32) (v68 : BitVec 1) (X_arg4 : BufTy.Contents (Elt Ideal) a4.view.ty) (X_arg9 : BufTy.Contents (Elt Ideal) a9.view.ty) (k : Fin (k0_t1_loop i).trips) (f_arg10 : BufTy.Contents (Elt Ideal) a10.view.ty) (f_arg11 : BufTy.Contents (Elt Ideal) a11.view.ty) (f_arg12 : BufTy.Contents (Elt Ideal) a12.view.ty) (f_arg13 : BufTy.Contents (Elt Ideal) a13.view.ty)
include 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13

section
variable (f_arg14 : BufTy.Contents (Elt Ideal) a14.view.ty)
include f_arg14

theorem e_v205 :
    (trip_k0_t1.sl.v205 a10 f_arg10) = (hv (a10.view.read (Elt Ideal) f_arg10) 0) := by
  exact hv_readAt 0 a10.view f_arg10 _ _

theorem e_v207 :
    (trip_k0_t1.sl.v207 a12 f_arg12) = (hv (a12.view.read (Elt Ideal) f_arg12) 0) := by
  exact hv_readAt 0 a12.view f_arg12 _ _

theorem e_v217 :
    (trip_k0_t1.sl.v217 a13 f_arg13) = (hv (a13.view.read (Elt Ideal) f_arg13) 0) := by
  exact hv_readAt 0 a13.view f_arg13 _ _

theorem e_v255 :
    (trip_k0_t1.sl.v255 a14 f_arg14) = (hv (a14.view.read (Elt Ideal) f_arg14) 0) := by
  exact hv_readAt 0 a14.view f_arg14 _ _

theorem e_v230 :
    (trip_k0_t1.sl.v230 a10 f_arg10) = (hv (a10.view.read (Elt Ideal) f_arg10) 1) := by
  exact hv_readAt 1 a10.view f_arg10 _ _

theorem e_v232 :
    (trip_k0_t1.sl.v232 a12 f_arg12) = (hv (a12.view.read (Elt Ideal) f_arg12) 1) := by
  exact hv_readAt 1 a12.view f_arg12 _ _

theorem e_v242 :
    (trip_k0_t1.sl.v242 a13 f_arg13) = (hv (a13.view.read (Elt Ideal) f_arg13) 1) := by
  exact hv_readAt 1 a13.view f_arg13 _ _

theorem e_v267 :
    (trip_k0_t1.sl.v267 a14 f_arg14) = (hv (a14.view.read (Elt Ideal) f_arg14) 1) := by
  exact hv_readAt 1 a14.view f_arg14 _ _

theorem e_v299 :
    (trip_k0_t1.sl.v299 i a4 a11 v17 v32 X_arg4 k) = (SC (a4.view.read (Elt Ideal) X_arg4) v17 0 (2 * k.val + 1)) := by
  unfold trip_k0_t1.sl.v299 trip_k0_t1.sl.v298 trip_k0_t1.sl.HW_arg11_2
  rw [View.readCov_skip _ _ _ _ _ (by decide), View.readCov_cons_toLoadRect]
  refine (shapeCast_shapeCast _ _ _).trans ?_
  exact SC_eq 0 a4.view X_arg4 v17 _ (2 * k.val + 1) (off1_eq i k 0) _

theorem e_v324 :
    (trip_k0_t1.sl.v324 i a4 a11 v17 v32 X_arg4 k) = (SC (a4.view.read (Elt Ideal) X_arg4) v32 1 (2 * k.val + 1)) := by
  unfold trip_k0_t1.sl.v324 trip_k0_t1.sl.v323 trip_k0_t1.sl.HW_arg11_2
  rw [View.readCov_cons_toLoadRect]
  refine (shapeCast_shapeCast _ _ _).trans ?_
  exact SC_eq 1 a4.view X_arg4 v32 _ (2 * k.val + 1) (off2_eq i k 0) _

theorem e_v301 :
    (trip_k0_t1.sl.v301 a10 a12 f_arg10 f_arg12) = (MN (hv (a10.view.read (Elt Ideal) f_arg10) 0) (hv (a12.view.read (Elt Ideal) f_arg12) 0)) := by
  unfold trip_k0_t1.sl.v301 trip_k0_t1.sl.v300 trip_k0_t1.sl.HW_arg12_2
  rw [View.readCov_skip _ _ _ _ _ (by decide), View.readCov_cons_toLoadRect]
  refine (shapeCast_shapeCast _ _ _).trans ?_
  exact congrArg₂ MN (e_v205 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14) (e_v207 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14)

theorem e_v326 :
    (trip_k0_t1.sl.v326 i a4 a10 a11 a12 v17 v32 X_arg4 k f_arg10 f_arg12) = (MN (hv (a10.view.read (Elt Ideal) f_arg10) 1) (hv (a12.view.read (Elt Ideal) f_arg12) 1)) := by
  unfold trip_k0_t1.sl.v326 trip_k0_t1.sl.v325 trip_k0_t1.sl.HW_arg12_3 trip_k0_t1.sl.HW_arg12_2
  rw [View.readCov_skip _ _ _ _ _ (by decide), View.readCov_cons_toLoadRect]
  refine (shapeCast_shapeCast _ _ _).trans ?_
  exact congrArg₂ MN (e_v230 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14) (e_v232 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14)

theorem e_v311 :
    (trip_k0_t1.sl.v311 a10 a12 a13 f_arg10 f_arg12 f_arg13) = (LN (hv (a10.view.read (Elt Ideal) f_arg10) 0) (hv (a12.view.read (Elt Ideal) f_arg12) 0) (hv (a13.view.read (Elt Ideal) f_arg13) 0)) := by
  unfold trip_k0_t1.sl.v311 trip_k0_t1.sl.v310 trip_k0_t1.sl.HW_arg13_2
  rw [View.readCov_skip _ _ _ _ _ (by decide), View.readCov_cons_toLoadRect]
  refine (shapeCast_shapeCast _ _ _).trans ?_
  rw [← e_v205 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14, ← e_v207 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14, ← e_v217 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14]
  rfl

theorem e_v336 :
    (trip_k0_t1.sl.v336 i a4 a10 a11 a12 a13 v17 v32 X_arg4 k f_arg10 f_arg12 f_arg13) = (LN (hv (a10.view.read (Elt Ideal) f_arg10) 1) (hv (a12.view.read (Elt Ideal) f_arg12) 1) (hv (a13.view.read (Elt Ideal) f_arg13) 1)) := by
  unfold trip_k0_t1.sl.v336 trip_k0_t1.sl.v335 trip_k0_t1.sl.HW_arg13_3 trip_k0_t1.sl.HW_arg13_2
  rw [View.readCov_skip _ _ _ _ _ (by decide), View.readCov_cons_toLoadRect]
  refine (shapeCast_shapeCast _ _ _).trans ?_
  rw [← e_v230 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14, ← e_v232 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14, ← e_v242 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14]
  rfl

theorem e_v260 :
    (trip_k0_t1.sl.v260 i a9 X_arg9 k) = (VB (a9.view.read (Elt Ideal) X_arg9) 0 (2 * k.val)) := by
  exact VB_eq 0 a9.view X_arg9 _ (2 * k.val) (off3_eq i k) _

theorem e_v272 :
    (trip_k0_t1.sl.v272 i a9 X_arg9 k) = (VB (a9.view.read (Elt Ideal) X_arg9) 1 (2 * k.val)) := by
  exact VB_eq 1 a9.view X_arg9 _ (2 * k.val) (off4_eq i k) _

theorem e_v349 :
    (trip_k0_t1.sl.v349 i a9 a10 a12 a14 X_arg9 k f_arg10 f_arg12 f_arg14) = (AN (hv (a10.view.read (Elt Ideal) f_arg10) 0) (hv (a12.view.read (Elt Ideal) f_arg12) 0) (hv (a14.view.read (Elt Ideal) f_arg14) 0) (VB (a9.view.read (Elt Ideal) X_arg9) 0 (2 * k.val))) := by
  unfold trip_k0_t1.sl.v349 trip_k0_t1.sl.v348 trip_k0_t1.sl.HW_arg14_2
  rw [View.readCov_skip _ _ _ _ _ (by decide), View.readCov_cons_toLoadRect]
  refine (shapeCast_shapeCast _ _ _).trans ?_
  rw [← e_v205 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14, ← e_v207 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14, ← e_v255 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14, ← e_v260 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14]
  rfl

theorem e_v360 :
    (shapeCast S128x1024 (trip_k0_t1.sl.v360 i a4 a9 a10 a11 a12 a14 v17 v32 X_arg4 X_arg9 k f_arg10 f_arg12 f_arg14) shapeCasts_S1x128x1024_S128x1024) = (AN (hv (a10.view.read (Elt Ideal) f_arg10) 1) (hv (a12.view.read (Elt Ideal) f_arg12) 1) (hv (a14.view.read (Elt Ideal) f_arg14) 1) (VB (a9.view.read (Elt Ideal) X_arg9) 1 (2 * k.val))) := by
  unfold trip_k0_t1.sl.v360 trip_k0_t1.sl.HW_arg14_3 trip_k0_t1.sl.HW_arg14_2
  rw [View.readCov_skip _ _ _ _ _ (by decide), View.readCov_cons_toLoadRect]
  refine (shapeCast_shapeCast _ _ _).trans ?_
  rw [← e_v230 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14, ← e_v232 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14, ← e_v267 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14, ← e_v272 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14]
  rfl

/-- The running maximum after the trip, head 0. -/
theorem trip_m0 :
    hv (a12.view.read (Elt Ideal) (a12.view.writes (Elt Ideal) f_arg12 (tripL_k0_t1 (F := Ideal) 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14).2.2.1)) 0 = MN (SC (a4.view.read (Elt Ideal) X_arg4) v17 0 (2 * k.val + 1)) (MN (hv (a10.view.read (Elt Ideal) f_arg10) 0) (hv (a12.view.read (Elt Ideal) f_arg12) 0)) := by
  unfold tripL_k0_t1 trip_k0_t1
  dsimp only
  refine (hv_writes0 _ _ _ _ _ _ _ _ _).trans ?_
  rw [← e_v299 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14, ← e_v301 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14]
  rfl

/-- The running sum after the trip, head 0. -/
theorem trip_l0 :
    hv (a13.view.read (Elt Ideal) (a13.view.writes (Elt Ideal) f_arg13 (tripL_k0_t1 (F := Ideal) 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14).2.2.2.1)) 0 = LN (SC (a4.view.read (Elt Ideal) X_arg4) v17 0 (2 * k.val + 1)) (MN (hv (a10.view.read (Elt Ideal) f_arg10) 0) (hv (a12.view.read (Elt Ideal) f_arg12) 0)) (LN (hv (a10.view.read (Elt Ideal) f_arg10) 0) (hv (a12.view.read (Elt Ideal) f_arg12) 0) (hv (a13.view.read (Elt Ideal) f_arg13) 0)) := by
  unfold tripL_k0_t1 trip_k0_t1
  dsimp only
  refine (hv_writes0 _ _ _ _ _ _ _ _ _).trans ?_
  rw [← e_v299 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14, ← e_v301 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14, ← e_v311 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14]
  rfl

/-- The accumulator after the trip, head 0. -/
theorem trip_a0 :
    hv (a14.view.read (Elt Ideal) (a14.view.writes (Elt Ideal) f_arg14 (tripL_k0_t1 (F := Ideal) 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14).2.2.2.2)) 0 = AN (SC (a4.view.read (Elt Ideal) X_arg4) v17 0 (2 * k.val + 1)) (MN (hv (a10.view.read (Elt Ideal) f_arg10) 0) (hv (a12.view.read (Elt Ideal) f_arg12) 0)) (AN (hv (a10.view.read (Elt Ideal) f_arg10) 0) (hv (a12.view.read (Elt Ideal) f_arg12) 0) (hv (a14.view.read (Elt Ideal) f_arg14) 0) (VB (a9.view.read (Elt Ideal) X_arg9) 0 (2 * k.val))) (VB (a9.view.read (Elt Ideal) X_arg9) 0 (2 * k.val + 1)) := by
  unfold tripL_k0_t1 trip_k0_t1
  dsimp only
  refine (hv_writes0 _ _ _ _ _ _ _ _ _).trans ?_
  rw [← e_v299 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14, ← e_v301 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14, ← e_v349 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14, ← VB_eq 0 a9.view X_arg9 _ (2 * k.val + 1) (off5_eq i k) (k0_off5_inb i k)]
  rfl

/-- The running maximum after the trip, head 1. -/
theorem trip_m1 :
    hv (a12.view.read (Elt Ideal) (a12.view.writes (Elt Ideal) f_arg12 (tripL_k0_t1 (F := Ideal) 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14).2.2.1)) 1 = MN (SC (a4.view.read (Elt Ideal) X_arg4) v32 1 (2 * k.val + 1)) (MN (hv (a10.view.read (Elt Ideal) f_arg10) 1) (hv (a12.view.read (Elt Ideal) f_arg12) 1)) := by
  unfold tripL_k0_t1 trip_k0_t1
  dsimp only
  refine (hv_writes1 _ _ _ _ _ _).trans ?_
  rw [← e_v324 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14, ← e_v326 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14]
  rfl

/-- The running sum after the trip, head 1. -/
theorem trip_l1 :
    hv (a13.view.read (Elt Ideal) (a13.view.writes (Elt Ideal) f_arg13 (tripL_k0_t1 (F := Ideal) 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14).2.2.2.1)) 1 = LN (SC (a4.view.read (Elt Ideal) X_arg4) v32 1 (2 * k.val + 1)) (MN (hv (a10.view.read (Elt Ideal) f_arg10) 1) (hv (a12.view.read (Elt Ideal) f_arg12) 1)) (LN (hv (a10.view.read (Elt Ideal) f_arg10) 1) (hv (a12.view.read (Elt Ideal) f_arg12) 1) (hv (a13.view.read (Elt Ideal) f_arg13) 1)) := by
  unfold tripL_k0_t1 trip_k0_t1
  dsimp only
  refine (hv_writes1 _ _ _ _ _ _).trans ?_
  rw [← e_v324 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14, ← e_v326 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14, ← e_v336 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14]
  rfl

/-- The accumulator after the trip, head 1. -/
theorem trip_a1 :
    hv (a14.view.read (Elt Ideal) (a14.view.writes (Elt Ideal) f_arg14 (tripL_k0_t1 (F := Ideal) 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14).2.2.2.2)) 1 = AN (SC (a4.view.read (Elt Ideal) X_arg4) v32 1 (2 * k.val + 1)) (MN (hv (a10.view.read (Elt Ideal) f_arg10) 1) (hv (a12.view.read (Elt Ideal) f_arg12) 1)) (AN (hv (a10.view.read (Elt Ideal) f_arg10) 1) (hv (a12.view.read (Elt Ideal) f_arg12) 1) (hv (a14.view.read (Elt Ideal) f_arg14) 1) (VB (a9.view.read (Elt Ideal) X_arg9) 1 (2 * k.val))) (VB (a9.view.read (Elt Ideal) X_arg9) 1 (2 * k.val + 1)) := by
  unfold tripL_k0_t1 trip_k0_t1
  dsimp only
  refine (hv_writes1 _ _ _ _ _ _).trans ?_
  rw [← e_v324 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14, ← e_v326 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14, ← e_v360 𝒱 c bd i a3 w3 a4 w4 a5 w5 a6 w6 a7 w7 a8 w8 a9 w9 a10 w10 a11 w11 a12 w12 a13 w13 a14 w14 a2 v17 v32 c2_i32 v60 v65 v67 v68 X_arg4 X_arg9 k f_arg10 f_arg11 f_arg12 f_arg13 f_arg14, ← VB_eq 1 a9.view X_arg9 _ (2 * k.val + 1) (off6_eq i k) (k0_off6_inb i k)]
  rfl

end

end

end Cert.AttnIdeal.Val

end
-- ==== Proof.AttnState.lean ====
module

public import proofs.«01_k».proof.Proof.AttnTrip2

/-! The running maximum, sum and accumulator of a head after some blocks of keys, and what the loop leaves. -/

@[expose] public section

set_option maxRecDepth 16384

noncomputable section

namespace Cert.AttnIdeal.Val

open Cert.AttnIdeal Cert.AttnIdeal.Gen
open Idealize.ShloMosaic Idealize.ShloMosaic.TcCoe Idealize.SL.Sem

/-- The maxima, sums and accumulators of a head's columns. -/
abbrev B3 := FVec Ideal S1x1024 .f32 × FVec Ideal S1x1024 .f32 × FVec Ideal S128x1024 .f32

/-- One block of keys taken: its scores `s`, its transposed values `v`. -/
def stH (s : FVec Ideal S512x1024 .f32) (v : FVec Ideal S128x512 .bf16) (q : B3) : B3 := (MN s q.1, LN s q.1 q.2.1, AN s q.1 q.2.2 v)

/-- The first `n` blocks of keys taken. -/
def St (K : Vec Ideal S4096x256 .bf16) (Q : FVec Ideal S128x1024 .bf16) (V : Vec Ideal S2x8x128x512 .bf16) (hd : Fin 2) (q0 : B3) : ℕ → B3
  | 0 => q0
  | n + 1 => stH (SC K Q hd n) (VB V hd n) (St K Q V hd q0 n)

set_option maxHeartbeats 2000000 in
/-- Before trip `k` the score buffer holds the scores of block `2k` and the three others what the first `2k` blocks give. -/
theorem cont_state (𝒱 : Variants) (c : Dev nD) (bd : Option 𝒱.V) (i : grid0.Coords) (a3 : Memref sig .tc .vmem S512x256 .bf16) (w3 : a3.IsWhole) (a4 : Memref sig .tc .vmem S4096x256 .bf16) (w4 : a4.IsWhole) (a5 : Memref sig .tc .vmem S4096x256 .bf16) (w5 : a5.IsWhole) (a6 : Memref sig .tc .vmem S4x64 .f32) (w6 : a6.IsWhole) (a7 : Memref sig .tc .vmem S2x1x128 .f32) (w7 : a7.IsWhole) (a8 : Memref sig .tc .vmem S512x256 .bf16) (w8 : a8.IsWhole) (a9 : Memref sig .tc .vmem S2x8x128x512 .bf16) (w9 : a9.IsWhole) (a10 : Memref sig .tc .vmem S2x512x1024 .f32) (w10 : a10.IsWhole) (a11 : Memref sig .tc .vmem S2x512x1024 .f32) (w11 : a11.IsWhole) (a12 : Memref sig .tc .vmem S2x1x1024 .f32) (w12 : a12.IsWhole) (a13 : Memref sig .tc .vmem S2x1x1024 .f32) (w13 : a13.IsWhole) (a14 : Memref sig .tc .vmem S2x128x1024 .f32) (w14 : a14.IsWhole) (a2 : BitVec 32) (v17 : FVec Ideal S128x1024 .bf16) (v32 : FVec Ideal S128x1024 .bf16) (c2_i32 : BitVec 32) (v60 : BitVec 32) (v65 : BitVec 32) (v67 : BitVec 32) (v68 : BitVec 1) (X_arg4 : BufTy.Contents (Elt Ideal) a4.view.ty) (X_arg9 : BufTy.Contents (Elt Ideal) a9.view.ty) (G_arg10 : BufTy.Contents (Elt Ideal) a10.view.ty) (G_arg12 : BufTy.Contents (Elt Ideal) a12.view.ty) (G_arg13 : BufTy.Contents (Elt Ideal) a13.view.ty) (G_arg14 : BufTy.Contents (Elt Ideal) a14.view.ty)
    (h0 : hv (a10.view.read (Elt Ideal) G_arg10) 0 = SC (a4.view.read (Elt Ideal) X_arg4) v17 0 0) (h1 : hv (a10.view.read (Elt Ideal) G_arg10) 1 = SC (a4.view.read (Elt Ideal) X_arg4) v32 1 0) (k : ℕ) (hk : k ≤ (k0_t1_loop i).trips) :
    (fun p : (BufTy.Contents (Elt Ideal) a10.view.ty) × (BufTy.Contents (Elt Ideal) a12.view.ty) × (BufTy.Contents (Elt Ideal) a13.view.ty) × (BufTy.Contents (Elt Ideal) a14.view.ty) =>
      hv (a10.view.read (Elt Ideal) p.1) 0 = SC (a4.view.read (Elt Ideal) X_arg4) v17 0 (2 * k) ∧ hv (a10.view.read (Elt Ideal) p.1) 1 = SC (a4.view.read (Elt Ideal) X_arg4) v32 1 (2 * k)
      ∧ (hv (a12.view.read (Elt Ideal) p.2.1) 0, hv (a13.view.read (Elt Ideal) p.2.2.1) 0, hv (a14.view.read (Elt Ideal) p.2.2.2) 0) = St (a4.view.read (Elt Ideal) X_arg4) v17 (a9.view.read (Elt Ideal) X_arg9) 0 (hv (a12.view.read (Elt Ideal) (G_arg10, G_arg12, G_arg13, G_arg14).2.1) 0, hv (a13.view.read (Elt Ideal) (G_arg10, G_arg12, G_arg13, G_arg14).2.2.1) 0, hv (a14.view.read (Elt Ideal) (G_arg10, G_arg12, G_arg13, G_arg14).2.2.2) 0) (2 * k)
      ∧ (hv (a12.view.read (Elt Ideal) p.2.1) 1, hv (a13.view.read (Elt Ideal) p.2.2.1) 1, hv (a14.view.read (Elt Ideal) p.2.2.2) 1) = St (a4.view.read (Elt Ideal) X_arg4) v32 (a9.view.read (Elt Ideal) X_arg9) 1 (hv (a12.view.read (Elt Ideal) (G_arg10, G_arg12, G_arg13, G_arg14).2.1) 1, hv (a13.view.read (Elt Ideal) (G_arg10, G_arg12, G_arg13, G_arg14).2.2.1) 1, hv (a14.view.read (Elt Ideal) (G_arg10, G_arg12, G_arg13, G_arg14).2.2.2) 1) (2 * k)) (cont (F := Ideal) 𝒱 c bd i a3 w3 a4 w4 a5 w5 a6 w6 a7 w7 a8 w8 a9 w9 a10 w10 a11 w11 a12 w12 a13 w13 a14 w14 a2 v17 v32 c2_i32 v60 v65 v67 v68 X_arg4 X_arg9 G_arg10 G_arg12 G_arg13 G_arg14 k) := by
  induction k with
  | zero => exact ⟨h0, h1, rfl, rfl⟩
  | succ k ih =>
    have h : k < (k0_t1_loop i).trips := hk
    obtain ⟨i0, i1, i2, i3⟩ := ih (le_of_lt h)
    have hc := cont_succ (F := Ideal) 𝒱 c bd i a3 w3 a4 w4 a5 w5 a6 w6 a7 w7 a8 w8 a9 w9 a10 w10 a11 w11 a12 w12 a13 w13 a14 w14 a2 v17 v32 c2_i32 v60 v65 v67 v68 X_arg4 X_arg9 G_arg10 G_arg12 G_arg13 G_arg14 ⟨k, h⟩
    dsimp only at hc
    rw [hc]
    clear hc
    generalize cont (F := Ideal) 𝒱 c bd i a3 w3 a4 w4 a5 w5 a6 w6 a7 w7 a8 w8 a9 w9 a10 w10 a11 w11 a12 w12 a13 w13 a14 w14 a2 v17 v32 c2_i32 v60 v65 v67 v68 X_arg4 X_arg9 G_arg10 G_arg12 G_arg13 G_arg14 k = p at i0 i1 i2 i3 ⊢
    dsimp only
    have e0 := congrArg Prod.fst i2
    have e1 := congrArg (fun q : B3 => q.2.1) i2
    have e2 := congrArg (fun q : B3 => q.2.2) i2
    have f0 := congrArg Prod.fst i3
    have f1 := congrArg (fun q : B3 => q.2.1) i3
    have f2 := congrArg (fun q : B3 => q.2.2) i3
    dsimp only at e0 e1 e2 f0 f1 f2
    refine ⟨?_, ?_, ?_, ?_⟩
    · exact trip_s0 𝒱 c bd i a3 w3 a4 w4 a5 w5 a6 w6 a7 w7 a8 w8 a9 w9 a10 w10 a11 w11 a12 w12 a13 w13 a14 w14 a2 v17 v32 c2_i32 v60 v65 v67 v68 X_arg4 X_arg9 ⟨k, h⟩ p.1 a11.view.junk p.2.1 p.2.2.1 p.2.2.2
    · exact trip_s1 𝒱 c bd i a3 w3 a4 w4 a5 w5 a6 w6 a7 w7 a8 w8 a9 w9 a10 w10 a11 w11 a12 w12 a13 w13 a14 w14 a2 v17 v32 c2_i32 v60 v65 v67 v68 X_arg4 X_arg9 ⟨k, h⟩ p.1 a11.view.junk p.2.1 p.2.2.1 p.2.2.2
    · have t0 := trip_m0 𝒱 c bd i a3 w3 a4 w4 a5 w5 a6 w6 a7 w7 a8 w8 a9 w9 a10 w10 a11 w11 a12 w12 a13 w13 a14 w14 a2 v17 v32 c2_i32 v60 v65 v67 v68 X_arg4 X_arg9 ⟨k, h⟩ p.1 a11.view.junk p.2.1 p.2.2.1 p.2.2.2
      have t1 := trip_l0 𝒱 c bd i a3 w3 a4 w4 a5 w5 a6 w6 a7 w7 a8 w8 a9 w9 a10 w10 a11 w11 a12 w12 a13 w13 a14 w14 a2 v17 v32 c2_i32 v60 v65 v67 v68 X_arg4 X_arg9 ⟨k, h⟩ p.1 a11.view.junk p.2.1 p.2.2.1 p.2.2.2
      have t2 := trip_a0 𝒱 c bd i a3 w3 a4 w4 a5 w5 a6 w6 a7 w7 a8 w8 a9 w9 a10 w10 a11 w11 a12 w12 a13 w13 a14 w14 a2 v17 v32 c2_i32 v60 v65 v67 v68 X_arg4 X_arg9 ⟨k, h⟩ p.1 a11.view.junk p.2.1 p.2.2.1 p.2.2.2
      rw [i0, e0] at t0
      rw [i0, e0, e1] at t1
      rw [i0, e0, e2] at t2
      exact Prod.ext t0 (Prod.ext t1 t2)
    · have t0 := trip_m1 𝒱 c bd i a3 w3 a4 w4 a5 w5 a6 w6 a7 w7 a8 w8 a9 w9 a10 w10 a11 w11 a12 w12 a13 w13 a14 w14 a2 v17 v32 c2_i32 v60 v65 v67 v68 X_arg4 X_arg9 ⟨k, h⟩ p.1 a11.view.junk p.2.1 p.2.2.1 p.2.2.2
      have t1 := trip_l1 𝒱 c bd i a3 w3 a4 w4 a5 w5 a6 w6 a7 w7 a8 w8 a9 w9 a10 w10 a11 w11 a12 w12 a13 w13 a14 w14 a2 v17 v32 c2_i32 v60 v65 v67 v68 X_arg4 X_arg9 ⟨k, h⟩ p.1 a11.view.junk p.2.1 p.2.2.1 p.2.2.2
      have t2 := trip_a1 𝒱 c bd i a3 w3 a4 w4 a5 w5 a6 w6 a7 w7 a8 w8 a9 w9 a10 w10 a11 w11 a12 w12 a13 w13 a14 w14 a2 v17 v32 c2_i32 v60 v65 v67 v68 X_arg4 X_arg9 ⟨k, h⟩ p.1 a11.view.junk p.2.1 p.2.2.1 p.2.2.2
      rw [i1, f0] at t0
      rw [i1, f0, f1] at t1
      rw [i1, f0, f2] at t2
      exact Prod.ext t0 (Prod.ext t1 t2)

end Cert.AttnIdeal.Val

end
-- ==== Proof.AttnOut.lean ====
module

public import proofs.«01_k».proof.Proof.AttnState
public import Idealize.ShloMosaic.Lib.WordCmp

/-! The causal mask inside a block, the queries as the products take them, and what is made of a final state, entry by entry. -/

@[expose] public section

set_option maxRecDepth 16384

noncomputable section

namespace Cert.AttnIdeal.Val

open Cert.AttnIdeal Cert.AttnIdeal.Gen
open Idealize.ShloMosaic Idealize.ShloMosaic.TcCoe Idealize.SL.Sem

/-- The mask of the diagonal block: a key later than its query is −∞. -/
def MSK (s : FVec Ideal S512x1024 .f32) : FVec Ideal S512x1024 .f32 :=
  have v187 : IVec S512x1024 32 := iota .tc S512x1024 32 [0] iota_S512x1024_d0_w32
  have v188 : IVec S512x1024 32 := iota .tc S512x1024 32 [1] iota_S512x1024_d1_w32
  let v189 : BitVec 1 := Scalar.cmpi .eq 512#32 0#32
  let v190 : BitVec 32 := Scalar.select v189 1#32 512#32
  have v191 : IVec S512x1024 32 := broadcast S512x1024 v190
  have v192 : IVec S512x1024 32 := remsi v188 v191
  have v193 : IVec S512x1024 32 := broadcast S512x1024 0#32
  have v194 : IVec S512x1024 1 := cmpi .ne v192 v193
  have v195 : IVec S512x1024 32 := broadcast S512x1024 0#32
  have v196 : IVec S512x1024 1 := cmpi .slt v192 v195
  let v197 : BitVec 1 := Scalar.cmpi .slt v190 0#32
  have v198 : IVec S512x1024 1 := broadcast S512x1024 v197
  have v199 : IVec S512x1024 1 := broadcastTo S512x1024 v198 broadcasts_S512x1024_S512x1024
  have v200 : IVec S512x1024 1 := xori v196 v199
  have v201 : IVec S512x1024 1 := andi v200 v194
  have v202 : IVec S512x1024 32 := broadcast S512x1024 v190
  have v203 : IVec S512x1024 32 := addi v192 v202
  have v204 : IVec S512x1024 32 := select v201 v203 v192
  have v205 : IVec S512x1024 1 := cmpi .sle v187 v204
  have cst_100 : Ideal .f32 := Named.named (F := Ideal) κ "neg" 0xF149F2CA#32
  have v206 : FVec Ideal S512x1024 .f32 := broadcast S512x1024 cst_100
  have v207 : FVec Ideal S512x1024 .f32 := select v205 s v206
  v207

theorem pay137_eq (v : Vec Ideal S1x512x1024 .f32) : k0_pay137 (F := Ideal) v = MSK (shapeCast S512x1024 v shapeCasts_S1x512x1024_S512x1024) := rfl
theorem pay146_eq (v : Vec Ideal S1x512x1024 .f32) : k0_pay146 (F := Ideal) v = MSK (shapeCast S512x1024 v shapeCasts_S1x512x1024_S512x1024) := rfl

/-- The difference of the two attentions, normalised. -/
def ON (lam : FVec Ideal S1x1 .f32) (l : FVec Ideal S1x1024 .f32) (a : FVec Ideal S128x1024 .f32) : FVec Ideal S512x128 .f32 :=
  have v129 : FVec Ideal S128x1024 .f32 := broadcastTo S128x1024 l broadcasts_S1x1024_S128x1024
  have v130 : FVec Ideal S128x1024 .f32 := divf a v129
  have v131 : FVec Ideal S128x512 .f32 := extractStridedSlice S128x512 ![0, 0] v130 slices_S128x1024_o0_0_S128x512
  have v132 : FVec Ideal S128x512 .f32 := extractStridedSlice S128x512 ![0, 512] v130 slices_S128x1024_o0_512_S128x512
  have v133 : FVec Ideal S128x512 .f32 := broadcastTo S128x512 (lam) broadcasts_S1x1_S128x512
  have v134 : FVec Ideal S128x512 .f32 := mulf v133 v132
  have v135 : FVec Ideal S128x512 .f32 := subf v131 v134
  have v136 : FVec Ideal S128x512 .f32 := mulf v135 v135
  have v137 : FVec Ideal S512 .f32 := multiReduction .add [0] S512 v136 0x00000000#32 reduces_S128x512_S512 (.inl rfl) rfl
  have v138 : FVec Ideal S1x512 .f32 := shapeCast S1x512 v137 shapeCasts_S512_S1x512
  have cst_69 : Ideal .f32 := Scalar.ofBits (F := Ideal) .f32 0x43000000#32
  have v139 : FVec Ideal S1x512 .f32 := broadcast S1x512 cst_69
  have v140 : FVec Ideal S1x512 .f32 := divf v138 v139
  have cst_70 : Ideal .f32 := Scalar.ofBits (F := Ideal) .f32 0x358637BD#32
  have v141 : FVec Ideal S1x512 .f32 := broadcast S1x512 cst_70
  have v142 : FVec Ideal S1x512 .f32 := addf v140 v141
  have v143 : FVec Ideal S1x512 .f32 := rsqrt v142
  have v144 : FVec Ideal S128x512 .f32 := broadcastTo S128x512 v143 broadcasts_S1x512_S128x512
  have v145 : FVec Ideal S128x512 .f32 := mulf v135 v144
  have v146 : FVec Ideal S512x128 .f32 := transpose S512x128 [1, 0] v145 transposes_S128x512_p1_0_S512x128
  v146

/-- Times the head's weights and the constant. -/
def OG (x : FVec Ideal S512x128 .f32) (g : FVec Ideal S1x128 .f32) : FVec Ideal S512x128 .bf16 :=
  have v149 : FVec Ideal S512x128 .f32 := broadcastTo S512x128 g broadcasts_S1x128_S512x128
  have v150 : FVec Ideal S512x128 .f32 := mulf x v149
  have cst_74 : Ideal .f32 := Scalar.ofBits (F := Ideal) .f32 0x3F4CCCCD#32
  have v151 : FVec Ideal S512x128 .f32 := broadcast S512x128 cst_74
  have v152 : FVec Ideal S512x128 .f32 := mulf v150 v151
  have v153 : FVec Ideal S512x128 .bf16 := truncf .bf16 v152 bitsLt_bf16_f32
  v153

theorem pay170_eq (v108 : Vec Ideal S4x64 .f32) (v125 : Vec Ideal S1x128x1024 .f32) (v127 : Vec Ideal S1x1x1024 .f32) :
    k0_pay170 (F := Ideal) v108 v125 v127 = ON (k0_pay169 v108) (shapeCast S1x1024 v127 shapeCasts_S1x1x1024_S1x1024) (shapeCast S128x1024 v125 shapeCasts_S1x128x1024_S128x1024) := rfl
theorem pay171_eq (x : FVec Ideal S512x128 .f32) (v147 : Vec Ideal S1x1x128 .f32) :
    k0_pay171 (F := Ideal) x v147 = OG x (shapeCast S1x128 v147 shapeCasts_S1x1x128_S1x128) := rfl
theorem pay172_eq (lam : FVec Ideal S1x1 .f32) (v125 : Vec Ideal S1x128x1024 .f32) (v127 : Vec Ideal S1x1x1024 .f32) (v147 : Vec Ideal S1x1x128 .f32) :
    k0_pay172 (F := Ideal) lam v125 v127 v147 = OG (ON lam (shapeCast S1x1024 v127 shapeCasts_S1x1x1024_S1x1024) (shapeCast S128x1024 v125 shapeCasts_S1x128x1024_S128x1024)) (shapeCast S1x128 v147 shapeCasts_S1x1x128_S1x128) := rfl

/-- The quotient of an accumulator's entry and its column's sum. -/
def odiv (l : FVec Ideal S1x1024 .f32) (a : FVec Ideal S128x1024 .f32) (d : Fin 128) (c : Fin 1024) : EReal := Ideal.div (a (ix2 d c)) (l (ix2 0 c))

/-- The difference of the two attentions of query `r`. -/
def odiff (lam : EReal) (l : FVec Ideal S1x1024 .f32) (a : FVec Ideal S128x1024 .f32) (r : Fin 512) (d : Fin 128) : EReal :=
  odiv l a d ⟨r.val, by omega⟩ - lam * odiv l a d ⟨512 + r.val, by omega⟩

/-- A row normalised by the root of its mean square. -/
def rms (A : Fin 128 → EReal) (d : Fin 128) : EReal :=
  A d * Ideal.rsqrt (Ideal.div (∑ e, A e * A e) (Ideal.ofBits .f32 0x43000000#32) + Ideal.ofBits .f32 0x358637BD#32)

theorem ON_apply (lam : FVec Ideal S1x1 .f32) (l : FVec Ideal S1x1024 .f32) (a : FVec Ideal S128x1024 .f32) (r : Fin 512) (d : Fin 128) :
    ON lam l a (ix2 r d) = rms (odiff (lam (ix2 0 0)) l a r) d := by
  unfold ON rms odiff odiv
  pointwise

theorem OG_apply (x : FVec Ideal S512x128 .f32) (g : FVec Ideal S1x128 .f32) (r : Fin 512) (d : Fin 128) :
    OG x g (ix2 r d) = (x (ix2 r d) * g (ix2 0 d)) * Ideal.ofBits .f32 0x3F4CCCCD#32 := by
  unfold OG
  pointwise

/-- λ, from its four rows. -/
def lamE (X : FVec Ideal S4x64 .f32) : EReal :=
  (Ideal.exp (∑ j : Fin 64, X (ix2 0 j) * X (ix2 1 j)) - Ideal.exp (∑ j : Fin 64, X (ix2 2 j) * X (ix2 3 j))) + Ideal.ofBits .f32 0x3E4CCCCD#32

theorem pay169_apply (X : FVec Ideal S4x64 .f32) : k0_pay169 (F := Ideal) X (ix2 0 0) = lamE X := by
  unfold k0_pay169 lamE
  pointwise

/-- The queries of a head transposed, twice: the first copy's lower 64 rows kept, the second's upper 64. -/
def QH (W : FVec Ideal S512x128 .bf16) (d : Fin 128) (c : Fin 1024) : EReal :=
  if h : c.val < 512 then (if d.val < 64 then W (ix2 ⟨c.val, h⟩ d) else 0)
  else if 64 ≤ d.val then W (ix2 ⟨c.val - 512, by omega⟩ d) else 0

theorem select_ofBool {α : Type} (p : Prop) [Decidable p] (a b : α) : Scalar.select (BitVec.ofBool (decide p)) a b = if p then a else b := by
  by_cases h : p <;> simp [Scalar.select, h]

theorem neg_eq : (Named.named κ "neg" 0xF149F2CA#32 : Ideal .f32) = (⊥ : EReal) := IdealRules.named_const.ideal_named_scalar _ _ _ _ rfl

theorem MSK_apply (s : FVec Ideal S512x1024 .f32) (r : Fin 512) (c : Fin 1024) :
    MSK s (ix2 r c) = if r.val ≤ c.val % 512 then s (ix2 r c) else ⊥ := by
  have hm : ∀ c : Fin 1024, (Scalar.select
          (IntOp.andi
            (IntOp.xori
              (IntOp.cmpi CmpIPredicate.slt
                (IntOp.remsi ArithUnit.vector (BitVec.ofNat 32 c.val)
                  (Scalar.select (Scalar.cmpi CmpIPredicate.eq 512#32 0#32) 1#32 512#32))
                0#32)
              (Scalar.cmpi CmpIPredicate.slt (Scalar.select (Scalar.cmpi CmpIPredicate.eq 512#32 0#32) 1#32 512#32)
                0#32))
            (IntOp.cmpi CmpIPredicate.ne
              (IntOp.remsi ArithUnit.vector (BitVec.ofNat 32 c.val)
                (Scalar.select (Scalar.cmpi CmpIPredicate.eq 512#32 0#32) 1#32 512#32))
              0#32))
          (IntOp.addi
            (IntOp.remsi ArithUnit.vector (BitVec.ofNat 32 c.val)
              (Scalar.select (Scalar.cmpi CmpIPredicate.eq 512#32 0#32) 1#32 512#32))
            (Scalar.select (Scalar.cmpi CmpIPredicate.eq 512#32 0#32) 1#32 512#32))
          (IntOp.remsi ArithUnit.vector (BitVec.ofNat 32 c.val)
            (Scalar.select (Scalar.cmpi CmpIPredicate.eq 512#32 0#32) 1#32 512#32))) = BitVec.ofNat 32 (c.val % 512) := by
    decide +kernel
  unfold MSK
  pointwise
  rw [hm, Idealize.ShloMosaic.WordCmp.cmpi_sle_ofNat (by have := r.isLt; norm_num; omega) (by have := Nat.mod_lt c.val (show 512 > 0 by decide); norm_num; omega), select_ofBool, neg_eq]

theorem pay157_apply (W : FVec Ideal S512x128 .bf16) (d : Fin 128) (c : Fin 1024) : k0_pay157 (F := Ideal) W (ix2 d c) = QH W d c := by
  unfold k0_pay157 QH
  pointwise
  rw [Idealize.ShloMosaic.WordCmp.cmpi_slt_ofNat (by have := d.isLt; norm_num; omega) (by norm_num), Idealize.ShloMosaic.WordCmp.cmpi_sge_ofNat (by have := d.isLt; norm_num; omega) (by norm_num)]
  simp only [select_ofBool]

theorem pay158_eq (W : FVec Ideal S512x128 .bf16) : k0_pay158 (F := Ideal) W = k0_pay157 W := rfl

/-- The state before the first block: the maxima at −∞, the sums and accumulators at 0. -/
def q0 : B3 := (fun _ => ⊥, fun _ => 0, fun _ => 0)

end Cert.AttnIdeal.Val

end
-- ==== Proof.AttnCase.lean ====
module

public import proofs.«01_k».proof.Proof.AttnOut

/-! What the loop leaves, from the block of scores before it and the empty state; the final state of a head; the parts of a stored block. -/

@[expose] public section

set_option maxRecDepth 16384

noncomputable section

namespace Cert.AttnIdeal.Val

open Cert.AttnIdeal Cert.AttnIdeal.Gen
open Idealize.ShloMosaic Idealize.ShloMosaic.TcCoe Idealize.SL.Sem

/-- The state of a head after the whole row of key blocks `0 … j`, the last one masked. -/
def FIN (K : Vec Ideal S4096x256 .bf16) (Q : FVec Ideal S128x1024 .bf16) (V : Vec Ideal S2x8x128x512 .bf16) (hd : Fin 2) (j : ℕ) : B3 :=
  stH (MSK (SC K Q hd j)) (VB V hd j) (St K Q V hd q0 j)

/-- What the loop leaves in the first score buffer, the maxima, the sums and the accumulators. -/
def endC (c : Dev nD) (i : grid0.Coords) (a3 : Memref sig .tc .vmem S512x256 .bf16) (w3 : a3.IsWhole) (a4 : Memref sig .tc .vmem S4096x256 .bf16) (w4 : a4.IsWhole) (a5 : Memref sig .tc .vmem S4096x256 .bf16) (w5 : a5.IsWhole) (a6 : Memref sig .tc .vmem S4x64 .f32) (w6 : a6.IsWhole) (a7 : Memref sig .tc .vmem S2x1x128 .f32) (w7 : a7.IsWhole) (a8 : Memref sig .tc .vmem S512x256 .bf16) (w8 : a8.IsWhole) (a9 : Memref sig .tc .vmem S2x8x128x512 .bf16) (w9 : a9.IsWhole) (a10 : Memref sig .tc .vmem S2x512x1024 .f32) (w10 : a10.IsWhole) (a11 : Memref sig .tc .vmem S2x512x1024 .f32) (w11 : a11.IsWhole) (a12 : Memref sig .tc .vmem S2x1x1024 .f32) (w12 : a12.IsWhole) (a13 : Memref sig .tc .vmem S2x1x1024 .f32) (w13 : a13.IsWhole) (a14 : Memref sig .tc .vmem S2x128x1024 .f32) (w14 : a14.IsWhole) (v17 : FVec Ideal S128x1024 .bf16) (v32 : FVec Ideal S128x1024 .bf16) (v60 : BitVec 32) (v65 : BitVec 32) (X_arg4 : BufTy.Contents (Elt Ideal) a4.view.ty) (X_arg9 : BufTy.Contents (Elt Ideal) a9.view.ty) (G_arg10 : BufTy.Contents (Elt Ideal) a10.view.ty) (G_arg12 : BufTy.Contents (Elt Ideal) a12.view.ty) (G_arg13 : BufTy.Contents (Elt Ideal) a13.view.ty) (G_arg14 : BufTy.Contents (Elt Ideal) a14.view.ty) :=
  cont (F := Ideal) Variants.none c none i a3 w3 a4 w4 a5 w5 a6 w6 a7 w7 a8 w8 a9 w9 a10 w10 a11 w11 a12 w12 a13 w13 a14 w14 (BitVec.ofNat 32 (i 2).val) v17 v32 2#32 v60 v65 1#32 0#1 X_arg4 X_arg9 G_arg10 G_arg12 G_arg13 G_arg14 (k0_t1_loop i).trips

section
variable {sg : RefSig} {κ : Kind} {sp : Space} {n m : ℕ}

/-- A load of a whole rank-2 array. -/
theorem readAll2 {e : EltTy} {N D : ℕ} (v : View sg κ sp ⟨2, ![N, D]⟩ e) (f : v.ty.Contents (Elt Ideal))
    (inb : ∀ a, (![0, 0] : Fin 2 → ℕ) a + (![N, D] : Fin 2 → ℕ) a ≤ (![N, D] : Fin 2 → ℕ) a) :
    v.readAt (Elt Ideal) (Rect.unit (s := ⟨2, ![N, D]⟩) ![0, 0] ![N, D] inb).toLoadRect f = v.read (Elt Ideal) f := by
  funext j
  rw [eq_ix2 j]
  exact readAt2 v f 0 0 inb (j 0) (j 1) (j 0) (j 1) (by omega) (by omega)

/-- A rank-3 array filled with one store is what was stored. -/
theorem fill3 (v : View sg κ sp ⟨3, ![2, n, m]⟩ .f32) (f : v.ty.Contents (Elt Ideal))
    (inb : ∀ a, (![0, 0, 0] : Fin 3 → ℕ) a + (![2, n, m] : Fin 3 → ℕ) a ≤ (![2, n, m] : Fin 3 → ℕ) a) (w : FVec Ideal ⟨3, ![2, n, m]⟩ .f32) (L : List (View.Piece (Elt Ideal) ⟨3, ![2, n, m]⟩ .f32)) :
    v.read (Elt Ideal) (v.writes (Elt Ideal) f (⟨Rect.unit (s := ⟨3, ![2, n, m]⟩) ![0, 0, 0] ![2, n, m] inb, w⟩ :: L)) = w := by
  funext j
  refine View.read_writes_cons_unit_of_mem v f inb _ _ j j rfl ?_
  intro a
  match a with
  | ⟨0, _⟩ => show (j 0).val = 0 + (j 0).val; omega
  | ⟨1, _⟩ => show (j 1).val = 0 + (j 1).val; omega
  | ⟨2, _⟩ => show (j 2).val = 0 + (j 2).val; omega

/-- Two stores of halves of the columns: the right one … -/
theorem cols1 {e : EltTy} {D D2 : ℕ} (v : View sg κ sp ⟨2, ![n, D2]⟩ e) (f : v.ty.Contents (Elt Ideal))
    (inb1 : ∀ a, (![0, D] : Fin 2 → ℕ) a + (![n, D] : Fin 2 → ℕ) a ≤ (![n, D2] : Fin 2 → ℕ) a)
    (w1 : (⟨2, ![n, D]⟩ : Shape).Idx → Elt Ideal e) (L : List (View.Piece (Elt Ideal) ⟨2, ![n, D2]⟩ e)) (r : Fin n) (d : Fin D) (c : Fin D2) (hc : c.val = D + d.val) :
    v.read (Elt Ideal) (v.writes (Elt Ideal) f (⟨Rect.unit (s := ⟨2, ![n, D2]⟩) ![0, D] ![n, D] inb1, w1⟩ :: L)) (ix2 r c) = w1 (ix2 r d) := by
  refine View.read_writes_cons_unit_of_mem v f inb1 _ _ _ (ix2 r d) rfl ?_
  intro a
  match a with
  | ⟨0, _⟩ => show r.val = 0 + r.val; omega
  | ⟨1, _⟩ => exact hc

/-- … and the left one. -/
theorem cols0 {e : EltTy} {D D2 : ℕ} (v : View sg κ sp ⟨2, ![n, D2]⟩ e) (f : v.ty.Contents (Elt Ideal))
    (inb1 : ∀ a, (![0, D] : Fin 2 → ℕ) a + (![n, D] : Fin 2 → ℕ) a ≤ (![n, D2] : Fin 2 → ℕ) a)
    (inb0 : ∀ a, (![0, 0] : Fin 2 → ℕ) a + (![n, D] : Fin 2 → ℕ) a ≤ (![n, D2] : Fin 2 → ℕ) a)
    (w1 w0 : (⟨2, ![n, D]⟩ : Shape).Idx → Elt Ideal e) (L : List (View.Piece (Elt Ideal) ⟨2, ![n, D2]⟩ e)) (r : Fin n) (d : Fin D) (c : Fin D2) (hc : c.val = d.val) :
    v.read (Elt Ideal) (v.writes (Elt Ideal) f (⟨Rect.unit (s := ⟨2, ![n, D2]⟩) ![0, D] ![n, D] inb1, w1⟩ ::
      ⟨Rect.unit (s := ⟨2, ![n, D2]⟩) ![0, 0] ![n, D] inb0, w0⟩ :: L)) (ix2 r c) = w0 (ix2 r d) := by
  refine (View.read_writes_cons_unit_of_not_mem v f inb1 _ _ _ rfl 1 (.inl (by show c.val < D; have := d.isLt; omega))).trans ?_
  refine View.read_writes_cons_unit_of_mem v f inb0 _ _ _ (ix2 r d) rfl ?_
  intro a
  match a with
  | ⟨0, _⟩ => show r.val = 0 + r.val; omega
  | ⟨1, _⟩ => show c.val = 0 + d.val; omega

end

/-- The queries of head `hd` of a block, as the products take them. -/
def QW (x0 : Vec Ideal S512x256 .bf16) (hd : Fin 2) : FVec Ideal S128x1024 .bf16 := fun p => QH (fun q => x0 (ix2 (q 0) ⟨128 * hd.val + (q 1).val, by have := (q 1).isLt; have : (q 1).val < 128 := this; omega⟩)) (p 0) (p 1)

theorem pay157_read0 (a3 : Memref sig .tc .vmem S512x256 .bf16) (w3 : a3.IsWhole) (x0 : Vec Ideal S512x256 .bf16) (inb : ∀ a, (![0, 0] : Fin 2 → ℕ) a + S512x128.size a ≤ S512x256.size a) :
    k0_pay157 (F := Ideal) (a3.view.readAt (Elt Ideal) (Rect.unit (s := S512x256) ![0, 0] S512x128.size inb).toLoadRect (w3.unread x0)) = QW x0 0 := by
  funext p
  obtain ⟨d, c, rfl⟩ : ∃ (d : Fin 128) (c : Fin 1024), p = ix2 d c := ⟨p 0, p 1, eq_ix2 p⟩
  refine (pay157_apply _ d c).trans ?_
  unfold QW
  refine congrArg (fun W => QH W d c) ?_
  funext q
  obtain ⟨a, b, rfl⟩ : ∃ (a : Fin 512) (b : Fin 128), q = ix2 a b := ⟨q 0, q 1, eq_ix2 q⟩
  refine (readAt2 a3.view _ 0 0 inb a b a ⟨128 * 0 + b.val, by omega⟩ (by omega) (by show 128 * 0 + b.val = _; omega)).trans ?_
  rw [w3.read_unread]
  rfl

theorem pay158_read1 (a3 : Memref sig .tc .vmem S512x256 .bf16) (w3 : a3.IsWhole) (x0 : Vec Ideal S512x256 .bf16) (inb : ∀ a, (![0, 128] : Fin 2 → ℕ) a + S512x128.size a ≤ S512x256.size a) :
    k0_pay158 (F := Ideal) (a3.view.readAt (Elt Ideal) (Rect.unit (s := S512x256) ![0, 128] S512x128.size inb).toLoadRect (w3.unread x0)) = QW x0 1 := by
  rw [pay158_eq]
  funext p
  obtain ⟨d, c, rfl⟩ : ∃ (d : Fin 128) (c : Fin 1024), p = ix2 d c := ⟨p 0, p 1, eq_ix2 p⟩
  refine (pay157_apply _ d c).trans ?_
  unfold QW
  refine congrArg (fun W => QH W d c) ?_
  funext q
  obtain ⟨a, b, rfl⟩ : ∃ (a : Fin 512) (b : Fin 128), q = ix2 a b := ⟨q 0, q 1, eq_ix2 q⟩
  refine (readAt2 a3.view _ 0 128 inb a b a ⟨128 * 1 + b.val, by omega⟩ (by omega) (by show 128 * 1 + b.val = _; omega)).trans ?_
  rw [w3.read_unread]
  rfl

theorem pay169_read (a6 : Memref sig .tc .vmem S4x64 .f32) (w6 : a6.IsWhole) (x3 : Vec Ideal S4x64 .f32) (inb : ∀ a, (![0, 0] : Fin 2 → ℕ) a + S4x64.size a ≤ S4x64.size a) :
    a6.view.readAt (Elt Ideal) (Rect.unit (s := S4x64) ![0, 0] S4x64.size inb).toLoadRect (w6.unread x3) = x3 := by
  refine (readAll2 a6.view _ inb).trans ?_
  rw [w6.read_unread]

/-- A stored block, entry by entry: row `r` of head `hd`. -/
def OUTB (x0 : Vec Ideal S512x256 .bf16) (x1 : Vec Ideal S4096x256 .bf16) (V : Vec Ideal S2x8x128x512 .bf16) (x3 : Vec Ideal S4x64 .f32) (x4 : Vec Ideal S2x1x128 .f32) (j : ℕ) (hd : Fin 2) :
    FVec Ideal S512x128 .bf16 :=
  OG (ON (k0_pay169 x3) (FIN x1 (QW x0 hd) V hd j).2.1 (FIN x1 (QW x0 hd) V hd j).2.2) (hv x4 hd)

theorem pay159_eq : k0_pay159 (F := Ideal) = fun _ => (⊥ : EReal) := by
  unfold k0_pay159
  exact (shapeCast_self _ _).trans (funext fun _ => neg_eq)

theorem pay160_eq : k0_pay160 (F := Ideal) = fun _ => (0 : EReal) := by
  unfold k0_pay160
  exact (shapeCast_self _ _).trans (funext fun _ => Ideal.ofBits_zero_f32)

theorem pay161_eq : k0_pay161 (F := Ideal) = fun _ => (0 : EReal) := by
  unfold k0_pay161
  exact (shapeCast_self _ _).trans (funext fun _ => Ideal.ofBits_zero_f32)

set_option maxHeartbeats 1000000 in
/-- Where the loop starts from the scores of block 0 and the empty state, it leaves those of block `2 (j / 2)` and the state of the blocks before it. -/
theorem end_state (c : Dev nD) (i : grid0.Coords) (a3 : Memref sig .tc .vmem S512x256 .bf16) (w3 : a3.IsWhole) (a4 : Memref sig .tc .vmem S4096x256 .bf16) (w4 : a4.IsWhole) (a5 : Memref sig .tc .vmem S4096x256 .bf16) (w5 : a5.IsWhole) (a6 : Memref sig .tc .vmem S4x64 .f32) (w6 : a6.IsWhole) (a7 : Memref sig .tc .vmem S2x1x128 .f32) (w7 : a7.IsWhole) (a8 : Memref sig .tc .vmem S512x256 .bf16) (w8 : a8.IsWhole) (a9 : Memref sig .tc .vmem S2x8x128x512 .bf16) (w9 : a9.IsWhole) (a10 : Memref sig .tc .vmem S2x512x1024 .f32) (w10 : a10.IsWhole) (a11 : Memref sig .tc .vmem S2x512x1024 .f32) (w11 : a11.IsWhole) (a12 : Memref sig .tc .vmem S2x1x1024 .f32) (w12 : a12.IsWhole) (a13 : Memref sig .tc .vmem S2x1x1024 .f32) (w13 : a13.IsWhole) (a14 : Memref sig .tc .vmem S2x128x1024 .f32) (w14 : a14.IsWhole) (v17 : FVec Ideal S128x1024 .bf16) (v32 : FVec Ideal S128x1024 .bf16) (v60 : BitVec 32) (v65 : BitVec 32) (X_arg4 : BufTy.Contents (Elt Ideal) a4.view.ty) (X_arg9 : BufTy.Contents (Elt Ideal) a9.view.ty)
    (f10 : BufTy.Contents (Elt Ideal) a10.view.ty) (f12 : BufTy.Contents (Elt Ideal) a12.view.ty) (f13 : BufTy.Contents (Elt Ideal) a13.view.ty) (f14 : BufTy.Contents (Elt Ideal) a14.view.ty) :
    (fun P : BufTy.Contents (Elt Ideal) a10.view.ty × BufTy.Contents (Elt Ideal) a12.view.ty × BufTy.Contents (Elt Ideal) a13.view.ty × BufTy.Contents (Elt Ideal) a14.view.ty =>
      hv (a10.view.read (Elt Ideal) P.1) 0 = SC (a4.view.read (Elt Ideal) X_arg4) v17 0 (2 * ((i 2).val / 2)) ∧ hv (a10.view.read (Elt Ideal) P.1) 1 = SC (a4.view.read (Elt Ideal) X_arg4) v32 1 (2 * ((i 2).val / 2))
      ∧ (hv (a12.view.read (Elt Ideal) P.2.1) 0, hv (a13.view.read (Elt Ideal) P.2.2.1) 0, hv (a14.view.read (Elt Ideal) P.2.2.2) 0) = St (a4.view.read (Elt Ideal) X_arg4) v17 (a9.view.read (Elt Ideal) X_arg9) 0 q0 (2 * ((i 2).val / 2))
      ∧ (hv (a12.view.read (Elt Ideal) P.2.1) 1, hv (a13.view.read (Elt Ideal) P.2.2.1) 1, hv (a14.view.read (Elt Ideal) P.2.2.2) 1) = St (a4.view.read (Elt Ideal) X_arg4) v32 (a9.view.read (Elt Ideal) X_arg9) 1 q0 (2 * ((i 2).val / 2)))
    (endC c i a3 w3 a4 w4 a5 w5 a6 w6 a7 w7 a8 w8 a9 w9 a10 w10 a11 w11 a12 w12 a13 w13 a14 w14 v17 v32 v60 v65 X_arg4 X_arg9
      (a10.view.writes (Elt Ideal) f10 [⟨Rect.unit (s := S2x512x1024) ![1, 0, 0] S1x512x1024.size inb_S2x512x1024_S1x512x1024_1_0_0, k0_pay163 v32 (a4.view.readAt (Elt Ideal) (Rect.unit (s := S4096x256) ![0, 128] S512x128.size inb_S4096x256_S512x128_0_128).toLoadRect X_arg4)⟩,
        ⟨Rect.unit (s := S2x512x1024) ![0, 0, 0] S1x512x1024.size inb_S2x512x1024_S1x512x1024_0_0_0, k0_pay162 v17 (a4.view.readAt (Elt Ideal) (Rect.unit (s := S4096x256) ![0, 0] S512x128.size inb_S4096x256_S512x128_0_0).toLoadRect X_arg4)⟩])
      (a12.view.writes (Elt Ideal) f12 [⟨Rect.unit (s := S2x1x1024) ![0, 0, 0] S2x1x1024.size inb_S2x1x1024_S2x1x1024_0_0_0, k0_pay159 (F := Ideal)⟩])
      (a13.view.writes (Elt Ideal) f13 [⟨Rect.unit (s := S2x1x1024) ![0, 0, 0] S2x1x1024.size inb_S2x1x1024_S2x1x1024_0_0_0, k0_pay160 (F := Ideal)⟩])
      (a14.view.writes (Elt Ideal) f14 [⟨Rect.unit (s := S2x128x1024) ![0, 0, 0] S2x128x1024.size inb_S2x128x1024_S2x128x1024_0_0_0, k0_pay161 (F := Ideal)⟩])) := by
  have h0 := fun g => (hv_writes0 a10.view f10 inb_S2x512x1024_S1x512x1024_1_0_0 inb_S2x512x1024_S1x512x1024_0_0_0 g _ shapeCasts_S512x1024_S1x512x1024 shapeCasts_S512x1024_S1x512x1024 []).trans (SC_eq 0 a4.view X_arg4 v17 ![0, 0] 0 rfl inb_S4096x256_S512x128_0_0)
  have h1 := fun L => (hv_writes1 a10.view f10 inb_S2x512x1024_S1x512x1024_1_0_0 _ shapeCasts_S512x1024_S1x512x1024 L).trans (SC_eq 1 a4.view X_arg4 v32 ![0, 128] 0 rfl inb_S4096x256_S512x128_0_128)
  have hq : ∀ hd : Fin 2, (hv (a12.view.read (Elt Ideal) (a12.view.writes (Elt Ideal) f12 [⟨Rect.unit (s := S2x1x1024) ![0, 0, 0] S2x1x1024.size inb_S2x1x1024_S2x1x1024_0_0_0, k0_pay159 (F := Ideal)⟩])) hd,
      hv (a13.view.read (Elt Ideal) (a13.view.writes (Elt Ideal) f13 [⟨Rect.unit (s := S2x1x1024) ![0, 0, 0] S2x1x1024.size inb_S2x1x1024_S2x1x1024_0_0_0, k0_pay160 (F := Ideal)⟩])) hd,
      hv (a14.view.read (Elt Ideal) (a14.view.writes (Elt Ideal) f14 [⟨Rect.unit (s := S2x128x1024) ![0, 0, 0] S2x128x1024.size inb_S2x128x1024_S2x128x1024_0_0_0, k0_pay161 (F := Ideal)⟩])) hd) = q0 := by
    intro hd
    have e0 := fill3 a12.view f12 inb_S2x1x1024_S2x1x1024_0_0_0 (k0_pay159 (F := Ideal)) []
    have e1 := fill3 a13.view f13 inb_S2x1x1024_S2x1x1024_0_0_0 (k0_pay160 (F := Ideal)) []
    have e2 := fill3 a14.view f14 inb_S2x128x1024_S2x128x1024_0_0_0 (k0_pay161 (F := Ideal)) []
    refine Prod.ext ?_ (Prod.ext ?_ ?_)
    · refine (congrArg (fun X => hv X hd) e0).trans ?_
      rw [pay159_eq]
      rfl
    · refine (congrArg (fun X => hv X hd) e1).trans ?_
      rw [pay160_eq]
      rfl
    · refine (congrArg (fun X => hv X hd) e2).trans ?_
      rw [pay161_eq]
      rfl
  have := cont_state Variants.none c none i a3 w3 a4 w4 a5 w5 a6 w6 a7 w7 a8 w8 a9 w9 a10 w10 a11 w11 a12 w12 a13 w13 a14 w14 (BitVec.ofNat 32 (i 2).val) v17 v32 2#32 v60 v65 1#32 0#1 X_arg4 X_arg9 _
      (a12.view.writes (Elt Ideal) f12 [⟨Rect.unit (s := S2x1x1024) ![0, 0, 0] S2x1x1024.size inb_S2x1x1024_S2x1x1024_0_0_0, k0_pay159 (F := Ideal)⟩])
      (a13.view.writes (Elt Ideal) f13 [⟨Rect.unit (s := S2x1x1024) ![0, 0, 0] S2x1x1024.size inb_S2x1x1024_S2x1x1024_0_0_0, k0_pay160 (F := Ideal)⟩])
      (a14.view.writes (Elt Ideal) f14 [⟨Rect.unit (s := S2x128x1024) ![0, 0, 0] S2x128x1024.size inb_S2x128x1024_S2x128x1024_0_0_0, k0_pay161 (F := Ideal)⟩])
      (h0 _) (h1 _) (k0_t1_loop i).trips le_rfl
  rw [hq 0, hq 1] at this
  have ht := trips_eq i
  rw [← ht]
  exact this

theorem off15_eq (i : grid0.Coords) (h : (i 2).val % 2 = 1) : k0_off15 i = ![0, (i 2).val - 1, 0, 0] := by
  unfold k0_off15
  generalize i 2 = j at h ⊢
  revert h
  revert j
  decide +kernel

theorem off16_eq (i : grid0.Coords) (h : (i 2).val % 2 = 1) : k0_off16 i = ![1, (i 2).val - 1, 0, 0] := by
  unfold k0_off16
  generalize i 2 = j at h ⊢
  revert h
  revert j
  decide +kernel

theorem off17_eq (i : grid0.Coords) : k0_off17 i = ![0, (i 2).val, 0, 0] := by
  unfold k0_off17
  generalize i 2 = j
  revert j
  decide +kernel

theorem off18_eq (i : grid0.Coords) : k0_off18 i = ![1, (i 2).val, 0, 0] := by
  unfold k0_off18
  generalize i 2 = j
  revert j
  decide +kernel

theorem off19_eq (i : grid0.Coords) : k0_off19 i = ![0, (i 2).val, 0, 0] := by
  unfold k0_off19
  generalize i 2 = j
  revert j
  decide +kernel

theorem off20_eq (i : grid0.Coords) : k0_off20 i = ![1, (i 2).val, 0, 0] := by
  unfold k0_off20
  generalize i 2 = j
  revert j
  decide +kernel

theorem off13_eq (i : grid0.Coords) : k0_off13 i = ![512 * (i 2).val, 128 * 0] := by
  unfold k0_off13
  generalize i 2 = j
  revert j
  decide +kernel

theorem off14_eq (i : grid0.Coords) : k0_off14 i = ![512 * (i 2).val, 128 * 1] := by
  unfold k0_off14
  generalize i 2 = j
  revert j
  decide +kernel

theorem cond2_even (i : grid0.Coords) (h : k0_cond3 i = 1#1) : 2 * ((i 2).val / 2) = (i 2).val := by
  unfold k0_cond3 at h
  generalize i 2 = j at h ⊢
  revert j
  decide +kernel

theorem cond1_odd (i : grid0.Coords) (h : k0_cond2 i = 1#1) : (i 2).val % 2 = 1 := by
  unfold k0_cond2 at h
  generalize i 2 = j at h ⊢
  revert j
  decide +kernel

end Cert.AttnIdeal.Val

end
-- ==== Proof.AttnCaseA.lean ====
module

public import proofs.«01_k».proof.Proof.AttnCase
public import proofs.«01_k».proof.Proof.AttnRunA

/-! What a visit of the first block of queries stores: the final state of its two heads, taken apart. -/

@[expose] public section

set_option maxRecDepth 16384

noncomputable section

namespace Cert.AttnIdeal.Val

open Cert.AttnIdeal Cert.AttnIdeal.Gen
open Idealize.ShloMosaic Idealize.ShloMosaic.TcCoe Idealize.SL.Sem

section

variable (c : Dev nD) (i : grid0.Coords) (a3 : Memref sig .tc .vmem S512x256 .bf16) (w3 : a3.IsWhole) (a4 : Memref sig .tc .vmem S4096x256 .bf16) (w4 : a4.IsWhole) (a5 : Memref sig .tc .vmem S4096x256 .bf16) (w5 : a5.IsWhole) (a6 : Memref sig .tc .vmem S4x64 .f32) (w6 : a6.IsWhole) (a7 : Memref sig .tc .vmem S2x1x128 .f32) (w7 : a7.IsWhole) (a8 : Memref sig .tc .vmem S512x256 .bf16) (w8 : a8.IsWhole) (a9 : Memref sig .tc .vmem S2x8x128x512 .bf16) (w9 : a9.IsWhole) (a10 : Memref sig .tc .vmem S2x512x1024 .f32) (w10 : a10.IsWhole) (a11 : Memref sig .tc .vmem S2x512x1024 .f32) (w11 : a11.IsWhole) (a12 : Memref sig .tc .vmem S2x1x1024 .f32) (w12 : a12.IsWhole) (a13 : Memref sig .tc .vmem S2x1x1024 .f32) (w13 : a13.IsWhole) (a14 : Memref sig .tc .vmem S2x128x1024 .f32) (w14 : a14.IsWhole)
include c i a3 w3 a4 w4 a5 w5 a6 w6 a7 w7 a8 w8 a9 w9 a10 w10 a11 w11 a12 w12 a13 w13 a14 w14

section
variable (hc2 : k0_cond3 i = 1#1) (x0 : Vec Ideal S512x256 .bf16) (x1 : Vec Ideal S4096x256 .bf16) (x2 : Vec Ideal S4096x256 .bf16)
include hc2 x0 x1 x2

set_option maxHeartbeats 1000000 in
/-- The scores and the states the loop leaves. -/
theorem loopA :
    (fun P : BufTy.Contents (Elt Ideal) a10.view.ty × BufTy.Contents (Elt Ideal) a12.view.ty × BufTy.Contents (Elt Ideal) a13.view.ty × BufTy.Contents (Elt Ideal) a14.view.ty =>
      hv (a10.view.read (Elt Ideal) P.1) 0 = SC x1 (QW x0 0) 0 (i 2).val ∧ hv (a10.view.read (Elt Ideal) P.1) 1 = SC x1 (QW x0 1) 1 (i 2).val
      ∧ (hv (a12.view.read (Elt Ideal) P.2.1) 0, hv (a13.view.read (Elt Ideal) P.2.2.1) 0, hv (a14.view.read (Elt Ideal) P.2.2.2) 0) = St x1 (QW x0 0) (a9.view.read (Elt Ideal) (a9.view.writes (Elt Ideal) a9.view.junk (kernelRun0_A.sl.HS0_16 c a5 w5 x2))) 0 q0 (i 2).val
      ∧ (hv (a12.view.read (Elt Ideal) P.2.1) 1, hv (a13.view.read (Elt Ideal) P.2.2.1) 1, hv (a14.view.read (Elt Ideal) P.2.2.2) 1) = St x1 (QW x0 1) (a9.view.read (Elt Ideal) (a9.view.writes (Elt Ideal) a9.view.junk (kernelRun0_A.sl.HS0_16 c a5 w5 x2))) 1 q0 (i 2).val)
    (endC c i a3 w3 a4 w4 a5 w5 a6 w6 a7 w7 a8 w8 a9 w9 a10 w10 a11 w11 a12 w12 a13 w13 a14 w14 (kernelRun0_A.sl.r c a3 w3 x0) (kernelRun0_A.sl.r_1 c a3 w3 x0) (kernelRun0_A.sl.v60 i) (kernelRun0_A.sl.v65 i) (w4.unread x1) (a9.view.writes (Elt Ideal) a9.view.junk (kernelRun0_A.sl.HS0_16 c a5 w5 x2)) (a10.view.writes (Elt Ideal) a10.view.junk (kernelRun0_A.sl.HS1_2 c a3 w3 a4 w4 x0 x1)) (a12.view.writes (Elt Ideal) a12.view.junk kernelRun0_A.sl.HS3_1) (a13.view.writes (Elt Ideal) a13.view.junk kernelRun0_A.sl.HS4_1) (a14.view.writes (Elt Ideal) a14.view.junk kernelRun0_A.sl.HS5_1)) := by
  have t := end_state c i a3 w3 a4 w4 a5 w5 a6 w6 a7 w7 a8 w8 a9 w9 a10 w10 a11 w11 a12 w12 a13 w13 a14 w14 (kernelRun0_A.sl.r c a3 w3 x0) (kernelRun0_A.sl.r_1 c a3 w3 x0) (kernelRun0_A.sl.v60 i) (kernelRun0_A.sl.v65 i) (w4.unread x1) (a9.view.writes (Elt Ideal) a9.view.junk (kernelRun0_A.sl.HS0_16 c a5 w5 x2)) a10.view.junk a12.view.junk a13.view.junk a14.view.junk
  have he := cond2_even i hc2
  have e0 : (kernelRun0_A.sl.r c a3 w3 x0) = QW x0 0 := pay157_read0 a3 w3 x0 _
  have e1 : (kernelRun0_A.sl.r_1 c a3 w3 x0) = QW x0 1 := pay158_read1 a3 w3 x0 _
  refine ⟨t.1.trans ?_, t.2.1.trans ?_, t.2.2.1.trans ?_, t.2.2.2.trans ?_⟩
  · rw [he, e0, w4.read_unread]
  · rw [he, e1, w4.read_unread]
  · rw [he, e0, w4.read_unread]
  · rw [he, e1, w4.read_unread]

theorem A_s0 :
    shapeCast S512x1024 (kernelRun0_A.sl.v185 c i a3 w3 a4 w4 a5 w5 a6 w6 a7 w7 a8 w8 a9 w9 a10 w10 a11 w11 a12 w12 a13 w13 a14 w14 x0 x1 x2) shapeCasts_S1x512x1024_S512x1024 = (SC x1 (QW x0 0) 0 (i 2).val) := by
  obtain ⟨E0, E1, E2, E3⟩ := loopA c i a3 w3 a4 w4 a5 w5 a6 w6 a7 w7 a8 w8 a9 w9 a10 w10 a11 w11 a12 w12 a13 w13 a14 w14 hc2 x0 x1 x2
  have E := E0
  dsimp only at E
  unfold kernelRun0_A.sl.v185
  refine (hv_readAt 0 a10.view _ _ _).trans (Eq.trans ?_ E)
  unfold endC
  refine congrArg (fun X => hv (a10.view.read (Elt Ideal) X) 0) ?_
  have ht : (k0_t1_loop i).trips = Scf.trips (k0_t1_loop i).lb (k0_t1_loop i).ub (k0_t1_loop i).st := rfl
  rw [ht]
  generalize Scf.trips (k0_t1_loop i).lb (k0_t1_loop i).ub (k0_t1_loop i).st = t
  generalize a10.view.writes (Elt Ideal) a10.view.junk (kernelRun0_A.sl.HS1_2 c a3 w3 a4 w4 x0 x1) = g10
  cases t <;> rfl

theorem A_m0 :
    shapeCast S1x1024 (kernelRun0_A.sl.v208_1 c i a3 w3 a4 w4 a5 w5 a6 w6 a7 w7 a8 w8 a9 w9 a10 w10 a11 w11 a12 w12 a13 w13 a14 w14 x0 x1 x2) shapeCasts_S1x1x1024_S1x1024 = (St x1 (QW x0 0) (a9.view.read (Elt Ideal) (a9.view.writes (Elt Ideal) a9.view.junk (kernelRun0_A.sl.HS0_16 c a5 w5 x2))) 0 q0 (i 2).val).1 := by
  obtain ⟨E0, E1, E2, E3⟩ := loopA c i a3 w3 a4 w4 a5 w5 a6 w6 a7 w7 a8 w8 a9 w9 a10 w10 a11 w11 a12 w12 a13 w13 a14 w14 hc2 x0 x1 x2
  have E := congrArg (fun q : B3 => q.1) <| E2
  dsimp only at E
  unfold kernelRun0_A.sl.v208_1
  refine (hv_readAt 0 a12.view _ _ _).trans (Eq.trans ?_ E)
  unfold endC
  refine congrArg (fun X => hv (a12.view.read (Elt Ideal) X) 0) ?_
  have ht : (k0_t1_loop i).trips = Scf.trips (k0_t1_loop i).lb (k0_t1_loop i).ub (k0_t1_loop i).st := rfl
  rw [ht]
  generalize Scf.trips (k0_t1_loop i).lb (k0_t1_loop i).ub (k0_t1_loop i).st = t
  cases t <;> rfl

theorem A_l0 :
    shapeCast S1x1024 (kernelRun0_A.sl.v218_1 c i a3 w3 a4 w4 a5 w5 a6 w6 a7 w7 a8 w8 a9 w9 a10 w10 a11 w11 a12 w12 a13 w13 a14 w14 x0 x1 x2) shapeCasts_S1x1x1024_S1x1024 = (St x1 (QW x0 0) (a9.view.read (Elt Ideal) (a9.view.writes (Elt Ideal) a9.view.junk (kernelRun0_A.sl.HS0_16 c a5 w5 x2))) 0 q0 (i 2).val).2.1 := by
  obtain ⟨E0, E1, E2, E3⟩ := loopA c i a3 w3 a4 w4 a5 w5 a6 w6 a7 w7 a8 w8 a9 w9 a10 w10 a11 w11 a12 w12 a13 w13 a14 w14 hc2 x0 x1 x2
  have E := congrArg (fun q : B3 => q.2.1) <| E2
  dsimp only at E
  unfold kernelRun0_A.sl.v218_1
  refine (hv_readAt 0 a13.view _ _ _).trans (Eq.trans ?_ E)
  unfold endC
  refine congrArg (fun X => hv (a13.view.read (Elt Ideal) X) 0) ?_
  have ht : (k0_t1_loop i).trips = Scf.trips (k0_t1_loop i).lb (k0_t1_loop i).ub (k0_t1_loop i).st := rfl
  rw [ht]
  generalize Scf.trips (k0_t1_loop i).lb (k0_t1_loop i).ub (k0_t1_loop i).st = t
  cases t <;> rfl

theorem A_a0 :
    shapeCast S128x1024 (kernelRun0_A.sl.v277_1 c i a3 w3 a4 w4 a5 w5 a6 w6 a7 w7 a8 w8 a9 w9 a10 w10 a11 w11 a12 w12 a13 w13 a14 w14 x0 x1 x2) shapeCasts_S1x128x1024_S128x1024 = (St x1 (QW x0 0) (a9.view.read (Elt Ideal) (a9.view.writes (Elt Ideal) a9.view.junk (kernelRun0_A.sl.HS0_16 c a5 w5 x2))) 0 q0 (i 2).val).2.2 := by
  obtain ⟨E0, E1, E2, E3⟩ := loopA c i a3 w3 a4 w4 a5 w5 a6 w6 a7 w7 a8 w8 a9 w9 a10 w10 a11 w11 a12 w12 a13 w13 a14 w14 hc2 x0 x1 x2
  have E := congrArg (fun q : B3 => q.2.2) <| E2
  dsimp only at E
  unfold kernelRun0_A.sl.v277_1
  refine (hv_readAt 0 a14.view _ _ _).trans (Eq.trans ?_ E)
  unfold endC
  refine congrArg (fun X => hv (a14.view.read (Elt Ideal) X) 0) ?_
  have ht : (k0_t1_loop i).trips = Scf.trips (k0_t1_loop i).lb (k0_t1_loop i).ub (k0_t1_loop i).st := rfl
  rw [ht]
  generalize Scf.trips (k0_t1_loop i).lb (k0_t1_loop i).ub (k0_t1_loop i).st = t
  cases t <;> rfl

theorem A_s1 :
    shapeCast S512x1024 (kernelRun0_A.sl.v231_1 c i a3 w3 a4 w4 a5 w5 a6 w6 a7 w7 a8 w8 a9 w9 a10 w10 a11 w11 a12 w12 a13 w13 a14 w14 x0 x1 x2) shapeCasts_S1x512x1024_S512x1024 = (SC x1 (QW x0 1) 1 (i 2).val) := by
  obtain ⟨E0, E1, E2, E3⟩ := loopA c i a3 w3 a4 w4 a5 w5 a6 w6 a7 w7 a8 w8 a9 w9 a10 w10 a11 w11 a12 w12 a13 w13 a14 w14 hc2 x0 x1 x2
  have E := E1
  dsimp only at E
  unfold kernelRun0_A.sl.v231_1
  refine (hv_readAt 1 a10.view _ _ _).trans (Eq.trans ?_ E)
  unfold endC
  refine congrArg (fun X => hv (a10.view.read (Elt Ideal) X) 1) ?_
  have ht : (k0_t1_loop i).trips = Scf.trips (k0_t1_loop i).lb (k0_t1_loop i).ub (k0_t1_loop i).st := rfl
  rw [ht]
  generalize Scf.trips (k0_t1_loop i).lb (k0_t1_loop i).ub (k0_t1_loop i).st = t
  generalize a10.view.writes (Elt Ideal) a10.view.junk (kernelRun0_A.sl.HS1_2 c a3 w3 a4 w4 x0 x1) = g10
  cases t <;> rfl

theorem A_m1 :
    shapeCast S1x1024 (kernelRun0_A.sl.v254_1 c i a3 w3 a4 w4 a5 w5 a6 w6 a7 w7 a8 w8 a9 w9 a10 w10 a11 w11 a12 w12 a13 w13 a14 w14 x0 x1 x2) shapeCasts_S1x1x1024_S1x1024 = (St x1 (QW x0 1) (a9.view.read (Elt Ideal) (a9.view.writes (Elt Ideal) a9.view.junk (kernelRun0_A.sl.HS0_16 c a5 w5 x2))) 1 q0 (i 2).val).1 := by
  obtain ⟨E0, E1, E2, E3⟩ := loopA c i a3 w3 a4 w4 a5 w5 a6 w6 a7 w7 a8 w8 a9 w9 a10 w10 a11 w11 a12 w12 a13 w13 a14 w14 hc2 x0 x1 x2
  have E := congrArg (fun q : B3 => q.1) <| E3
  dsimp only at E
  unfold kernelRun0_A.sl.v254_1
  refine (hv_readAt 1 a12.view _ _ _).trans (Eq.trans ?_ E)
  unfold endC
  refine congrArg (fun X => hv (a12.view.read (Elt Ideal) X) 1) ?_
  have ht : (k0_t1_loop i).trips = Scf.trips (k0_t1_loop i).lb (k0_t1_loop i).ub (k0_t1_loop i).st := rfl
  rw [ht]
  generalize Scf.trips (k0_t1_loop i).lb (k0_t1_loop i).ub (k0_t1_loop i).st = t
  cases t <;> rfl

theorem A_l1 :
    shapeCast S1x1024 (kernelRun0_A.sl.v264_1 c i a3 w3 a4 w4 a5 w5 a6 w6 a7 w7 a8 w8 a9 w9 a10 w10 a11 w11 a12 w12 a13 w13 a14 w14 x0 x1 x2) shapeCasts_S1x1x1024_S1x1024 = (St x1 (QW x0 1) (a9.view.read (Elt Ideal) (a9.view.writes (Elt Ideal) a9.view.junk (kernelRun0_A.sl.HS0_16 c a5 w5 x2))) 1 q0 (i 2).val).2.1 := by
  obtain ⟨E0, E1, E2, E3⟩ := loopA c i a3 w3 a4 w4 a5 w5 a6 w6 a7 w7 a8 w8 a9 w9 a10 w10 a11 w11 a12 w12 a13 w13 a14 w14 hc2 x0 x1 x2
  have E := congrArg (fun q : B3 => q.2.1) <| E3
  dsimp only at E
  unfold kernelRun0_A.sl.v264_1
  refine (hv_readAt 1 a13.view _ _ _).trans (Eq.trans ?_ E)
  unfold endC
  refine congrArg (fun X => hv (a13.view.read (Elt Ideal) X) 1) ?_
  have ht : (k0_t1_loop i).trips = Scf.trips (k0_t1_loop i).lb (k0_t1_loop i).ub (k0_t1_loop i).st := rfl
  rw [ht]
  generalize Scf.trips (k0_t1_loop i).lb (k0_t1_loop i).ub (k0_t1_loop i).st = t
  cases t <;> rfl

theorem A_a1 :
    shapeCast S128x1024 (kernelRun0_A.sl.v289 c i a3 w3 a4 w4 a5 w5 a6 w6 a7 w7 a8 w8 a9 w9 a10 w10 a11 w11 a12 w12 a13 w13 a14 w14 x0 x1 x2) shapeCasts_S1x128x1024_S128x1024 = (St x1 (QW x0 1) (a9.view.read (Elt Ideal) (a9.view.writes (Elt Ideal) a9.view.junk (kernelRun0_A.sl.HS0_16 c a5 w5 x2))) 1 q0 (i 2).val).2.2 := by
  obtain ⟨E0, E1, E2, E3⟩ := loopA c i a3 w3 a4 w4 a5 w5 a6 w6 a7 w7 a8 w8 a9 w9 a10 w10 a11 w11 a12 w12 a13 w13 a14 w14 hc2 x0 x1 x2
  have E := congrArg (fun q : B3 => q.2.2) <| E3
  dsimp only at E
  unfold kernelRun0_A.sl.v289
  refine (hv_readAt 1 a14.view _ _ _).trans (Eq.trans ?_ E)
  unfold endC
  refine congrArg (fun X => hv (a14.view.read (Elt Ideal) X) 1) ?_
  have ht : (k0_t1_loop i).trips = Scf.trips (k0_t1_loop i).lb (k0_t1_loop i).ub (k0_t1_loop i).st := rfl
  rw [ht]
  generalize Scf.trips (k0_t1_loop i).lb (k0_t1_loop i).ub (k0_t1_loop i).st = t
  cases t <;> rfl

theorem A_v0 : (kernelRun0_A.sl.v283_1 c i a5 w5 a9 hc2 x2) = VB (a9.view.read (Elt Ideal) (a9.view.writes (Elt Ideal) a9.view.junk (kernelRun0_A.sl.HS0_16 c a5 w5 x2))) 0 (i 2).val := by
  unfold kernelRun0_A.sl.v283_1
  refine (VB_eq 0 a9.view _ _ (i 2).val (off19_eq i) _).trans ?_
  rfl

theorem A_v1 : (kernelRun0_A.sl.v295_1 c i a5 w5 a9 hc2 x2) = VB (a9.view.read (Elt Ideal) (a9.view.writes (Elt Ideal) a9.view.junk (kernelRun0_A.sl.HS0_16 c a5 w5 x2))) 1 (i 2).val := by
  unfold kernelRun0_A.sl.v295_1
  refine (VB_eq 1 a9.view _ _ (i 2).val (off20_eq i) _).trans ?_
  rfl

theorem A_L0 : shapeCast S1x1024 (kernelRun0_A.sl.v127 c i a3 w3 a4 w4 a5 w5 a6 w6 a7 w7 a8 w8 a9 w9 a10 w10 a11 w11 a12 w12 a13 w13 a14 w14 x0 x1 x2) shapeCasts_S1x1x1024_S1x1024 = (FIN x1 (QW x0 0) (a9.view.read (Elt Ideal) (a9.view.writes (Elt Ideal) a9.view.junk (kernelRun0_A.sl.HS0_16 c a5 w5 x2))) 0 (i 2).val).2.1 := by
  unfold kernelRun0_A.sl.v127 kernelRun0_A.sl.HS4_2
  rw [View.readCov_skip _ _ _ _ _ (by decide), View.readCov_cons_toLoadRect]
  refine (shapeCast_shapeCast _ _ _).trans ?_
  show LN (k0_pay137 _) (shapeCast S1x1024 _ shapeCasts_S1x1x1024_S1x1024) (shapeCast S1x1024 _ shapeCasts_S1x1x1024_S1x1024) = LN _ _ _
  rw [pay137_eq, A_s0 c i a3 w3 a4 w4 a5 w5 a6 w6 a7 w7 a8 w8 a9 w9 a10 w10 a11 w11 a12 w12 a13 w13 a14 w14 hc2 x0 x1 x2, A_m0 c i a3 w3 a4 w4 a5 w5 a6 w6 a7 w7 a8 w8 a9 w9 a10 w10 a11 w11 a12 w12 a13 w13 a14 w14 hc2 x0 x1 x2, A_l0 c i a3 w3 a4 w4 a5 w5 a6 w6 a7 w7 a8 w8 a9 w9 a10 w10 a11 w11 a12 w12 a13 w13 a14 w14 hc2 x0 x1 x2]

theorem A_L1 : shapeCast S1x1024 (kernelRun0_A.sl.v157 c i a3 w3 a4 w4 a5 w5 a6 w6 a7 w7 a8 w8 a9 w9 a10 w10 a11 w11 a12 w12 a13 w13 a14 w14 x0 x1 x2) shapeCasts_S1x1x1024_S1x1024 = (FIN x1 (QW x0 1) (a9.view.read (Elt Ideal) (a9.view.writes (Elt Ideal) a9.view.junk (kernelRun0_A.sl.HS0_16 c a5 w5 x2))) 1 (i 2).val).2.1 := by
  unfold kernelRun0_A.sl.v157 kernelRun0_A.sl.HS4_2 kernelRun0_A.sl.v272_1 kernelRun0_A.sl.v269_1 kernelRun0_A.sl.v266_1 kernelRun0_A.sl.v268_1 kernelRun0_A.sl.v267_1 kernelRun0_A.sl.v265 kernelRun0_A.sl.r_8 kernelRun0_A.sl.r_9
  rw [View.readCov_cons_toLoadRect]
  refine (shapeCast_shapeCast _ _ _).trans ?_
  show LN (k0_pay146 _) (shapeCast S1x1024 _ shapeCasts_S1x1x1024_S1x1024) (shapeCast S1x1024 _ shapeCasts_S1x1x1024_S1x1024) = LN _ _ _
  rw [pay146_eq, A_s1 c i a3 w3 a4 w4 a5 w5 a6 w6 a7 w7 a8 w8 a9 w9 a10 w10 a11 w11 a12 w12 a13 w13 a14 w14 hc2 x0 x1 x2, A_m1 c i a3 w3 a4 w4 a5 w5 a6 w6 a7 w7 a8 w8 a9 w9 a10 w10 a11 w11 a12 w12 a13 w13 a14 w14 hc2 x0 x1 x2, A_l1 c i a3 w3 a4 w4 a5 w5 a6 w6 a7 w7 a8 w8 a9 w9 a10 w10 a11 w11 a12 w12 a13 w13 a14 w14 hc2 x0 x1 x2]

theorem A_A0 : shapeCast S128x1024 (kernelRun0_A.sl.v125 c i a3 w3 a4 w4 a5 w5 a6 w6 a7 w7 a8 w8 a9 w9 a10 w10 a11 w11 a12 w12 a13 w13 a14 w14 hc2 x0 x1 x2) shapeCasts_S1x128x1024_S128x1024 = (FIN x1 (QW x0 0) (a9.view.read (Elt Ideal) (a9.view.writes (Elt Ideal) a9.view.junk (kernelRun0_A.sl.HS0_16 c a5 w5 x2))) 0 (i 2).val).2.2 := by
  unfold kernelRun0_A.sl.v125 kernelRun0_A.sl.HS5_2 kernelRun0_A.sl.v288_1 kernelRun0_A.sl.v285_1 kernelRun0_A.sl.v280_1 kernelRun0_A.sl.v284_1 kernelRun0_A.sl.v279_1 kernelRun0_A.sl.v278_1 kernelRun0_A.sl.r_3 kernelRun0_A.sl.r_6 kernelRun0_A.sl.r_4
  rw [View.readCov_skip _ _ _ _ _ (by decide), View.readCov_cons_toLoadRect]
  refine (shapeCast_shapeCast _ _ _).trans ?_
  show AN (k0_pay137 _) (shapeCast S1x1024 _ shapeCasts_S1x1x1024_S1x1024) (shapeCast S128x1024 _ shapeCasts_S1x128x1024_S128x1024) _ = AN _ _ _ _
  rw [pay137_eq, A_s0 c i a3 w3 a4 w4 a5 w5 a6 w6 a7 w7 a8 w8 a9 w9 a10 w10 a11 w11 a12 w12 a13 w13 a14 w14 hc2 x0 x1 x2, A_m0 c i a3 w3 a4 w4 a5 w5 a6 w6 a7 w7 a8 w8 a9 w9 a10 w10 a11 w11 a12 w12 a13 w13 a14 w14 hc2 x0 x1 x2, A_a0 c i a3 w3 a4 w4 a5 w5 a6 w6 a7 w7 a8 w8 a9 w9 a10 w10 a11 w11 a12 w12 a13 w13 a14 w14 hc2 x0 x1 x2, A_v0 c i a3 w3 a4 w4 a5 w5 a6 w6 a7 w7 a8 w8 a9 w9 a10 w10 a11 w11 a12 w12 a13 w13 a14 w14 hc2 x0 x1 x2]

theorem A_A1 : shapeCast S128x1024 (kernelRun0_A.sl.v155 c i a3 w3 a4 w4 a5 w5 a6 w6 a7 w7 a8 w8 a9 w9 a10 w10 a11 w11 a12 w12 a13 w13 a14 w14 hc2 x0 x1 x2) shapeCasts_S1x128x1024_S128x1024 = (FIN x1 (QW x0 1) (a9.view.read (Elt Ideal) (a9.view.writes (Elt Ideal) a9.view.junk (kernelRun0_A.sl.HS0_16 c a5 w5 x2))) 1 (i 2).val).2.2 := by
  unfold kernelRun0_A.sl.v155 kernelRun0_A.sl.HS5_2 kernelRun0_A.sl.v276_1 kernelRun0_A.sl.v292_1 kernelRun0_A.sl.v291_1 kernelRun0_A.sl.v290_1 kernelRun0_A.sl.r_8 kernelRun0_A.sl.r_9
  rw [View.readCov_cons_toLoadRect]
  refine (shapeCast_shapeCast _ _ _).trans ?_
  show AN (k0_pay146 _) (shapeCast S1x1024 _ shapeCasts_S1x1x1024_S1x1024) (shapeCast S128x1024 _ shapeCasts_S1x128x1024_S128x1024) _ = AN _ _ _ _
  rw [pay146_eq, A_s1 c i a3 w3 a4 w4 a5 w5 a6 w6 a7 w7 a8 w8 a9 w9 a10 w10 a11 w11 a12 w12 a13 w13 a14 w14 hc2 x0 x1 x2, A_m1 c i a3 w3 a4 w4 a5 w5 a6 w6 a7 w7 a8 w8 a9 w9 a10 w10 a11 w11 a12 w12 a13 w13 a14 w14 hc2 x0 x1 x2, A_a1 c i a3 w3 a4 w4 a5 w5 a6 w6 a7 w7 a8 w8 a9 w9 a10 w10 a11 w11 a12 w12 a13 w13 a14 w14 hc2 x0 x1 x2, A_v1 c i a3 w3 a4 w4 a5 w5 a6 w6 a7 w7 a8 w8 a9 w9 a10 w10 a11 w11 a12 w12 a13 w13 a14 w14 hc2 x0 x1 x2]

end

/-- The stored block: head `hd` in columns `128 hd … 128 hd + 127`. -/
theorem outA_apply (hc0 : cond0_0 i) (hc1 : ¬cond0_1 i) (hc2 : cond0_2 i) (x0 : Vec Ideal S512x256 .bf16) (x1 x2 : Vec Ideal S4096x256 .bf16) (x3 : Vec Ideal S4x64 .f32) (x4 : Vec Ideal S2x1x128 .f32) {sgn : RefSig} {κ' : Kind} {sp : Space} (v : View sgn κ' sp S512x256 .bf16) (f : v.ty.Contents (Elt Ideal)) (r : Fin 512) (hd : Fin 2) (d : Fin 128) :
    v.read (Elt Ideal) (v.writes (Elt Ideal) f (kernelRun0_A c i a3 w3 a4 w4 a5 w5 a6 w6 a7 w7 a8 w8 a9 w9 a10 w10 a11 w11 a12 w12 a13 w13 a14 w14 hc0 hc1 hc2 x0 x1 x2 x3 x4).1) (ix2 r ⟨128 * hd.val + d.val, by omega⟩)
      = OUTB x0 x1 (a9.view.read (Elt Ideal) (a9.view.writes (Elt Ideal) a9.view.junk (kernelRun0_A.sl.HS0_16 c a5 w5 x2))) x3 x4 (i 2).val hd (ix2 r d) := by
  have hk : (a6.view.readAt (Elt Ideal) (Rect.unit (s := S4x64) ![0, 0] S4x64.size inb_S4x64_S4x64_0_0).toLoadRect (w6.unread x3)) = x3 := pay169_read a6 w6 x3 _
  match hd with
  | ⟨0, _⟩ =>
    refine (cols0 v f _ _ _ _ _ r d _ (by show 128 * 0 + d.val = d.val; omega)).trans (congrFun ?_ (ix2 r d))
    show OG (ON (k0_pay169 (a6.view.readAt (Elt Ideal) (Rect.unit (s := S4x64) ![0, 0] S4x64.size inb_S4x64_S4x64_0_0).toLoadRect (w6.unread x3))) (shapeCast S1x1024 _ shapeCasts_S1x1x1024_S1x1024) (shapeCast S128x1024 _ shapeCasts_S1x128x1024_S128x1024)) (shapeCast S1x128 _ _) = _
    rw [hk, A_L0 c i a3 w3 a4 w4 a5 w5 a6 w6 a7 w7 a8 w8 a9 w9 a10 w10 a11 w11 a12 w12 a13 w13 a14 w14 hc2 x0 x1 x2, A_A0 c i a3 w3 a4 w4 a5 w5 a6 w6 a7 w7 a8 w8 a9 w9 a10 w10 a11 w11 a12 w12 a13 w13 a14 w14 hc2 x0 x1 x2]
    refine congrArg (OG _) ((hv_readAt 0 a7.view _ _ _).trans ?_)
    rw [w7.read_unread]
    rfl
  | ⟨1, _⟩ =>
    refine (cols1 v f _ _ _ r d _ (by show 128 * 1 + d.val = 128 + d.val; omega)).trans (congrFun ?_ (ix2 r d))
    show OG (ON (k0_pay169 (a6.view.readAt (Elt Ideal) (Rect.unit (s := S4x64) ![0, 0] S4x64.size inb_S4x64_S4x64_0_0).toLoadRect (w6.unread x3))) (shapeCast S1x1024 _ shapeCasts_S1x1x1024_S1x1024) (shapeCast S128x1024 _ shapeCasts_S1x128x1024_S128x1024)) (shapeCast S1x128 _ _) = _
    rw [hk, A_L1 c i a3 w3 a4 w4 a5 w5 a6 w6 a7 w7 a8 w8 a9 w9 a10 w10 a11 w11 a12 w12 a13 w13 a14 w14 hc2 x0 x1 x2, A_A1 c i a3 w3 a4 w4 a5 w5 a6 w6 a7 w7 a8 w8 a9 w9 a10 w10 a11 w11 a12 w12 a13 w13 a14 w14 hc2 x0 x1 x2]
    refine congrArg (OG _) ((hv_readAt 1 a7.view _ _ _).trans ?_)
    rw [w7.read_unread]
    rfl

end

end Cert.AttnIdeal.Val

end
-- ==== Proof.AttnCaseB.lean ====
module

public import proofs.«01_k».proof.Proof.AttnCase
public import proofs.«01_k».proof.Proof.AttnRunB

/-! What a visit of an odd block of queries stores: one more block of keys after the loop, then the masked one. -/

@[expose] public section

set_option maxRecDepth 16384

noncomputable section

namespace Cert.AttnIdeal.Val

open Cert.AttnIdeal Cert.AttnIdeal.Gen
open Idealize.ShloMosaic Idealize.ShloMosaic.TcCoe Idealize.SL.Sem

theorem pay120_eq (s : FVec Ideal S512x1024 .f32) :
    k0_pay120 (F := Ideal) s (iota .tc S512x1024 32 [0] iota_S512x1024_d0_w32) 512#32 (remsi (iota .tc S512x1024 32 [1] iota_S512x1024_d1_w32) (broadcast S512x1024 512#32)) 0#32 = MSK s := by
  have h : Scalar.select (Scalar.cmpi .eq 512#32 0#32) (1#32 : BitVec 32) 512#32 = 512#32 := by decide
  unfold k0_pay120 MSK
  simp only [h]

theorem pay128_eq (v : Vec Ideal S1x512x1024 .f32) : k0_pay128 (F := Ideal) v = MSK (shapeCast S512x1024 v shapeCasts_S1x512x1024_S512x1024) := rfl

/-- The state after a block, the block counted from one. -/
theorem St_pred (K : Vec Ideal S4096x256 .bf16) (Q : FVec Ideal S128x1024 .bf16) (V : Vec Ideal S2x8x128x512 .bf16) (hd : Fin 2) (j : ℕ) (h : j % 2 = 1) :
    St K Q V hd q0 j = stH (SC K Q hd (j - 1)) (VB V hd (j - 1)) (St K Q V hd q0 (j - 1)) := by
  obtain ⟨n, rfl⟩ : ∃ n, j = n + 1 := ⟨j - 1, by omega⟩
  rfl

section

variable (c : Dev nD) (i : grid0.Coords) (a3 : Memref sig .tc .vmem S512x256 .bf16) (w3 : a3.IsWhole) (a4 : Memref sig .tc .vmem S4096x256 .bf16) (w4 : a4.IsWhole) (a5 : Memref sig .tc .vmem S4096x256 .bf16) (w5 : a5.IsWhole) (a6 : Memref sig .tc .vmem S4x64 .f32) (w6 : a6.IsWhole) (a7 : Memref sig .tc .vmem S2x1x128 .f32) (w7 : a7.IsWhole) (a8 : Memref sig .tc .vmem S512x256 .bf16) (w8 : a8.IsWhole) (a9 : Memref sig .tc .vmem S2x8x128x512 .bf16) (w9 : a9.IsWhole) (a10 : Memref sig .tc .vmem S2x512x1024 .f32) (w10 : a10.IsWhole) (a11 : Memref sig .tc .vmem S2x512x1024 .f32) (w11 : a11.IsWhole) (a12 : Memref sig .tc .vmem S2x1x1024 .f32) (w12 : a12.IsWhole) (a13 : Memref sig .tc .vmem S2x1x1024 .f32) (w13 : a13.IsWhole) (a14 : Memref sig .tc .vmem S2x128x1024 .f32) (w14 : a14.IsWhole)
include c i a3 w3 a4 w4 a5 w5 a6 w6 a7 w7 a8 w8 a9 w9 a10 w10 a11 w11 a12 w12 a13 w13 a14 w14

section
variable (hc1 : k0_cond2 i = 1#1) (x0 : Vec Ideal S512x256 .bf16) (x1 : Vec Ideal S4096x256 .bf16) (xs0 : Vec Ideal S2x8x128x512 .bf16)
include hc1 x0 x1 xs0

set_option maxHeartbeats 1000000 in
/-- The scores and the states the loop leaves. -/
theorem loopB :
    (fun P : BufTy.Contents (Elt Ideal) a10.view.ty × BufTy.Contents (Elt Ideal) a12.view.ty × BufTy.Contents (Elt Ideal) a13.view.ty × BufTy.Contents (Elt Ideal) a14.view.ty =>
      hv (a10.view.read (Elt Ideal) P.1) 0 = (SC x1 (QW x0 0) 0 ((i 2).val - 1)) ∧ hv (a10.view.read (Elt Ideal) P.1) 1 = (SC x1 (QW x0 1) 1 ((i 2).val - 1))
      ∧ (hv (a12.view.read (Elt Ideal) P.2.1) 0, hv (a13.view.read (Elt Ideal) P.2.2.1) 0, hv (a14.view.read (Elt Ideal) P.2.2.2) 0) = (St x1 (QW x0 0) xs0 0 q0 ((i 2).val - 1))
      ∧ (hv (a12.view.read (Elt Ideal) P.2.1) 1, hv (a13.view.read (Elt Ideal) P.2.2.1) 1, hv (a14.view.read (Elt Ideal) P.2.2.2) 1) = (St x1 (QW x0 1) xs0 1 q0 ((i 2).val - 1)))
    (endC c i a3 w3 a4 w4 a5 w5 a6 w6 a7 w7 a8 w8 a9 w9 a10 w10 a11 w11 a12 w12 a13 w13 a14 w14 (kernelRun0_B.sl.r c a3 w3 x0) (kernelRun0_B.sl.r_1 c a3 w3 x0) (kernelRun0_B.sl.v60 i) (kernelRun0_B.sl.v65 i) (w4.unread x1) (w9.unread xs0) (a10.view.writes (Elt Ideal) a10.view.junk (kernelRun0_B.sl.HS1_2 c a3 w3 a4 w4 x0 x1)) (a12.view.writes (Elt Ideal) a12.view.junk kernelRun0_B.sl.HS3_1) (a13.view.writes (Elt Ideal) a13.view.junk kernelRun0_B.sl.HS4_1) (a14.view.writes (Elt Ideal) a14.view.junk kernelRun0_B.sl.HS5_1)) := by
  have t := end_state c i a3 w3 a4 w4 a5 w5 a6 w6 a7 w7 a8 w8 a9 w9 a10 w10 a11 w11 a12 w12 a13 w13 a14 w14 (kernelRun0_B.sl.r c a3 w3 x0) (kernelRun0_B.sl.r_1 c a3 w3 x0) (kernelRun0_B.sl.v60 i) (kernelRun0_B.sl.v65 i) (w4.unread x1) (w9.unread xs0) a10.view.junk a12.view.junk a13.view.junk a14.view.junk
  have ho := cond1_odd i hc1
  have he : 2 * ((i 2).val / 2) = (i 2).val - 1 := by omega
  have e0 : (kernelRun0_B.sl.r c a3 w3 x0) = QW x0 0 := pay157_read0 a3 w3 x0 _
  have e1 : (kernelRun0_B.sl.r_1 c a3 w3 x0) = QW x0 1 := pay158_read1 a3 w3 x0 _
  refine ⟨t.1.trans ?_, t.2.1.trans ?_, t.2.2.1.trans ?_, t.2.2.2.trans ?_⟩
  · rw [he, e0, w4.read_unread]
  · rw [he, e1, w4.read_unread]
  · rw [he, e0, w4.read_unread, w9.read_unread]
  · rw [he, e1, w4.read_unread, w9.read_unread]

theorem B_s0 :
    shapeCast S512x1024 (kernelRun0_B.sl.v202 c i a3 w3 a4 w4 a5 w5 a6 w6 a7 w7 a8 w8 a9 w9 a10 w10 a11 w11 a12 w12 a13 w13 a14 w14 x0 x1 xs0) shapeCasts_S1x512x1024_S512x1024 = (SC x1 (QW x0 0) 0 ((i 2).val - 1)) := by
  obtain ⟨E0, E1, E2, E3⟩ := loopB c i a3 w3 a4 w4 a5 w5 a6 w6 a7 w7 a8 w8 a9 w9 a10 w10 a11 w11 a12 w12 a13 w13 a14 w14 hc1 x0 x1 xs0
  have E := E0
  dsimp only at E
  unfold kernelRun0_B.sl.v202
  refine (hv_readAt 0 a10.view _ _ _).trans (Eq.trans ?_ E)
  unfold endC
  refine congrArg (fun X => hv (a10.view.read (Elt Ideal) X) 0) ?_
  have ht : (k0_t1_loop i).trips = Scf.trips (k0_t1_loop i).lb (k0_t1_loop i).ub (k0_t1_loop i).st := rfl
  rw [ht]
  generalize Scf.trips (k0_t1_loop i).lb (k0_t1_loop i).ub (k0_t1_loop i).st = t
  generalize a10.view.writes (Elt Ideal) a10.view.junk (kernelRun0_B.sl.HS1_2 c a3 w3 a4 w4 x0 x1) = g10
  cases t <;> rfl

theorem B_m0 :
    shapeCast S1x1024 (kernelRun0_B.sl.v204 c i a3 w3 a4 w4 a5 w5 a6 w6 a7 w7 a8 w8 a9 w9 a10 w10 a11 w11 a12 w12 a13 w13 a14 w14 x0 x1 xs0) shapeCasts_S1x1x1024_S1x1024 = (St x1 (QW x0 0) xs0 0 q0 ((i 2).val - 1)).1 := by
  obtain ⟨E0, E1, E2, E3⟩ := loopB c i a3 w3 a4 w4 a5 w5 a6 w6 a7 w7 a8 w8 a9 w9 a10 w10 a11 w11 a12 w12 a13 w13 a14 w14 hc1 x0 x1 xs0
  have E := congrArg (fun q : B3 => q.1) <| E2
  dsimp only at E
  unfold kernelRun0_B.sl.v204
  refine (hv_readAt 0 a12.view _ _ _).trans (Eq.trans ?_ E)
  unfold endC
  refine congrArg (fun X => hv (a12.view.read (Elt Ideal) X) 0) ?_
  have ht : (k0_t1_loop i).trips = Scf.trips (k0_t1_loop i).lb (k0_t1_loop i).ub (k0_t1_loop i).st := rfl
  rw [ht]
  generalize Scf.trips (k0_t1_loop i).lb (k0_t1_loop i).ub (k0_t1_loop i).st = t
  cases t <;> rfl

theorem B_l0 :
    shapeCast S1x1024 (kernelRun0_B.sl.v214 c i a3 w3 a4 w4 a5 w5 a6 w6 a7 w7 a8 w8 a9 w9 a10 w10 a11 w11 a12 w12 a13 w13 a14 w14 x0 x1 xs0) shapeCasts_S1x1x1024_S1x1024 = (St x1 (QW x0 0) xs0 0 q0 ((i 2).val - 1)).2.1 := by
  obtain ⟨E0, E1, E2, E3⟩ := loopB c i a3 w3 a4 w4 a5 w5 a6 w6 a7 w7 a8 w8 a9 w9 a10 w10 a11 w11 a12 w12 a13 w13 a14 w14 hc1 x0 x1 xs0
  have E := congrArg (fun q : B3 => q.2.1) <| E2
  dsimp only at E
  unfold kernelRun0_B.sl.v214
  refine (hv_readAt 0 a13.view _ _ _).trans (Eq.trans ?_ E)
  unfold endC
  refine congrArg (fun X => hv (a13.view.read (Elt Ideal) X) 0) ?_
  have ht : (k0_t1_loop i).trips = Scf.trips (k0_t1_loop i).lb (k0_t1_loop i).ub (k0_t1_loop i).st := rfl
  rw [ht]
  generalize Scf.trips (k0_t1_loop i).lb (k0_t1_loop i).ub (k0_t1_loop i).st = t
  cases t <;> rfl

theorem B_a0 :
    shapeCast S128x1024 (kernelRun0_B.sl.v252 c i a3 w3 a4 w4 a5 w5 a6 w6 a7 w7 a8 w8 a9 w9 a10 w10 a11 w11 a12 w12 a13 w13 a14 w14 x0 x1 xs0) shapeCasts_S1x128x1024_S128x1024 = (St x1 (QW x0 0) xs0 0 q0 ((i 2).val - 1)).2.2 := by
  obtain ⟨E0, E1, E2, E3⟩ := loopB c i a3 w3 a4 w4 a5 w5 a6 w6 a7 w7 a8 w8 a9 w9 a10 w10 a11 w11 a12 w12 a13 w13 a14 w14 hc1 x0 x1 xs0
  have E := congrArg (fun q : B3 => q.2.2) <| E2
  dsimp only at E
  unfold kernelRun0_B.sl.v252
  refine (hv_readAt 0 a14.view _ _ _).trans (Eq.trans ?_ E)
  unfold endC
  refine congrArg (fun X => hv (a14.view.read (Elt Ideal) X) 0) ?_
  have ht : (k0_t1_loop i).trips = Scf.trips (k0_t1_loop i).lb (k0_t1_loop i).ub (k0_t1_loop i).st := rfl
  rw [ht]
  generalize Scf.trips (k0_t1_loop i).lb (k0_t1_loop i).ub (k0_t1_loop i).st = t
  cases t <;> rfl

theorem B_s1 :
    shapeCast S512x1024 (kernelRun0_B.sl.v227 c i a3 w3 a4 w4 a5 w5 a6 w6 a7 w7 a8 w8 a9 w9 a10 w10 a11 w11 a12 w12 a13 w13 a14 w14 x0 x1 xs0) shapeCasts_S1x512x1024_S512x1024 = (SC x1 (QW x0 1) 1 ((i 2).val - 1)) := by
  obtain ⟨E0, E1, E2, E3⟩ := loopB c i a3 w3 a4 w4 a5 w5 a6 w6 a7 w7 a8 w8 a9 w9 a10 w10 a11 w11 a12 w12 a13 w13 a14 w14 hc1 x0 x1 xs0
  have E := E1
  dsimp only at E
  unfold kernelRun0_B.sl.v227
  refine (hv_readAt 1 a10.view _ _ _).trans (Eq.trans ?_ E)
  unfold endC
  refine congrArg (fun X => hv (a10.view.read (Elt Ideal) X) 1) ?_
  have ht : (k0_t1_loop i).trips = Scf.trips (k0_t1_loop i).lb (k0_t1_loop i).ub (k0_t1_loop i).st := rfl
  rw [ht]
  generalize Scf.trips (k0_t1_loop i).lb (k0_t1_loop i).ub (k0_t1_loop i).st = t
  generalize a10.view.writes (Elt Ideal) a10.view.junk (kernelRun0_B.sl.HS1_2 c a3 w3 a4 w4 x0 x1) = g10
  cases t <;> rfl

theorem B_m1 :
    shapeCast S1x1024 (kernelRun0_B.sl.v229 c i a3 w3 a4 w4 a5 w5 a6 w6 a7 w7 a8 w8 a9 w9 a10 w10 a11 w11 a12 w12 a13 w13 a14 w14 x0 x1 xs0) shapeCasts_S1x1x1024_S1x1024 = (St x1 (QW x0 1) xs0 1 q0 ((i 2).val - 1)).1 := by
  obtain ⟨E0, E1, E2, E3⟩ := loopB c i a3 w3 a4 w4 a5 w5 a6 w6 a7 w7 a8 w8 a9 w9 a10 w10 a11 w11 a12 w12 a13 w13 a14 w14 hc1 x0 x1 xs0
  have E := congrArg (fun q : B3 => q.1) <| E3
  dsimp only at E
  unfold kernelRun0_B.sl.v229
  refine (hv_readAt 1 a12.view _ _ _).trans (Eq.trans ?_ E)
  unfold endC
  refine congrArg (fun X => hv (a12.view.read (Elt Ideal) X) 1) ?_
  have ht : (k0_t1_loop i).trips = Scf.trips (k0_t1_loop i).lb (k0_t1_loop i).ub (k0_t1_loop i).st := rfl
  rw [ht]
  generalize Scf.trips (k0_t1_loop i).lb (k0_t1_loop i).ub (k0_t1_loop i).st = t
  cases t <;> rfl

theorem B_l1 :
    shapeCast S1x1024 (kernelRun0_B.sl.v239 c i a3 w3 a4 w4 a5 w5 a6 w6 a7 w7 a8 w8 a9 w9 a10 w10 a11 w11 a12 w12 a13 w13 a14 w14 x0 x1 xs0) shapeCasts_S1x1x1024_S1x1024 = (St x1 (QW x0 1) xs0 1 q0 ((i 2).val - 1)).2.1 := by
  obtain ⟨E0, E1, E2, E3⟩ := loopB c i a3 w3 a4 w4 a5 w5 a6 w6 a7 w7 a8 w8 a9 w9 a10 w10 a11 w11 a12 w12 a13 w13 a14 w14 hc1 x0 x1 xs0
  have E := congrArg (fun q : B3 => q.2.1) <| E3
  dsimp only at E
  unfold kernelRun0_B.sl.v239
  refine (hv_readAt 1 a13.view _ _ _).trans (Eq.trans ?_ E)
  unfold endC
  refine congrArg (fun X => hv (a13.view.read (Elt Ideal) X) 1) ?_
  have ht : (k0_t1_loop i).trips = Scf.trips (k0_t1_loop i).lb (k0_t1_loop i).ub (k0_t1_loop i).st := rfl
  rw [ht]
  generalize Scf.trips (k0_t1_loop i).lb (k0_t1_loop i).ub (k0_t1_loop i).st = t
  cases t <;> rfl

theorem B_a1 :
    shapeCast S128x1024 (kernelRun0_B.sl.v264 c i a3 w3 a4 w4 a5 w5 a6 w6 a7 w7 a8 w8 a9 w9 a10 w10 a11 w11 a12 w12 a13 w13 a14 w14 x0 x1 xs0) shapeCasts_S1x128x1024_S128x1024 = (St x1 (QW x0 1) xs0 1 q0 ((i 2).val - 1)).2.2 := by
  obtain ⟨E0, E1, E2, E3⟩ := loopB c i a3 w3 a4 w4 a5 w5 a6 w6 a7 w7 a8 w8 a9 w9 a10 w10 a11 w11 a12 w12 a13 w13 a14 w14 hc1 x0 x1 xs0
  have E := congrArg (fun q : B3 => q.2.2) <| E3
  dsimp only at E
  unfold kernelRun0_B.sl.v264
  refine (hv_readAt 1 a14.view _ _ _).trans (Eq.trans ?_ E)
  unfold endC
  refine congrArg (fun X => hv (a14.view.read (Elt Ideal) X) 1) ?_
  have ht : (k0_t1_loop i).trips = Scf.trips (k0_t1_loop i).lb (k0_t1_loop i).ub (k0_t1_loop i).st := rfl
  rw [ht]
  generalize Scf.trips (k0_t1_loop i).lb (k0_t1_loop i).ub (k0_t1_loop i).st = t
  cases t <;> rfl

theorem B_v0 : (kernelRun0_B.sl.v258 i a9 w9 hc1 xs0) = VB xs0 0 ((i 2).val - 1) := by
  unfold kernelRun0_B.sl.v258
  refine (VB_eq 0 a9.view _ _ ((i 2).val - 1) (off15_eq i (cond1_odd i hc1)) _).trans ?_
  rw [w9.read_unread]

theorem B_v1 : (kernelRun0_B.sl.v270 i a9 w9 hc1 xs0) = VB xs0 1 ((i 2).val - 1) := by
  unfold kernelRun0_B.sl.v270
  refine (VB_eq 1 a9.view _ _ ((i 2).val - 1) (off16_eq i (cond1_odd i hc1)) _).trans ?_
  rw [w9.read_unread]

theorem B_MM0 : shapeCast S1x1024 (kernelRun0_B.sl.v299 c i a3 w3 a4 w4 a5 w5 a6 w6 a7 w7 a8 w8 a9 w9 a10 w10 a11 w11 a12 w12 a13 w13 a14 w14 x0 x1 xs0) shapeCasts_S1x1x1024_S1x1024 = (St x1 (QW x0 0) xs0 0 q0 (i 2).val).1 := by
  unfold kernelRun0_B.sl.v299 kernelRun0_B.sl.HS3_2
  rw [View.readCov_skip _ _ _ _ _ (by decide), View.readCov_cons_toLoadRect]
  unfold kernelRun0_B.sl.v225
  refine (shapeCast_shapeCast _ _ _).trans ?_
  show MN (shapeCast S512x1024 _ shapeCasts_S1x512x1024_S512x1024) (shapeCast S1x1024 _ shapeCasts_S1x1x1024_S1x1024) = _
  rw [B_s0 c i a3 w3 a4 w4 a5 w5 a6 w6 a7 w7 a8 w8 a9 w9 a10 w10 a11 w11 a12 w12 a13 w13 a14 w14 hc1 x0 x1 xs0, B_m0 c i a3 w3 a4 w4 a5 w5 a6 w6 a7 w7 a8 w8 a9 w9 a10 w10 a11 w11 a12 w12 a13 w13 a14 w14 hc1 x0 x1 xs0, St_pred _ _ _ _ (i 2).val (cond1_odd i hc1)]
  rfl

theorem B_LL0 : shapeCast S1x1024 (kernelRun0_B.sl.v309 c i a3 w3 a4 w4 a5 w5 a6 w6 a7 w7 a8 w8 a9 w9 a10 w10 a11 w11 a12 w12 a13 w13 a14 w14 x0 x1 xs0) shapeCasts_S1x1x1024_S1x1024 = (St x1 (QW x0 0) xs0 0 q0 (i 2).val).2.1 := by
  unfold kernelRun0_B.sl.v309 kernelRun0_B.sl.HS4_2
  rw [View.readCov_skip _ _ _ _ _ (by decide), View.readCov_cons_toLoadRect]
  unfold kernelRun0_B.sl.v222
  refine (shapeCast_shapeCast _ _ _).trans ?_
  show LN (shapeCast S512x1024 _ shapeCasts_S1x512x1024_S512x1024) (shapeCast S1x1024 _ shapeCasts_S1x1x1024_S1x1024) (shapeCast S1x1024 _ shapeCasts_S1x1x1024_S1x1024) = _
  rw [B_s0 c i a3 w3 a4 w4 a5 w5 a6 w6 a7 w7 a8 w8 a9 w9 a10 w10 a11 w11 a12 w12 a13 w13 a14 w14 hc1 x0 x1 xs0, B_m0 c i a3 w3 a4 w4 a5 w5 a6 w6 a7 w7 a8 w8 a9 w9 a10 w10 a11 w11 a12 w12 a13 w13 a14 w14 hc1 x0 x1 xs0, B_l0 c i a3 w3 a4 w4 a5 w5 a6 w6 a7 w7 a8 w8 a9 w9 a10 w10 a11 w11 a12 w12 a13 w13 a14 w14 hc1 x0 x1 xs0, St_pred _ _ _ _ (i 2).val (cond1_odd i hc1)]
  rfl

theorem B_AA0 : shapeCast S128x1024 (kernelRun0_B.sl.v368 c i a3 w3 a4 w4 a5 w5 a6 w6 a7 w7 a8 w8 a9 w9 a10 w10 a11 w11 a12 w12 a13 w13 a14 w14 hc1 x0 x1 xs0) shapeCasts_S1x128x1024_S128x1024 = (St x1 (QW x0 0) xs0 0 q0 (i 2).val).2.2 := by
  unfold kernelRun0_B.sl.v368 kernelRun0_B.sl.HS5_2
  rw [View.readCov_skip _ _ _ _ _ (by decide), View.readCov_cons_toLoadRect]
  unfold kernelRun0_B.sl.v263
  refine (shapeCast_shapeCast _ _ _).trans ?_
  show AN (shapeCast S512x1024 _ shapeCasts_S1x512x1024_S512x1024) (shapeCast S1x1024 _ shapeCasts_S1x1x1024_S1x1024) (shapeCast S128x1024 _ shapeCasts_S1x128x1024_S128x1024) _ = _
  rw [B_s0 c i a3 w3 a4 w4 a5 w5 a6 w6 a7 w7 a8 w8 a9 w9 a10 w10 a11 w11 a12 w12 a13 w13 a14 w14 hc1 x0 x1 xs0, B_m0 c i a3 w3 a4 w4 a5 w5 a6 w6 a7 w7 a8 w8 a9 w9 a10 w10 a11 w11 a12 w12 a13 w13 a14 w14 hc1 x0 x1 xs0, B_a0 c i a3 w3 a4 w4 a5 w5 a6 w6 a7 w7 a8 w8 a9 w9 a10 w10 a11 w11 a12 w12 a13 w13 a14 w14 hc1 x0 x1 xs0, B_v0 c i a3 w3 a4 w4 a5 w5 a6 w6 a7 w7 a8 w8 a9 w9 a10 w10 a11 w11 a12 w12 a13 w13 a14 w14 hc1 x0 x1 xs0, St_pred _ _ _ _ (i 2).val (cond1_odd i hc1)]
  rfl

theorem B_MM1 : shapeCast S1x1024 (kernelRun0_B.sl.v345 c i a3 w3 a4 w4 a5 w5 a6 w6 a7 w7 a8 w8 a9 w9 a10 w10 a11 w11 a12 w12 a13 w13 a14 w14 hc1 x0 x1 xs0) shapeCasts_S1x1x1024_S1x1024 = (St x1 (QW x0 1) xs0 1 q0 (i 2).val).1 := by
  unfold kernelRun0_B.sl.v345 kernelRun0_B.sl.HS3_3 kernelRun0_B.sl.HS3_2
  rw [View.readCov_skip _ _ _ _ _ (by decide), View.readCov_cons_toLoadRect]
  unfold kernelRun0_B.sl.v250
  refine (shapeCast_shapeCast _ _ _).trans ?_
  show MN (shapeCast S512x1024 _ shapeCasts_S1x512x1024_S512x1024) (shapeCast S1x1024 _ shapeCasts_S1x1x1024_S1x1024) = _
  rw [B_s1 c i a3 w3 a4 w4 a5 w5 a6 w6 a7 w7 a8 w8 a9 w9 a10 w10 a11 w11 a12 w12 a13 w13 a14 w14 hc1 x0 x1 xs0, B_m1 c i a3 w3 a4 w4 a5 w5 a6 w6 a7 w7 a8 w8 a9 w9 a10 w10 a11 w11 a12 w12 a13 w13 a14 w14 hc1 x0 x1 xs0, St_pred _ _ _ _ (i 2).val (cond1_odd i hc1)]
  rfl

theorem B_LL1 : shapeCast S1x1024 (kernelRun0_B.sl.v355 c i a3 w3 a4 w4 a5 w5 a6 w6 a7 w7 a8 w8 a9 w9 a10 w10 a11 w11 a12 w12 a13 w13 a14 w14 hc1 x0 x1 xs0) shapeCasts_S1x1x1024_S1x1024 = (St x1 (QW x0 1) xs0 1 q0 (i 2).val).2.1 := by
  unfold kernelRun0_B.sl.v355 kernelRun0_B.sl.HS4_3 kernelRun0_B.sl.HS4_2
  rw [View.readCov_skip _ _ _ _ _ (by decide), View.readCov_cons_toLoadRect]
  unfold kernelRun0_B.sl.v247
  refine (shapeCast_shapeCast _ _ _).trans ?_
  show LN (shapeCast S512x1024 _ shapeCasts_S1x512x1024_S512x1024) (shapeCast S1x1024 _ shapeCasts_S1x1x1024_S1x1024) (shapeCast S1x1024 _ shapeCasts_S1x1x1024_S1x1024) = _
  rw [B_s1 c i a3 w3 a4 w4 a5 w5 a6 w6 a7 w7 a8 w8 a9 w9 a10 w10 a11 w11 a12 w12 a13 w13 a14 w14 hc1 x0 x1 xs0, B_m1 c i a3 w3 a4 w4 a5 w5 a6 w6 a7 w7 a8 w8 a9 w9 a10 w10 a11 w11 a12 w12 a13 w13 a14 w14 hc1 x0 x1 xs0, B_l1 c i a3 w3 a4 w4 a5 w5 a6 w6 a7 w7 a8 w8 a9 w9 a10 w10 a11 w11 a12 w12 a13 w13 a14 w14 hc1 x0 x1 xs0, St_pred _ _ _ _ (i 2).val (cond1_odd i hc1)]
  rfl

theorem B_AA1 : shapeCast S128x1024 (kernelRun0_B.sl.v380 c i a3 w3 a4 w4 a5 w5 a6 w6 a7 w7 a8 w8 a9 w9 a10 w10 a11 w11 a12 w12 a13 w13 a14 w14 hc1 x0 x1 xs0) shapeCasts_S1x128x1024_S128x1024 = (St x1 (QW x0 1) xs0 1 q0 (i 2).val).2.2 := by
  unfold kernelRun0_B.sl.v380 kernelRun0_B.sl.HS5_3 kernelRun0_B.sl.HS5_2
  rw [View.readCov_skip _ _ _ _ _ (by decide), View.readCov_cons_toLoadRect]
  unfold kernelRun0_B.sl.v275
  refine (shapeCast_shapeCast _ _ _).trans ?_
  show AN (shapeCast S512x1024 _ shapeCasts_S1x512x1024_S512x1024) (shapeCast S1x1024 _ shapeCasts_S1x1x1024_S1x1024) (shapeCast S128x1024 _ shapeCasts_S1x128x1024_S128x1024) _ = _
  rw [B_s1 c i a3 w3 a4 w4 a5 w5 a6 w6 a7 w7 a8 w8 a9 w9 a10 w10 a11 w11 a12 w12 a13 w13 a14 w14 hc1 x0 x1 xs0, B_m1 c i a3 w3 a4 w4 a5 w5 a6 w6 a7 w7 a8 w8 a9 w9 a10 w10 a11 w11 a12 w12 a13 w13 a14 w14 hc1 x0 x1 xs0, B_a1 c i a3 w3 a4 w4 a5 w5 a6 w6 a7 w7 a8 w8 a9 w9 a10 w10 a11 w11 a12 w12 a13 w13 a14 w14 hc1 x0 x1 xs0, B_v1 c i a3 w3 a4 w4 a5 w5 a6 w6 a7 w7 a8 w8 a9 w9 a10 w10 a11 w11 a12 w12 a13 w13 a14 w14 hc1 x0 x1 xs0, St_pred _ _ _ _ (i 2).val (cond1_odd i hc1)]
  rfl

theorem B_b0 : (kernelRun0_B.sl.v277 c i a3 w3 a4 w4 a11 hc1 x0 x1) = (SC x1 (QW x0 0) 0 (i 2).val) := by
  unfold kernelRun0_B.sl.v277 kernelRun0_B.sl.v276 kernelRun0_B.sl.HS2_2
  rw [View.readCov_skip _ _ _ _ _ (by decide), View.readCov_cons_toLoadRect]
  unfold kernelRun0_B.sl.v193 kernelRun0_B.sl.v190 kernelRun0_B.sl.v189
  refine (shapeCast_shapeCast _ _ _).trans ?_
  refine (SC_eq 0 a4.view (w4.unread x1) (kernelRun0_B.sl.r c a3 w3 x0) _ (i 2).val (off13_eq i) _).trans ?_
  have e0 : (kernelRun0_B.sl.r c a3 w3 x0) = QW x0 0 := pay157_read0 a3 w3 x0 _
  rw [e0, w4.read_unread]

theorem B_b1 : shapeCast S512x1024 (kernelRun0_B.sl.v322 c i a3 w3 a4 w4 a11 hc1 x0 x1) shapeCasts_S1x512x1024_S512x1024 = (SC x1 (QW x0 1) 1 (i 2).val) := by
  unfold kernelRun0_B.sl.v322 kernelRun0_B.sl.HS2_2
  rw [View.readCov_cons_toLoadRect]
  unfold kernelRun0_B.sl.v200 kernelRun0_B.sl.v197 kernelRun0_B.sl.v196
  refine (shapeCast_shapeCast _ _ _).trans ?_
  refine (SC_eq 1 a4.view (w4.unread x1) (kernelRun0_B.sl.r_1 c a3 w3 x0) _ (i 2).val (off14_eq i) _).trans ?_
  have e1 : (kernelRun0_B.sl.r_1 c a3 w3 x0) = QW x0 1 := pay158_read1 a3 w3 x0 _
  rw [e1, w4.read_unread]

end

end

theorem B_w (off : Fin 4 → ℕ) (hd : Fin 2) (j : ℕ) (ho : off = ![hd.val, j, 0, 0]) (a9 : Memref sig .tc .vmem S2x8x128x512 .bf16) (w9 : a9.IsWhole) (xs0 : Vec Ideal S2x8x128x512 .bf16) (inb : ∀ a, off a + S1x1x128x512.size a ≤ S2x8x128x512.size a) :
    shapeCast S128x512 (a9.view.readAt (Elt Ideal) (Rect.unit (s := S2x8x128x512) off S1x1x128x512.size inb).toLoadRect (w9.unread xs0)) shapeCasts_S1x1x128x512_S128x512 = VB xs0 hd j := by
  refine (VB_eq hd a9.view _ _ j ho _).trans ?_
  rw [w9.read_unread]

section

variable (c : Dev nD) (i : grid0.Coords) (a3 : Memref sig .tc .vmem S512x256 .bf16) (w3 : a3.IsWhole) (a4 : Memref sig .tc .vmem S4096x256 .bf16) (w4 : a4.IsWhole) (a5 : Memref sig .tc .vmem S4096x256 .bf16) (w5 : a5.IsWhole) (a6 : Memref sig .tc .vmem S4x64 .f32) (w6 : a6.IsWhole) (a7 : Memref sig .tc .vmem S2x1x128 .f32) (w7 : a7.IsWhole) (a8 : Memref sig .tc .vmem S512x256 .bf16) (w8 : a8.IsWhole) (a9 : Memref sig .tc .vmem S2x8x128x512 .bf16) (w9 : a9.IsWhole) (a10 : Memref sig .tc .vmem S2x512x1024 .f32) (w10 : a10.IsWhole) (a11 : Memref sig .tc .vmem S2x512x1024 .f32) (w11 : a11.IsWhole) (a12 : Memref sig .tc .vmem S2x1x1024 .f32) (w12 : a12.IsWhole) (a13 : Memref sig .tc .vmem S2x1x1024 .f32) (w13 : a13.IsWhole) (a14 : Memref sig .tc .vmem S2x128x1024 .f32) (w14 : a14.IsWhole)
include c i a3 w3 a4 w4 a5 w5 a6 w6 a7 w7 a8 w8 a9 w9 a10 w10 a11 w11 a12 w12 a13 w13 a14 w14

theorem B_L0 (hc1 : k0_cond2 i = 1#1) (x0 : Vec Ideal S512x256 .bf16) (x1 : Vec Ideal S4096x256 .bf16) (xs0 : Vec Ideal S2x8x128x512 .bf16) : shapeCast S1x1024 (kernelRun0_B.sl.v127 c i a3 w3 a4 w4 a5 w5 a6 w6 a7 w7 a8 w8 a9 w9 a10 w10 a11 w11 a12 w12 a13 w13 a14 w14 hc1 x0 x1 xs0) shapeCasts_S1x1x1024_S1x1024 = (FIN x1 (QW x0 0) xs0 0 (i 2).val).2.1 := by
  unfold kernelRun0_B.sl.v127 kernelRun0_B.sl.HS4_4 kernelRun0_B.sl.HS4_3
  rw [View.readCov_skip _ _ _ _ _ (by decide), View.readCov_cons_toLoadRect]
  refine (shapeCast_shapeCast _ _ _).trans ?_
  refine (congrArg (fun s => LN s (shapeCast S1x1024 (kernelRun0_B.sl.v299 c i a3 w3 a4 w4 a5 w5 a6 w6 a7 w7 a8 w8 a9 w9 a10 w10 a11 w11 a12 w12 a13 w13 a14 w14 x0 x1 xs0) shapeCasts_S1x1x1024_S1x1024) (shapeCast S1x1024 (kernelRun0_B.sl.v309 c i a3 w3 a4 w4 a5 w5 a6 w6 a7 w7 a8 w8 a9 w9 a10 w10 a11 w11 a12 w12 a13 w13 a14 w14 x0 x1 xs0) shapeCasts_S1x1x1024_S1x1024)) (pay120_eq (kernelRun0_B.sl.v277 c i a3 w3 a4 w4 a11 hc1 x0 x1))).trans ?_
  rw [B_b0 c i a3 w3 a4 w4 a5 w5 a6 w6 a7 w7 a8 w8 a9 w9 a10 w10 a11 w11 a12 w12 a13 w13 a14 w14 hc1 x0 x1 xs0, B_MM0 c i a3 w3 a4 w4 a5 w5 a6 w6 a7 w7 a8 w8 a9 w9 a10 w10 a11 w11 a12 w12 a13 w13 a14 w14 hc1 x0 x1 xs0, B_LL0 c i a3 w3 a4 w4 a5 w5 a6 w6 a7 w7 a8 w8 a9 w9 a10 w10 a11 w11 a12 w12 a13 w13 a14 w14 hc1 x0 x1 xs0]
  rfl

theorem B_L1 (hc1 : k0_cond2 i = 1#1) (x0 : Vec Ideal S512x256 .bf16) (x1 : Vec Ideal S4096x256 .bf16) (xs0 : Vec Ideal S2x8x128x512 .bf16) : shapeCast S1x1024 (kernelRun0_B.sl.v157 c i a3 w3 a4 w4 a5 w5 a6 w6 a7 w7 a8 w8 a9 w9 a10 w10 a11 w11 a12 w12 a13 w13 a14 w14 hc1 x0 x1 xs0) shapeCasts_S1x1x1024_S1x1024 = (FIN x1 (QW x0 1) xs0 1 (i 2).val).2.1 := by
  unfold kernelRun0_B.sl.v157 kernelRun0_B.sl.HS4_4
  rw [View.readCov_cons_toLoadRect]
  unfold kernelRun0_B.sl.r_7
  refine (shapeCast_shapeCast _ _ _).trans ?_
  show LN (k0_pay128 _) (shapeCast S1x1024 _ shapeCasts_S1x1x1024_S1x1024) (shapeCast S1x1024 _ shapeCasts_S1x1x1024_S1x1024) = _
  rw [pay128_eq, B_b1 c i a3 w3 a4 w4 a5 w5 a6 w6 a7 w7 a8 w8 a9 w9 a10 w10 a11 w11 a12 w12 a13 w13 a14 w14 hc1 x0 x1 xs0, B_MM1 c i a3 w3 a4 w4 a5 w5 a6 w6 a7 w7 a8 w8 a9 w9 a10 w10 a11 w11 a12 w12 a13 w13 a14 w14 hc1 x0 x1 xs0, B_LL1 c i a3 w3 a4 w4 a5 w5 a6 w6 a7 w7 a8 w8 a9 w9 a10 w10 a11 w11 a12 w12 a13 w13 a14 w14 hc1 x0 x1 xs0]
  rfl

theorem B_A0 (hc1 : k0_cond2 i = 1#1) (x0 : Vec Ideal S512x256 .bf16) (x1 : Vec Ideal S4096x256 .bf16) (xs0 : Vec Ideal S2x8x128x512 .bf16) : shapeCast S128x1024 (kernelRun0_B.sl.v125 c i a3 w3 a4 w4 a5 w5 a6 w6 a7 w7 a8 w8 a9 w9 a10 w10 a11 w11 a12 w12 a13 w13 a14 w14 hc1 x0 x1 xs0) shapeCasts_S1x128x1024_S128x1024 = (FIN x1 (QW x0 0) xs0 0 (i 2).val).2.2 := by
  have hw := fun inb => B_w (k0_off17 i) 0 (i 2).val (off17_eq i) a9 w9 xs0 inb
  unfold kernelRun0_B.sl.v125 kernelRun0_B.sl.HS5_4 kernelRun0_B.sl.HS5_3
  rw [View.readCov_skip _ _ _ _ _ (by decide), View.readCov_cons_toLoadRect]
  refine (shapeCast_shapeCast _ _ _).trans ?_
  refine (congrArg (fun s => AN s (shapeCast S1x1024 (kernelRun0_B.sl.v299 c i a3 w3 a4 w4 a5 w5 a6 w6 a7 w7 a8 w8 a9 w9 a10 w10 a11 w11 a12 w12 a13 w13 a14 w14 x0 x1 xs0) shapeCasts_S1x1x1024_S1x1024) (shapeCast S128x1024 (kernelRun0_B.sl.v368 c i a3 w3 a4 w4 a5 w5 a6 w6 a7 w7 a8 w8 a9 w9 a10 w10 a11 w11 a12 w12 a13 w13 a14 w14 hc1 x0 x1 xs0) shapeCasts_S1x128x1024_S128x1024) (shapeCast S128x512 _ shapeCasts_S1x1x128x512_S128x512)) (pay120_eq (kernelRun0_B.sl.v277 c i a3 w3 a4 w4 a11 hc1 x0 x1))).trans ?_
  rw [B_b0 c i a3 w3 a4 w4 a5 w5 a6 w6 a7 w7 a8 w8 a9 w9 a10 w10 a11 w11 a12 w12 a13 w13 a14 w14 hc1 x0 x1 xs0, B_MM0 c i a3 w3 a4 w4 a5 w5 a6 w6 a7 w7 a8 w8 a9 w9 a10 w10 a11 w11 a12 w12 a13 w13 a14 w14 hc1 x0 x1 xs0, B_AA0 c i a3 w3 a4 w4 a5 w5 a6 w6 a7 w7 a8 w8 a9 w9 a10 w10 a11 w11 a12 w12 a13 w13 a14 w14 hc1 x0 x1 xs0, hw]
  rfl

theorem B_A1 (hc1 : k0_cond2 i = 1#1) (x0 : Vec Ideal S512x256 .bf16) (x1 : Vec Ideal S4096x256 .bf16) (xs0 : Vec Ideal S2x8x128x512 .bf16) : shapeCast S128x1024 (kernelRun0_B.sl.v155 c i a3 w3 a4 w4 a5 w5 a6 w6 a7 w7 a8 w8 a9 w9 a10 w10 a11 w11 a12 w12 a13 w13 a14 w14 hc1 x0 x1 xs0) shapeCasts_S1x128x1024_S128x1024 = (FIN x1 (QW x0 1) xs0 1 (i 2).val).2.2 := by
  have hw := fun inb => B_w (k0_off18 i) 1 (i 2).val (off18_eq i) a9 w9 xs0 inb
  unfold kernelRun0_B.sl.v155 kernelRun0_B.sl.HS5_4
  rw [View.readCov_cons_toLoadRect]
  refine (shapeCast_shapeCast _ _ _).trans ?_
  show AN (k0_pay128 _) (shapeCast S1x1024 _ shapeCasts_S1x1x1024_S1x1024) (shapeCast S128x1024 _ shapeCasts_S1x128x1024_S128x1024) (shapeCast S128x512 _ shapeCasts_S1x1x128x512_S128x512) = _
  rw [pay128_eq, B_b1 c i a3 w3 a4 w4 a5 w5 a6 w6 a7 w7 a8 w8 a9 w9 a10 w10 a11 w11 a12 w12 a13 w13 a14 w14 hc1 x0 x1 xs0, B_MM1 c i a3 w3 a4 w4 a5 w5 a6 w6 a7 w7 a8 w8 a9 w9 a10 w10 a11 w11 a12 w12 a13 w13 a14 w14 hc1 x0 x1 xs0, B_AA1 c i a3 w3 a4 w4 a5 w5 a6 w6 a7 w7 a8 w8 a9 w9 a10 w10 a11 w11 a12 w12 a13 w13 a14 w14 hc1 x0 x1 xs0, hw]
  rfl

/-- The stored block: head `hd` in columns `128 hd … 128 hd + 127`. -/
theorem outB_apply (hc0 : ¬cond0_0 i) (hc1 : cond0_1 i) (hc2 : ¬cond0_2 i) (x0 : Vec Ideal S512x256 .bf16) (x1 x2 : Vec Ideal S4096x256 .bf16) (x3 : Vec Ideal S4x64 .f32) (x4 : Vec Ideal S2x1x128 .f32) (xs0 : Vec Ideal S2x8x128x512 .bf16) {sgn : RefSig} {κ' : Kind} {sp : Space} (v : View sgn κ' sp S512x256 .bf16) (f : v.ty.Contents (Elt Ideal)) (r : Fin 512) (hd : Fin 2) (d : Fin 128) :
    v.read (Elt Ideal) (v.writes (Elt Ideal) f (kernelRun0_B c i a3 w3 a4 w4 a5 w5 a6 w6 a7 w7 a8 w8 a9 w9 a10 w10 a11 w11 a12 w12 a13 w13 a14 w14 hc0 hc1 hc2 x0 x1 x2 x3 x4 xs0).1) (ix2 r ⟨128 * hd.val + d.val, by omega⟩)
      = OUTB x0 x1 xs0 x3 x4 (i 2).val hd (ix2 r d) := by
  have hk : (a6.view.readAt (Elt Ideal) (Rect.unit (s := S4x64) ![0, 0] S4x64.size inb_S4x64_S4x64_0_0).toLoadRect (w6.unread x3)) = x3 := pay169_read a6 w6 x3 _
  match hd with
  | ⟨0, _⟩ =>
    refine (cols0 v f _ _ _ _ _ r d _ (by show 128 * 0 + d.val = d.val; omega)).trans (congrFun ?_ (ix2 r d))
    show OG (ON (k0_pay169 (a6.view.readAt (Elt Ideal) (Rect.unit (s := S4x64) ![0, 0] S4x64.size inb_S4x64_S4x64_0_0).toLoadRect (w6.unread x3))) (shapeCast S1x1024 _ shapeCasts_S1x1x1024_S1x1024) (shapeCast S128x1024 _ shapeCasts_S1x128x1024_S128x1024)) (shapeCast S1x128 _ _) = _
    rw [hk, B_L0 c i a3 w3 a4 w4 a5 w5 a6 w6 a7 w7 a8 w8 a9 w9 a10 w10 a11 w11 a12 w12 a13 w13 a14 w14 hc1 x0 x1 xs0, B_A0 c i a3 w3 a4 w4 a5 w5 a6 w6 a7 w7 a8 w8 a9 w9 a10 w10 a11 w11 a12 w12 a13 w13 a14 w14 hc1 x0 x1 xs0]
    refine congrArg (OG _) ((hv_readAt 0 a7.view _ _ _).trans ?_)
    rw [w7.read_unread]
    rfl
  | ⟨1, _⟩ =>
    refine (cols1 v f _ _ _ r d _ (by show 128 * 1 + d.val = 128 + d.val; omega)).trans (congrFun ?_ (ix2 r d))
    show OG (ON (k0_pay169 (a6.view.readAt (Elt Ideal) (Rect.unit (s := S4x64) ![0, 0] S4x64.size inb_S4x64_S4x64_0_0).toLoadRect (w6.unread x3))) (shapeCast S1x1024 _ shapeCasts_S1x1x1024_S1x1024) (shapeCast S128x1024 _ shapeCasts_S1x128x1024_S128x1024)) (shapeCast S1x128 _ _) = _
    rw [hk, B_L1 c i a3 w3 a4 w4 a5 w5 a6 w6 a7 w7 a8 w8 a9 w9 a10 w10 a11 w11 a12 w12 a13 w13 a14 w14 hc1 x0 x1 xs0, B_A1 c i a3 w3 a4 w4 a5 w5 a6 w6 a7 w7 a8 w8 a9 w9 a10 w10 a11 w11 a12 w12 a13 w13 a14 w14 hc1 x0 x1 xs0]
    refine congrArg (OG _) ((hv_readAt 1 a7.view _ _ _).trans ?_)
    rw [w7.read_unread]
    rfl

end

end Cert.AttnIdeal.Val

end
-- ==== Proof.AttnCaseC.lean ====
module

public import proofs.«01_k».proof.Proof.AttnCase
public import proofs.«01_k».proof.Proof.AttnRunC

/-! What a visit of an even block of queries after the first stores: the final state of its two heads, taken apart. -/

@[expose] public section

set_option maxRecDepth 16384

noncomputable section

namespace Cert.AttnIdeal.Val

open Cert.AttnIdeal Cert.AttnIdeal.Gen
open Idealize.ShloMosaic Idealize.ShloMosaic.TcCoe Idealize.SL.Sem

section

variable (c : Dev nD) (i : grid0.Coords) (a3 : Memref sig .tc .vmem S512x256 .bf16) (w3 : a3.IsWhole) (a4 : Memref sig .tc .vmem S4096x256 .bf16) (w4 : a4.IsWhole) (a5 : Memref sig .tc .vmem S4096x256 .bf16) (w5 : a5.IsWhole) (a6 : Memref sig .tc .vmem S4x64 .f32) (w6 : a6.IsWhole) (a7 : Memref sig .tc .vmem S2x1x128 .f32) (w7 : a7.IsWhole) (a8 : Memref sig .tc .vmem S512x256 .bf16) (w8 : a8.IsWhole) (a9 : Memref sig .tc .vmem S2x8x128x512 .bf16) (w9 : a9.IsWhole) (a10 : Memref sig .tc .vmem S2x512x1024 .f32) (w10 : a10.IsWhole) (a11 : Memref sig .tc .vmem S2x512x1024 .f32) (w11 : a11.IsWhole) (a12 : Memref sig .tc .vmem S2x1x1024 .f32) (w12 : a12.IsWhole) (a13 : Memref sig .tc .vmem S2x1x1024 .f32) (w13 : a13.IsWhole) (a14 : Memref sig .tc .vmem S2x128x1024 .f32) (w14 : a14.IsWhole)
include c i a3 w3 a4 w4 a5 w5 a6 w6 a7 w7 a8 w8 a9 w9 a10 w10 a11 w11 a12 w12 a13 w13 a14 w14

section
variable (hc2 : k0_cond3 i = 1#1) (x0 : Vec Ideal S512x256 .bf16) (x1 : Vec Ideal S4096x256 .bf16) (xs0 : Vec Ideal S2x8x128x512 .bf16)
include hc2 x0 x1 xs0

set_option maxHeartbeats 1000000 in
/-- The scores and the states the loop leaves. -/
theorem loopC :
    (fun P : BufTy.Contents (Elt Ideal) a10.view.ty × BufTy.Contents (Elt Ideal) a12.view.ty × BufTy.Contents (Elt Ideal) a13.view.ty × BufTy.Contents (Elt Ideal) a14.view.ty =>
      hv (a10.view.read (Elt Ideal) P.1) 0 = SC x1 (QW x0 0) 0 (i 2).val ∧ hv (a10.view.read (Elt Ideal) P.1) 1 = SC x1 (QW x0 1) 1 (i 2).val
      ∧ (hv (a12.view.read (Elt Ideal) P.2.1) 0, hv (a13.view.read (Elt Ideal) P.2.2.1) 0, hv (a14.view.read (Elt Ideal) P.2.2.2) 0) = St x1 (QW x0 0) xs0 0 q0 (i 2).val
      ∧ (hv (a12.view.read (Elt Ideal) P.2.1) 1, hv (a13.view.read (Elt Ideal) P.2.2.1) 1, hv (a14.view.read (Elt Ideal) P.2.2.2) 1) = St x1 (QW x0 1) xs0 1 q0 (i 2).val)
    (endC c i a3 w3 a4 w4 a5 w5 a6 w6 a7 w7 a8 w8 a9 w9 a10 w10 a11 w11 a12 w12 a13 w13 a14 w14 (kernelRun0_C.sl.r c a3 w3 x0) (kernelRun0_C.sl.r_1 c a3 w3 x0) (kernelRun0_C.sl.v60 i) (kernelRun0_C.sl.v65 i) (w4.unread x1) (w9.unread xs0) (a10.view.writes (Elt Ideal) a10.view.junk (kernelRun0_C.sl.HS1_2 c a3 w3 a4 w4 x0 x1)) (a12.view.writes (Elt Ideal) a12.view.junk kernelRun0_C.sl.HS3_1) (a13.view.writes (Elt Ideal) a13.view.junk kernelRun0_C.sl.HS4_1) (a14.view.writes (Elt Ideal) a14.view.junk kernelRun0_C.sl.HS5_1)) := by
  have t := end_state c i a3 w3 a4 w4 a5 w5 a6 w6 a7 w7 a8 w8 a9 w9 a10 w10 a11 w11 a12 w12 a13 w13 a14 w14 (kernelRun0_C.sl.r c a3 w3 x0) (kernelRun0_C.sl.r_1 c a3 w3 x0) (kernelRun0_C.sl.v60 i) (kernelRun0_C.sl.v65 i) (w4.unread x1) (w9.unread xs0) a10.view.junk a12.view.junk a13.view.junk a14.view.junk
  have he := cond2_even i hc2
  have e0 : (kernelRun0_C.sl.r c a3 w3 x0) = QW x0 0 := pay157_read0 a3 w3 x0 _
  have e1 : (kernelRun0_C.sl.r_1 c a3 w3 x0) = QW x0 1 := pay158_read1 a3 w3 x0 _
  refine ⟨t.1.trans ?_, t.2.1.trans ?_, t.2.2.1.trans ?_, t.2.2.2.trans ?_⟩
  · rw [he, e0, w4.read_unread]
  · rw [he, e1, w4.read_unread]
  · rw [he, e0, w4.read_unread, w9.read_unread]
  · rw [he, e1, w4.read_unread, w9.read_unread]

theorem C_s0 :
    shapeCast S512x1024 (kernelRun0_C.sl.v185 c i a3 w3 a4 w4 a5 w5 a6 w6 a7 w7 a8 w8 a9 w9 a10 w10 a11 w11 a12 w12 a13 w13 a14 w14 x0 x1 xs0) shapeCasts_S1x512x1024_S512x1024 = (SC x1 (QW x0 0) 0 (i 2).val) := by
  obtain ⟨E0, E1, E2, E3⟩ := loopC c i a3 w3 a4 w4 a5 w5 a6 w6 a7 w7 a8 w8 a9 w9 a10 w10 a11 w11 a12 w12 a13 w13 a14 w14 hc2 x0 x1 xs0
  have E := E0
  dsimp only at E
  unfold kernelRun0_C.sl.v185
  refine (hv_readAt 0 a10.view _ _ _).trans (Eq.trans ?_ E)
  unfold endC
  refine congrArg (fun X => hv (a10.view.read (Elt Ideal) X) 0) ?_
  have ht : (k0_t1_loop i).trips = Scf.trips (k0_t1_loop i).lb (k0_t1_loop i).ub (k0_t1_loop i).st := rfl
  rw [ht]
  generalize Scf.trips (k0_t1_loop i).lb (k0_t1_loop i).ub (k0_t1_loop i).st = t
  generalize a10.view.writes (Elt Ideal) a10.view.junk (kernelRun0_C.sl.HS1_2 c a3 w3 a4 w4 x0 x1) = g10
  cases t <;> rfl

theorem C_m0 :
    shapeCast S1x1024 (kernelRun0_C.sl.v208 c i a3 w3 a4 w4 a5 w5 a6 w6 a7 w7 a8 w8 a9 w9 a10 w10 a11 w11 a12 w12 a13 w13 a14 w14 x0 x1 xs0) shapeCasts_S1x1x1024_S1x1024 = (St x1 (QW x0 0) xs0 0 q0 (i 2).val).1 := by
  obtain ⟨E0, E1, E2, E3⟩ := loopC c i a3 w3 a4 w4 a5 w5 a6 w6 a7 w7 a8 w8 a9 w9 a10 w10 a11 w11 a12 w12 a13 w13 a14 w14 hc2 x0 x1 xs0
  have E := congrArg (fun q : B3 => q.1) <| E2
  dsimp only at E
  unfold kernelRun0_C.sl.v208
  refine (hv_readAt 0 a12.view _ _ _).trans (Eq.trans ?_ E)
  unfold endC
  refine congrArg (fun X => hv (a12.view.read (Elt Ideal) X) 0) ?_
  have ht : (k0_t1_loop i).trips = Scf.trips (k0_t1_loop i).lb (k0_t1_loop i).ub (k0_t1_loop i).st := rfl
  rw [ht]
  generalize Scf.trips (k0_t1_loop i).lb (k0_t1_loop i).ub (k0_t1_loop i).st = t
  cases t <;> rfl

theorem C_l0 :
    shapeCast S1x1024 (kernelRun0_C.sl.v218 c i a3 w3 a4 w4 a5 w5 a6 w6 a7 w7 a8 w8 a9 w9 a10 w10 a11 w11 a12 w12 a13 w13 a14 w14 x0 x1 xs0) shapeCasts_S1x1x1024_S1x1024 = (St x1 (QW x0 0) xs0 0 q0 (i 2).val).2.1 := by
  obtain ⟨E0, E1, E2, E3⟩ := loopC c i a3 w3 a4 w4 a5 w5 a6 w6 a7 w7 a8 w8 a9 w9 a10 w10 a11 w11 a12 w12 a13 w13 a14 w14 hc2 x0 x1 xs0
  have E := congrArg (fun q : B3 => q.2.1) <| E2
  dsimp only at E
  unfold kernelRun0_C.sl.v218
  refine (hv_readAt 0 a13.view _ _ _).trans (Eq.trans ?_ E)
  unfold endC
  refine congrArg (fun X => hv (a13.view.read (Elt Ideal) X) 0) ?_
  have ht : (k0_t1_loop i).trips = Scf.trips (k0_t1_loop i).lb (k0_t1_loop i).ub (k0_t1_loop i).st := rfl
  rw [ht]
  generalize Scf.trips (k0_t1_loop i).lb (k0_t1_loop i).ub (k0_t1_loop i).st = t
  cases t <;> rfl

theorem C_a0 :
    shapeCast S128x1024 (kernelRun0_C.sl.v277 c i a3 w3 a4 w4 a5 w5 a6 w6 a7 w7 a8 w8 a9 w9 a10 w10 a11 w11 a12 w12 a13 w13 a14 w14 x0 x1 xs0) shapeCasts_S1x128x1024_S128x1024 = (St x1 (QW x0 0) xs0 0 q0 (i 2).val).2.2 := by
  obtain ⟨E0, E1, E2, E3⟩ := loopC c i a3 w3 a4 w4 a5 w5 a6 w6 a7 w7 a8 w8 a9 w9 a10 w10 a11 w11 a12 w12 a13 w13 a14 w14 hc2 x0 x1 xs0
  have E := congrArg (fun q : B3 => q.2.2) <| E2
  dsimp only at E
  unfold kernelRun0_C.sl.v277
  refine (hv_readAt 0 a14.view _ _ _).trans (Eq.trans ?_ E)
  unfold endC
  refine congrArg (fun X => hv (a14.view.read (Elt Ideal) X) 0) ?_
  have ht : (k0_t1_loop i).trips = Scf.trips (k0_t1_loop i).lb (k0_t1_loop i).ub (k0_t1_loop i).st := rfl
  rw [ht]
  generalize Scf.trips (k0_t1_loop i).lb (k0_t1_loop i).ub (k0_t1_loop i).st = t
  cases t <;> rfl

theorem C_s1 :
    shapeCast S512x1024 (kernelRun0_C.sl.v231 c i a3 w3 a4 w4 a5 w5 a6 w6 a7 w7 a8 w8 a9 w9 a10 w10 a11 w11 a12 w12 a13 w13 a14 w14 x0 x1 xs0) shapeCasts_S1x512x1024_S512x1024 = (SC x1 (QW x0 1) 1 (i 2).val) := by
  obtain ⟨E0, E1, E2, E3⟩ := loopC c i a3 w3 a4 w4 a5 w5 a6 w6 a7 w7 a8 w8 a9 w9 a10 w10 a11 w11 a12 w12 a13 w13 a14 w14 hc2 x0 x1 xs0
  have E := E1
  dsimp only at E
  unfold kernelRun0_C.sl.v231
  refine (hv_readAt 1 a10.view _ _ _).trans (Eq.trans ?_ E)
  unfold endC
  refine congrArg (fun X => hv (a10.view.read (Elt Ideal) X) 1) ?_
  have ht : (k0_t1_loop i).trips = Scf.trips (k0_t1_loop i).lb (k0_t1_loop i).ub (k0_t1_loop i).st := rfl
  rw [ht]
  generalize Scf.trips (k0_t1_loop i).lb (k0_t1_loop i).ub (k0_t1_loop i).st = t
  generalize a10.view.writes (Elt Ideal) a10.view.junk (kernelRun0_C.sl.HS1_2 c a3 w3 a4 w4 x0 x1) = g10
  cases t <;> rfl

theorem C_m1 :
    shapeCast S1x1024 (kernelRun0_C.sl.v254 c i a3 w3 a4 w4 a5 w5 a6 w6 a7 w7 a8 w8 a9 w9 a10 w10 a11 w11 a12 w12 a13 w13 a14 w14 x0 x1 xs0) shapeCasts_S1x1x1024_S1x1024 = (St x1 (QW x0 1) xs0 1 q0 (i 2).val).1 := by
  obtain ⟨E0, E1, E2, E3⟩ := loopC c i a3 w3 a4 w4 a5 w5 a6 w6 a7 w7 a8 w8 a9 w9 a10 w10 a11 w11 a12 w12 a13 w13 a14 w14 hc2 x0 x1 xs0
  have E := congrArg (fun q : B3 => q.1) <| E3
  dsimp only at E
  unfold kernelRun0_C.sl.v254
  refine (hv_readAt 1 a12.view _ _ _).trans (Eq.trans ?_ E)
  unfold endC
  refine congrArg (fun X => hv (a12.view.read (Elt Ideal) X) 1) ?_
  have ht : (k0_t1_loop i).trips = Scf.trips (k0_t1_loop i).lb (k0_t1_loop i).ub (k0_t1_loop i).st := rfl
  rw [ht]
  generalize Scf.trips (k0_t1_loop i).lb (k0_t1_loop i).ub (k0_t1_loop i).st = t
  cases t <;> rfl

theorem C_l1 :
    shapeCast S1x1024 (kernelRun0_C.sl.v264 c i a3 w3 a4 w4 a5 w5 a6 w6 a7 w7 a8 w8 a9 w9 a10 w10 a11 w11 a12 w12 a13 w13 a14 w14 x0 x1 xs0) shapeCasts_S1x1x1024_S1x1024 = (St x1 (QW x0 1) xs0 1 q0 (i 2).val).2.1 := by
  obtain ⟨E0, E1, E2, E3⟩ := loopC c i a3 w3 a4 w4 a5 w5 a6 w6 a7 w7 a8 w8 a9 w9 a10 w10 a11 w11 a12 w12 a13 w13 a14 w14 hc2 x0 x1 xs0
  have E := congrArg (fun q : B3 => q.2.1) <| E3
  dsimp only at E
  unfold kernelRun0_C.sl.v264
  refine (hv_readAt 1 a13.view _ _ _).trans (Eq.trans ?_ E)
  unfold endC
  refine congrArg (fun X => hv (a13.view.read (Elt Ideal) X) 1) ?_
  have ht : (k0_t1_loop i).trips = Scf.trips (k0_t1_loop i).lb (k0_t1_loop i).ub (k0_t1_loop i).st := rfl
  rw [ht]
  generalize Scf.trips (k0_t1_loop i).lb (k0_t1_loop i).ub (k0_t1_loop i).st = t
  cases t <;> rfl

theorem C_a1 :
    shapeCast S128x1024 (kernelRun0_C.sl.v289 c i a3 w3 a4 w4 a5 w5 a6 w6 a7 w7 a8 w8 a9 w9 a10 w10 a11 w11 a12 w12 a13 w13 a14 w14 x0 x1 xs0) shapeCasts_S1x128x1024_S128x1024 = (St x1 (QW x0 1) xs0 1 q0 (i 2).val).2.2 := by
  obtain ⟨E0, E1, E2, E3⟩ := loopC c i a3 w3 a4 w4 a5 w5 a6 w6 a7 w7 a8 w8 a9 w9 a10 w10 a11 w11 a12 w12 a13 w13 a14 w14 hc2 x0 x1 xs0
  have E := congrArg (fun q : B3 => q.2.2) <| E3
  dsimp only at E
  unfold kernelRun0_C.sl.v289
  refine (hv_readAt 1 a14.view _ _ _).trans (Eq.trans ?_ E)
  unfold endC
  refine congrArg (fun X => hv (a14.view.read (Elt Ideal) X) 1) ?_
  have ht : (k0_t1_loop i).trips = Scf.trips (k0_t1_loop i).lb (k0_t1_loop i).ub (k0_t1_loop i).st := rfl
  rw [ht]
  generalize Scf.trips (k0_t1_loop i).lb (k0_t1_loop i).ub (k0_t1_loop i).st = t
  cases t <;> rfl

theorem C_v0 : (kernelRun0_C.sl.v283 i a9 w9 hc2 xs0) = VB xs0 0 (i 2).val := by
  unfold kernelRun0_C.sl.v283
  refine (VB_eq 0 a9.view _ _ (i 2).val (off19_eq i) _).trans ?_
  rw [w9.read_unread]

theorem C_v1 : (kernelRun0_C.sl.v295 i a9 w9 hc2 xs0) = VB xs0 1 (i 2).val := by
  unfold kernelRun0_C.sl.v295
  refine (VB_eq 1 a9.view _ _ (i 2).val (off20_eq i) _).trans ?_
  rw [w9.read_unread]

theorem C_L0 : shapeCast S1x1024 (kernelRun0_C.sl.v127 c i a3 w3 a4 w4 a5 w5 a6 w6 a7 w7 a8 w8 a9 w9 a10 w10 a11 w11 a12 w12 a13 w13 a14 w14 x0 x1 xs0) shapeCasts_S1x1x1024_S1x1024 = (FIN x1 (QW x0 0) xs0 0 (i 2).val).2.1 := by
  unfold kernelRun0_C.sl.v127 kernelRun0_C.sl.HS4_2
  rw [View.readCov_skip _ _ _ _ _ (by decide), View.readCov_cons_toLoadRect]
  refine (shapeCast_shapeCast _ _ _).trans ?_
  show LN (k0_pay137 _) (shapeCast S1x1024 _ shapeCasts_S1x1x1024_S1x1024) (shapeCast S1x1024 _ shapeCasts_S1x1x1024_S1x1024) = LN _ _ _
  rw [pay137_eq, C_s0 c i a3 w3 a4 w4 a5 w5 a6 w6 a7 w7 a8 w8 a9 w9 a10 w10 a11 w11 a12 w12 a13 w13 a14 w14 hc2 x0 x1 xs0, C_m0 c i a3 w3 a4 w4 a5 w5 a6 w6 a7 w7 a8 w8 a9 w9 a10 w10 a11 w11 a12 w12 a13 w13 a14 w14 hc2 x0 x1 xs0, C_l0 c i a3 w3 a4 w4 a5 w5 a6 w6 a7 w7 a8 w8 a9 w9 a10 w10 a11 w11 a12 w12 a13 w13 a14 w14 hc2 x0 x1 xs0]

theorem C_L1 : shapeCast S1x1024 (kernelRun0_C.sl.v157 c i a3 w3 a4 w4 a5 w5 a6 w6 a7 w7 a8 w8 a9 w9 a10 w10 a11 w11 a12 w12 a13 w13 a14 w14 x0 x1 xs0) shapeCasts_S1x1x1024_S1x1024 = (FIN x1 (QW x0 1) xs0 1 (i 2).val).2.1 := by
  unfold kernelRun0_C.sl.v157 kernelRun0_C.sl.HS4_2 kernelRun0_C.sl.v272 kernelRun0_C.sl.v269 kernelRun0_C.sl.v266 kernelRun0_C.sl.v268 kernelRun0_C.sl.v267 kernelRun0_C.sl.v265 kernelRun0_C.sl.r_8 kernelRun0_C.sl.r_9
  rw [View.readCov_cons_toLoadRect]
  refine (shapeCast_shapeCast _ _ _).trans ?_
  show LN (k0_pay146 _) (shapeCast S1x1024 _ shapeCasts_S1x1x1024_S1x1024) (shapeCast S1x1024 _ shapeCasts_S1x1x1024_S1x1024) = LN _ _ _
  rw [pay146_eq, C_s1 c i a3 w3 a4 w4 a5 w5 a6 w6 a7 w7 a8 w8 a9 w9 a10 w10 a11 w11 a12 w12 a13 w13 a14 w14 hc2 x0 x1 xs0, C_m1 c i a3 w3 a4 w4 a5 w5 a6 w6 a7 w7 a8 w8 a9 w9 a10 w10 a11 w11 a12 w12 a13 w13 a14 w14 hc2 x0 x1 xs0, C_l1 c i a3 w3 a4 w4 a5 w5 a6 w6 a7 w7 a8 w8 a9 w9 a10 w10 a11 w11 a12 w12 a13 w13 a14 w14 hc2 x0 x1 xs0]

theorem C_A0 : shapeCast S128x1024 (kernelRun0_C.sl.v125 c i a3 w3 a4 w4 a5 w5 a6 w6 a7 w7 a8 w8 a9 w9 a10 w10 a11 w11 a12 w12 a13 w13 a14 w14 hc2 x0 x1 xs0) shapeCasts_S1x128x1024_S128x1024 = (FIN x1 (QW x0 0) xs0 0 (i 2).val).2.2 := by
  unfold kernelRun0_C.sl.v125 kernelRun0_C.sl.HS5_2 kernelRun0_C.sl.v288 kernelRun0_C.sl.v285 kernelRun0_C.sl.v280 kernelRun0_C.sl.v284 kernelRun0_C.sl.v279 kernelRun0_C.sl.v278 kernelRun0_C.sl.r_3 kernelRun0_C.sl.r_6 kernelRun0_C.sl.r_4
  rw [View.readCov_skip _ _ _ _ _ (by decide), View.readCov_cons_toLoadRect]
  refine (shapeCast_shapeCast _ _ _).trans ?_
  show AN (k0_pay137 _) (shapeCast S1x1024 _ shapeCasts_S1x1x1024_S1x1024) (shapeCast S128x1024 _ shapeCasts_S1x128x1024_S128x1024) _ = AN _ _ _ _
  rw [pay137_eq, C_s0 c i a3 w3 a4 w4 a5 w5 a6 w6 a7 w7 a8 w8 a9 w9 a10 w10 a11 w11 a12 w12 a13 w13 a14 w14 hc2 x0 x1 xs0, C_m0 c i a3 w3 a4 w4 a5 w5 a6 w6 a7 w7 a8 w8 a9 w9 a10 w10 a11 w11 a12 w12 a13 w13 a14 w14 hc2 x0 x1 xs0, C_a0 c i a3 w3 a4 w4 a5 w5 a6 w6 a7 w7 a8 w8 a9 w9 a10 w10 a11 w11 a12 w12 a13 w13 a14 w14 hc2 x0 x1 xs0, C_v0 c i a3 w3 a4 w4 a5 w5 a6 w6 a7 w7 a8 w8 a9 w9 a10 w10 a11 w11 a12 w12 a13 w13 a14 w14 hc2 x0 x1 xs0]

theorem C_A1 : shapeCast S128x1024 (kernelRun0_C.sl.v155 c i a3 w3 a4 w4 a5 w5 a6 w6 a7 w7 a8 w8 a9 w9 a10 w10 a11 w11 a12 w12 a13 w13 a14 w14 hc2 x0 x1 xs0) shapeCasts_S1x128x1024_S128x1024 = (FIN x1 (QW x0 1) xs0 1 (i 2).val).2.2 := by
  unfold kernelRun0_C.sl.v155 kernelRun0_C.sl.HS5_2 kernelRun0_C.sl.v276 kernelRun0_C.sl.v292 kernelRun0_C.sl.v291 kernelRun0_C.sl.v290 kernelRun0_C.sl.r_8 kernelRun0_C.sl.r_9
  rw [View.readCov_cons_toLoadRect]
  refine (shapeCast_shapeCast _ _ _).trans ?_
  show AN (k0_pay146 _) (shapeCast S1x1024 _ shapeCasts_S1x1x1024_S1x1024) (shapeCast S128x1024 _ shapeCasts_S1x128x1024_S128x1024) _ = AN _ _ _ _
  rw [pay146_eq, C_s1 c i a3 w3 a4 w4 a5 w5 a6 w6 a7 w7 a8 w8 a9 w9 a10 w10 a11 w11 a12 w12 a13 w13 a14 w14 hc2 x0 x1 xs0, C_m1 c i a3 w3 a4 w4 a5 w5 a6 w6 a7 w7 a8 w8 a9 w9 a10 w10 a11 w11 a12 w12 a13 w13 a14 w14 hc2 x0 x1 xs0, C_a1 c i a3 w3 a4 w4 a5 w5 a6 w6 a7 w7 a8 w8 a9 w9 a10 w10 a11 w11 a12 w12 a13 w13 a14 w14 hc2 x0 x1 xs0, C_v1 c i a3 w3 a4 w4 a5 w5 a6 w6 a7 w7 a8 w8 a9 w9 a10 w10 a11 w11 a12 w12 a13 w13 a14 w14 hc2 x0 x1 xs0]

end

/-- The stored block: head `hd` in columns `128 hd … 128 hd + 127`. -/
theorem outC_apply (hc0 : ¬cond0_0 i) (hc1 : ¬cond0_1 i) (hc2 : cond0_2 i) (x0 : Vec Ideal S512x256 .bf16) (x1 x2 : Vec Ideal S4096x256 .bf16) (x3 : Vec Ideal S4x64 .f32) (x4 : Vec Ideal S2x1x128 .f32) (xs0 : Vec Ideal S2x8x128x512 .bf16) {sgn : RefSig} {κ' : Kind} {sp : Space} (v : View sgn κ' sp S512x256 .bf16) (f : v.ty.Contents (Elt Ideal)) (r : Fin 512) (hd : Fin 2) (d : Fin 128) :
    v.read (Elt Ideal) (v.writes (Elt Ideal) f (kernelRun0_C c i a3 w3 a4 w4 a5 w5 a6 w6 a7 w7 a8 w8 a9 w9 a10 w10 a11 w11 a12 w12 a13 w13 a14 w14 hc0 hc1 hc2 x0 x1 x2 x3 x4 xs0).1) (ix2 r ⟨128 * hd.val + d.val, by omega⟩)
      = OUTB x0 x1 xs0 x3 x4 (i 2).val hd (ix2 r d) := by
  have hk : (a6.view.readAt (Elt Ideal) (Rect.unit (s := S4x64) ![0, 0] S4x64.size inb_S4x64_S4x64_0_0).toLoadRect (w6.unread x3)) = x3 := pay169_read a6 w6 x3 _
  match hd with
  | ⟨0, _⟩ =>
    refine (cols0 v f _ _ _ _ _ r d _ (by show 128 * 0 + d.val = d.val; omega)).trans (congrFun ?_ (ix2 r d))
    show OG (ON (k0_pay169 (a6.view.readAt (Elt Ideal) (Rect.unit (s := S4x64) ![0, 0] S4x64.size inb_S4x64_S4x64_0_0).toLoadRect (w6.unread x3))) (shapeCast S1x1024 _ shapeCasts_S1x1x1024_S1x1024) (shapeCast S128x1024 _ shapeCasts_S1x128x1024_S128x1024)) (shapeCast S1x128 _ _) = _
    rw [hk, C_L0 c i a3 w3 a4 w4 a5 w5 a6 w6 a7 w7 a8 w8 a9 w9 a10 w10 a11 w11 a12 w12 a13 w13 a14 w14 hc2 x0 x1 xs0, C_A0 c i a3 w3 a4 w4 a5 w5 a6 w6 a7 w7 a8 w8 a9 w9 a10 w10 a11 w11 a12 w12 a13 w13 a14 w14 hc2 x0 x1 xs0]
    refine congrArg (OG _) ((hv_readAt 0 a7.view _ _ _).trans ?_)
    rw [w7.read_unread]
    rfl
  | ⟨1, _⟩ =>
    refine (cols1 v f _ _ _ r d _ (by show 128 * 1 + d.val = 128 + d.val; omega)).trans (congrFun ?_ (ix2 r d))
    show OG (ON (k0_pay169 (a6.view.readAt (Elt Ideal) (Rect.unit (s := S4x64) ![0, 0] S4x64.size inb_S4x64_S4x64_0_0).toLoadRect (w6.unread x3))) (shapeCast S1x1024 _ shapeCasts_S1x1x1024_S1x1024) (shapeCast S128x1024 _ shapeCasts_S1x128x1024_S128x1024)) (shapeCast S1x128 _ _) = _
    rw [hk, C_L1 c i a3 w3 a4 w4 a5 w5 a6 w6 a7 w7 a8 w8 a9 w9 a10 w10 a11 w11 a12 w12 a13 w13 a14 w14 hc2 x0 x1 xs0, C_A1 c i a3 w3 a4 w4 a5 w5 a6 w6 a7 w7 a8 w8 a9 w9 a10 w10 a11 w11 a12 w12 a13 w13 a14 w14 hc2 x0 x1 xs0]
    refine congrArg (OG _) ((hv_readAt 1 a7.view _ _ _).trans ?_)
    rw [w7.read_unread]
    rfl

end

end Cert.AttnIdeal.Val

end
-- ==== Proof.AttnVT.lean ====
module

public import proofs.«01_k».proof.Proof.AttnCase
public import proofs.«01_k».proof.Proof.AttnRunA

/-! The transposed values kept between the visits: what the first visit of a pair of heads stores. -/

@[expose] public section

set_option maxRecDepth 16384

noncomputable section

namespace Cert.AttnIdeal.Val

open Cert.AttnIdeal Cert.AttnIdeal.Gen
open Idealize.ShloMosaic Idealize.ShloMosaic.TcCoe Idealize.SL.Sem

/-- The values, cut into blocks of 512 rows and heads of 128 columns, each transposed. -/
def VT (x : Vec Ideal S4096x256 .bf16) : Vec Ideal S2x8x128x512 .bf16 :=
  fun p => x (ix2 ⟨512 * (p 1).val + (p 3).val, by have h1 : (p 1).val < 8 := (p 1).isLt; have h3 : (p 3).val < 512 := (p 3).isLt; omega⟩
    ⟨128 * (p 0).val + (p 2).val, by have h0 : (p 0).val < 2 := (p 0).isLt; have h2 : (p 2).val < 128 := (p 2).isLt; omega⟩)

theorem cast_nd11 {α : Type} {n d : ℕ} (x : (⟨2, ![n, d]⟩ : Shape).Idx → α) (h : (⟨2, ![n, d]⟩ : Shape).ShapeCasts ⟨4, ![1, 1, n, d]⟩) (a : Fin n) (b : Fin d) :
    shapeCast (⟨4, ![1, 1, n, d]⟩ : Shape) x h (ix4 0 0 a b) = x (ix2 a b) :=
  shapeCast_apply x h _ _ (by
    rw [Shape.rowMajor_val_four, Shape.rowMajor_val_two]
    show a.val * d + b.val = ((0 * 1 + 0) * n + a.val) * d + b.val
    simp only [Nat.zero_mul, Nat.zero_add])

/-- A stored piece, entry by entry. -/
theorem piece_eq (W : FVec Ideal S512x128 .bf16) (h1 h2 h3 h4 h5) (d : Fin 128) (r : Fin 512) :
    shapeCast S1x1x128x512 (truncf (F := Ideal) .bf16 (transpose S128x512 [1, 0] (extf (F := Ideal) .f32 (shapeCast S512x128 W h1) h2) h3) h4) h5 (ix4 0 0 d r) = W (ix2 r d) := by
  refine (cast_nd11 _ _ d r).trans ?_
  pointwise

/-- Reading through a list of stored pieces, one piece at a time. -/
theorem cover_step {sg : RefSig} {κ : Kind} {sp : Space} (v : View sg κ sp S2x8x128x512 .bf16) (f : v.ty.Contents (Elt Ideal)) (X : Vec Ideal S2x8x128x512 .bf16)
    (L : List (View.Piece (Elt Ideal) S2x8x128x512 .bf16)) (S : List (ℕ × ℕ))
    (hL : ∀ (a : Fin 2) (b : Fin 8), (a.val, b.val) ∈ S → ∀ (d : Fin 128) (r : Fin 512), v.read (Elt Ideal) (v.writes (Elt Ideal) f L) (ix4 a b d r) = X (ix4 a b d r))
    (h : Fin 2) (j : Fin 8) (inb : ∀ a, (![h.val, j.val, 0, 0] : Fin 4 → ℕ) a + S1x1x128x512.size a ≤ S2x8x128x512.size a) (w : S1x1x128x512.Idx → Elt Ideal .bf16)
    (hw : ∀ (d : Fin 128) (r : Fin 512), w (ix4 0 0 d r) = X (ix4 h j d r)) :
    ∀ (a : Fin 2) (b : Fin 8), (a.val, b.val) ∈ (h.val, j.val) :: S → ∀ (d : Fin 128) (r : Fin 512),
      v.read (Elt Ideal) (v.writes (Elt Ideal) f (⟨Rect.unit (s := S2x8x128x512) ![h.val, j.val, 0, 0] S1x1x128x512.size inb, w⟩ :: L)) (ix4 a b d r) = X (ix4 a b d r) := by
  intro a b hab d r
  by_cases hh : a = h
  · by_cases hj : b = j
    · subst hh hj
      refine (View.read_writes_cons_unit_of_mem v f inb _ _ _ (ix4 0 0 d r) rfl ?_).trans (hw d r)
      intro x
      match x with
      | ⟨0, _⟩ => rfl
      | ⟨1, _⟩ => rfl
      | ⟨2, _⟩ => show d.val = 0 + d.val; omega
      | ⟨3, _⟩ => show r.val = 0 + r.val; omega
    · have hn : b.val ≠ j.val := fun e => hj (Fin.ext e)
      refine (View.read_writes_cons_unit_of_not_mem v f inb _ _ _ rfl 1 ?_).trans (hL a b ?_ d r)
      · show b.val < j.val ∨ j.val + 1 ≤ b.val
        omega
      · rcases List.mem_cons.mp hab with e | e
        · exact absurd (congrArg Prod.snd e) hn
        · exact e
  · have hn : a.val ≠ h.val := fun e => hh (Fin.ext e)
    refine (View.read_writes_cons_unit_of_not_mem v f inb _ _ _ rfl 0 ?_).trans (hL a b ?_ d r)
    · show a.val < h.val ∨ h.val + 1 ≤ a.val
      omega
    · rcases List.mem_cons.mp hab with e | e
      · exact absurd (congrArg Prod.fst e) hn
      · exact e

/-- A window of the values is the part of `VT` it stands for. -/
theorem win_eq (a5 : Memref sig .tc .vmem S4096x256 .bf16) (z5 : a5.IsWhole) (x2 : Vec Ideal S4096x256 .bf16) (h : Fin 2) (j : Fin 8) (o0 o1 : ℕ) (e0 : o0 = 512 * j.val) (e1 : o1 = 128 * h.val)
    (inb : ∀ a, (![o0, o1] : Fin 2 → ℕ) a + S512x128.size a ≤ S4096x256.size a) (d : Fin 128) (r : Fin 512) :
    a5.view.readAt (Elt Ideal) (Rect.unit (s := S4096x256) ![o0, o1] S512x128.size inb).toLoadRect (z5.unread x2) (ix2 r d) = VT x2 (ix4 h j d r) := by
  subst e0 e1
  refine (readAt2 a5.view _ _ _ inb r d ⟨512 * j.val + r.val, by omega⟩ ⟨128 * h.val + d.val, by omega⟩ rfl rfl).trans ?_
  rw [z5.read_unread]
  rfl

section
variable (c : Dev nD) (a5 : Memref sig .tc .vmem S4096x256 .bf16) (z5 : a5.IsWhole) (x2 : Vec Ideal S4096x256 .bf16) (d : Fin 128) (r : Fin 512)
include c a5 z5 x2 d r

theorem w17 :
    kernelRun0_A.sl.v312 c a5 z5 x2 (ix4 0 0 d r) = VT x2 (ix4 1 7 d r) :=
  (piece_eq _ _ _ _ _ _ d r).trans (win_eq a5 z5 x2 1 7 _ _ rfl rfl _ d r)

theorem w16 :
    kernelRun0_A.sl.v304 c a5 z5 x2 (ix4 0 0 d r) = VT x2 (ix4 1 6 d r) :=
  (piece_eq _ _ _ _ _ _ d r).trans (win_eq a5 z5 x2 1 6 _ _ rfl rfl _ d r)

theorem w15 :
    kernelRun0_A.sl.v296 c a5 z5 x2 (ix4 0 0 d r) = VT x2 (ix4 1 5 d r) :=
  (piece_eq _ _ _ _ _ _ d r).trans (win_eq a5 z5 x2 1 5 _ _ rfl rfl _ d r)

theorem w14 :
    kernelRun0_A.sl.v288 c a5 z5 x2 (ix4 0 0 d r) = VT x2 (ix4 1 4 d r) :=
  (piece_eq _ _ _ _ _ _ d r).trans (win_eq a5 z5 x2 1 4 _ _ rfl rfl _ d r)

theorem w13 :
    kernelRun0_A.sl.v280 c a5 z5 x2 (ix4 0 0 d r) = VT x2 (ix4 1 3 d r) :=
  (piece_eq _ _ _ _ _ _ d r).trans (win_eq a5 z5 x2 1 3 _ _ rfl rfl _ d r)

theorem w12 :
    kernelRun0_A.sl.v272 c a5 z5 x2 (ix4 0 0 d r) = VT x2 (ix4 1 2 d r) :=
  (piece_eq _ _ _ _ _ _ d r).trans (win_eq a5 z5 x2 1 2 _ _ rfl rfl _ d r)

theorem w11 :
    kernelRun0_A.sl.v264 c a5 z5 x2 (ix4 0 0 d r) = VT x2 (ix4 1 1 d r) :=
  (piece_eq _ _ _ _ _ _ d r).trans (win_eq a5 z5 x2 1 1 _ _ rfl rfl _ d r)

theorem w10 :
    kernelRun0_A.sl.v256 c a5 z5 x2 (ix4 0 0 d r) = VT x2 (ix4 1 0 d r) :=
  (piece_eq _ _ _ _ _ _ d r).trans (win_eq a5 z5 x2 1 0 _ _ rfl rfl _ d r)

theorem w07 :
    kernelRun0_A.sl.v248 c a5 z5 x2 (ix4 0 0 d r) = VT x2 (ix4 0 7 d r) :=
  (piece_eq _ _ _ _ _ _ d r).trans (win_eq a5 z5 x2 0 7 _ _ rfl rfl _ d r)

theorem w06 :
    kernelRun0_A.sl.v240 c a5 z5 x2 (ix4 0 0 d r) = VT x2 (ix4 0 6 d r) :=
  (piece_eq _ _ _ _ _ _ d r).trans (win_eq a5 z5 x2 0 6 _ _ rfl rfl _ d r)

theorem w05 :
    kernelRun0_A.sl.v232 c a5 z5 x2 (ix4 0 0 d r) = VT x2 (ix4 0 5 d r) :=
  (piece_eq _ _ _ _ _ _ d r).trans (win_eq a5 z5 x2 0 5 _ _ rfl rfl _ d r)

theorem w04 :
    kernelRun0_A.sl.v224 c a5 z5 x2 (ix4 0 0 d r) = VT x2 (ix4 0 4 d r) :=
  (piece_eq _ _ _ _ _ _ d r).trans (win_eq a5 z5 x2 0 4 _ _ rfl rfl _ d r)

theorem w03 :
    kernelRun0_A.sl.v216 c a5 z5 x2 (ix4 0 0 d r) = VT x2 (ix4 0 3 d r) :=
  (piece_eq _ _ _ _ _ _ d r).trans (win_eq a5 z5 x2 0 3 _ _ rfl rfl _ d r)

theorem w02 :
    kernelRun0_A.sl.v208 c a5 z5 x2 (ix4 0 0 d r) = VT x2 (ix4 0 2 d r) :=
  (piece_eq _ _ _ _ _ _ d r).trans (win_eq a5 z5 x2 0 2 _ _ rfl rfl _ d r)

theorem w01 :
    kernelRun0_A.sl.v200 c a5 z5 x2 (ix4 0 0 d r) = VT x2 (ix4 0 1 d r) :=
  (piece_eq _ _ _ _ _ _ d r).trans (win_eq a5 z5 x2 0 1 _ _ rfl rfl _ d r)

theorem w00 :
    kernelRun0_A.sl.v192 c a5 z5 x2 (ix4 0 0 d r) = VT x2 (ix4 0 0 d r) :=
  (piece_eq _ _ _ _ _ _ d r).trans (win_eq a5 z5 x2 0 0 _ _ rfl rfl _ d r)

end

set_option maxHeartbeats 2000000 in
/-- What the first visit keeps, read back. -/
theorem read_VT {sg : RefSig} {κ : Kind} {sp : Space} (v : View sg κ sp S2x8x128x512 .bf16) (f : v.ty.Contents (Elt Ideal)) (c : Dev nD) (a5 : Memref sig .tc .vmem S4096x256 .bf16) (z5 : a5.IsWhole) (x2 : Vec Ideal S4096x256 .bf16) :
    v.read (Elt Ideal) (v.writes (Elt Ideal) f (kernelRun0_A.sl.HS0_16 c a5 z5 x2)) = VT x2 := by
  have t16 : ∀ (a : Fin 2) (b : Fin 8), (a.val, b.val) ∈ ([] : List (ℕ × ℕ)) → ∀ (d : Fin 128) (r : Fin 512), v.read (Elt Ideal) (v.writes (Elt Ideal) f []) (ix4 a b d r) = VT x2 (ix4 a b d r) :=
    fun a b h => absurd h (List.not_mem_nil)
  have t15 := cover_step v f (VT x2) _ _ t16 0 0 (by decide) _ (w00 c a5 z5 x2)
  have t14 := cover_step v f (VT x2) _ _ t15 0 1 (by decide) _ (w01 c a5 z5 x2)
  have t13 := cover_step v f (VT x2) _ _ t14 0 2 (by decide) _ (w02 c a5 z5 x2)
  have t12 := cover_step v f (VT x2) _ _ t13 0 3 (by decide) _ (w03 c a5 z5 x2)
  have t11 := cover_step v f (VT x2) _ _ t12 0 4 (by decide) _ (w04 c a5 z5 x2)
  have t10 := cover_step v f (VT x2) _ _ t11 0 5 (by decide) _ (w05 c a5 z5 x2)
  have t9 := cover_step v f (VT x2) _ _ t10 0 6 (by decide) _ (w06 c a5 z5 x2)
  have t8 := cover_step v f (VT x2) _ _ t9 0 7 (by decide) _ (w07 c a5 z5 x2)
  have t7 := cover_step v f (VT x2) _ _ t8 1 0 (by decide) _ (w10 c a5 z5 x2)
  have t6 := cover_step v f (VT x2) _ _ t7 1 1 (by decide) _ (w11 c a5 z5 x2)
  have t5 := cover_step v f (VT x2) _ _ t6 1 2 (by decide) _ (w12 c a5 z5 x2)
  have t4 := cover_step v f (VT x2) _ _ t5 1 3 (by decide) _ (w13 c a5 z5 x2)
  have t3 := cover_step v f (VT x2) _ _ t4 1 4 (by decide) _ (w14 c a5 z5 x2)
  have t2 := cover_step v f (VT x2) _ _ t3 1 5 (by decide) _ (w15 c a5 z5 x2)
  have t1 := cover_step v f (VT x2) _ _ t2 1 6 (by decide) _ (w16 c a5 z5 x2)
  have t0 := cover_step v f (VT x2) _ _ t1 1 7 (by decide) _ (w17 c a5 z5 x2)
  funext p
  obtain ⟨a, b, d, r, rfl⟩ : ∃ (a : Fin 2) (b : Fin 8) (d : Fin 128) (r : Fin 512), p = ix4 a b d r := ⟨p 0, p 1, p 2, p 3, eq_ix4 p⟩
  exact t0 a b (by revert a b; decide) d r

end Cert.AttnIdeal.Val

end
-- ==== Proof.AttnArr.lean ====
module

public import proofs.«01_k».proof.Proof.AttnBlocks
public import proofs.«01_k».proof.Proof.AttnCaseA
public import proofs.«01_k».proof.Proof.AttnCaseB
public import proofs.«01_k».proof.Proof.AttnCaseC
public import proofs.«01_k».proof.Proof.AttnVT

/-! The blocks each grid point reads and writes: the transposed values kept from the first tile of a pair of heads on, and the
output block of every point. -/

@[expose] public section

set_option maxRecDepth 16384

noncomputable section

namespace Cert.AttnIdeal.Val

open Cert.AttnIdeal Cert.AttnIdeal.Gen
open Idealize.ShloMosaic Idealize.ShloMosaic.TcCoe Idealize.SL.Sem

variable (m : (ℓ : Loc nD τ sig) → Buf (Elt Ideal) ℓ)

/-- Where each window stands at point `t` (batch `t / 16`, pair of heads `t / 8 % 2`, tile of queries `t % 8`). -/
theorem idx : ∀ t : Fin cfg0.N, win0_0.index t = ![t.val / 16 * 8 + t.val % 8, t.val / 8 % 2] ∧ win0_1.index t = ![t.val / 16, t.val / 8 % 2]
    ∧ win0_2.index t = ![t.val / 16, t.val / 8 % 2] ∧ win0_3.index t = ![0, 0] ∧ win0_4.index t = ![t.val / 8 % 2, 0, 0]
    ∧ win0_5.index t = ![t.val / 16 * 8 + t.val % 8, t.val / 8 % 2] ∧ (grid0.coords t 2).val = t.val % 8 ∧ t.val < 64 :=
  (by decide +kernel : ∀ t : Fin grid0.N, _)

theorem lt64 (t : Fin cfg0.N) : t.val < 64 := (idx t).2.2.2.2.2.2.2

theorem coord2 (t : Fin cfg0.N) : (grid0.coords t 2).val = t.val % 8 := (idx t).2.2.2.2.2.2.1

theorem iblk0_apply (c : Dev nD) (t : Fin cfg0.N) (r : Fin 512) (cc : Fin 256) :
    iblk m c 0 t (ix2 r cc) = V m c main_v5 (ix2 ⟨4096 * (t.val / 16) + 512 * (t.val % 8) + r.val, by have := lt64 t; omega⟩ ⟨256 * (t.val / 8 % 2) + cc.val, by omega⟩) := by
  blk_ext [iblk, idx t]

theorem iblk1_apply (c : Dev nD) (t : Fin cfg0.N) (r : Fin 4096) (cc : Fin 256) :
    iblk m c 1 t (ix2 r cc) = V m c main_v7 (ix2 ⟨4096 * (t.val / 16) + r.val, by have := lt64 t; omega⟩ ⟨256 * (t.val / 8 % 2) + cc.val, by omega⟩) := by
  blk_ext [iblk, idx t]

theorem iblk2_apply (c : Dev nD) (t : Fin cfg0.N) (r : Fin 4096) (cc : Fin 256) :
    iblk m c 2 t (ix2 r cc) = V m c main_v9 (ix2 ⟨4096 * (t.val / 16) + r.val, by have := lt64 t; omega⟩ ⟨256 * (t.val / 8 % 2) + cc.val, by omega⟩) := by
  blk_ext [iblk, idx t]

theorem iblk3_apply (c : Dev nD) (t : Fin cfg0.N) (r : Fin 4) (e : Fin 64) : iblk m c 3 t (ix2 r e) = V m c main_v10 (ix2 r e) := by
  blk_ext [iblk, idx t]

theorem iblk4_apply (c : Dev nD) (t : Fin cfg0.N) (hd : Fin 2) (d : Fin 128) :
    iblk m c 4 t (ix3 hd 0 d) = V m c main_v12 (ix3 ⟨2 * (t.val / 8 % 2) + hd.val, by omega⟩ 0 d) := by
  blk_ext [iblk, idx t]

/-- The values of a pair of heads stay in place for its eight tiles. -/
theorem iblk2_prev (c : Dev nD) (n : ℕ) (h : n + 1 < cfg0.N) (h0 : ¬(n + 1) % 8 = 0) : iblk m c 2 ⟨n, Nat.lt_of_succ_lt h⟩ = iblk m c 2 ⟨n + 1, h⟩ := by
  funext p
  obtain ⟨r, cc, rfl⟩ : ∃ (r : Fin 4096) (cc : Fin 256), p = ix2 r cc := ⟨p 0, p 1, eq_ix2 p⟩
  refine (iblk2_apply m c _ r cc).trans (Eq.trans ?_ (iblk2_apply m c _ r cc).symm)
  have e1 : n / 16 = (n + 1) / 16 := by omega
  have e2 : n / 8 % 2 = (n + 1) / 8 % 2 := by omega
  simp only [e1, e2]

/-- The scratch buffer holds the values transposed, at every point. -/
theorem scratch_eq (c : Dev nD) : ∀ (n : ℕ) (h : n < cfg0.N), (outsAt0 m c n h).2 = VT (iblk m c 2 ⟨n, h⟩) := by
  intro n
  induction n with
  | zero =>
    intro h
    rw [outsAt0_A m c ⟨0, h⟩ (Nat.zero_mod 8) (show ¬0 % 2 = 1 by decide) (Nat.zero_mod 2)]
    dsimp only [sout0_A_0]
    exact read_VT VS0_0 VS0_0.junk c _ _ _
  | succ n ih =>
    intro h
    by_cases h0 : (n + 1) % 8 = 0
    · rw [outsAt0_A m c ⟨n + 1, h⟩ h0 (by dsimp only; omega) (by dsimp only; omega)]
      dsimp only [sout0_A_0]
      exact read_VT VS0_0 VS0_0.junk c _ _ _
    · by_cases h1 : (n + 1) % 2 = 1
      · rw [outsAt0_B m c ⟨n + 1, h⟩ h0 h1 (by dsimp only; omega)]
        exact (ih (Nat.lt_of_succ_lt h)).trans (congrArg VT (iblk2_prev m c n h h0))
      · rw [outsAt0_C m c ⟨n + 1, h⟩ h0 h1 (by dsimp only; omega)]
        exact (ih (Nat.lt_of_succ_lt h)).trans (congrArg VT (iblk2_prev m c n h h0))

/-- What the point before leaves in the scratch buffer. -/
theorem scratch_prev (c : Dev nD) (t : Fin cfg0.N) (h0 : ¬t.val % 8 = 0) (h : t.val - 1 < cfg0.N) : (outsAt0 m c (t.val - 1) h).2 = VT (iblk m c 2 t) := by
  obtain ⟨n, hn⟩ := t
  cases n with
  | zero => exact absurd (Nat.zero_mod _) h0
  | succ n => exact (scratch_eq m c n (Nat.lt_of_succ_lt hn)).trans (congrArg VT (iblk2_prev m c n hn h0))

set_option maxHeartbeats 1000000 in
/-- The output block of a point, head by head. -/
theorem block_apply' (c : Dev nD) (t : Fin cfg0.N) (r : Fin 512) (hd : Fin 2) (d : Fin 128) :
    (outsAt0 m c t.val t.isLt).1 (ix2 r ⟨128 * hd.val + d.val, by omega⟩)
      = OUTB (iblk m c 0 t) (iblk m c 1 t) (VT (iblk m c 2 t)) (iblk m c 3 t) (iblk m c 4 t) (grid0.coords t 2).val hd (ix2 r d) := by
  by_cases h0 : t.val % 8 = 0
  · have h1 : ¬t.val % 2 = 1 := by omega
    have h2 : t.val % 2 = 0 := by omega
    rw [outsAt0_A m c t h0 h1 h2]
    dsimp only [out0_A_5]
    refine (outA_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) ((hcond0_2 t).mpr h2) (iblk m c 0 t) (iblk m c 1 t) (iblk m c 2 t) (iblk m c 3 t) (iblk m c 4 t) VO0_5 VO0_5.junk r hd d).trans ?_
    rw [read_VT]
  · by_cases h1 : t.val % 2 = 1
    · have h2 : ¬t.val % 2 = 0 := by omega
      rw [outsAt0_B m c t h0 h1 h2, ← scratch_prev m c t h0 (Nat.lt_of_le_of_lt (Nat.sub_le _ _) t.isLt)]
      dsimp only [out0_B_5]
      exact outB_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2 VO0_5 VO0_5.junk r hd d
    · have h2 : t.val % 2 = 0 := by omega
      rw [outsAt0_C m c t h0 h1 h2, ← scratch_prev m c t h0 (Nat.lt_of_le_of_lt (Nat.sub_le _ _) t.isLt)]
      dsimp only [out0_C_5]
      exact outC_apply c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2 VO0_5 VO0_5.junk r hd d

/-- The output block of a point, the tile named by the point. -/
theorem block_apply (c : Dev nD) (t : Fin cfg0.N) (r : Fin 512) (hd : Fin 2) (d : Fin 128) :
    (outsAt0 m c t.val t.isLt).1 (ix2 r ⟨128 * hd.val + d.val, by omega⟩)
      = OUTB (iblk m c 0 t) (iblk m c 1 t) (VT (iblk m c 2 t)) (iblk m c 3 t) (iblk m c 4 t) (t.val % 8) hd (ix2 r d) :=
  (block_apply' m c t r hd d).trans (congrArg (fun j => OUTB (iblk m c 0 t) (iblk m c 1 t) (VT (iblk m c 2 t)) (iblk m c 3 t) (iblk m c 4 t) j hd (ix2 r d)) (coord2 t))

end Cert.AttnIdeal.Val

end
-- ==== Proof.AttnHost.lean ====
module

public import proofs.«01_k».proof.Proof.AttnArr

/-! What the host hands the kernel: queries scaled, keys and values, laid out as rows; the four rows of λ; the gains. -/

@[expose] public section

set_option maxRecDepth 16384

noncomputable section

namespace Cert.AttnIdeal.Val

open Cert.AttnIdeal Cert.AttnIdeal.Gen
open Idealize.ShloMosaic Idealize.ShloMosaic.TcCoe Idealize.SL.Sem

variable (m : (ℓ : Loc nD τ sig) → Buf (Elt Ideal) ℓ)

theorem V5_apply (c : Dev nD) (b : Fin 4) (t : Fin 4096) (h : Fin 4) (d : Fin 128) :
    V m c main_v5 (ix2 ⟨4096 * b.val + t.val, by omega⟩ ⟨128 * h.val + d.val, by omega⟩)
      = (show EReal from m ((c : Thread nD τ).loc main_arg0) (ix4 b t h d)) * Ideal.div (Ideal.ofBits .f32 0x3E000000#32) (Ideal.log (Ideal.ofBits .f32 0x40000000#32)) := by
  entry_read
  pointwise

theorem V7_apply (c : Dev nD) (b : Fin 4) (t : Fin 4096) (h : Fin 4) (d : Fin 128) :
    V m c main_v7 (ix2 ⟨4096 * b.val + t.val, by omega⟩ ⟨128 * h.val + d.val, by omega⟩) = m ((c : Thread nD τ).loc main_arg1) (ix4 b t h d) := by
  entry_read
  pointwise

theorem V9_apply (c : Dev nD) (b : Fin 4) (t : Fin 4096) (h : Fin 4) (d : Fin 128) :
    V m c main_v9 (ix2 ⟨4096 * b.val + t.val, by omega⟩ ⟨128 * h.val + d.val, by omega⟩) = m ((c : Thread nD τ).loc main_arg2) (ix4 b t h d) := by
  entry_read
  pointwise

theorem V10_apply (c : Dev nD) (r : Fin 4) (e : Fin 64) : V m c main_v10 (ix2 r e) = m ((c : Thread nD τ).loc main_arg3) (ix3 0 r e) := by
  entry_read
  pointwise

theorem V12_apply (c : Dev nD) (h : Fin 4) (d : Fin 128) : V m c main_v12 (ix3 h 0 d) = m ((c : Thread nD τ).loc main_arg4) (ix3 0 h d) := by
  entry_read
  pointwise

end Cert.AttnIdeal.Val

end
-- ==== Proof.AttnOnline.lean ====
module

public import proofs.«01_k».proof.Proof.AttnOps

/-! One column of the running softmax over real scores, some of them masked: up to the common factor `2 ^ (-M)` the sum is
the sum of `2 ^ x` over the keys seen, and the accumulator the sum of the values weighted by `2 ^ x`. -/

@[expose] public section

noncomputable section

namespace Cert.AttnIdeal.Val

open Idealize.ShloMosaic

/-- A sum of reals is the same taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A score, −∞ where it is masked. -/
def msk (p : Prop) [Decidable p] (x : ℝ) : EReal := if p then (x : EReal) else ⊥

/-- The power of two of a score, 0 where it is masked. -/
def pw (p : Prop) [Decidable p] (x : ℝ) : ℝ := if p then Real.rpow 2 x else 0

theorem pw_nonneg (p : Prop) [Decidable p] (x : ℝ) : 0 ≤ pw p x := by
  unfold pw
  split
  · exact Real.rpow_nonneg (by norm_num) _
  · exact le_refl 0

theorem exp2_msk (p : Prop) [Decidable p] (x M : ℝ) : Ideal.exp2 (msk p x - (M : EReal)) = ((Real.rpow 2 (-M) * pw p x : ℝ) : EReal) := by
  unfold msk pw
  split
  · rw [← EReal.coe_sub, Ideal.exp2_coe]
    congr 1
    show (2 : ℝ) ^ (x - M) = (2 : ℝ) ^ (-M) * (2 : ℝ) ^ x
    rw [← Real.rpow_add (by norm_num)]
    congr 1
    ring
  · rw [EReal.bot_sub, Ideal.exp2_bot, mul_zero, EReal.coe_zero]

theorem exp2_sub (M M' : ℝ) : Ideal.exp2 ((M : EReal) - (M' : EReal)) = ((Real.rpow 2 (-M') * Real.rpow 2 M : ℝ) : EReal) := by
  have := exp2_msk True M M'
  simpa [msk, pw] using this

theorem msk_lt_top (p : Prop) [Decidable p] (x : ℝ) : msk p x < ⊤ := by
  unfold msk
  split
  · exact EReal.coe_lt_top x
  · exact bot_lt_top

theorem cmx_lt_top (s : Fin 512 → EReal) (h : ∀ r, s r < ⊤) : cmx s < ⊤ := by
  unfold cmx
  rw [Finset.fold_max_lt]
  exact ⟨bot_lt_top, fun r _ => h r⟩

theorem max_real (a : EReal) (s : Fin 512 → EReal) (ha : a < ⊤) (hs : ∀ r, s r < ⊤) (hb : ⊥ < max a (cmx s)) : ∃ M : ℝ, max a (cmx s) = (M : EReal) :=
  ⟨(max a (cmx s)).toReal, (EReal.coe_toReal (max_lt ha (cmx_lt_top s hs)).ne hb.ne').symm⟩

/-- A column that has seen some keys: `L` the sum of their powers of two, `A` their values weighted by them. -/
def Good (q : Col) (L : ℝ) (A : Fin 128 → ℝ) : Prop :=
  ∃ M : ℝ, q.m = (M : EReal) ∧ q.l = ((Real.rpow 2 (-M) * L : ℝ) : EReal) ∧ ∀ d, q.a d = ((Real.rpow 2 (-M) * A d : ℝ) : EReal)

section
variable (p : Fin 512 → Prop) [DecidablePred p] (x : Fin 512 → ℝ) (v : Fin 128 → Fin 512 → ℝ)

theorem sum_pw (M : ℝ) : ∑ r, Ideal.exp2 (msk (p r) (x r) - (M : EReal)) = ((Real.rpow 2 (-M) * ∑ r, pw (p r) (x r) : ℝ) : EReal) := by
  rw [Finset.mul_sum, coe_sum]
  exact Finset.sum_congr rfl fun r _ => exp2_msk _ _ _

theorem sum_vpw (M : ℝ) (d : Fin 128) : ∑ r, (v d r : EReal) * Ideal.exp2 (msk (p r) (x r) - (M : EReal))
    = ((Real.rpow 2 (-M) * ∑ r, v d r * pw (p r) (x r) : ℝ) : EReal) := by
  rw [Finset.mul_sum, coe_sum]
  refine Finset.sum_congr rfl fun r _ => ?_
  rw [exp2_msk, ← EReal.coe_mul]
  congr 1
  ring

/-- The first block: some key of it is not masked. -/
theorem good_first (hp : ∃ r, p r) : Good (Col.step (fun r => msk (p r) (x r)) (fun d r => (v d r : EReal)) ⟨⊥, 0, fun _ => 0⟩)
    (∑ r, pw (p r) (x r)) (fun d => ∑ r, v d r * pw (p r) (x r)) := by
  obtain ⟨r0, h0⟩ := hp
  obtain ⟨M, hM⟩ := max_real ⊥ (fun r => msk (p r) (x r)) bot_lt_top (fun r => msk_lt_top _ _) (by
    refine lt_of_lt_of_le (EReal.bot_lt_coe (x r0)) (le_trans ?_ (le_max_right _ _))
    unfold cmx
    rw [Finset.le_fold_max]
    exact Or.inr ⟨r0, Finset.mem_univ _, by show _ ≤ msk (p r0) (x r0); rw [msk, if_pos h0]⟩)
  refine ⟨M, hM, ?_, fun d => ?_⟩
  · show Ideal.exp2 (⊥ - max ⊥ _) * 0 + ∑ r, Ideal.exp2 (msk (p r) (x r) - max ⊥ _) = _
    rw [hM, mul_zero, zero_add, sum_pw]
  · show Ideal.exp2 (⊥ - max ⊥ _) * 0 + ∑ r, (v d r : EReal) * Ideal.exp2 (msk (p r) (x r) - max ⊥ _) = _
    rw [hM, mul_zero, zero_add, sum_vpw]

/-- A later block. -/
theorem good_step (q : Col) (L : ℝ) (A : Fin 128 → ℝ) (hq : Good q L A) :
    Good (Col.step (fun r => msk (p r) (x r)) (fun d r => (v d r : EReal)) q)
      (L + ∑ r, pw (p r) (x r)) (fun d => A d + ∑ r, v d r * pw (p r) (x r)) := by
  obtain ⟨M0, hm, hl, ha⟩ := hq
  obtain ⟨M, hM⟩ := max_real q.m (fun r => msk (p r) (x r)) (by rw [hm]; exact EReal.coe_lt_top _) (fun r => msk_lt_top _ _)
    (lt_of_lt_of_le (by rw [hm]; exact EReal.bot_lt_coe _) (le_max_left _ _))
  have h2 : Real.rpow 2 M0 * Real.rpow 2 (-M0) = 1 := by
    show (2 : ℝ) ^ M0 * (2 : ℝ) ^ (-M0) = 1
    rw [← Real.rpow_add (by norm_num), add_neg_cancel, Real.rpow_zero]
  refine ⟨M, hM, ?_, fun d => ?_⟩
  · show Ideal.exp2 (q.m - max q.m _) * q.l + ∑ r, Ideal.exp2 (msk (p r) (x r) - max q.m _) = _
    rw [hM, hl, hm, sum_pw, exp2_sub, ← EReal.coe_mul, ← EReal.coe_add]
    congr 1
    linear_combination Real.rpow 2 (-M) * L * h2
  · show Ideal.exp2 (q.m - max q.m _) * q.a d + ∑ r, (v d r : EReal) * Ideal.exp2 (msk (p r) (x r) - max q.m _) = _
    rw [hM, ha, hm, sum_vpw, exp2_sub, ← EReal.coe_mul, ← EReal.coe_add]
    congr 1
    linear_combination Real.rpow 2 (-M) * A d * h2

end

/-- The quotient of accumulator and sum does not depend on the common factor. -/
theorem good_div (q : Col) (L : ℝ) (A : Fin 128 → ℝ) (hq : Good q L A) (hL : 0 < L) (d : Fin 128) :
    Ideal.div (q.a d) q.l = ((A d / L : ℝ) : EReal) := by
  obtain ⟨M, _, hl, ha⟩ := hq
  have h2 : 0 < Real.rpow 2 (-M) := Real.rpow_pos_of_pos (by norm_num) _
  rw [hl, ha, Ideal.div_coe (mul_pos h2 hL).ne', ← EReal.coe_mul]
  congr 1
  field_simp

end Cert.AttnIdeal.Val

end
-- ==== Proof.AttnCol.lean ====
module

public import proofs.«01_k».proof.Proof.AttnCase
public import proofs.«01_k».proof.Proof.AttnOnline

/-! One column of the transposed attention, every block of keys taken: the accumulator over the sum is the average of the
values weighted by the powers of two of the scores, over the keys up to the query. -/

@[expose] public section

set_option maxRecDepth 16384

noncomputable section

namespace Cert.AttnIdeal.Val

open Cert.AttnIdeal Cert.AttnIdeal.Gen
open Idealize.ShloMosaic Idealize.ShloMosaic.TcCoe Idealize.SL.Sem

theorem sum_ite_range (f : ℕ → ℝ) (n q : ℕ) (hq : q < n) : (∑ r ∈ Finset.range n, if r ≤ q then f r else 0) = ∑ r ∈ Finset.range (q + 1), f r := by
  rw [← Finset.sum_filter]
  refine Finset.sum_congr (Finset.ext fun r => ?_) fun _ _ => rfl
  simp only [Finset.mem_filter, Finset.mem_range]
  omega

section
variable (K : Vec Ideal S4096x256 .bf16) (Q : FVec Ideal S128x1024 .bf16) (V : Vec Ideal S2x8x128x512 .bf16) (hd : Fin 2) (j : ℕ) (c : Fin 1024)
  (x : ℕ → ℝ) (v : ℕ → Fin 128 → ℝ)
  (hs : ∀ jj ≤ j, ∀ r : Fin 512, SC K Q hd jj (ix2 r c) = (x (512 * jj + r.val) : EReal))
  (hV : ∀ jj ≤ j, ∀ (d : Fin 128) (r : Fin 512), VB V hd jj (ix2 d r) = (v (512 * jj + r.val) d : EReal))

/-- The weights of the first `n` keys, summed. -/
def WL (x : ℕ → ℝ) (n : ℕ) : ℝ := ∑ r ∈ Finset.range n, Real.rpow 2 (x r)

/-- The values of the first `n` keys, weighted. -/
def WA (x : ℕ → ℝ) (v : ℕ → Fin 128 → ℝ) (n : ℕ) (d : Fin 128) : ℝ := ∑ r ∈ Finset.range n, v r d * Real.rpow 2 (x r)

/-- The column of a state. -/
def cB (q : B3) (c : Fin 1024) : Col := col q.1 q.2.1 q.2.2 c

theorem cB_stH (s : FVec Ideal S512x1024 .f32) (w : FVec Ideal S128x512 .bf16) (q : B3) (c : Fin 1024) :
    cB (stH s w q) c = (cB q c).step (fun r => s (ix2 r c)) (fun d r => w (ix2 d r)) := col_step s q.1 q.2.1 q.2.2 w c

theorem cB_q0 (c : Fin 1024) : cB q0 c = ⟨⊥, 0, fun _ => 0⟩ := rfl

theorem WL_add (n m : ℕ) : WL x (n + m) = WL x n + ∑ r ∈ Finset.range m, Real.rpow 2 (x (n + r)) := Finset.sum_range_add _ _ _

theorem WA_add (n m : ℕ) (d : Fin 128) : WA x v (n + m) d = WA x v n d + ∑ r ∈ Finset.range m, v (n + r) d * Real.rpow 2 (x (n + r)) :=
  Finset.sum_range_add _ _ _

theorem WL_block (n q : ℕ) (hq : q < 512) : WL x (n + (q + 1)) = WL x n + ∑ r : Fin 512, pw (r.val ≤ q) (x (n + r.val)) := by
  rw [WL_add, ← sum_ite_range _ 512 q hq, Finset.sum_range]
  rfl

theorem WA_block (n q : ℕ) (hq : q < 512) (d : Fin 128) :
    WA x v (n + (q + 1)) d = WA x v n d + ∑ r : Fin 512, v (n + r.val) d * pw (r.val ≤ q) (x (n + r.val)) := by
  rw [WA_add, ← sum_ite_range _ 512 q hq, Finset.sum_range]
  refine congrArg _ (Finset.sum_congr rfl fun r _ => ?_)
  unfold pw
  split <;> simp

/-- A block of keys taken by a column that has seen the keys before it; the last of them seen is `q`. -/
theorem good_block (n q : ℕ) (hq : q < 512) (b : Col) (hb : n = 0 ∧ b = ⟨⊥, 0, fun _ => 0⟩ ∨ Good b (WL x n) (WA x v n)) :
    Good (b.step (fun r => msk (r.val ≤ q) (x (n + r.val))) (fun d r => (v (n + r.val) d : EReal))) (WL x (n + (q + 1))) (WA x v (n + (q + 1))) := by
  rw [WL_block x n q hq, show WA x v (n + (q + 1)) = fun d => _ from funext fun d => WA_block x v n q hq d]
  rcases hb with ⟨rfl, rfl⟩ | hb
  · have h := good_first (fun r : Fin 512 => r.val ≤ q) (fun r => x (0 + r.val)) (fun d r => v (0 + r.val) d) ⟨⟨0, by omega⟩, Nat.zero_le _⟩
    simpa [WL, WA] using h
  · exact good_step (fun r : Fin 512 => r.val ≤ q) (fun r => x (n + r.val)) (fun d r => v (n + r.val) d) b _ _ hb

include hs hV in
theorem good_St : ∀ n ≤ j, n = 0 ∧ cB (St K Q V hd q0 n) c = ⟨⊥, 0, fun _ => 0⟩ ∨ Good (cB (St K Q V hd q0 n) c) (WL x (512 * n)) (WA x v (512 * n)) := by
  intro n
  induction n with
  | zero => exact fun _ => Or.inl ⟨rfl, cB_q0 c⟩
  | succ n ih =>
    intro hn
    right
    have h := good_block x v (512 * n) 511 (by omega) (cB (St K Q V hd q0 n) c)
      ((ih (by omega)).imp (fun h => ⟨by rw [h.1], h.2⟩) id)
    rw [show 512 * (n + 1) = 512 * n + (511 + 1) by omega]
    show Good (cB (stH (SC K Q hd n) (VB V hd n) (St K Q V hd q0 n)) c) _ _
    rw [cB_stH]
    have e1 : (fun r : Fin 512 => SC K Q hd n (ix2 r c)) = fun r => msk (r.val ≤ 511) (x (512 * n + r.val)) := funext fun r => by
      rw [hs n (by omega) r, msk, if_pos (by omega)]
    have e2 : (fun (d : Fin 128) (r : Fin 512) => VB V hd n (ix2 d r)) = fun d r => (v (512 * n + r.val) d : EReal) :=
      funext fun d => funext fun r => hV n (by omega) d r
    rw [e1, e2]
    exact h

include hs hV in
theorem good_FIN : Good (cB (FIN K Q V hd j) c) (WL x (512 * j + (c.val % 512 + 1))) (WA x v (512 * j + (c.val % 512 + 1))) := by
  unfold FIN
  rw [cB_stH]
  have e1 : (fun r : Fin 512 => MSK (SC K Q hd j) (ix2 r c)) = fun r => msk (r.val ≤ c.val % 512) (x (512 * j + r.val)) := funext fun r => by
    rw [MSK_apply, hs j le_rfl r]
    rfl
  have e2 : (fun (d : Fin 128) (r : Fin 512) => VB V hd j (ix2 d r)) = fun d r => (v (512 * j + r.val) d : EReal) :=
    funext fun d => funext fun r => hV j le_rfl d r
  rw [e1, e2]
  exact good_block x v (512 * j) (c.val % 512) (Nat.mod_lt _ (by omega)) _
    ((good_St K Q V hd j c x v hs hV j le_rfl).imp (fun h => ⟨by rw [h.1], h.2⟩) id)

theorem WL_pos (n : ℕ) : 0 < WL x (n + 1) :=
  Finset.sum_pos (fun _ _ => Real.rpow_pos_of_pos (by norm_num) _) ⟨0, Finset.mem_range.mpr (by omega)⟩

include hs hV in
/-- What a column gives in the end: the weighted average over the keys up to its query. -/
theorem odiv_FIN (d : Fin 128) : odiv (FIN K Q V hd j).2.1 (FIN K Q V hd j).2.2 d c
    = ((WA x v (512 * j + c.val % 512 + 1) d / WL x (512 * j + c.val % 512 + 1) : ℝ) : EReal) :=
  good_div (cB (FIN K Q V hd j) c) _ _ (good_FIN K Q V hd j c x v hs hV) (WL_pos x (512 * j + c.val % 512)) d
end

/-- A score is a product over the 64 lanes of its half: the other lanes of the query are zero. -/
theorem SC_QW (x0 : Vec Ideal S512x256 .bf16) (x1 : Vec Ideal S4096x256 .bf16) (hd : Fin 2) (jj : ℕ) (r : Fin 512) (c : Fin 1024) (cc : Fin 2) (q : Fin 512)
    (hc : c.val = 512 * cc.val + q.val) (kk qq : Fin 64 → ℝ)
    (hk : ∀ e : Fin 64, rowK x1 hd (512 * jj + r.val) ⟨64 * cc.val + e.val, by omega⟩ = (kk e : EReal))
    (hq : ∀ e : Fin 64, x0 (ix2 q ⟨128 * hd.val + (64 * cc.val + e.val), by omega⟩) = (qq e : EReal)) :
    SC x1 (QW x0 hd) hd jj (ix2 r c) = ((∑ e, kk e * qq e : ℝ) : EReal) := by
  have h0 : SC x1 (QW x0 hd) hd jj (ix2 r c) = ∑ d : Fin (64 + 64), rowK x1 hd (512 * jj + r.val) d * QW x0 hd (ix2 d c) := rfl
  rw [h0, Fin.sum_univ_add, coe_sum]
  obtain ⟨cv, hcv⟩ := cc
  have hlo : ∀ e : Fin 64, QW x0 hd (ix2 (Fin.castAdd 64 e) c) = if cv = 0 then x0 (ix2 q ⟨128 * hd.val + e.val, by omega⟩) else 0 := fun e => by
    show QH _ (Fin.castAdd 64 e) c = _
    unfold QH
    have he : (Fin.castAdd 64 e : Fin 128).val = e.val := rfl
    by_cases h : cv = 0
    · subst h
      have hcq : c.val = q.val := by dsimp only at hc; omega
      rw [if_pos rfl, dif_pos (by rw [hcq]; exact q.isLt), if_pos (by rw [he]; exact e.isLt)]
      show x0 (ix2 ⟨c.val, _⟩ ⟨128 * hd.val + e.val, _⟩) = _
      congr 2
      exact Fin.ext hcq
    · have h1 : cv = 1 := by omega
      subst h1
      dsimp only at hc
      rw [if_neg h, dif_neg (by omega), if_neg (by rw [he]; omega)]
  have hhi : ∀ e : Fin 64, QW x0 hd (ix2 (Fin.natAdd 64 e) c) = if cv = 0 then 0 else x0 (ix2 q ⟨128 * hd.val + (64 + e.val), by omega⟩) := fun e => by
    show QH _ (Fin.natAdd 64 e) c = _
    unfold QH
    have he : (Fin.natAdd 64 e : Fin 128).val = 64 + e.val := rfl
    by_cases h : cv = 0
    · subst h
      have hcq : c.val = q.val := by dsimp only at hc; omega
      rw [if_pos rfl, dif_pos (by rw [hcq]; exact q.isLt), if_neg (by rw [he]; omega)]
    · have h1 : cv = 1 := by omega
      subst h1
      dsimp only at hc
      rw [if_neg h, dif_neg (by omega), if_pos (by rw [he]; omega)]
      show x0 (ix2 ⟨c.val - 512, _⟩ ⟨128 * hd.val + (64 + e.val), _⟩) = _
      congr 2
      exact Fin.ext (by show c.val - 512 = q.val; omega)
  simp only [hlo, hhi]
  by_cases h : cv = 0
  · subst h
    simp only [if_pos, mul_zero, Finset.sum_const_zero, add_zero]
    refine Finset.sum_congr rfl fun e _ => ?_
    rw [EReal.coe_mul, ← hk e, ← hq e]
    exact congrArg₂ (fun y z : EReal => y * z)
      (congrArg (rowK x1 hd (512 * jj + r.val)) (Fin.ext (by show e.val = 64 * 0 + e.val; omega) : (Fin.castAdd 64 e : Fin 128) = ⟨64 * 0 + e.val, by omega⟩))
      (congrArg (fun z : Fin 256 => x0 (ix2 q z))
        (Fin.ext (by show 128 * hd.val + e.val = 128 * hd.val + (64 * 0 + e.val); omega) : (⟨128 * hd.val + e.val, by omega⟩ : Fin 256) = ⟨128 * hd.val + (64 * 0 + e.val), by omega⟩))
  · have h1 : cv = 1 := by omega
    subst h1
    simp only [if_neg h, mul_zero, Finset.sum_const_zero, zero_add]
    refine Finset.sum_congr rfl fun e _ => ?_
    rw [EReal.coe_mul, ← hk e, ← hq e]
    rfl

/-- One entry of a tile, over a real λ and the two halves' real weighted averages. -/
theorem OUTB_apply (x0 : Vec Ideal S512x256 .bf16) (x1 : Vec Ideal S4096x256 .bf16) (V : Vec Ideal S2x8x128x512 .bf16) (x3 : Vec Ideal S4x64 .f32) (x4 : Vec Ideal S2x1x128 .f32)
    (j : ℕ) (hd : Fin 2) (r : Fin 512) (x : Fin 2 → ℕ → ℝ) (v : ℕ → Fin 128 → ℝ) (lam : ℝ) (hl : lamE x3 = (lam : EReal))
    (hs : ∀ (cc : Fin 2), ∀ jj ≤ j, ∀ r' : Fin 512, SC x1 (QW x0 hd) hd jj (ix2 r' ⟨512 * cc.val + r.val, by omega⟩) = (x cc (512 * jj + r'.val) : EReal))
    (hV : ∀ jj ≤ j, ∀ (d : Fin 128) (r : Fin 512), VB V hd jj (ix2 d r) = (v (512 * jj + r.val) d : EReal)) (d : Fin 128) :
    OUTB x0 x1 V x3 x4 j hd (ix2 r d)
      = (rms (fun d => ((WA (x 0) v (512 * j + r.val + 1) d / WL (x 0) (512 * j + r.val + 1)
          - lam * (WA (x 1) v (512 * j + r.val + 1) d / WL (x 1) (512 * j + r.val + 1)) : ℝ) : EReal)) d
        * x4 (ix3 hd 0 d)) * Ideal.ofBits .f32 0x3F4CCCCD#32 := by
  unfold OUTB
  rw [OG_apply, ON_apply, pay169_apply, hl]
  have e : odiff (lam : EReal) (FIN x1 (QW x0 hd) V hd j).2.1 (FIN x1 (QW x0 hd) V hd j).2.2 r
      = fun d => ((WA (x 0) v (512 * j + r.val + 1) d / WL (x 0) (512 * j + r.val + 1)
          - lam * (WA (x 1) v (512 * j + r.val + 1) d / WL (x 1) (512 * j + r.val + 1)) : ℝ) : EReal) := funext fun d => by
    unfold odiff
    have h0 := odiv_FIN x1 (QW x0 hd) V hd j ⟨512 * 0 + r.val, by omega⟩ (x 0) v (hs 0) hV d
    have h1 := odiv_FIN x1 (QW x0 hd) V hd j ⟨512 * 1 + r.val, by omega⟩ (x 1) v (hs 1) hV d
    have m1 : (512 * 1 + r.val) % 512 = r.val := by omega
    simp only [Nat.mul_zero, Nat.zero_add, Nat.mod_eq_of_lt r.isLt] at h0
    simp only [m1, Nat.mul_one] at h1
    rw [EReal.coe_sub, EReal.coe_mul, ← h0, ← h1]
  rw [e]
  rfl

end Cert.AttnIdeal.Val

end
-- ==== Proof.AttnSpec.lean ====
module

public import proofs.«01_k».proof.Proof.AttnCol

/-! The differential attention over real queries, keys and values: what both programs compute. -/

@[expose] public section

set_option maxRecDepth 16384

noncomputable section

namespace Cert.AttnIdeal.Val

open Cert.AttnIdeal Cert.AttnIdeal.Gen
open Idealize.ShloMosaic Idealize.ShloMosaic.TcCoe Idealize.SL.Sem

section
variable (q k v : Fin 4 → Fin 4096 → Fin 4 → Fin 128 → ℝ)

/-- The score of key `n` for the query `t` of head `h`, in half `cc` of the lanes. -/
def sco (b : Fin 4) (t : Fin 4096) (h : Fin 4) (cc : Fin 2) (n : ℕ) : ℝ :=
  if hn : n < 4096 then (∑ e : Fin 64, q b t h ⟨64 * cc.val + e.val, by omega⟩ * k b ⟨n, hn⟩ h ⟨64 * cc.val + e.val, by omega⟩) * 0.125 else 0

/-- The value of key `n`. -/
def val (b : Fin 4) (h : Fin 4) (n : ℕ) (d : Fin 128) : ℝ := if hn : n < 4096 then v b ⟨n, hn⟩ h d else 0

/-- The attention of half `cc`: the values up to the query, weighted by the exponentials of their scores. -/
def att (b : Fin 4) (t : Fin 4096) (h : Fin 4) (cc : Fin 2) (d : Fin 128) : ℝ :=
  WA (fun n => sco q k b t h cc n / Real.log 2) (val v b h) (t.val + 1) d / WL (fun n => sco q k b t h cc n / Real.log 2) (t.val + 1)

/-- The difference of the two halves, normalised by its root mean square, with gain and scale. -/
def OUT (lam : ℝ) (g : Fin 4 → Fin 128 → EReal) (b : Fin 4) (t : Fin 4096) (h : Fin 4) (d : Fin 128) : EReal :=
  (rms (fun d => ((att q k v b t h 0 d - lam * att q k v b t h 1 d : ℝ) : EReal)) d * g h d) * Ideal.ofBits .f32 0x3F4CCCCD#32

end

theorem bits_eighth : Ideal.ofBits .f32 0x3E000000#32 = ((0.125 : ℝ) : EReal) := by
  simp [Ideal.ofBits, Ideal.ieee]
  rw [← EReal.coe_mul]
  norm_num

theorem bits_two : Ideal.ofBits .f32 0x40000000#32 = ((2 : ℝ) : EReal) := by
  simp [Ideal.ofBits, Ideal.ieee]
  rw [← EReal.coe_mul]
  norm_num

theorem bits_negInf : Ideal.ofBits .f32 0xFF800000#32 = (⊥ : EReal) := by
  simp [Ideal.ofBits, Ideal.ieee]

/-- The scale of the queries: an eighth over the logarithm of two. -/
theorem qscale : Ideal.div (Ideal.ofBits .f32 0x3E000000#32) (Ideal.log (Ideal.ofBits .f32 0x40000000#32)) = ((0.125 / Real.log 2 : ℝ) : EReal) := by
  have h2 : Real.log 2 ≠ 0 := (Real.log_pos (by norm_num)).ne'
  rw [bits_eighth, bits_two, Ideal.log_coe, if_neg (by norm_num), Ideal.div_coe h2, ← EReal.coe_mul, mul_one_div]

theorem rpow_two_div (y : ℝ) : Real.rpow 2 (y / Real.log 2) = Real.exp y := by
  have h2 : Real.log 2 ≠ 0 := (Real.log_pos (by norm_num)).ne'
  show (2 : ℝ) ^ (y / Real.log 2) = _
  rw [Real.rpow_def_of_pos (by norm_num), mul_div_cancel₀ _ h2]

end Cert.AttnIdeal.Val

end
-- ==== Proof.AttnFinal.lean ====
module

public import proofs.«01_k».proof.Proof.AttnHost
public import proofs.«01_k».proof.Proof.AttnSpec

/-! The kernel over finite queries, keys, values and λ: what every block holds, and the whole result. -/

@[expose] public section

set_option maxRecDepth 16384

noncomputable section

namespace Cert.AttnIdeal.Val

open Cert.AttnIdeal Cert.AttnIdeal.Gen
open Idealize.ShloMosaic Idealize.ShloMosaic.TcCoe Idealize.SL.Sem

variable (m : (ℓ : Loc nD τ sig) → Buf (Elt Ideal) ℓ) (c : Dev nD)
variable (q k v : Fin 4 → Fin 4096 → Fin 4 → Fin 128 → ℝ) (lam : ℝ) (g : Fin 4 → Fin 128 → EReal)

/-- λ from its four rows, given entry by entry. -/
def lamV (Y : Fin 4 → Fin 64 → EReal) : EReal :=
  (Ideal.exp (∑ j, Y 0 j * Y 1 j) - Ideal.exp (∑ j, Y 2 j * Y 3 j)) + Ideal.ofBits .f32 0x3E4CCCCD#32

theorem lamE_eq (X : FVec Ideal S4x64 .f32) (Y : Fin 4 → Fin 64 → EReal) (h : ∀ r j, X (ix2 r j) = Y r j) : lamE X = lamV Y := by
  unfold lamE lamV
  simp only [h]

/-- The arguments are these reals, λ comes out as `lam`, the gains are `g`. -/
structure Args : Prop where
  hq : ∀ b t h d, m ((c : Thread nD τ).loc main_arg0) (ix4 b t h d) = (q b t h d : EReal)
  hk : ∀ b t h d, m ((c : Thread nD τ).loc main_arg1) (ix4 b t h d) = (k b t h d : EReal)
  hv : ∀ b t h d, m ((c : Thread nD τ).loc main_arg2) (ix4 b t h d) = (v b t h d : EReal)
  hl : lamV (fun r j => m ((c : Thread nD τ).loc main_arg3) (ix3 0 r j)) = (lam : EReal)
  hg : ∀ h d, m ((c : Thread nD τ).loc main_arg4) (ix3 0 h d) = g h d

variable {m c q k v lam g}

theorem lam_block (A : Args m c q k v lam g) (t : Fin cfg0.N) : lamE (iblk m c 3 t) = (lam : EReal) := by
  exact (lamE_eq _ _ fun r j => (iblk3_apply m c t r j).trans (V10_apply m c r j)).trans A.hl

theorem query_block (A : Args m c q k v lam g) (t : Fin cfg0.N) (hd : Fin 2) (r : Fin 512) (d : Fin 128) :
    iblk m c 0 t (ix2 r ⟨128 * hd.val + d.val, by omega⟩)
      = ((q ⟨t.val / 16, by have := lt64 t; omega⟩ ⟨512 * (t.val % 8) + r.val, by omega⟩ ⟨2 * (t.val / 8 % 2) + hd.val, by omega⟩ d * (0.125 / Real.log 2) : ℝ) : EReal) := by
  refine (iblk0_apply m c t r _).trans ((congrArg₂ (fun a b => V m c main_v5 (ix2 a b)) (Fin.ext ?_) (Fin.ext ?_)).trans
    ((V5_apply m c ⟨t.val / 16, by have := lt64 t; omega⟩ ⟨512 * (t.val % 8) + r.val, by omega⟩ ⟨2 * (t.val / 8 % 2) + hd.val, by omega⟩ d).trans ?_))
  · show 4096 * (t.val / 16) + 512 * (t.val % 8) + r.val = 4096 * (t.val / 16) + (512 * (t.val % 8) + r.val)
    omega
  · show 256 * (t.val / 8 % 2) + (128 * hd.val + d.val) = 128 * (2 * (t.val / 8 % 2) + hd.val) + d.val
    omega
  · rw [qscale, A.hq, EReal.coe_mul]

theorem key_block (A : Args m c q k v lam g) (t : Fin cfg0.N) (hd : Fin 2) (n : Fin 4096) (d : Fin 128) :
    iblk m c 1 t (ix2 n ⟨128 * hd.val + d.val, by omega⟩)
      = (k ⟨t.val / 16, by have := lt64 t; omega⟩ n ⟨2 * (t.val / 8 % 2) + hd.val, by omega⟩ d : EReal) := by
  refine (iblk1_apply m c t n _).trans ((congrArg₂ (fun a b => V m c main_v7 (ix2 a b)) (Fin.ext ?_) (Fin.ext ?_)).trans
    ((V7_apply m c ⟨t.val / 16, by have := lt64 t; omega⟩ n ⟨2 * (t.val / 8 % 2) + hd.val, by omega⟩ d).trans (A.hk _ _ _ _)))
  · rfl
  · show 256 * (t.val / 8 % 2) + (128 * hd.val + d.val) = 128 * (2 * (t.val / 8 % 2) + hd.val) + d.val
    omega

theorem value_block (A : Args m c q k v lam g) (t : Fin cfg0.N) (hd : Fin 2) (n : Fin 4096) (d : Fin 128) :
    iblk m c 2 t (ix2 n ⟨128 * hd.val + d.val, by omega⟩)
      = (v ⟨t.val / 16, by have := lt64 t; omega⟩ n ⟨2 * (t.val / 8 % 2) + hd.val, by omega⟩ d : EReal) := by
  refine (iblk2_apply m c t n _).trans ((congrArg₂ (fun a b => V m c main_v9 (ix2 a b)) (Fin.ext ?_) (Fin.ext ?_)).trans
    ((V9_apply m c ⟨t.val / 16, by have := lt64 t; omega⟩ n ⟨2 * (t.val / 8 % 2) + hd.val, by omega⟩ d).trans (A.hv _ _ _ _)))
  · rfl
  · show 256 * (t.val / 8 % 2) + (128 * hd.val + d.val) = 128 * (2 * (t.val / 8 % 2) + hd.val) + d.val
    omega

/-- The output block of a point: the differential attention of its 512 queries and two heads. -/
theorem block_out (A : Args m c q k v lam g) (t : Fin cfg0.N) (r : Fin 512) (hd : Fin 2) (d : Fin 128) :
    (outsAt0 m c t.val t.isLt).1 (ix2 r ⟨128 * hd.val + d.val, by omega⟩)
      = OUT q k v lam g ⟨t.val / 16, by have := lt64 t; omega⟩ ⟨512 * (t.val % 8) + r.val, by omega⟩ ⟨2 * (t.val / 8 % 2) + hd.val, by omega⟩ d := by
  have ht := lt64 t
  refine (block_apply m c t r hd d).trans ((OUTB_apply _ _ _ _ _ (t.val % 8) hd r
    (fun cc n => sco q k ⟨t.val / 16, by omega⟩ ⟨512 * (t.val % 8) + r.val, by omega⟩ ⟨2 * (t.val / 8 % 2) + hd.val, by omega⟩ cc n / Real.log 2)
    (val v ⟨t.val / 16, by omega⟩ ⟨2 * (t.val / 8 % 2) + hd.val, by omega⟩) lam (lam_block A t) ?_ ?_ d).trans ?_)
  · intro cc jj hjj r'
    have hn : 512 * jj + r'.val < 4096 := by omega
    refine (SC_QW _ _ hd jj r' _ cc r rfl
      (fun e => k ⟨t.val / 16, by omega⟩ ⟨512 * jj + r'.val, hn⟩ ⟨2 * (t.val / 8 % 2) + hd.val, by omega⟩ ⟨64 * cc.val + e.val, by omega⟩)
      (fun e => q ⟨t.val / 16, by omega⟩ ⟨512 * (t.val % 8) + r.val, by omega⟩ ⟨2 * (t.val / 8 % 2) + hd.val, by omega⟩ ⟨64 * cc.val + e.val, by omega⟩ * (0.125 / Real.log 2))
      (fun e => ?_) (fun e => ?_)).trans ?_
    · unfold rowK
      rw [dif_pos hn]
      exact key_block A t hd ⟨512 * jj + r'.val, hn⟩ ⟨64 * cc.val + e.val, by omega⟩
    · exact query_block A t hd r ⟨64 * cc.val + e.val, by omega⟩
    · congr 1
      unfold sco
      rw [dif_pos hn, mul_div_assoc, Finset.sum_mul]
      refine Finset.sum_congr rfl fun e _ => ?_
      ring
  · intro jj hjj d r'
    have hn : 512 * jj + r'.val < 4096 := by omega
    have hj : jj < 8 := by omega
    unfold VB val
    rw [dif_pos hj, dif_pos hn]
    exact value_block A t hd ⟨512 * jj + r'.val, hn⟩ d
  · have e4 : iblk m c 4 t (ix3 hd 0 d) = g ⟨2 * (t.val / 8 % 2) + hd.val, by omega⟩ d :=
      (iblk4_apply m c t hd d).trans ((V12_apply m c _ d).trans (A.hg _ _))
    rw [e4]
    rfl

/-- Every entry of the result. -/
def RES (q k v : Fin 4 → Fin 4096 → Fin 4 → Fin 128 → ℝ) (lam : ℝ) (g : Fin 4 → Fin 128 → EReal) : FVec Ideal S16384x512 .bf16 := fun p =>
  OUT q k v lam g ⟨(p 0).val / 4096, by have h : (p 0).val < 16384 := (p 0).isLt; omega⟩ ⟨(p 0).val % 4096, Nat.mod_lt _ (by omega)⟩
    ⟨(p 1).val / 128, by have h : (p 1).val < 512 := (p 1).isLt; omega⟩ ⟨(p 1).val % 128, Nat.mod_lt _ (by omega)⟩

theorem RES_apply (b : Fin 4) (t : Fin 4096) (h : Fin 4) (d : Fin 128) (p : S16384x512.Idx) (ha : (p 0).val = 4096 * b.val + t.val) (he : (p 1).val = 128 * h.val + d.val) :
    RES q k v lam g p = OUT q k v lam g b t h d := by
  unfold RES
  congr 1
  · exact Fin.ext (by show (p 0).val / 4096 = b.val; omega)
  · exact Fin.ext (by show (p 0).val % 4096 = t.val; omega)
  · exact Fin.ext (by show (p 1).val / 128 = h.val; omega)
  · exact Fin.ext (by show (p 1).val % 128 = d.val; omega)

/-- The kernel's result array. -/
theorem final_eq (A : Args m c q k v lam g) : (dats m 0 c).arrAt 5 cfg0.N = RES q k v lam g := by
  refine (dats m 0 c).arrAt_eq_of_covers 5 _ (by decide +kernel) fun t hf y => ?_
  obtain ⟨r, cc, rfl⟩ : ∃ (r : Fin 512) (cc : Fin 256), y = ix2 r cc := ⟨y 0, y 1, eq_ix2 y⟩
  obtain ⟨hd, d, rfl⟩ : ∃ (hd : Fin 2) (d : Fin 128), cc = ⟨128 * hd.val + d.val, by omega⟩ :=
    ⟨⟨cc.val / 128, by omega⟩, ⟨cc.val % 128, by omega⟩, Fin.ext (by show cc.val = 128 * (cc.val / 128) + cc.val % 128; omega)⟩
  have ht := lt64 t
  blk_simp
  rw [after0_5]
  refine (block_out A t r hd d).trans (RES_apply _ _ _ _ _ ?_ ?_).symm
  · blk_simp [idx t]
    dsimp only
    omega
  · blk_simp [idx t]
    dsimp only
    omega

end Cert.AttnIdeal.Val

end
-- ==== Proof.AttnRef.lean ====
module

public import proofs.«01_k».proof.Proof.Gen.AttnRefIdeal.Run
public import Idealize.ShloMosaic.Lib.Pipeline.ReadBack
public import Idealize.ShloMosaic.Lib.Pipeline.ValueKit
public import Idealize.ShloMosaic.Lib.Pointwise
public import Idealize.ShloMosaic.Lib.ValueLayout
public import Idealize.ShloMosaic.Lib.VecWindow
public import Idealize.ShloMosaic.Lib.WordCmp

/-! The reference's result, stage by stage: the masked scores, their softmax, the difference of the two halves, the attention, its
normalisation; each stage entry by entry. -/

@[expose] public section

set_option maxRecDepth 16384

noncomputable section

namespace Cert.AttnRefIdeal.Val

open Cert.AttnRefIdeal Cert.AttnRefIdeal.Gen
open Idealize.ShloMosaic Idealize.ShloMosaic.TcCoe Idealize.SL.Sem

/-- The scores. -/
def RS (a0 a1 : FVec Ideal S4x4096x4x128 .f32) : FVec Ideal S4x4x2x4096x4096 .f32 :=
  mulf (Host.dotGeneral dot_S4x4096x4x2x64_S4x4096x4x2x64_S4x4x2x4096x4096_4_4_1_1_023_023 none (shapeCast _ a0 shapeCasts_S4x4096x4x128_S4x4096x4x2x64) (shapeCast _ a1 shapeCasts_S4x4096x4x128_S4x4096x4x2x64)) (broadcastInDim S4x4x2x4096x4096 ![] bcast_S_S4x4x2x4096x4096 (constant S_ .f32 0x3E000000#32))

/-- The scores of later keys masked. -/
def RM (s : FVec Ideal S4x4x2x4096x4096 .f32) : FVec Ideal S4x4x2x4096x4096 .f32 :=
  select (broadcastInDim S4x4x2x4096x4096 ![0, 1, 2, 3, 4] bcast_S1x1x1x4096x4096_S4x4x2x4096x4096_0_1_2_3_4 (broadcastInDim S1x1x1x4096x4096 ![3, 4] bcast_S4096x4096_S1x1x1x4096x4096_3_4 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))) s (broadcastInDim S4x4x2x4096x4096 ![] bcast_S_S4x4x2x4096x4096 (id (constant S_ .f32 0xFF800000#32)))

/-- The maximum of each query's scores. -/
def RMX (s : FVec Ideal S4x4x2x4096x4096 .f32) : FVec Ideal S4x4x2x4096 .f32 :=
  maximumf (broadcastInDim S4x4x2x4096 ![] bcast_S_S4x4x2x4096 (constant S_ .f32 0xFF800000#32)) (Host.reduce FloatOps.maximumf s (constant S_ .f32 0xFF800000#32) reducesTo_S4x4x2x4096x4096_S4x4x2x4096_d4 h_S_)

/-- The exponentials. -/
def RE (s : FVec Ideal S4x4x2x4096x4096 .f32) (x : FVec Ideal S4x4x2x4096 .f32) : FVec Ideal S4x4x2x4096x4096 .f32 :=
  Host.exp (subf s (broadcastInDim S4x4x2x4096x4096 ![0, 1, 2, 3, 4] bcast_S4x4x2x4096x1_S4x4x2x4096x4096_0_1_2_3_4 (broadcastInDim S4x4x2x4096x1 ![0, 1, 2, 3] bcast_S4x4x2x4096_S4x4x2x4096x1_0_1_2_3 x)))

/-- The weights: the exponentials over their sum. -/
def RP (e : FVec Ideal S4x4x2x4096x4096 .f32) : FVec Ideal S4x4x2x4096x4096 .f32 :=
  Host.divf e (broadcastInDim S4x4x2x4096x4096 ![0, 1, 2, 3, 4] bcast_S4x4x2x4096x1_S4x4x2x4096x4096_0_1_2_3_4 (broadcastInDim S4x4x2x4096x1 ![0, 1, 2, 3] bcast_S4x4x2x4096_S4x4x2x4096x1_0_1_2_3 (Host.reduceAdd e (constant S_ .f32 0x00000000#32) reducesTo_S4x4x2x4096x4096_S4x4x2x4096_d4 h_S_)))

/-- λ. -/
def RL (a3 : FVec Ideal S1x4x64 .f32) : FVec Ideal S_ .f32 :=
  addf (subf (Host.exp (Host.reduceAdd (mulf (shapeCast _ (extractStridedSlice S1x64 ![0, 0] (shapeCast _ a3 shapeCasts_S1x4x64_S4x64) slices_S4x64_S1x64_0_0) shapeCasts_S1x64_S64) (shapeCast _ (extractStridedSlice S1x64 ![1, 0] (shapeCast _ a3 shapeCasts_S1x4x64_S4x64) slices_S4x64_S1x64_1_0) shapeCasts_S1x64_S64)) (constant S_ .f32 0x00000000#32) reducesTo_S64_S_d0 h_S_)) (Host.exp (Host.reduceAdd (mulf (shapeCast _ (extractStridedSlice S1x64 ![2, 0] (shapeCast _ a3 shapeCasts_S1x4x64_S4x64) slices_S4x64_S1x64_2_0) shapeCasts_S1x64_S64) (shapeCast _ (extractStridedSlice S1x64 ![3, 0] (shapeCast _ a3 shapeCasts_S1x4x64_S4x64) slices_S4x64_S1x64_3_0) shapeCasts_S1x64_S64)) (constant S_ .f32 0x00000000#32) reducesTo_S64_S_d0 h_S_))) (constant S_ .f32 0x3E4CCCCD#32)

/-- The difference of the two halves' weights. -/
def RD (p : FVec Ideal S4x4x2x4096x4096 .f32) (l : FVec Ideal S_ .f32) : FVec Ideal S4x4x4096x4096 .f32 :=
  subf (shapeCast _ (extractStridedSlice S4x4x1x4096x4096 ![0, 0, 0, 0, 0] p slices_S4x4x2x4096x4096_S4x4x1x4096x4096_0_0_0_0_0) shapeCasts_S4x4x1x4096x4096_S4x4x4096x4096) (mulf (broadcastInDim S4x4x4096x4096 ![] bcast_S_S4x4x4096x4096 l) (shapeCast _ (extractStridedSlice S4x4x1x4096x4096 ![0, 0, 1, 0, 0] p slices_S4x4x2x4096x4096_S4x4x1x4096x4096_0_0_1_0_0) shapeCasts_S4x4x1x4096x4096_S4x4x4096x4096))

/-- The values weighted. -/
def RA (a2 : FVec Ideal S4x4096x4x128 .f32) (w : FVec Ideal S4x4x4096x4096 .f32) : FVec Ideal S4x4096x4x128 .f32 :=
  transpose S4x4096x4x128 [0, 3, 1, 2] (Host.dotGeneral dot_S4x4096x4x128_S4x4x4096x4096_S4x4x128x4096_1_3_3_2_02_01 none a2 w) transposes_S4x4x128x4096_S4x4096x4x128_0_3_1_2

/-- The rows normalised, with gain and scale. -/
def RO (a : FVec Ideal S4x4096x4x128 .f32) (a4 : FVec Ideal S1x4x128 .f32) : FVec Ideal S4x4096x4x128 .f32 :=
  mulf (mulf (mulf a (broadcastInDim S4x4096x4x128 ![0, 1, 2, 3] bcast_S4x4096x4x1_S4x4096x4x128_0_1_2_3 (Host.rsqrt (addf (Host.divf (broadcastInDim S4x4096x4x1 ![0, 1, 2] bcast_S4x4096x4_S4x4096x4x1_0_1_2 (Host.reduceAdd (mulf a a) (constant S_ .f32 0x00000000#32) reducesTo_S4x4096x4x128_S4x4096x4_d3 h_S_)) (broadcastInDim S4x4096x4x1 ![] bcast_S_S4x4096x4x1 (constant S_ .f32 0x43000000#32))) (broadcastInDim S4x4096x4x1 ![] bcast_S_S4x4096x4x1 (constant S_ .f32 0x358637BD#32)))))) (broadcastInDim S4x4096x4x128 ![0, 1, 2, 3] bcast_S1x1x4x128_S4x4096x4x128_0_1_2_3 (broadcastInDim S1x1x4x128 ![2, 3] bcast_S4x128_S1x1x4x128_2_3 (shapeCast _ a4 shapeCasts_S1x4x128_S4x128)))) (broadcastInDim S4x4096x4x128 ![] bcast_S_S4x4096x4x128 (constant S_ .f32 0x3F4CCCCD#32))

/-- The weights of the masked scores. -/
def RW (a0 a1 : FVec Ideal S4x4096x4x128 .f32) : FVec Ideal S4x4x2x4096x4096 .f32 := RP (RE (RM (RS a0 a1)) (RMX (RM (RS a0 a1))))

variable (m : (ℓ : Loc nD τ sig) → Buf (Elt Ideal) ℓ)

/-- The reference's result is made of the stages. -/
theorem res_eq (c : Dev nD) : Cert.AttnRefIdeal.Value.res_main_v67 (F := Ideal) m c
    = truncf .bf16 (shapeCast S16384x512 (RO (RA (m ((c.tc : Thread nD τ).loc main_arg2)) (RD (RW (m ((c.tc : Thread nD τ).loc main_arg0)) (m ((c.tc : Thread nD τ).loc main_arg1))) (RL (m ((c.tc : Thread nD τ).loc main_arg3)))))
        (m ((c.tc : Thread nD τ).loc main_arg4))) shapeCasts_S4x4096x4x128_S16384x512) bitsLt_bf16_f32 := rfl

theorem RS_apply (a0 a1 : FVec Ideal S4x4096x4x128 .f32) (b h : Fin 4) (cc : Fin 2) (t n : Fin 4096) :
    RS a0 a1 (ix5 b h cc t n) = (∑ e : Fin 64, a0 (ix4 b t h ⟨64 * cc.val + e.val, by omega⟩) * a1 (ix4 b n h ⟨64 * cc.val + e.val, by omega⟩)) * Ideal.ofBits .f32 0x3E000000#32 := by
  unfold RS
  pointwise
  simp only [Nat.mul_comm 64]

theorem RM_apply (s : FVec Ideal S4x4x2x4096x4096 .f32) (b h : Fin 4) (cc : Fin 2) (t n : Fin 4096) :
    RM s (ix5 b h cc t n) = if n.val ≤ t.val then s (ix5 b h cc t n) else Ideal.ofBits .f32 0xFF800000#32 := by
  unfold RM
  pointwise
  rw [Idealize.ShloMosaic.WordCmp.cmpi_sle_ofNat (by have := n.isLt; norm_num; omega) (by have := t.isLt; norm_num; omega)]
  by_cases h : n.val ≤ t.val <;> simp [Scalar.select, h]
  rfl

theorem hostMax_apply {n0 n1 n2 n3 n4 : ℕ} (s : FVec Ideal ⟨5, ![n0, n1, n2, n3, n4]⟩ .f32) (init x0 : FVec Ideal S_ .f32)
    (h' : (⟨5, ![n0, n1, n2, n3, n4]⟩ : Shape).ReducesTo [4] ⟨4, ![n0, n1, n2, n3]⟩) (hu : 0 < S_.numel)
    (hb : S_.BroadcastsInDim ⟨4, ![n0, n1, n2, n3]⟩ (![] : Fin 0 → Fin 4)) (a : Fin n0) (b : Fin n1) (c : Fin n2) (t : Fin n3) :
    maximumf (broadcastInDim ⟨4, ![n0, n1, n2, n3]⟩ ![] hb x0) (Host.reduce FloatOps.maximumf s init h' hu) (ix4 a b c t)
      = max (x0 ix0) (Finset.univ.fold max (init ix0) fun n : Fin n4 => s (ix5 a b c t n)) := by
  have e : Shape.Idx.first hu = ix0 := funext fun a => Fin.elim0 a
  pointwise
  rw [e]

theorem RMX_apply (s : FVec Ideal S4x4x2x4096x4096 .f32) (b h : Fin 4) (cc : Fin 2) (t : Fin 4096) :
    RMX s (ix4 b h cc t) = max (constant (F := Ideal) S_ .f32 0xFF800000#32 ix0) (Finset.univ.fold max (constant (F := Ideal) S_ .f32 0xFF800000#32 ix0) fun n : Fin 4096 => s (ix5 b h cc t n)) := by
  unfold RMX
  exact hostMax_apply s _ _ _ _ _ b h cc t

theorem RE_apply (s : FVec Ideal S4x4x2x4096x4096 .f32) (x : FVec Ideal S4x4x2x4096 .f32) (b h : Fin 4) (cc : Fin 2) (t n : Fin 4096) :
    RE s x (ix5 b h cc t n) = Ideal.exp (s (ix5 b h cc t n) - x (ix4 b h cc t)) := by
  unfold RE
  pointwise
  done

theorem RP_apply (e : FVec Ideal S4x4x2x4096x4096 .f32) (b h : Fin 4) (cc : Fin 2) (t n : Fin 4096) :
    RP e (ix5 b h cc t n) = Ideal.div (e (ix5 b h cc t n)) (∑ n' : Fin 4096, e (ix5 b h cc t n')) := by
  unfold RP
  pointwise
  done

theorem RL_apply (a3 : FVec Ideal S1x4x64 .f32) :
    RL a3 ix0 = (Ideal.exp (∑ j : Fin 64, a3 (ix3 0 0 j) * a3 (ix3 0 1 j)) - Ideal.exp (∑ j : Fin 64, a3 (ix3 0 2 j) * a3 (ix3 0 3 j))) + Ideal.ofBits .f32 0x3E4CCCCD#32 := by
  unfold RL
  pointwise
  done

theorem RD_apply (p : FVec Ideal S4x4x2x4096x4096 .f32) (l : FVec Ideal S_ .f32) (b h : Fin 4) (t n : Fin 4096) :
    RD p l (ix4 b h t n) = p (ix5 b h 0 t n) - l ix0 * p (ix5 b h 1 t n) := by
  unfold RD
  pointwise
  done

theorem RA_apply (a2 : FVec Ideal S4x4096x4x128 .f32) (w : FVec Ideal S4x4x4096x4096 .f32) (b : Fin 4) (t : Fin 4096) (h : Fin 4) (d : Fin 128) :
    RA a2 w (ix4 b t h d) = ∑ n : Fin 4096, a2 (ix4 b n h d) * w (ix4 b h t n) := by
  unfold RA
  pointwise
  done

theorem RO_apply (a : FVec Ideal S4x4096x4x128 .f32) (a4 : FVec Ideal S1x4x128 .f32) (b : Fin 4) (t : Fin 4096) (h : Fin 4) (d : Fin 128) :
    RO a a4 (ix4 b t h d) = ((a (ix4 b t h d) * Ideal.rsqrt (Ideal.div (∑ e : Fin 128, a (ix4 b t h e) * a (ix4 b t h e)) (Ideal.ofBits .f32 0x43000000#32) + Ideal.ofBits .f32 0x358637BD#32))
        * a4 (ix3 0 h d)) * Ideal.ofBits .f32 0x3F4CCCCD#32 := by
  unfold RO
  pointwise
  done

/-- An entry of the flat result is an entry of the rows. -/
theorem flat_apply (x : FVec Ideal S4x4096x4x128 .f32) (b : Fin 4) (t : Fin 4096) (h : Fin 4) (d : Fin 128) (a : Fin 16384) (e : Fin 512)
    (ha : a.val = 4096 * b.val + t.val) (he : e.val = 128 * h.val + d.val) :
    truncf .bf16 (shapeCast S16384x512 x shapeCasts_S4x4096x4x128_S16384x512) bitsLt_bf16_f32 (ix2 a e) = x (ix4 b t h d) := by
  pointwise
  have e0 : a.val / 4096 = b.val := by omega
  have e1 : a.val % 4096 = t.val := by omega
  have e2 : e.val / 128 = h.val := by omega
  have e3 : e.val % 128 = d.val := by omega
  simp only [e0, e1, e2, e3]

end Cert.AttnRefIdeal.Val

end
-- ==== Proof.AttnRefVal.lean ====
module

public import proofs.«01_k».proof.Proof.AttnRef
public import proofs.«01_k».proof.Proof.AttnSpec

/-! The reference over finite queries, keys, values and λ: its softmax is a quotient of sums of exponentials, and its result the
differential attention of AttnSpec. -/

@[expose] public section

set_option maxRecDepth 16384

noncomputable section

namespace Cert.AttnRefIdeal.Val

open Cert.AttnRefIdeal Cert.AttnRefIdeal.Gen
open Idealize.ShloMosaic Idealize.ShloMosaic.TcCoe Idealize.SL.Sem
open Cert.AttnIdeal.Val (coe_sum msk msk_lt_top sco val att OUT rms WA WL sum_ite_range rpow_two_div bits_negInf bits_eighth)

section
variable {N : ℕ} (p : Fin N → Prop) [DecidablePred p] (x : Fin N → ℝ)

/-- The maximum of a row of masked real scores is real. -/
theorem max_real (hp : ∃ n, p n) : ∃ M : ℝ, max (⊥ : EReal) (Finset.univ.fold max ⊥ fun n => msk (p n) (x n)) = (M : EReal) := by
  obtain ⟨n0, h0⟩ := hp
  rw [max_eq_right bot_le]
  refine ⟨_, (EReal.coe_toReal (ne_of_lt ?_) (ne_of_gt ?_)).symm⟩
  · rw [Finset.fold_max_lt]
    exact ⟨bot_lt_top, fun n _ => msk_lt_top _ _⟩
  · refine lt_of_lt_of_le (EReal.bot_lt_coe (x n0)) ?_
    rw [Finset.le_fold_max]
    exact Or.inr ⟨n0, Finset.mem_univ _, by rw [msk, if_pos h0]⟩

theorem exp_msk (q : Prop) [Decidable q] (y M : ℝ) : Ideal.exp (msk q y - (M : EReal)) = ((Real.exp (-M) * (if q then Real.exp y else 0) : ℝ) : EReal) := by
  unfold msk
  split
  · rw [← EReal.coe_sub, Ideal.exp_coe, sub_eq_add_neg, add_comm, Real.exp_add]
  · rw [EReal.bot_sub, Ideal.exp_bot, mul_zero]
    rfl

/-- The softmax of a row of masked real scores. -/
theorem softmax_real (hp : ∃ n, p n) (X : EReal) (hX : X = max (⊥ : EReal) (Finset.univ.fold max ⊥ fun n => msk (p n) (x n))) (n : Fin N) :
    Ideal.div (Ideal.exp (msk (p n) (x n) - X)) (∑ n', Ideal.exp (msk (p n') (x n') - X))
      = (((if p n then Real.exp (x n) else 0) / ∑ n', if p n' then Real.exp (x n') else 0 : ℝ) : EReal) := by
  obtain ⟨M, hM⟩ := max_real p x hp
  rw [hX, hM]
  have hs : ∑ n', Ideal.exp (msk (p n') (x n') - (M : EReal)) = ((Real.exp (-M) * ∑ n', (if p n' then Real.exp (x n') else 0) : ℝ) : EReal) := by
    rw [Finset.mul_sum, coe_sum]
    exact Finset.sum_congr rfl fun n' _ => exp_msk _ _ _
  have h1 : 0 < Real.exp (-M) := Real.exp_pos _
  have h2 : 0 < ∑ n', (if p n' then Real.exp (x n') else 0) := by
    obtain ⟨n0, h0⟩ := hp
    refine Finset.sum_pos' (fun n' _ => ?_) ⟨n0, Finset.mem_univ _, ?_⟩
    · split
      · exact (Real.exp_pos _).le
      · exact le_rfl
    · rw [if_pos h0]
      exact Real.exp_pos _
  rw [hs, exp_msk, Ideal.div_coe (mul_pos h1 h2).ne', ← EReal.coe_mul]
  congr 1
  field_simp
end

variable (q k v : Fin 4 → Fin 4096 → Fin 4 → Fin 128 → ℝ) (lam : ℝ)
variable (a0 a1 a2 : FVec Ideal S4x4096x4x128 .f32)

/-- The weights of the reference, over real queries and keys. -/
theorem RW_apply (h0 : ∀ b t h d, a0 (ix4 b t h d) = (q b t h d : EReal)) (h1 : ∀ b t h d, a1 (ix4 b t h d) = (k b t h d : EReal))
    (b h : Fin 4) (cc : Fin 2) (t n : Fin 4096) :
    RW a0 a1 (ix5 b h cc t n) = (((if n.val ≤ t.val then Real.exp (sco q k b t h cc n.val) else 0) / WL (fun n => sco q k b t h cc n / Real.log 2) (t.val + 1) : ℝ) : EReal) := by
  have e1 : ∀ n : Fin 4096, RM (RS a0 a1) (ix5 b h cc t n) = msk (n.val ≤ t.val) (sco q k b t h cc n.val) := fun n => by
    rw [RM_apply, RS_apply, bits_negInf, bits_eighth]
    unfold msk sco
    rw [dif_pos n.isLt]
    split
    · rw [EReal.coe_mul, coe_sum]
      simp only [h0, h1, EReal.coe_mul]
    · rfl
  have e2 : RMX (RM (RS a0 a1)) (ix4 b h cc t) = max (⊥ : EReal) (Finset.univ.fold max ⊥ fun n : Fin 4096 => msk (n.val ≤ t.val) (sco q k b t h cc n.val)) := by
    rw [RMX_apply, show constant (F := Ideal) S_ .f32 0xFF800000#32 ix0 = (⊥ : EReal) from bits_negInf,
      show (fun n : Fin 4096 => RM (RS a0 a1) (ix5 b h cc t n)) = fun n => _ from funext e1]
  unfold RW
  rw [RP_apply]
  simp only [RE_apply, e1]
  rw [softmax_real (fun n : Fin 4096 => n.val ≤ t.val) (fun n : Fin 4096 => sco q k b t h cc n.val) ⟨t, le_rfl⟩ _ e2 n]
  refine congrArg (fun y : ℝ => (((if n.val ≤ t.val then Real.exp (sco q k b t h cc n.val) else 0) / y : ℝ) : EReal)) ?_
  unfold WL
  simp only [rpow_two_div]
  rw [← sum_ite_range (fun n => Real.exp (sco q k b t h cc n)) 4096 t.val t.isLt, Finset.sum_range]

/-- The attention of the reference. -/
theorem RA_real (h0 : ∀ b t h d, a0 (ix4 b t h d) = (q b t h d : EReal)) (h1 : ∀ b t h d, a1 (ix4 b t h d) = (k b t h d : EReal))
    (h2 : ∀ b t h d, a2 (ix4 b t h d) = (v b t h d : EReal)) (l : FVec Ideal S_ .f32) (hl : l ix0 = (lam : EReal))
    (b : Fin 4) (t : Fin 4096) (h : Fin 4) (d : Fin 128) :
    RA a2 (RD (RW a0 a1) l) (ix4 b t h d) = ((att q k v b t h 0 d - lam * att q k v b t h 1 d : ℝ) : EReal) := by
  have e : ∀ n : Fin 4096, a2 (ix4 b n h d) * RD (RW a0 a1) l (ix4 b h t n)
      = ((v b n h d * ((if n.val ≤ t.val then Real.exp (sco q k b t h 0 n.val) else 0) / WL (fun n => sco q k b t h 0 n / Real.log 2) (t.val + 1)
        - lam * ((if n.val ≤ t.val then Real.exp (sco q k b t h 1 n.val) else 0) / WL (fun n => sco q k b t h 1 n / Real.log 2) (t.val + 1))) : ℝ) : EReal) := fun n => by
    rw [RD_apply, hl, h2, RW_apply q k a0 a1 h0 h1 b h 0 t n, RW_apply q k a0 a1 h0 h1 b h 1 t n, ← EReal.coe_mul, ← EReal.coe_sub, ← EReal.coe_mul]
  have s : ∀ cc : Fin 2, att q k v b t h cc d
      = ∑ n : Fin 4096, v b n h d * ((if n.val ≤ t.val then Real.exp (sco q k b t h cc n.val) else 0) / WL (fun n => sco q k b t h cc n / Real.log 2) (t.val + 1)) := fun cc => by
    unfold att
    generalize WL (fun n => sco q k b t h cc n / Real.log 2) (t.val + 1) = L
    unfold WA
    simp only [rpow_two_div]
    rw [← sum_ite_range (fun n => val v b h n d * Real.exp (sco q k b t h cc n)) 4096 t.val t.isLt, Finset.sum_range, Finset.sum_div]
    refine Finset.sum_congr rfl fun n _ => ?_
    unfold val
    rw [dif_pos n.isLt]
    split
    · rw [mul_div_assoc]
    · simp
  rw [RA_apply, Finset.sum_congr rfl fun n _ => e n, ← coe_sum]
  congr 1
  rw [s 0, s 1, Finset.mul_sum, ← Finset.sum_sub_distrib]
  refine Finset.sum_congr rfl fun n _ => ?_
  ring

/-- An entry of the reference's rows. -/
theorem rows_apply (g : Fin 4 → Fin 128 → EReal) (h0 : ∀ b t h d, a0 (ix4 b t h d) = (q b t h d : EReal)) (h1 : ∀ b t h d, a1 (ix4 b t h d) = (k b t h d : EReal))
    (h2 : ∀ b t h d, a2 (ix4 b t h d) = (v b t h d : EReal)) (l : FVec Ideal S_ .f32) (hl : l ix0 = (lam : EReal)) (a4 : FVec Ideal S1x4x128 .f32)
    (h4 : ∀ h d, a4 (ix3 0 h d) = g h d) (b : Fin 4) (t : Fin 4096) (h : Fin 4) (d : Fin 128) :
    RO (RA a2 (RD (RW a0 a1) l)) a4 (ix4 b t h d) = OUT q k v lam g b t h d := by
  rw [RO_apply]
  simp only [RA_real q k v lam a0 a1 a2 h0 h1 h2 l hl, h4]
  rfl

end Cert.AttnRefIdeal.Val

end
-- ==== Proof.AttnPre.lean ====
module

public import proofs.«01_k».proof.Pre_finite
public import proofs.«01_k».proof.Proof.AttnFinal
public import proofs.«01_k».proof.Proof.AttnRefVal
public import Idealize.ShloMosaic.Lib.ReduceAll
public import Idealize.ShloMosaic.Lib.Affine

/-! What the precondition says: the entries of the first four arguments are real numbers. -/

@[expose] public section

set_option maxRecDepth 16384

noncomputable section

namespace Cert.Pre_finite

open Idealize.ShloMosaic

theorem bcast_S_S4x4096x4x128 : S_.BroadcastsInDim S4x4096x4x128 (![] : Fin 0 → Fin S4x4096x4x128.rank) := by decide
theorem reducesTo_S4x4096x4x128_S_d0_1_2_3 : S4x4096x4x128.ReducesTo [0, 1, 2, 3] S_ := by decide
theorem h_S_ : 0 < S_.numel := by decide
theorem bcast_S_S1x4x64 : S_.BroadcastsInDim S1x4x64 (![] : Fin 0 → Fin S1x4x64.rank) := by decide
theorem reducesTo_S1x4x64_S_d0_1_2 : S1x4x64.ReducesTo [0, 1, 2] S_ := by decide

/-- The shape relations the precondition's operations take. -/
theorem facts : Facts where
  bcast_S_S4x4096x4x128 := bcast_S_S4x4096x4x128
  reducesTo_S4x4096x4x128_S_d0_1_2_3 := reducesTo_S4x4096x4x128_S_d0_1_2_3
  h_S_ := h_S_
  bcast_S_S1x4x64 := bcast_S_S1x4x64
  reducesTo_S1x4x64_S_d0_1_2 := reducesTo_S1x4x64_S_d0_1_2

instance : Subsingleton S_.Idx := ⟨fun a b => funext fun i => i.elim0⟩

/-- An extended real whose absolute value is below ⊤ is real. -/
theorem real_of_lt (a : EReal) (h : Ideal.cmp .olt (max a (-a)) (Ideal.ofBits .f32 0x7F800000#32) = 1#1) : a = ((a.toReal : ℝ) : EReal) := by
  rw [show Ideal.ofBits .f32 0x7F800000#32 = (⊤ : EReal) by simp [Ideal.ofBits, Ideal.ieee]] at h
  simp only [Ideal.cmp] at h
  have h' : max a (-a) < ⊤ := by
    by_contra hc
    rw [decide_eq_false hc] at h
    exact absurd h (by decide)
  obtain ⟨h1, h2⟩ := max_lt_iff.1 h'
  refine (EReal.coe_toReal h1.ne ?_).symm
  rintro rfl
  exact absurd h2 (by simp)

/-- An array every entry of which passes the test has real entries. -/
theorem real_of_all {s : Shape} {axes : List (Fin s.rank)} (x : FVec Ideal s .f32) (hb : S_.BroadcastsInDim s (![] : Fin 0 → Fin s.rank)) (hr : s.ReducesTo axes S_) (hu : 0 < S_.numel)
    (init : IVec S_ 1) (j : S_.Idx)
    (h : Host.reduce IntOp.andi (cmpf .olt (Host.absf x) (broadcastInDim s ![] hb (constant (F := Ideal) S_ .f32 0x7F800000#32))) init hr hu j = 1#1) (i : s.Idx) :
    x i = (((x i : EReal).toReal : ℝ) : EReal) :=
  real_of_lt _ (Host.reduce_andi_all _ init hr hu j h i)

variable [Facts]

/-- The precondition, read: queries, keys, values and the rows of λ have real entries. -/
theorem real_of_fn (a0 a1 a2 : FVec Ideal S4x4096x4x128 .f32) (a3 : FVec Ideal S1x4x64 .f32) (a4 : FVec Ideal S1x4x128 .f32)
    (h : fn (F := Ideal) a0 a1 a2 a3 a4 = fun _ => 1#1) :
    (∀ i, a0 i = (((a0 i : EReal).toReal : ℝ) : EReal)) ∧ (∀ i, a1 i = (((a1 i : EReal).toReal : ℝ) : EReal))
      ∧ (∀ i, a2 i = (((a2 i : EReal).toReal : ℝ) : EReal)) ∧ (∀ i, a3 i = (((a3 i : EReal).toReal : ℝ) : EReal)) := by
  have h0 := congrFun h ix0
  dsimp only [fn, fn_part1] at h0
  obtain ⟨h012, h3⟩ := IntOp.andi_eq_one.1 h0
  obtain ⟨h01, h2⟩ := IntOp.andi_eq_one.1 h012
  obtain ⟨h0, h1⟩ := IntOp.andi_eq_one.1 h01
  exact ⟨real_of_all a0 _ _ _ _ _ h0, real_of_all a1 _ _ _ _ _ h1, real_of_all a2 _ _ _ _ _ h2, real_of_all a3 _ _ _ _ _ h3⟩

end Cert.Pre_finite

namespace Cert.AttnIdeal.Val

open Idealize.ShloMosaic

/-- λ of four real rows is real. -/
theorem lamV_real (Y : Fin 4 → Fin 64 → EReal) (y : Fin 4 → Fin 64 → ℝ) (h : ∀ r j, Y r j = (y r j : EReal)) : ∃ lam : ℝ, lamV Y = (lam : EReal) := by
  obtain ⟨e, he⟩ : ∃ e : ℝ, Ideal.ofBits .f32 0x3E4CCCCD#32 = (e : EReal) := by
    refine ⟨_, (EReal.coe_toReal ?_ ?_).symm⟩
    · simp [Ideal.ofBits, Ideal.ieee]
      rw [← EReal.coe_mul]
      exact EReal.coe_ne_top _
    · simp [Ideal.ofBits, Ideal.ieee]
      rw [← EReal.coe_mul]
      exact EReal.coe_ne_bot _
  refine ⟨Real.exp (∑ j, y 0 j * y 1 j) - Real.exp (∑ j, y 2 j * y 3 j) + e, ?_⟩
  unfold lamV
  simp only [h, he, ← EReal.coe_mul, ← coe_sum, Ideal.exp_coe, ← EReal.coe_sub, ← EReal.coe_add]

end Cert.AttnIdeal.Val

namespace Cert.AttnRefIdeal.Val

open Cert.AttnRefIdeal Cert.AttnRefIdeal.Gen
open Idealize.ShloMosaic Idealize.ShloMosaic.TcCoe Idealize.SL.Sem
open Cert.AttnIdeal.Val (Args RES RES_apply lamV)

variable {m : (ℓ : Loc Cert.AttnIdeal.nD Cert.AttnIdeal.τ Cert.AttnIdeal.sig) → Buf (Elt Ideal) ℓ} {c : Dev nD}
variable {q k v : Fin 4 → Fin 4096 → Fin 4 → Fin 128 → ℝ} {lam : ℝ} {g : Fin 4 → Fin 128 → EReal}

/-- The reference's result of the same arguments. -/
theorem ref_eq (A : Args m c q k v lam g) (a0 a1 a2 : FVec Ideal S4x4096x4x128 .f32) (a3 : FVec Ideal S1x4x64 .f32) (a4 : FVec Ideal S1x4x128 .f32)
    (e0 : a0 = m ((c.tc : Thread Cert.AttnIdeal.nD Cert.AttnIdeal.τ).loc Cert.AttnIdeal.main_arg0))
    (e1 : a1 = m ((c.tc : Thread Cert.AttnIdeal.nD Cert.AttnIdeal.τ).loc Cert.AttnIdeal.main_arg1))
    (e2 : a2 = m ((c.tc : Thread Cert.AttnIdeal.nD Cert.AttnIdeal.τ).loc Cert.AttnIdeal.main_arg2))
    (e3 : a3 = m ((c.tc : Thread Cert.AttnIdeal.nD Cert.AttnIdeal.τ).loc Cert.AttnIdeal.main_arg3))
    (e4 : a4 = m ((c.tc : Thread Cert.AttnIdeal.nD Cert.AttnIdeal.τ).loc Cert.AttnIdeal.main_arg4)) :
    truncf .bf16 (shapeCast S16384x512 (RO (RA a2 (RD (RW a0 a1) (RL a3))) a4) shapeCasts_S4x4096x4x128_S16384x512) bitsLt_bf16_f32 = RES q k v lam g := by
  funext p
  obtain ⟨a, e, rfl⟩ : ∃ (a : Fin 16384) (e : Fin 512), p = ix2 a e := ⟨p 0, p 1, eq_ix2 p⟩
  have ha := a.isLt
  have he := e.isLt
  have ea : a.val = 4096 * (a.val / 4096) + a.val % 4096 := by omega
  have ee : e.val = 128 * (e.val / 128) + e.val % 128 := by omega
  have hl : RL a3 ix0 = (lam : EReal) := by
    rw [RL_apply, e3]
    exact A.hl
  exact (flat_apply _ ⟨a.val / 4096, by omega⟩ ⟨a.val % 4096, by omega⟩ ⟨e.val / 128, by omega⟩ ⟨e.val % 128, by omega⟩ a e ea ee).trans
    ((rows_apply q k v lam a0 a1 a2 g (fun b t h d => (congrFun e0 _).trans (A.hq b t h d)) (fun b t h d => (congrFun e1 _).trans (A.hk b t h d))
      (fun b t h d => (congrFun e2 _).trans (A.hv b t h d)) (RL a3) hl a4 (fun h d => (congrFun e4 _).trans (A.hg h d)) _ _ _ _).trans
    (RES_apply ⟨a.val / 4096, by omega⟩ ⟨a.val % 4096, by omega⟩ ⟨e.val / 128, by omega⟩ ⟨e.val % 128, by omega⟩ (ix2 a e) ea ee).symm)

end Cert.AttnRefIdeal.Val

end
-- ==== Proof.FfnSpec.lean ====
module

public import Idealize.ShloMosaic.Lib.Pipeline.ValueKit
public import Idealize.ShloMosaic.Lib.Pointwise

/-! The feed-forward of a prompt, entry by entry: up-projection, causal convolution, gate, down-projection, normalisation and residual. -/

@[expose] public section

set_option maxRecDepth 16384

noncomputable section

namespace Cert.FfnSpec

open Idealize.ShloMosaic Idealize.ShloMosaic.TcCoe Idealize.SL.Sem

/-- A gate times a value, entry by entry. -/
def GT (g a : EReal) : EReal := (g * Ideal.logistic g) * a

/-- A row scaled by its reciprocal root mean square and the gains, added to the residual. -/
def YY (f g x : Fin 1024 → EReal) (d : Fin 1024) : EReal :=
  x d + (f d * Ideal.rsqrt (Ideal.div (∑ e, f e * f e) (Ideal.ofBits .f32 0x44800000#32) + Ideal.ofBits .f32 0x358637BD#32)) * g d

variable (a0 : FVec Ideal ⟨2, ![16384, 1024]⟩ .bf16) (a1 : FVec Ideal ⟨2, ![16384, 1024]⟩ .f32) (a2 : FVec Ideal ⟨3, ![1, 1024, 5504]⟩ .f32) (a3 : FVec Ideal ⟨3, ![1, 3, 5504]⟩ .f32)
  (a4 : FVec Ideal ⟨2, ![1, 5504]⟩ .f32) (a5 : FVec Ideal ⟨3, ![1, 2752, 1024]⟩ .f32) (a6 : FVec Ideal ⟨2, ![1, 1024]⟩ .f32)

/-- The up-projection. -/
def UP (R : Fin 16384) (k : Fin 5504) : EReal := ∑ e : Fin 1024, (show EReal from a0 (ix2 R e)) * a2 (ix3 0 e k)

/-- The up-projection of a sequence, two rows of zeros before it. -/
def XT (b : Fin 4) (s : Fin 4098) (k : Fin 5504) : EReal := if h : s.val < 2 then 0 else UP a0 a2 ⟨4096 * b.val + (s.val - 2), by omega⟩ k

/-- The causal convolution of width three. -/
def CC (b : Fin 4) (t : Fin 4096) (k : Fin 5504) : EReal :=
  (((show EReal from a4 (ix2 0 k)) + XT a0 a2 b ⟨t.val, by omega⟩ k * a3 (ix3 0 0 k)) + XT a0 a2 b ⟨t.val + 1, by omega⟩ k * a3 (ix3 0 1 k)) + XT a0 a2 b ⟨t.val + 2, by omega⟩ k * a3 (ix3 0 2 k)

/-- The gated hidden units projected down. -/
def DN (b : Fin 4) (t : Fin 4096) (d : Fin 1024) : EReal :=
  ∑ n : Fin 2752, GT (CC a0 a2 a3 a4 b t ⟨2752 + n.val, by omega⟩) (CC a0 a2 a3 a4 b t ⟨n.val, by omega⟩) * (show EReal from a5 (ix3 0 n d))

/-- The result. -/
def RS (b : Fin 4) (t : Fin 4096) (d : Fin 1024) : EReal :=
  YY (DN a0 a2 a3 a4 a5 b t) (fun e => a6 (ix2 0 e)) (fun e => a1 (ix2 ⟨4096 * b.val + t.val, by omega⟩ e)) d

end Cert.FfnSpec

end
-- ==== Proof.FfnOps.lean ====
module

public import proofs.«01_k».proof.Proof.Gen.FfnIdeal.Frame
public import proofs.«01_k».proof.Proof.FfnSpec
public import Idealize.ShloMosaic.Lib.Pipeline.ValueKit
public import Idealize.ShloMosaic.Lib.Pointwise

/-! The feed-forward kernel's arithmetic, entry by entry. -/

@[expose] public section

set_option maxRecDepth 16384

noncomputable section

namespace Cert.FfnIdeal.Val

open Cert.FfnIdeal Cert.FfnIdeal.Gen
open Idealize.ShloMosaic Idealize.ShloMosaic.TcCoe Idealize.SL.Sem

open Cert.FfnSpec
/-- A row of the up-projection of a tile. -/
def UU (x0 : FVec Ideal S512x1024 .bf16) (x2 : FVec Ideal S1024x5632 .bf16) (r : Fin 512) (n : Fin 5632) : EReal := ∑ e : Fin 1024, (show EReal from x0 (ix2 r e)) * x2 (ix2 e n)

/-- The rows the convolution reads: eight carried over, then the tile's own. -/
def EX (K : Fin 8 → Fin 5632 → EReal) (x0 : FVec Ideal S512x1024 .bf16) (x2 : FVec Ideal S1024x5632 .bf16) (j : Fin 520) (n : Fin 5632) : EReal :=
  if h : j.val < 8 then K ⟨j.val, h⟩ n else UU x0 x2 ⟨j.val - 8, by omega⟩ n

/-- The convolution of one column: the bias and three rows. -/
def CV (E : Fin 520 → Fin 5632 → EReal) (x3 : FVec Ideal S3x5632 .f32) (x4 : FVec Ideal S1x5632 .f32) (r : Fin 512) (n : Fin 5632) : EReal :=
  (((show EReal from x4 (ix2 0 n)) + E ⟨r.val + 6, by omega⟩ n * x3 (ix2 0 n)) + E ⟨r.val + 7, by omega⟩ n * x3 (ix2 1 n)) + E ⟨r.val + 8, by omega⟩ n * x3 (ix2 2 n)

/-- The gated value of a column. -/
def AC (C : Fin 5632 → EReal) (n : Fin 2816) : EReal :=
  (C ⟨2816 + n.val, by omega⟩ * Ideal.logistic (C ⟨2816 + n.val, by omega⟩)) * C ⟨n.val, by omega⟩

theorem pay6_apply (v : FVec Ideal S512x1024 .bf16) (w : FVec Ideal S1024x1408 .bf16) (a : Fin 512) (b : Fin 1408) :
    k0_pay6 (F := Ideal) v w (ix2 a b) = ∑ e : Fin 1024, (show EReal from v (ix2 a e)) * w (ix2 e b) := by
  unfold k0_pay6
  pointwise

theorem pay9_eq : @k0_pay9 Ideal _ = k0_pay6 := rfl
theorem pay13_eq : @k0_pay13 Ideal _ = k0_pay6 := rfl
theorem pay15_eq : @k0_pay15 Ideal _ = k0_pay6 := rfl

theorem pay78_apply (v21 : FVec Ideal S1x1408 .f32) (v23 : FVec Ideal S512x1408 .f32) (v24 : FVec Ideal S1x1408 .f32) (v30 : FVec Ideal S512x1408 .f32) (v31 : FVec Ideal S1x1408 .f32) (v36 : FVec Ideal S512x1408 .f32) (v37 : FVec Ideal S1x1408 .f32) (a : Fin 512) (b : Fin 1408) :
    k0_pay8 (F := Ideal) (k0_pay7 v21 v23 v24) v30 v31 v36 v37 (ix2 a b)
      = (((show EReal from v21 (ix2 0 b)) + v23 (ix2 a b) * v24 (ix2 0 b)) + v30 (ix2 a b) * v31 (ix2 0 b)) + v36 (ix2 a b) * v37 (ix2 0 b) := by
  unfold k0_pay8 k0_pay7
  pointwise

theorem pay14_apply (v21 : FVec Ideal S1x1408 .f32) (v23 : FVec Ideal S512x1408 .f32) (v24 : FVec Ideal S1x1408 .f32) (v30 : FVec Ideal S512x1408 .f32) (v31 : FVec Ideal S1x1408 .f32) (v36 : FVec Ideal S512x1408 .f32) (v37 : FVec Ideal S1x1408 .f32) (a : Fin 512) (b : Fin 1408) :
    k0_pay14 (F := Ideal) v21 v23 v24 v30 v31 v36 v37 (ix2 a b)
      = (((show EReal from v21 (ix2 0 b)) + v23 (ix2 a b) * v24 (ix2 0 b)) + v30 (ix2 a b) * v31 (ix2 0 b)) + v36 (ix2 a b) * v37 (ix2 0 b) := by
  unfold k0_pay14
  pointwise

theorem pay12_apply (v41 : FVec Ideal S512x1408 .f32) (v48 : FVec Ideal S1x1408 .f32) (v50 : FVec Ideal S512x1408 .f32) (v51 : FVec Ideal S1x1408 .f32) (v57 : FVec Ideal S512x1408 .f32) (v58 : FVec Ideal S1x1408 .f32) (v63 : FVec Ideal S512x1408 .f32) (v64 : FVec Ideal S1x1408 .f32) (w : FVec Ideal S1408x1024 .bf16) (a : Fin 512) (d : Fin 1024) :
    k0_pay12 (F := Ideal) k0_pay5 v41 (k0_pay10 v48 v50 v51 v57 v58) v63 (k0_pay11 v64) w (ix2 a d)
      = ∑ b : Fin 1408, GT ((((show EReal from v48 (ix2 0 b)) + v50 (ix2 a b) * v51 (ix2 0 b)) + v57 (ix2 a b) * v58 (ix2 0 b)) + v63 (ix2 a b) * v64 (ix2 0 b)) (v41 (ix2 a b)) * w (ix2 b d) := by
  unfold k0_pay12 k0_pay5 k0_pay10 k0_pay11 GT
  pointwise

theorem pay16_apply (v76 : FVec Ideal S512x1024 .f32) (v103 : FVec Ideal S512x1408 .f32) (v48 : FVec Ideal S1x1408 .f32) (v50 : FVec Ideal S512x1408 .f32) (v51 : FVec Ideal S1x1408 .f32) (v57 : FVec Ideal S512x1408 .f32) (v58 : FVec Ideal S1x1408 .f32) (v63 : FVec Ideal S512x1408 .f32) (v64 : FVec Ideal S1x1408 .f32) (w : FVec Ideal S1408x1024 .bf16) (a : Fin 512) (d : Fin 1024) :
    k0_pay16 (F := Ideal) v76 v103 v48 v50 v51 v57 v58 v63 v64 w (ix2 a d)
      = (show EReal from v76 (ix2 a d)) + ∑ b : Fin 1408, GT ((((show EReal from v48 (ix2 0 b)) + v50 (ix2 a b) * v51 (ix2 0 b)) + v57 (ix2 a b) * v58 (ix2 0 b)) + v63 (ix2 a b) * v64 (ix2 0 b)) (v103 (ix2 a b)) * w (ix2 b d) := by
  unfold k0_pay16 GT
  pointwise

theorem pay1_apply (f x : FVec Ideal S512x1024 .f32) (g : FVec Ideal S1x1024 .f32) (a : Fin 512) (d : Fin 1024) :
    k0_pay1 (F := Ideal) f x g (ix2 a d) = YY (fun e => f (ix2 a e)) (fun e => g (ix2 0 e)) (fun e => x (ix2 a e)) d := by
  unfold k0_pay1 YY
  pointwise

theorem pay2_apply (v : FVec Ideal S8x5632 .f32) (a : Fin 8) (n : Fin 5632) : k0_pay2 v (ix2 a n) = v (ix2 a n) := by
  unfold k0_pay2
  pointwise

theorem pay3_apply (v : FVec Ideal S8x5632 .f32) (a : Fin 8) (n : Fin 5632) : k0_pay3 v (ix3 0 a n) = v (ix2 a n) := by
  unfold k0_pay3
  pointwise

theorem pay4_apply (a : Fin 8) (n : Fin 5632) : (k0_pay4 : FVec Ideal S8x5632 .f32) (ix2 a n) = (0 : EReal) := by
  unfold k0_pay4
  pointwise

end Cert.FfnIdeal.Val

end
-- ==== Proof.FfnRead.lean ====
module

public import proofs.«01_k».proof.Proof.FfnOps
public import Idealize.ShloMosaic.Lib.VecWindow
public import Idealize.ShloMosaic.Lib.Pipeline.ReadBack

/-! Loads and stores of a buffer of rows, and what the stores of the up-projection leave to be read. -/

@[expose] public section

set_option maxRecDepth 16384

noncomputable section

namespace Cert.FfnIdeal.Val

open Cert.FfnIdeal Cert.FfnIdeal.Gen
open Idealize.ShloMosaic Idealize.ShloMosaic.TcCoe Idealize.SL.Sem

open Cert.FfnSpec
section
variable {sg : RefSig} {κ : Kind} {sp : Space} {n m i j p q : ℕ} {e : EltTy}

/-- A load of a window, entry by entry. -/
theorem ld2 (v : View sg κ sp ⟨2, ![n, m]⟩ e) (f : v.ty.Contents (Elt Ideal)) (inb : ∀ a, (![i, j] : Fin 2 → ℕ) a + (![p, q] : Fin 2 → ℕ) a ≤ (![n, m] : Fin 2 → ℕ) a)
    (a : Fin p) (b : Fin q) (x : Fin n) (y : Fin m) (hx : x.val = i + a.val) (hy : y.val = j + b.val) :
    v.readAt (Elt Ideal) (Rect.unit (s := ⟨2, ![n, m]⟩) ![i, j] ![p, q] inb).toLoadRect f (ix2 a b) = v.read (Elt Ideal) f (ix2 x y) := by
  rw [View.readAt_unit (h := rfl) (inb' := inb)]
  unfold VecWindow.window
  refine congrArg (v.read (Elt Ideal) f) (funext fun k => Fin.ext ?_)
  match k with
  | ⟨0, _⟩ => show i + 1 * a.val = x.val; omega
  | ⟨1, _⟩ => show j + 1 * b.val = y.val; omega

variable (v : View sg κ sp ⟨2, ![n, m]⟩ e) (f : v.ty.Contents (Elt Ideal)) (inb : ∀ a, (![i, j] : Fin 2 → ℕ) a + (![p, q] : Fin 2 → ℕ) a ≤ (![n, m] : Fin 2 → ℕ) a)
  (w : Shape.Idx ⟨2, ![p, q]⟩ → Elt Ideal e) (L : List (View.Piece (Elt Ideal) ⟨2, ![n, m]⟩ e)) (x : Fin n) (y : Fin m)

/-- Inside the last store … -/
theorem st_hit (a : Fin p) (b : Fin q) (hx : x.val = i + a.val) (hy : y.val = j + b.val) :
    v.read (Elt Ideal) (v.writes (Elt Ideal) f (⟨Rect.unit (s := ⟨2, ![n, m]⟩) ![i, j] ![p, q] inb, w⟩ :: L)) (ix2 x y) = w (ix2 a b) := by
  refine View.read_writes_cons_unit_of_mem v f inb w L _ (ix2 a b) rfl ?_
  intro k
  match k with
  | ⟨0, _⟩ => exact hx
  | ⟨1, _⟩ => exact hy

/-- … above it … -/
theorem st_row (h : x.val < i) :
    v.read (Elt Ideal) (v.writes (Elt Ideal) f (⟨Rect.unit (s := ⟨2, ![n, m]⟩) ![i, j] ![p, q] inb, w⟩ :: L)) (ix2 x y) = v.read (Elt Ideal) (v.writes (Elt Ideal) f L) (ix2 x y) :=
  View.read_writes_cons_unit_of_not_mem v f inb w L _ rfl 0 (.inl h)

/-- … and beside it. -/
theorem st_col (h : y.val < j ∨ j + q ≤ y.val) :
    v.read (Elt Ideal) (v.writes (Elt Ideal) f (⟨Rect.unit (s := ⟨2, ![n, m]⟩) ![i, j] ![p, q] inb, w⟩ :: L)) (ix2 x y) = v.read (Elt Ideal) (v.writes (Elt Ideal) f L) (ix2 x y) :=
  View.read_writes_cons_unit_of_not_mem v f inb w L _ rfl 1 h

end

section
variable {sg : RefSig} {κ : Kind} {sp : Space} (v : View sg κ sp S520x5632 .f32) (f : v.ty.Contents (Elt Ideal)) (L : List (View.Piece (Elt Ideal) S520x5632 .f32))
  (K : Fin 8 → Fin 5632 → EReal) (x0 : FVec Ideal S512x1024 .bf16) (x2 : FVec Ideal S1024x5632 .bf16)

/-- The stores hold the tile's up-projection in the 1408 columns from `c0`, whatever they were made over. -/
def Hi (c0 : ℕ) : Prop := ∀ (f : v.ty.Contents (Elt Ideal)) (a : Fin 512) (x : Fin 520) (n : Fin 5632), x.val = 8 + a.val → c0 ≤ n.val → n.val < c0 + 1408 →
  v.read (Elt Ideal) (v.writes (Elt Ideal) f L) (ix2 x n) = UU x0 x2 a n

/-- The first eight rows are the ones carried over. -/
def Lo : Prop := ∀ (j : Fin 8) (x : Fin 520) (n : Fin 5632), x.val = j.val → v.read (Elt Ideal) (v.writes (Elt Ideal) f L) (ix2 x n) = K j n

variable {v f L K x0 x2} {c0 c1 : ℕ} (inb : ∀ a, (![8, c0] : Fin 2 → ℕ) a + (![512, 1408] : Fin 2 → ℕ) a ≤ (![520, 5632] : Fin 2 → ℕ) a) (w : FVec Ideal S512x1408 .f32)

theorem Hi.hit (h : ∀ (a : Fin 512) (b : Fin 1408) (n : Fin 5632), n.val = c0 + b.val → w (ix2 a b) = UU x0 x2 a n) :
    Hi v (⟨Rect.unit (s := S520x5632) ![8, c0] ![512, 1408] inb, w⟩ :: L) x0 x2 c0 := by
  intro f a x n hx h1 h2
  exact (st_hit v f inb w L x n a ⟨n.val - c0, by omega⟩ hx (by dsimp only; omega)).trans (h a _ n (by dsimp only; omega))

theorem Hi.miss (h : Hi v L x0 x2 c1) (hc : c1 + 1408 ≤ c0 ∨ c0 + 1408 ≤ c1) : Hi v (⟨Rect.unit (s := S520x5632) ![8, c0] ![512, 1408] inb, w⟩ :: L) x0 x2 c1 := by
  intro f a x n hx h1 h2
  exact (st_col v f inb w L x n (by omega)).trans (h f a x n hx h1 h2)

theorem Lo.cons (h : Lo v f L K) : Lo v f (⟨Rect.unit (s := S520x5632) ![8, c0] ![512, 1408] inb, w⟩ :: L) K := by
  intro j x n hx
  exact (st_row v f inb w L x n (by omega)).trans (h j x n hx)

/-- A load of 512 rows from row `lo` on. -/
theorem Hi.ld (h : Hi v L x0 x2 c0) {lo : ℕ} (hl : lo ≤ 8) (hL : Lo v f L K ∨ lo = 8) (inb : ∀ a, (![lo, c0] : Fin 2 → ℕ) a + (![512, 1408] : Fin 2 → ℕ) a ≤ (![520, 5632] : Fin 2 → ℕ) a)
    (a : Fin 512) (b : Fin 1408) (x : Fin 520) (n : Fin 5632) (hx : x.val = a.val + lo) (hn : n.val = c0 + b.val) :
    v.readAt (Elt Ideal) (Rect.unit (s := S520x5632) ![lo, c0] ![512, 1408] inb).toLoadRect (v.writes (Elt Ideal) f L) (ix2 a b) = EX K x0 x2 x n := by
  refine (ld2 v _ inb a b x n (by omega) hn).trans ?_
  unfold EX
  split_ifs with h8
  · rcases hL with hL | hL
    · exact hL ⟨x.val, h8⟩ x n rfl
    · omega
  · exact h f ⟨x.val - 8, by omega⟩ x n (by dsimp only; omega) (by omega) (by omega)

/-- A load of the last eight rows. -/
theorem Hi.tail (h0 : Hi v L x0 x2 0) (h1 : Hi v L x0 x2 1408) (h2 : Hi v L x0 x2 2816) (h3 : Hi v L x0 x2 4224)
    (inb : ∀ a, (![512, 0] : Fin 2 → ℕ) a + (![8, 5632] : Fin 2 → ℕ) a ≤ (![520, 5632] : Fin 2 → ℕ) a) (a : Fin 8) (n : Fin 5632) :
    v.readAt (Elt Ideal) (Rect.unit (s := S520x5632) ![512, 0] ![8, 5632] inb).toLoadRect (v.writes (Elt Ideal) f L) (ix2 a n) = UU x0 x2 ⟨504 + a.val, by omega⟩ n := by
  refine (ld2 v _ inb a n ⟨512 + a.val, by omega⟩ n rfl (by omega)).trans ?_
  have hx : 512 + a.val = 8 + (504 + a.val) := by omega
  rcases (by omega : n.val < 1408 ∨ (1408 ≤ n.val ∧ n.val < 2816) ∨ (2816 ≤ n.val ∧ n.val < 4224) ∨ 4224 ≤ n.val) with h | h | h | h
  · exact h0 f ⟨504 + a.val, by omega⟩ _ n hx (by omega) (by omega)
  · exact h1 f ⟨504 + a.val, by omega⟩ _ n hx (by omega) (by omega)
  · exact h2 f ⟨504 + a.val, by omega⟩ _ n hx (by omega) (by omega)
  · exact h3 f ⟨504 + a.val, by omega⟩ _ n hx (by omega) (by omega)

end

section
variable {N : ℕ} {M : Type} [AddCommMonoid M]

/-- A sum over twice `N` terms by halves. -/
theorem sum_halves (f : Fin (N + N) → M) : ∑ i, f i = (∑ i : Fin N, f ⟨i.val, by omega⟩) + ∑ i : Fin N, f ⟨N + i.val, by omega⟩ := by
  rw [Fin.sum_univ_add]
  rfl

/-- A sum whose last terms are zero. -/
theorem sum_pad {A B : ℕ} (f : Fin (A + B) → M) (h : ∀ i : Fin (A + B), A ≤ i.val → f i = 0) : ∑ i, f i = ∑ i : Fin A, f ⟨i.val, by omega⟩ := by
  rw [Fin.sum_univ_add, Finset.sum_eq_zero (s := Finset.univ) (f := fun i : Fin B => f (Fin.natAdd A i)) fun i _ => h _ (by simp), add_zero]
  rfl

end

end Cert.FfnIdeal.Val

end
-- ==== Proof.FfnCore.lean ====
module

public import proofs.«01_k».proof.Proof.FfnRead

/-! One tile of the feed-forward from what the body loads: convolution, gate, down-projection. -/

@[expose] public section

set_option maxRecDepth 16384

noncomputable section

namespace Cert.FfnIdeal.Val

open Cert.FfnIdeal Cert.FfnIdeal.Gen
open Idealize.ShloMosaic Idealize.ShloMosaic.TcCoe Idealize.SL.Sem

open Cert.FfnSpec
/-- The three rows, three taps and the bias of 1408 columns from `c0` on, as the convolution loads them. -/
structure Ch (E : Fin 520 → Fin 5632 → EReal) (x3 : FVec Ideal S3x5632 .f32) (x4 : FVec Ideal S1x5632 .f32) (c0 : ℕ) (b w0 w1 w2 : FVec Ideal S1x1408 .f32) (r6 r7 r8 : FVec Ideal S512x1408 .f32) : Prop where
  hb : ∀ (j : Fin 1408) (n : Fin 5632), n.val = c0 + j.val → b (ix2 0 j) = x4 (ix2 0 n)
  h0 : ∀ (j : Fin 1408) (n : Fin 5632), n.val = c0 + j.val → w0 (ix2 0 j) = x3 (ix2 0 n)
  h1 : ∀ (j : Fin 1408) (n : Fin 5632), n.val = c0 + j.val → w1 (ix2 0 j) = x3 (ix2 1 n)
  h2 : ∀ (j : Fin 1408) (n : Fin 5632), n.val = c0 + j.val → w2 (ix2 0 j) = x3 (ix2 2 n)
  h6 : ∀ (a : Fin 512) (j : Fin 1408) (x : Fin 520) (n : Fin 5632), x.val = a.val + 6 → n.val = c0 + j.val → r6 (ix2 a j) = E x n
  h7 : ∀ (a : Fin 512) (j : Fin 1408) (x : Fin 520) (n : Fin 5632), x.val = a.val + 7 → n.val = c0 + j.val → r7 (ix2 a j) = E x n
  h8 : ∀ (a : Fin 512) (j : Fin 1408) (x : Fin 520) (n : Fin 5632), x.val = a.val + 8 → n.val = c0 + j.val → r8 (ix2 a j) = E x n

section
variable {E : Fin 520 → Fin 5632 → EReal} {x3 : FVec Ideal S3x5632 .f32} {x4 : FVec Ideal S1x5632 .f32}

theorem Ch.cv {c0 : ℕ} {b w0 w1 w2 : FVec Ideal S1x1408 .f32} {r6 r7 r8 : FVec Ideal S512x1408 .f32} (h : Ch E x3 x4 c0 b w0 w1 w2 r6 r7 r8) (a : Fin 512) (j : Fin 1408) (n : Fin 5632) (hn : n.val = c0 + j.val) :
    (((show EReal from b (ix2 0 j)) + r6 (ix2 a j) * w0 (ix2 0 j)) + r7 (ix2 a j) * w1 (ix2 0 j)) + r8 (ix2 a j) * w2 (ix2 0 j) = CV E x3 x4 a n := by
  rw [h.hb j n hn, h.h0 j n hn, h.h1 j n hn, h.h2 j n hn, h.h6 a j ⟨a.val + 6, by omega⟩ n rfl hn, h.h7 a j ⟨a.val + 7, by omega⟩ n rfl hn, h.h8 a j ⟨a.val + 8, by omega⟩ n rfl hn]
  rfl

/-- The down-projection of a row. -/
def FF (C : Fin 5632 → EReal) (x5 : FVec Ideal S2816x1024 .bf16) (d : Fin 1024) : EReal := ∑ n : Fin 2816, AC C n * (show EReal from x5 (ix2 n d))

/-- The two halves of the hidden units, gated and projected down. -/
theorem ff_eq {b0 s00 s01 s02 b1 s10 s11 s12 b2 s20 s21 s22 b3 s30 s31 s32 : FVec Ideal S1x1408 .f32} {p6 p7 p8 q6 q7 q8 r6 r7 r8 t6 t7 t8 : FVec Ideal S512x1408 .f32}
    {x5 : FVec Ideal S2816x1024 .bf16} {d0 d1 : FVec Ideal S1408x1024 .bf16}
    (hp : Ch E x3 x4 0 b0 s00 s01 s02 p6 p7 p8) (hq : Ch E x3 x4 2816 b1 s10 s11 s12 q6 q7 q8) (hr : Ch E x3 x4 1408 b2 s20 s21 s22 r6 r7 r8) (ht : Ch E x3 x4 4224 b3 s30 s31 s32 t6 t7 t8)
    (e0 : ∀ (j : Fin 1408) (d : Fin 1024) (n : Fin 2816), n.val = j.val → d0 (ix2 j d) = x5 (ix2 n d)) (e1 : ∀ (j : Fin 1408) (d : Fin 1024) (n : Fin 2816), n.val = 1408 + j.val → d1 (ix2 j d) = x5 (ix2 n d))
    (a : Fin 512) (d : Fin 1024) :
    k0_pay16 (F := Ideal) (k0_pay12 k0_pay5 (k0_pay8 (k0_pay7 b0 p6 s00) p7 s01 p8 s02) (k0_pay10 b1 q6 s10 q7 s11) q8 (k0_pay11 s12) d0) (k0_pay14 b2 r6 s20 r7 s21 r8 s22) b3 t6 s30 t7 s31 t8 s32 d1 (ix2 a d)
      = FF (CV E x3 x4 a) x5 d := by
  refine (pay16_apply _ _ _ _ _ _ _ _ _ _ a d).trans ((congrArg₂ (· + ·) ((pay12_apply _ _ _ _ _ _ _ _ _ a d).trans (Finset.sum_congr rfl fun j _ => ?_)) (Finset.sum_congr rfl fun j _ => ?_)).trans
    (sum_halves (N := 1408) fun n : Fin 2816 => AC (CV E x3 x4 a) n * (show EReal from x5 (ix2 n d))).symm)
  · exact congrArg₂ (· * ·) (congrArg₂ GT (hq.cv a j ⟨2816 + j.val, by omega⟩ rfl) ((pay78_apply _ _ _ _ _ _ _ a j).trans (hp.cv a j ⟨j.val, by omega⟩ (by dsimp only; omega)))) (e0 j d ⟨j.val, by omega⟩ rfl)
  · exact congrArg₂ (· * ·) (congrArg₂ GT (ht.cv a j ⟨2816 + (1408 + j.val), by omega⟩ (by dsimp only; omega)) ((pay14_apply _ _ _ _ _ _ _ a j).trans (hr.cv a j ⟨1408 + j.val, by omega⟩ rfl))) (e1 j d ⟨1408 + j.val, by omega⟩ rfl)

end

section
variable (a1 : Memref sig .tc .vmem S512x1024 .bf16) (w1 : a1.IsWhole) (a3 : Memref sig .tc .vmem S1024x5632 .bf16) (w3 : a3.IsWhole) (a4 : Memref sig .tc .vmem S3x5632 .f32) (w4 : a4.IsWhole) (a5 : Memref sig .tc .vmem S1x5632 .f32) (w5 : a5.IsWhole) (a10 : Memref sig .tc .vmem S520x5632 .f32)
  (x0 : FVec Ideal S512x1024 .bf16) (x2 : FVec Ideal S1024x5632 .bf16) (x3 : FVec Ideal S3x5632 .f32) (x4 : FVec Ideal S1x5632 .f32) (c0 : ℕ)

/-- A load of a window of an input. -/
theorem ldw {n m i j p q : ℕ} {e : EltTy} (arg : Memref sig .tc .vmem ⟨2, ![n, m]⟩ e) (harg : arg.IsWhole) (w : Vec Ideal ⟨2, ![n, m]⟩ e)
    (inb : ∀ a, (![i, j] : Fin 2 → ℕ) a + (![p, q] : Fin 2 → ℕ) a ≤ (![n, m] : Fin 2 → ℕ) a)
    (a : Fin p) (b : Fin q) (x : Fin n) (y : Fin m) (hx : x.val = i + a.val) (hy : y.val = j + b.val) :
    arg.view.readAt (Elt Ideal) (Rect.unit (s := ⟨2, ![n, m]⟩) ![i, j] ![p, q] inb).toLoadRect (harg.unread w) (ix2 a b) = w (ix2 x y) :=
  (ld2 arg.view _ inb a b x y hx hy).trans (congrFun (harg.read_unread w) _)

theorem up_eq (inb1 : ∀ a, (![0, 0] : Fin 2 → ℕ) a + (![512, 1024] : Fin 2 → ℕ) a ≤ (![512, 1024] : Fin 2 → ℕ) a) (inb3 : ∀ a, (![0, c0] : Fin 2 → ℕ) a + (![1024, 1408] : Fin 2 → ℕ) a ≤ (![1024, 5632] : Fin 2 → ℕ) a)
    (a : Fin 512) (b : Fin 1408) (n : Fin 5632) (hn : n.val = c0 + b.val) :
    k0_pay6 (F := Ideal) (a1.view.readAt (Elt Ideal) (Rect.unit (s := S512x1024) ![0, 0] ![512, 1024] inb1).toLoadRect (w1.unread x0))
      (a3.view.readAt (Elt Ideal) (Rect.unit (s := S1024x5632) ![0, c0] ![1024, 1408] inb3).toLoadRect (w3.unread x2)) (ix2 a b) = UU x0 x2 a n :=
  (pay6_apply _ _ a b).trans (Finset.sum_congr rfl fun e _ => congrArg₂ (· * ·) (ldw a1 w1 x0 inb1 a e a e (by omega) (by omega)) (ldw a3 w3 x2 inb3 e b e n (by omega) hn))

theorem Ch.reads {K : Fin 8 → Fin 5632 → EReal} {L : List (View.Piece (Elt Ideal) S520x5632 .f32)} (h : Hi a10.view L x0 x2 c0) {f6 f7 f8 : a10.view.ty.Contents (Elt Ideal)} (l6 : Lo a10.view f6 L K) (l7 : Lo a10.view f7 L K)
    (ib : ∀ a, (![0, c0] : Fin 2 → ℕ) a + (![1, 1408] : Fin 2 → ℕ) a ≤ (![1, 5632] : Fin 2 → ℕ) a)
    (i0 : ∀ a, (![0, c0] : Fin 2 → ℕ) a + (![1, 1408] : Fin 2 → ℕ) a ≤ (![3, 5632] : Fin 2 → ℕ) a) (i1 : ∀ a, (![1, c0] : Fin 2 → ℕ) a + (![1, 1408] : Fin 2 → ℕ) a ≤ (![3, 5632] : Fin 2 → ℕ) a)
    (i2 : ∀ a, (![2, c0] : Fin 2 → ℕ) a + (![1, 1408] : Fin 2 → ℕ) a ≤ (![3, 5632] : Fin 2 → ℕ) a)
    (i6 : ∀ a, (![6, c0] : Fin 2 → ℕ) a + (![512, 1408] : Fin 2 → ℕ) a ≤ (![520, 5632] : Fin 2 → ℕ) a) (i7 : ∀ a, (![7, c0] : Fin 2 → ℕ) a + (![512, 1408] : Fin 2 → ℕ) a ≤ (![520, 5632] : Fin 2 → ℕ) a)
    (i8 : ∀ a, (![8, c0] : Fin 2 → ℕ) a + (![512, 1408] : Fin 2 → ℕ) a ≤ (![520, 5632] : Fin 2 → ℕ) a) :
    Ch (EX K x0 x2) x3 x4 c0 (a5.view.readAt (Elt Ideal) (Rect.unit (s := S1x5632) ![0, c0] ![1, 1408] ib).toLoadRect (w5.unread x4))
      (a4.view.readAt (Elt Ideal) (Rect.unit (s := S3x5632) ![0, c0] ![1, 1408] i0).toLoadRect (w4.unread x3))
      (a4.view.readAt (Elt Ideal) (Rect.unit (s := S3x5632) ![1, c0] ![1, 1408] i1).toLoadRect (w4.unread x3))
      (a4.view.readAt (Elt Ideal) (Rect.unit (s := S3x5632) ![2, c0] ![1, 1408] i2).toLoadRect (w4.unread x3))
      (a10.view.readAt (Elt Ideal) (Rect.unit (s := S520x5632) ![6, c0] ![512, 1408] i6).toLoadRect (a10.view.writes (Elt Ideal) f6 L))
      (a10.view.readAt (Elt Ideal) (Rect.unit (s := S520x5632) ![7, c0] ![512, 1408] i7).toLoadRect (a10.view.writes (Elt Ideal) f7 L))
      (a10.view.readAt (Elt Ideal) (Rect.unit (s := S520x5632) ![8, c0] ![512, 1408] i8).toLoadRect (a10.view.writes (Elt Ideal) f8 L)) where
  hb j n hn := ldw a5 w5 x4 ib 0 j 0 n rfl hn
  h0 j n hn := ldw a4 w4 x3 i0 0 j 0 n rfl hn
  h1 j n hn := ldw a4 w4 x3 i1 0 j 1 n rfl hn
  h2 j n hn := ldw a4 w4 x3 i2 0 j 2 n rfl hn
  h6 a j x n hx hn := h.ld (by decide) (.inl l6) i6 a j x n hx hn
  h7 a j x n hx hn := h.ld (by decide) (.inl l7) i7 a j x n hx hn
  h8 a j x n hx hn := h.ld (le_refl 8) (.inr rfl) i8 a j x n hx hn

end

end Cert.FfnIdeal.Val

end
-- ==== Proof.FfnCaseA.lean ====
module

public import proofs.«01_k».proof.Proof.FfnCore

/-! The first tile of a sequence. -/

@[expose] public section

set_option maxRecDepth 16384

noncomputable section

namespace Cert.FfnIdeal.Val.A

open Cert.FfnIdeal Cert.FfnIdeal.Gen
open Idealize.ShloMosaic Idealize.ShloMosaic.TcCoe Idealize.SL.Sem

open Cert.FfnSpec
variable (c : Dev nD) (i : grid0.Coords) (a1 : Memref sig .tc .vmem S512x1024 .bf16) (w1 : a1.IsWhole) (a2 : Memref sig .tc .vmem S512x1024 .f32) (w2 : a2.IsWhole) (a3 : Memref sig .tc .vmem S1024x5632 .bf16) (w3 : a3.IsWhole) (a4 : Memref sig .tc .vmem S3x5632 .f32) (w4 : a4.IsWhole) (a5 : Memref sig .tc .vmem S1x5632 .f32) (w5 : a5.IsWhole) (a6 : Memref sig .tc .vmem S2816x1024 .bf16) (w6 : a6.IsWhole) (a7 : Memref sig .tc .vmem S1x1024 .f32) (w7 : a7.IsWhole) (a8 : Memref sig .tc .vmem S512x1024 .f32) (w8 : a8.IsWhole) (a9 : Memref sig .tc .vmem S1x8x5632 .f32) (w9 : a9.IsWhole) (a10 : Memref sig .tc .vmem S520x5632 .f32) (w10 : a10.IsWhole) (hc0 : cond0_0 i) (x0 : Vec Ideal S512x1024 .bf16) (x1 : Vec Ideal S512x1024 .f32) (x2 : Vec Ideal S1024x5632 .bf16) (x3 : Vec Ideal S3x5632 .f32) (x4 : Vec Ideal S1x5632 .f32) (x5 : Vec Ideal S2816x1024 .bf16) (x6 : Vec Ideal S1x1024 .f32)

theorem hi0_0 : Hi a10.view (kernelRun0_A.sl.HS0_2 (F := Ideal) c a1 w1 a3 w3 x0 x2) x0 x2 0 := Hi.hit _ _ (up_eq a1 w1 a3 w3 x0 x2 0 _ _)
theorem hi1_0 : Hi a10.view (kernelRun0_A.sl.HS0_3 (F := Ideal) c a1 w1 a3 w3 x0 x2) x0 x2 0 := Hi.miss _ _ (hi0_0 c a1 w1 a3 w3 a10 x0 x2) (by decide)
theorem hi1_1 : Hi a10.view (kernelRun0_A.sl.HS0_3 (F := Ideal) c a1 w1 a3 w3 x0 x2) x0 x2 2816 := Hi.hit _ _ (up_eq a1 w1 a3 w3 x0 x2 2816 _ _)
theorem hi2_0 : Hi a10.view (kernelRun0_A.sl.HS0_4 (F := Ideal) c a1 w1 a3 w3 x0 x2) x0 x2 0 := Hi.miss _ _ (hi1_0 c a1 w1 a3 w3 a10 x0 x2) (by decide)
theorem hi2_1 : Hi a10.view (kernelRun0_A.sl.HS0_4 (F := Ideal) c a1 w1 a3 w3 x0 x2) x0 x2 2816 := Hi.miss _ _ (hi1_1 c a1 w1 a3 w3 a10 x0 x2) (by decide)
theorem hi2_2 : Hi a10.view (kernelRun0_A.sl.HS0_4 (F := Ideal) c a1 w1 a3 w3 x0 x2) x0 x2 1408 := Hi.hit _ _ (up_eq a1 w1 a3 w3 x0 x2 1408 _ _)
theorem hi3_0 : Hi a10.view (kernelRun0_A.sl.HS0_5 (F := Ideal) c a1 w1 a3 w3 x0 x2) x0 x2 0 := Hi.miss _ _ (hi2_0 c a1 w1 a3 w3 a10 x0 x2) (by decide)
theorem hi3_1 : Hi a10.view (kernelRun0_A.sl.HS0_5 (F := Ideal) c a1 w1 a3 w3 x0 x2) x0 x2 2816 := Hi.miss _ _ (hi2_1 c a1 w1 a3 w3 a10 x0 x2) (by decide)
theorem hi3_2 : Hi a10.view (kernelRun0_A.sl.HS0_5 (F := Ideal) c a1 w1 a3 w3 x0 x2) x0 x2 1408 := Hi.miss _ _ (hi2_2 c a1 w1 a3 w3 a10 x0 x2) (by decide)
theorem hi3_3 : Hi a10.view (kernelRun0_A.sl.HS0_5 (F := Ideal) c a1 w1 a3 w3 x0 x2) x0 x2 4224 := Hi.hit _ _ (up_eq a1 w1 a3 w3 x0 x2 4224 _ _)
theorem lo0 : Lo a10.view a10.view.junk (kernelRun0_A.sl.HS0_2 (F := Ideal) c a1 w1 a3 w3 x0 x2) (fun _ _ => 0) := Lo.cons _ _ (fun j x n hx => (st_hit _ _ _ _ _ x n j n (by omega) (by omega)).trans (pay4_apply j n))
theorem lo1 : Lo a10.view a10.view.junk (kernelRun0_A.sl.HS0_3 (F := Ideal) c a1 w1 a3 w3 x0 x2) (fun _ _ => 0) := Lo.cons _ _ (lo0 c a1 w1 a3 w3 a10 x0 x2)
theorem lo2 : Lo a10.view a10.view.junk (kernelRun0_A.sl.HS0_4 (F := Ideal) c a1 w1 a3 w3 x0 x2) (fun _ _ => 0) := Lo.cons _ _ (lo1 c a1 w1 a3 w3 a10 x0 x2)
theorem lo3 : Lo a10.view a10.view.junk (kernelRun0_A.sl.HS0_5 (F := Ideal) c a1 w1 a3 w3 x0 x2) (fun _ _ => 0) := Lo.cons _ _ (lo2 c a1 w1 a3 w3 a10 x0 x2)

/-- The block of results. -/
theorem out7 (a : Fin 512) (d : Fin 1024) :
    out0_A_7 c i a1 w1 a2 w2 a3 w3 a4 w4 a5 w5 a6 w6 a7 w7 a8 w8 a9 w9 a10 w10 hc0 x0 x1 x2 x3 x4 x5 x6 (ix2 a d) = YY (FF (CV (EX (fun _ _ => 0) x0 x2) x3 x4 a) x5) (fun e => x6 (ix2 0 e)) (fun e => x1 (ix2 a e)) d := by
  dsimp only [out0_A_7]
  refine (st_hit VO0_7 _ _ _ _ a d a d (by omega) (by omega)).trans ((pay1_apply _ _ _ a d).trans ?_)
  refine congrFun (congr (congr (congrArg YY (funext fun e => ?_)) (funext fun e => ?_)) (funext fun e => ?_)) d
  · exact ff_eq (x5 := x5) (Ch.reads a4 w4 a5 w5 a10 x0 x2 x3 x4 0 (hi0_0 c a1 w1 a3 w3 a10 x0 x2) (f8 := a10.view.junk) (lo0 c a1 w1 a3 w3 a10 x0 x2) (lo0 c a1 w1 a3 w3 a10 x0 x2) _ _ _ _ _ _ _) (Ch.reads a4 w4 a5 w5 a10 x0 x2 x3 x4 2816 (hi1_1 c a1 w1 a3 w3 a10 x0 x2) (f8 := a10.view.junk) (lo1 c a1 w1 a3 w3 a10 x0 x2) (lo1 c a1 w1 a3 w3 a10 x0 x2) _ _ _ _ _ _ _) (Ch.reads a4 w4 a5 w5 a10 x0 x2 x3 x4 1408 (hi2_2 c a1 w1 a3 w3 a10 x0 x2) (f8 := a10.view.junk) (lo2 c a1 w1 a3 w3 a10 x0 x2) (lo2 c a1 w1 a3 w3 a10 x0 x2) _ _ _ _ _ _ _) (Ch.reads a4 w4 a5 w5 a10 x0 x2 x3 x4 4224 (hi3_3 c a1 w1 a3 w3 a10 x0 x2) (f8 := a10.view.junk) (lo3 c a1 w1 a3 w3 a10 x0 x2) (lo3 c a1 w1 a3 w3 a10 x0 x2) _ _ _ _ _ _ _)
      (fun j d n hn => ldw a6 w6 x5 inb_S2816x1024_S1408x1024_0_0 j d n d (by omega) (by omega)) (fun j d n hn => ldw a6 w6 x5 inb_S2816x1024_S1408x1024_1408_0 j d n d (by omega) (by omega)) a e
  · exact ldw a7 w7 x6 _ 0 e 0 e rfl (by omega)
  · exact ldw a2 w2 x1 _ a e a e (by omega) (by omega)

theorem tail (a : Fin 8) (n : Fin 5632) : a10.view.readCov (kernelRun0_A.sl.HS0_5 (F := Ideal) c a1 w1 a3 w3 x0 x2) (Rect.unit (s := S520x5632) ![512, 0] ![8, 5632] inb_S520x5632_S8x5632_512_0).toLoadRect (ix2 a n) = UU x0 x2 ⟨504 + a.val, by omega⟩ n :=
  Hi.tail (f := a10.view.junk) (hi3_0 c a1 w1 a3 w3 a10 x0 x2) (hi3_2 c a1 w1 a3 w3 a10 x0 x2) (hi3_1 c a1 w1 a3 w3 a10 x0 x2) (hi3_3 c a1 w1 a3 w3 a10 x0 x2) _ a n

/-- The block of last rows. -/
theorem out8 (a : Fin 8) (n : Fin 5632) : out0_A_8 c i a1 w1 a2 w2 a3 w3 a4 w4 a5 w5 a6 w6 a7 w7 a8 w8 a9 w9 a10 w10 hc0 x0 x1 x2 x3 x4 x5 x6 (ix3 0 a n) = UU x0 x2 ⟨504 + a.val, by omega⟩ n := by
  dsimp only [out0_A_8]
  refine (View.read_writes_cons_unit_of_mem VO0_8 _ _ _ _ _ (ix3 0 a n) rfl ?_).trans ((pay3_apply _ a n).trans (tail c a1 w1 a3 w3 a10 x0 x2 a n))
  intro k
  match k with
  | ⟨0, _⟩ => rfl
  | ⟨1, _⟩ => show a.val = 0 + a.val; omega
  | ⟨2, _⟩ => show n.val = 0 + n.val; omega

/-- The rows carried to the next tile. -/
theorem sout (a : Fin 8) (n : Fin 5632) : sout0_A_0 c i a1 w1 a2 w2 a3 w3 a4 w4 a5 w5 a6 w6 a7 w7 a8 w8 a9 w9 a10 w10 hc0 x0 x1 x2 x3 x4 x5 x6 (ix2 ⟨a.val, by omega⟩ n) = UU x0 x2 ⟨504 + a.val, by omega⟩ n := by
  dsimp only [sout0_A_0]
  exact (st_hit VS0_0 _ _ _ _ _ n a n (by dsimp only; omega) (by omega)).trans ((pay2_apply _ a n).trans (tail c a1 w1 a3 w3 a10 x0 x2 a n))

end Cert.FfnIdeal.Val.A

end
-- ==== Proof.FfnCaseB.lean ====
module

public import proofs.«01_k».proof.Proof.FfnCore

/-! A later tile of a sequence, after the rows carried over. -/

@[expose] public section

set_option maxRecDepth 16384

noncomputable section

namespace Cert.FfnIdeal.Val.B

open Cert.FfnIdeal Cert.FfnIdeal.Gen
open Idealize.ShloMosaic Idealize.ShloMosaic.TcCoe Idealize.SL.Sem

open Cert.FfnSpec
variable (c : Dev nD) (i : grid0.Coords) (a1 : Memref sig .tc .vmem S512x1024 .bf16) (w1 : a1.IsWhole) (a2 : Memref sig .tc .vmem S512x1024 .f32) (w2 : a2.IsWhole) (a3 : Memref sig .tc .vmem S1024x5632 .bf16) (w3 : a3.IsWhole) (a4 : Memref sig .tc .vmem S3x5632 .f32) (w4 : a4.IsWhole) (a5 : Memref sig .tc .vmem S1x5632 .f32) (w5 : a5.IsWhole) (a6 : Memref sig .tc .vmem S2816x1024 .bf16) (w6 : a6.IsWhole) (a7 : Memref sig .tc .vmem S1x1024 .f32) (w7 : a7.IsWhole) (a8 : Memref sig .tc .vmem S512x1024 .f32) (w8 : a8.IsWhole) (a9 : Memref sig .tc .vmem S1x8x5632 .f32) (w9 : a9.IsWhole) (a10 : Memref sig .tc .vmem S520x5632 .f32) (w10 : a10.IsWhole) (hc0 : ¬cond0_0 i) (x0 : Vec Ideal S512x1024 .bf16) (x1 : Vec Ideal S512x1024 .f32) (x2 : Vec Ideal S1024x5632 .bf16) (x3 : Vec Ideal S3x5632 .f32) (x4 : Vec Ideal S1x5632 .f32) (x5 : Vec Ideal S2816x1024 .bf16) (x6 : Vec Ideal S1x1024 .f32) (xs0 : Vec Ideal S520x5632 .f32)

theorem hi0_0 : Hi a10.view (kernelRun0_B.sl.HS0_1 (F := Ideal) c a1 w1 a3 w3 x0 x2) x0 x2 0 := Hi.hit _ _ (up_eq a1 w1 a3 w3 x0 x2 0 _ _)
theorem hi1_0 : Hi a10.view (kernelRun0_B.sl.HS0_2 (F := Ideal) c a1 w1 a3 w3 x0 x2) x0 x2 0 := Hi.miss _ _ (hi0_0 c a1 w1 a3 w3 a10 x0 x2) (by decide)
theorem hi1_1 : Hi a10.view (kernelRun0_B.sl.HS0_2 (F := Ideal) c a1 w1 a3 w3 x0 x2) x0 x2 2816 := Hi.hit _ _ (up_eq a1 w1 a3 w3 x0 x2 2816 _ _)
theorem hi2_0 : Hi a10.view (kernelRun0_B.sl.HS0_3 (F := Ideal) c a1 w1 a3 w3 x0 x2) x0 x2 0 := Hi.miss _ _ (hi1_0 c a1 w1 a3 w3 a10 x0 x2) (by decide)
theorem hi2_1 : Hi a10.view (kernelRun0_B.sl.HS0_3 (F := Ideal) c a1 w1 a3 w3 x0 x2) x0 x2 2816 := Hi.miss _ _ (hi1_1 c a1 w1 a3 w3 a10 x0 x2) (by decide)
theorem hi2_2 : Hi a10.view (kernelRun0_B.sl.HS0_3 (F := Ideal) c a1 w1 a3 w3 x0 x2) x0 x2 1408 := Hi.hit _ _ (up_eq a1 w1 a3 w3 x0 x2 1408 _ _)
theorem hi3_0 : Hi a10.view (kernelRun0_B.sl.HS0_4 (F := Ideal) c a1 w1 a3 w3 x0 x2) x0 x2 0 := Hi.miss _ _ (hi2_0 c a1 w1 a3 w3 a10 x0 x2) (by decide)
theorem hi3_1 : Hi a10.view (kernelRun0_B.sl.HS0_4 (F := Ideal) c a1 w1 a3 w3 x0 x2) x0 x2 2816 := Hi.miss _ _ (hi2_1 c a1 w1 a3 w3 a10 x0 x2) (by decide)
theorem hi3_2 : Hi a10.view (kernelRun0_B.sl.HS0_4 (F := Ideal) c a1 w1 a3 w3 x0 x2) x0 x2 1408 := Hi.miss _ _ (hi2_2 c a1 w1 a3 w3 a10 x0 x2) (by decide)
theorem hi3_3 : Hi a10.view (kernelRun0_B.sl.HS0_4 (F := Ideal) c a1 w1 a3 w3 x0 x2) x0 x2 4224 := Hi.hit _ _ (up_eq a1 w1 a3 w3 x0 x2 4224 _ _)
theorem lo0 : Lo a10.view (w10.unread xs0) (kernelRun0_B.sl.HS0_1 (F := Ideal) c a1 w1 a3 w3 x0 x2) (fun j n => xs0 (ix2 ⟨j.val, by omega⟩ n)) := Lo.cons _ _ (fun j x n hx => (congrFun (w10.read_unread xs0) (ix2 x n)).trans (congrArg (fun z => xs0 (ix2 z n)) (Fin.ext hx)))
theorem lo1 : Lo a10.view (w10.unread xs0) (kernelRun0_B.sl.HS0_2 (F := Ideal) c a1 w1 a3 w3 x0 x2) (fun j n => xs0 (ix2 ⟨j.val, by omega⟩ n)) := Lo.cons _ _ (lo0 c a1 w1 a3 w3 a10 w10 x0 x2 xs0)
theorem lo2 : Lo a10.view (w10.unread xs0) (kernelRun0_B.sl.HS0_3 (F := Ideal) c a1 w1 a3 w3 x0 x2) (fun j n => xs0 (ix2 ⟨j.val, by omega⟩ n)) := Lo.cons _ _ (lo1 c a1 w1 a3 w3 a10 w10 x0 x2 xs0)
theorem lo3 : Lo a10.view (w10.unread xs0) (kernelRun0_B.sl.HS0_4 (F := Ideal) c a1 w1 a3 w3 x0 x2) (fun j n => xs0 (ix2 ⟨j.val, by omega⟩ n)) := Lo.cons _ _ (lo2 c a1 w1 a3 w3 a10 w10 x0 x2 xs0)

/-- The block of results. -/
theorem out7 (a : Fin 512) (d : Fin 1024) :
    out0_B_7 c i a1 w1 a2 w2 a3 w3 a4 w4 a5 w5 a6 w6 a7 w7 a8 w8 a9 w9 a10 w10 hc0 x0 x1 x2 x3 x4 x5 x6 xs0 (ix2 a d) = YY (FF (CV (EX (fun j n => xs0 (ix2 ⟨j.val, by omega⟩ n)) x0 x2) x3 x4 a) x5) (fun e => x6 (ix2 0 e)) (fun e => x1 (ix2 a e)) d := by
  dsimp only [out0_B_7]
  refine (st_hit VO0_7 _ _ _ _ a d a d (by omega) (by omega)).trans ((pay1_apply _ _ _ a d).trans ?_)
  refine congrFun (congr (congr (congrArg YY (funext fun e => ?_)) (funext fun e => ?_)) (funext fun e => ?_)) d
  · exact ff_eq (x5 := x5) (Ch.reads a4 w4 a5 w5 a10 x0 x2 x3 x4 0 (hi0_0 c a1 w1 a3 w3 a10 x0 x2) (f8 := a10.view.junk) (lo0 c a1 w1 a3 w3 a10 w10 x0 x2 xs0) (lo0 c a1 w1 a3 w3 a10 w10 x0 x2 xs0) _ _ _ _ _ _ _) (Ch.reads a4 w4 a5 w5 a10 x0 x2 x3 x4 2816 (hi1_1 c a1 w1 a3 w3 a10 x0 x2) (f8 := a10.view.junk) (lo1 c a1 w1 a3 w3 a10 w10 x0 x2 xs0) (lo1 c a1 w1 a3 w3 a10 w10 x0 x2 xs0) _ _ _ _ _ _ _) (Ch.reads a4 w4 a5 w5 a10 x0 x2 x3 x4 1408 (hi2_2 c a1 w1 a3 w3 a10 x0 x2) (f8 := a10.view.junk) (lo2 c a1 w1 a3 w3 a10 w10 x0 x2 xs0) (lo2 c a1 w1 a3 w3 a10 w10 x0 x2 xs0) _ _ _ _ _ _ _) (Ch.reads a4 w4 a5 w5 a10 x0 x2 x3 x4 4224 (hi3_3 c a1 w1 a3 w3 a10 x0 x2) (f8 := a10.view.junk) (lo3 c a1 w1 a3 w3 a10 w10 x0 x2 xs0) (lo3 c a1 w1 a3 w3 a10 w10 x0 x2 xs0) _ _ _ _ _ _ _)
      (fun j d n hn => ldw a6 w6 x5 inb_S2816x1024_S1408x1024_0_0 j d n d (by omega) (by omega)) (fun j d n hn => ldw a6 w6 x5 inb_S2816x1024_S1408x1024_1408_0 j d n d (by omega) (by omega)) a e
  · exact ldw a7 w7 x6 _ 0 e 0 e rfl (by omega)
  · exact ldw a2 w2 x1 _ a e a e (by omega) (by omega)

theorem tail (a : Fin 8) (n : Fin 5632) : a10.view.readCov (kernelRun0_B.sl.HS0_4 (F := Ideal) c a1 w1 a3 w3 x0 x2) (Rect.unit (s := S520x5632) ![512, 0] ![8, 5632] inb_S520x5632_S8x5632_512_0).toLoadRect (ix2 a n) = UU x0 x2 ⟨504 + a.val, by omega⟩ n :=
  Hi.tail (f := a10.view.junk) (hi3_0 c a1 w1 a3 w3 a10 x0 x2) (hi3_2 c a1 w1 a3 w3 a10 x0 x2) (hi3_1 c a1 w1 a3 w3 a10 x0 x2) (hi3_3 c a1 w1 a3 w3 a10 x0 x2) _ a n

/-- The block of last rows. -/
theorem out8 (a : Fin 8) (n : Fin 5632) : out0_B_8 c i a1 w1 a2 w2 a3 w3 a4 w4 a5 w5 a6 w6 a7 w7 a8 w8 a9 w9 a10 w10 hc0 x0 x1 x2 x3 x4 x5 x6 xs0 (ix3 0 a n) = UU x0 x2 ⟨504 + a.val, by omega⟩ n := by
  dsimp only [out0_B_8]
  refine (View.read_writes_cons_unit_of_mem VO0_8 _ _ _ _ _ (ix3 0 a n) rfl ?_).trans ((pay3_apply _ a n).trans (tail c a1 w1 a3 w3 a10 x0 x2 a n))
  intro k
  match k with
  | ⟨0, _⟩ => rfl
  | ⟨1, _⟩ => show a.val = 0 + a.val; omega
  | ⟨2, _⟩ => show n.val = 0 + n.val; omega

/-- The rows carried to the next tile. -/
theorem sout (a : Fin 8) (n : Fin 5632) : sout0_B_0 c i a1 w1 a2 w2 a3 w3 a4 w4 a5 w5 a6 w6 a7 w7 a8 w8 a9 w9 a10 w10 hc0 x0 x1 x2 x3 x4 x5 x6 xs0 (ix2 ⟨a.val, by omega⟩ n) = UU x0 x2 ⟨504 + a.val, by omega⟩ n := by
  dsimp only [sout0_B_0]
  exact (st_hit VS0_0 _ _ _ _ _ n a n (by dsimp only; omega) (by omega)).trans ((pay2_apply _ a n).trans (tail c a1 w1 a3 w3 a10 x0 x2 a n))

end Cert.FfnIdeal.Val.B

end
-- ==== Proof.FfnHost.lean ====
module

public import proofs.«01_k».proof.Proof.FfnOps
public import Idealize.ShloMosaic.Lib.Pipeline.Value
public import Idealize.ShloMosaic.Lib.ValueLayout

/-! What the host hands the kernel: the weights with each half's columns padded by zeros. -/

@[expose] public section

set_option maxRecDepth 16384

noncomputable section

namespace Cert.FfnIdeal.Val

open Cert.FfnIdeal Cert.FfnIdeal.Gen
open Idealize.ShloMosaic Idealize.ShloMosaic.TcCoe Idealize.SL.Sem

variable (m : (ℓ : Loc nD τ sig) → Buf (Elt Ideal) ℓ)

/-- Each half of the columns padded by zeros. -/
def PC1024 (X : FVec Ideal S1024x5504 .f32) : FVec Ideal S1024x5632 .f32 := concatenate S1024x5632 1 [⟨S1024x2816, pad (α := Ideal .f32) S1024x2816 ![0, 0] ![0, 64] ![0, 0] (extractStridedSlice S1024x2752 ![0, 0] X slices_S1024x5504_S1024x2752_0_0) (sitofp (F := Ideal) .f32 (constantI S_ 32 0#32)) pads_S1024x2752_S1024x2816_000_0640 h_S_⟩, ⟨S1024x2816, pad (α := Ideal .f32) S1024x2816 ![0, 0] ![0, 64] ![0, 0] (extractStridedSlice S1024x2752 ![0, 2752] X slices_S1024x5504_S1024x2752_0_2752) (sitofp (F := Ideal) .f32 (constantI S_ 32 0#32)) pads_S1024x2752_S1024x2816_000_0640 h_S_⟩] concatenates_S1024x2816_S1024x2816_S1024x5632_d1

theorem PC1024_lo (X : FVec Ideal S1024x5504 .f32) (r : Fin 1024) (n : Fin 2752) : PC1024 X (ix2 r ⟨n.val, by omega⟩) = X (ix2 r ⟨n.val, by omega⟩) := by
  have h : n.val < 2816 := by omega
  skip
  unfold PC1024
  pointwise
  simp only [dif_pos h]

theorem PC1024_hi (X : FVec Ideal S1024x5504 .f32) (r : Fin 1024) (n : Fin 2752) : PC1024 X (ix2 r ⟨2816 + n.val, by omega⟩) = X (ix2 r ⟨2752 + n.val, by omega⟩) := by
  skip
  unfold PC1024
  pointwise

/-- Each half of the columns padded by zeros. -/
def PC3 (X : FVec Ideal S3x5504 .f32) : FVec Ideal S3x5632 .f32 := concatenate S3x5632 1 [⟨S3x2816, pad (α := Ideal .f32) S3x2816 ![0, 0] ![0, 64] ![0, 0] (extractStridedSlice S3x2752 ![0, 0] X slices_S3x5504_S3x2752_0_0) (sitofp (F := Ideal) .f32 (constantI S_ 32 0#32)) pads_S3x2752_S3x2816_000_0640 h_S_⟩, ⟨S3x2816, pad (α := Ideal .f32) S3x2816 ![0, 0] ![0, 64] ![0, 0] (extractStridedSlice S3x2752 ![0, 2752] X slices_S3x5504_S3x2752_0_2752) (sitofp (F := Ideal) .f32 (constantI S_ 32 0#32)) pads_S3x2752_S3x2816_000_0640 h_S_⟩] concatenates_S3x2816_S3x2816_S3x5632_d1

theorem PC3_lo (X : FVec Ideal S3x5504 .f32) (r : Fin 3) (n : Fin 2752) : PC3 X (ix2 r ⟨n.val, by omega⟩) = X (ix2 r ⟨n.val, by omega⟩) := by
  have h : n.val < 2816 := by omega
  skip
  unfold PC3
  pointwise
  simp only [dif_pos h]

theorem PC3_hi (X : FVec Ideal S3x5504 .f32) (r : Fin 3) (n : Fin 2752) : PC3 X (ix2 r ⟨2816 + n.val, by omega⟩) = X (ix2 r ⟨2752 + n.val, by omega⟩) := by
  skip
  unfold PC3
  pointwise

/-- Each half of the columns padded by zeros. -/
def PC1 (X : FVec Ideal S1x5504 .f32) : FVec Ideal S1x5632 .f32 := concatenate S1x5632 1 [⟨S1x2816, pad (α := Ideal .f32) S1x2816 ![0, 0] ![0, 64] ![0, 0] (extractStridedSlice S1x2752 ![0, 0] X slices_S1x5504_S1x2752_0_0) (sitofp (F := Ideal) .f32 (constantI S_ 32 0#32)) pads_S1x2752_S1x2816_000_0640 h_S_⟩, ⟨S1x2816, pad (α := Ideal .f32) S1x2816 ![0, 0] ![0, 64] ![0, 0] (extractStridedSlice S1x2752 ![0, 2752] X slices_S1x5504_S1x2752_0_2752) (sitofp (F := Ideal) .f32 (constantI S_ 32 0#32)) pads_S1x2752_S1x2816_000_0640 h_S_⟩] concatenates_S1x2816_S1x2816_S1x5632_d1

theorem PC1_lo (X : FVec Ideal S1x5504 .f32) (r : Fin 1) (n : Fin 2752) : PC1 X (ix2 r ⟨n.val, by omega⟩) = X (ix2 r ⟨n.val, by omega⟩) := by
  have h : n.val < 2816 := by omega
  obtain rfl : r = 0 := Subsingleton.elim _ _
  unfold PC1
  pointwise
  simp only [dif_pos h]

theorem PC1_hi (X : FVec Ideal S1x5504 .f32) (r : Fin 1) (n : Fin 2752) : PC1 X (ix2 r ⟨2816 + n.val, by omega⟩) = X (ix2 r ⟨2752 + n.val, by omega⟩) := by
  obtain rfl : r = 0 := Subsingleton.elim _ _
  unfold PC1
  pointwise

theorem V6_eq (c : Dev nD) : V m c main_v6 = truncf .bf16 (PC1024 (shapeCast S1024x5504 (m ((c : Thread nD τ).loc main_arg2)) shapeCasts_S1x1024x5504_S1024x5504)) bitsLt_bf16_f32 := by
  conv => lhs; dsimp only [V, V0]; simp only [List.flatten_cons, List.flatten_nil, List.cons_append, List.nil_append, List.append_nil]
  after_results <;> rfl

theorem V6_lo (c : Dev nD) (r : Fin 1024) (n : Fin 2752) : V m c main_v6 (ix2 r ⟨n.val, by omega⟩) = m ((c : Thread nD τ).loc main_arg2) (ix3 0 r ⟨n.val, by omega⟩) := by
  rw [V6_eq]
  exact (PC1024_lo _ r n).trans (ValueIdx.shapeCast_1ab_ab_apply _ _ _ _)

theorem V6_hi (c : Dev nD) (r : Fin 1024) (n : Fin 2752) : V m c main_v6 (ix2 r ⟨2816 + n.val, by omega⟩) = m ((c : Thread nD τ).loc main_arg2) (ix3 0 r ⟨2752 + n.val, by omega⟩) := by
  rw [V6_eq]
  exact (PC1024_hi _ r n).trans (ValueIdx.shapeCast_1ab_ab_apply _ _ _ _)

theorem V12_eq (c : Dev nD) : V m c main_v12 = PC3 (shapeCast S3x5504 (m ((c : Thread nD τ).loc main_arg3)) shapeCasts_S1x3x5504_S3x5504) := by
  conv => lhs; dsimp only [V, V0]; simp only [List.flatten_cons, List.flatten_nil, List.cons_append, List.nil_append, List.append_nil]
  after_results <;> rfl

theorem V12_lo (c : Dev nD) (r : Fin 3) (n : Fin 2752) : V m c main_v12 (ix2 r ⟨n.val, by omega⟩) = m ((c : Thread nD τ).loc main_arg3) (ix3 0 r ⟨n.val, by omega⟩) := by
  rw [V12_eq]
  exact (PC3_lo _ r n).trans (ValueIdx.shapeCast_1ab_ab_apply _ _ _ _)

theorem V12_hi (c : Dev nD) (r : Fin 3) (n : Fin 2752) : V m c main_v12 (ix2 r ⟨2816 + n.val, by omega⟩) = m ((c : Thread nD τ).loc main_arg3) (ix3 0 r ⟨2752 + n.val, by omega⟩) := by
  rw [V12_eq]
  exact (PC3_hi _ r n).trans (ValueIdx.shapeCast_1ab_ab_apply _ _ _ _)

theorem cast1 (X : FVec Ideal S1x5504 .f32) (r : Fin 1) (n : Fin 5504) : shapeCast S1x5504 (shapeCast S5504 X shapeCasts_S1x5504_S5504) shapeCasts_S5504_S1x5504 (ix2 r n) = X (ix2 r n) := by
  obtain rfl : r = 0 := Subsingleton.elim _ _
  pointwise

theorem V19_eq (c : Dev nD) : V m c main_v19 = PC1 (shapeCast S1x5504 (shapeCast S5504 (m ((c : Thread nD τ).loc main_arg4)) shapeCasts_S1x5504_S5504) shapeCasts_S5504_S1x5504) := by
  conv => lhs; dsimp only [V, V0]; simp only [List.flatten_cons, List.flatten_nil, List.cons_append, List.nil_append, List.append_nil]
  after_results <;> rfl

theorem V19_lo (c : Dev nD) (r : Fin 1) (n : Fin 2752) : V m c main_v19 (ix2 r ⟨n.val, by omega⟩) = m ((c : Thread nD τ).loc main_arg4) (ix2 r ⟨n.val, by omega⟩) := by
  rw [V19_eq]
  exact (PC1_lo _ r n).trans (cast1 _ r _)

theorem V19_hi (c : Dev nD) (r : Fin 1) (n : Fin 2752) : V m c main_v19 (ix2 r ⟨2816 + n.val, by omega⟩) = m ((c : Thread nD τ).loc main_arg4) (ix2 r ⟨2752 + n.val, by omega⟩) := by
  rw [V19_eq]
  exact (PC1_hi _ r n).trans (cast1 _ r _)

/-- Rows of zeros below. -/
def PR (X : FVec Ideal S2752x1024 .f32) : FVec Ideal S2816x1024 .f32 := pad (α := Ideal .f32) S2816x1024 ![0, 0] ![64, 0] ![0, 0] X (sitofp (F := Ideal) .f32 (constantI S_ 32 0#32)) pads_S2752x1024_S2816x1024_0640_000 h_S_

theorem PR_lo (X : FVec Ideal S2752x1024 .f32) (n : Fin 2752) (d : Fin 1024) : PR X (ix2 ⟨n.val, by omega⟩ d) = X (ix2 n d) := by
  unfold PR
  pointwise

theorem PR_hi (X : FVec Ideal S2752x1024 .f32) (n : Fin 2816) (hn : 2752 ≤ n.val) (d : Fin 1024) : PR X (ix2 n d) = (0 : EReal) := by
  unfold PR
  pointwise
  rw [dif_neg (by omega)]
  show (((0#32).toInt : ℝ) : EReal) = 0
  norm_num

theorem V22_eq (c : Dev nD) : V m c main_v22 = truncf .bf16 (PR (shapeCast S2752x1024 (m ((c : Thread nD τ).loc main_arg5)) shapeCasts_S1x2752x1024_S2752x1024)) bitsLt_bf16_f32 := by
  conv => lhs; dsimp only [V, V0]; simp only [List.flatten_cons, List.flatten_nil, List.cons_append, List.nil_append, List.append_nil]
  after_results <;> rfl

theorem V22_lo (c : Dev nD) (n : Fin 2752) (d : Fin 1024) : V m c main_v22 (ix2 ⟨n.val, by omega⟩ d) = m ((c : Thread nD τ).loc main_arg5) (ix3 0 n d) := by
  rw [V22_eq]
  exact (PR_lo _ n d).trans (ValueIdx.shapeCast_1ab_ab_apply _ _ _ _)

theorem V22_hi (c : Dev nD) (n : Fin 2816) (hn : 2752 ≤ n.val) (d : Fin 1024) : V m c main_v22 (ix2 n d) = (0 : EReal) := by
  rw [V22_eq]
  exact PR_hi _ n hn d

theorem V24_eq (c : Dev nD) : V m c main_v24 = shapeCast S1x1024 (shapeCast S1024 (m ((c : Thread nD τ).loc main_arg6)) shapeCasts_S1x1024_S1024) shapeCasts_S1024_S1x1024 := by
  conv => lhs; dsimp only [V, V0]; simp only [List.flatten_cons, List.flatten_nil, List.cons_append, List.nil_append, List.append_nil]
  after_results <;> rfl

theorem V24_apply (c : Dev nD) (d : Fin 1024) : V m c main_v24 (ix2 0 d) = m ((c : Thread nD τ).loc main_arg6) (ix2 0 d) := by
  rw [V24_eq]
  pointwise

end Cert.FfnIdeal.Val

end
-- ==== Proof.FfnArr.lean ====
module

public import proofs.«01_k».proof.Proof.FfnCaseA
public import proofs.«01_k».proof.Proof.FfnCaseB
public import proofs.«01_k».proof.Proof.FfnHost

/-! What every grid point reads and leaves. -/

@[expose] public section

set_option maxRecDepth 16384

noncomputable section

namespace Cert.FfnIdeal.Val

open Cert.FfnIdeal Cert.FfnIdeal.Gen
open Idealize.ShloMosaic Idealize.ShloMosaic.TcCoe Idealize.SL.Sem

open Cert.FfnSpec

variable (m : (ℓ : Loc nD τ sig) → Buf (Elt Ideal) ℓ) (c : Dev nD)

/-- Where each window stands at point `t` (sequence `t / 8`, tile `t % 8`). -/
theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![t.val, 0] ∧ win0_8.index t = ![t.val / 8, 0, 0] ∧ t.val < 32 :=
  (by decide +kernel : ∀ t : Fin grid0.N, _)

theorem lt32 (t : Fin cfg0.N) : t.val < 32 := (idx t).2.2.2.2.2.2.2.2.2

theorem iblk0_apply (t : Fin cfg0.N) (r : Fin 512) (e : Fin 1024) : iblk m c 0 t (ix2 r e) = m ((c : Thread nD τ).loc main_arg0) (ix2 ⟨512 * t.val + r.val, by have := lt32 t; omega⟩ e) := by
  rw [← V_main_arg0 m c]
  blk_ext [iblk, idx t]

theorem iblk1_apply (t : Fin cfg0.N) (r : Fin 512) (e : Fin 1024) : iblk m c 1 t (ix2 r e) = m ((c : Thread nD τ).loc main_arg1) (ix2 ⟨512 * t.val + r.val, by have := lt32 t; omega⟩ e) := by
  rw [← V_main_arg1 m c]
  blk_ext [iblk, idx t]

theorem iblk2_apply (t : Fin cfg0.N) (r : Fin 1024) (n : Fin 5632) : iblk m c 2 t (ix2 r n) = V m c main_v6 (ix2 r n) := by
  blk_ext [iblk, idx t]

theorem iblk3_apply (t : Fin cfg0.N) (r : Fin 3) (n : Fin 5632) : iblk m c 3 t (ix2 r n) = V m c main_v12 (ix2 r n) := by
  blk_ext [iblk, idx t]

theorem iblk4_apply (t : Fin cfg0.N) (r : Fin 1) (n : Fin 5632) : iblk m c 4 t (ix2 r n) = V m c main_v19 (ix2 r n) := by
  blk_ext [iblk, idx t]

theorem iblk5_apply (t : Fin cfg0.N) (n : Fin 2816) (d : Fin 1024) : iblk m c 5 t (ix2 n d) = V m c main_v22 (ix2 n d) := by
  blk_ext [iblk, idx t]

theorem iblk6_apply (t : Fin cfg0.N) (r : Fin 1) (d : Fin 1024) : iblk m c 6 t (ix2 r d) = V m c main_v24 (ix2 r d) := by
  blk_ext [iblk, idx t]

/-- Column `q` of the padded weights is column `k` of the weights. -/
structure Col (q : Fin 5632) (k : Fin 5504) : Prop where
  up : ∀ (t : Fin cfg0.N) (e : Fin 1024), iblk m c 2 t (ix2 e q) = m ((c : Thread nD τ).loc main_arg2) (ix3 0 e k)
  dw : ∀ (t : Fin cfg0.N) (j : Fin 3), iblk m c 3 t (ix2 j q) = m ((c : Thread nD τ).loc main_arg3) (ix3 0 j k)
  bi : ∀ (t : Fin cfg0.N), iblk m c 4 t (ix2 0 q) = m ((c : Thread nD τ).loc main_arg4) (ix2 0 k)

theorem col_lo (n : Fin 2752) : Col m c ⟨n.val, by omega⟩ ⟨n.val, by omega⟩ :=
  ⟨fun t e => (iblk2_apply m c t e _).trans (V6_lo m c e n), fun t j => (iblk3_apply m c t j _).trans (V12_lo m c j n), fun t => (iblk4_apply m c t 0 _).trans (V19_lo m c 0 n)⟩

theorem col_hi (n : Fin 2752) : Col m c ⟨2816 + n.val, by omega⟩ ⟨2752 + n.val, by omega⟩ :=
  ⟨fun t e => (iblk2_apply m c t e _).trans (V6_hi m c e n), fun t j => (iblk3_apply m c t j _).trans (V12_hi m c j n), fun t => (iblk4_apply m c t 0 _).trans (V19_hi m c 0 n)⟩

/-- The rows carried out of a tile are its last eight. -/
theorem carry (t : Fin cfg0.N) (a : Fin 8) (n : Fin 5632) : (outsAt0 m c t.val t.isLt).2.2 (ix2 ⟨a.val, by omega⟩ n) = UU (iblk m c 0 t) (iblk m c 2 t) ⟨504 + a.val, by omega⟩ n := by
  by_cases h0 : t.val % 8 = 0
  · rw [outsAt0_A m c t h0]
    dsimp only
    exact A.sout c _ _ _ _ _ _ _ _ _ _ _ _ _ _ _ _ _ _ _ _ _ _ _ _ _ _ _ _ _ a n
  · rw [outsAt0_B m c t h0]
    dsimp only
    exact B.sout c _ _ _ _ _ _ _ _ _ _ _ _ _ _ _ _ _ _ _ _ _ _ _ _ _ _ _ _ _ _ a n

/-- The rows carried into a tile. -/
def KT (t : Fin cfg0.N) (j : Fin 8) (n : Fin 5632) : EReal :=
  if h0 : t.val % 8 = 0 then 0 else UU (iblk m c 0 ⟨t.val - 1, Nat.lt_of_le_of_lt (Nat.sub_le _ _) t.isLt⟩) (iblk m c 2 ⟨t.val - 1, Nat.lt_of_le_of_lt (Nat.sub_le _ _) t.isLt⟩) ⟨504 + j.val, by omega⟩ n

theorem block7 (t : Fin cfg0.N) (a : Fin 512) (d : Fin 1024) : (outsAt0 m c t.val t.isLt).1 (ix2 a d)
      = YY (FF (CV (EX (KT m c t) (iblk m c 0 t) (iblk m c 2 t)) (iblk m c 3 t) (iblk m c 4 t) a) (iblk m c 5 t)) (fun e => iblk m c 6 t (ix2 0 e)) (fun e => iblk m c 1 t (ix2 a e)) d := by
  by_cases h0 : t.val % 8 = 0
  · have hk : KT m c t = fun _ _ => 0 := by
      funext j n
      exact dif_pos h0
    rw [outsAt0_A m c t h0, hk]
    dsimp only
    exact A.out7 c _ _ _ _ _ _ _ _ _ _ _ _ _ _ _ _ _ _ _ _ _ _ _ _ _ _ _ _ _ a d
  · have hk : KT m c t = fun j n => (outsAt0 m c (t.val - 1) (Nat.lt_of_le_of_lt (Nat.sub_le _ _) t.isLt)).2.2 (ix2 ⟨j.val, by omega⟩ n) := by
      funext j n
      exact (dif_neg h0).trans (carry m c ⟨t.val - 1, _⟩ j n).symm
    rw [outsAt0_B m c t h0, hk]
    dsimp only
    exact B.out7 c _ _ _ _ _ _ _ _ _ _ _ _ _ _ _ _ _ _ _ _ _ _ _ _ _ _ _ _ _ _ a d

theorem block8 (t : Fin cfg0.N) (a : Fin 8) (n : Fin 5632) : (outsAt0 m c t.val t.isLt).2.1 (ix3 0 a n) = UU (iblk m c 0 t) (iblk m c 2 t) ⟨504 + a.val, by omega⟩ n := by
  by_cases h0 : t.val % 8 = 0
  · rw [outsAt0_A m c t h0]
    dsimp only
    exact A.out8 c _ _ _ _ _ _ _ _ _ _ _ _ _ _ _ _ _ _ _ _ _ _ _ _ _ _ _ _ _ a n
  · rw [outsAt0_B m c t h0]
    dsimp only
    exact B.out8 c _ _ _ _ _ _ _ _ _ _ _ _ _ _ _ _ _ _ _ _ _ _ _ _ _ _ _ _ _ _ a n

end Cert.FfnIdeal.Val

end
-- ==== Proof.FfnFinal.lean ====
module

public import proofs.«01_k».proof.Proof.FfnArr

/-! The kernel's two result arrays, entry by entry. -/

@[expose] public section

set_option maxRecDepth 16384

noncomputable section

namespace Cert.FfnIdeal.Val

open Cert.FfnIdeal Cert.FfnIdeal.Gen
open Idealize.ShloMosaic Idealize.ShloMosaic.TcCoe Idealize.SL.Sem

open Cert.FfnSpec

variable (m : (ℓ : Loc nD τ sig) → Buf (Elt Ideal) ℓ) (c : Dev nD)

theorem up_row {q : Fin 5632} {k : Fin 5504} (h : Col m c q k) (t : Fin cfg0.N) (r : Fin 512) (R : Fin 16384) (hR : R.val = 512 * t.val + r.val) :
    UU (iblk m c 0 t) (iblk m c 2 t) r q = UP (m ((c : Thread nD τ).loc main_arg0)) (m ((c : Thread nD τ).loc main_arg2)) R k := by
  have hl : 512 * t.val + r.val < 16384 := by clear hR; have := lt32 t; omega
  obtain rfl : R = ⟨512 * t.val + r.val, hl⟩ := Fin.ext hR
  exact Finset.sum_congr rfl fun e _ => congrArg₂ (· * ·) (iblk0_apply m c t r e) (h.up t e)

/-- The rows a tile convolves are the sequence's, from the two before the tile's first on. -/
theorem ex_eq {q : Fin 5632} {k : Fin 5504} (h : Col m c q k) (t : Fin cfg0.N) (b : Fin 4) (hb : b.val = t.val / 8) (x : Fin 520) (s : Fin 4098) (hx : 6 ≤ x.val) (hs : s.val = 512 * (t.val % 8) + (x.val - 6)) :
    EX (KT m c t) (iblk m c 0 t) (iblk m c 2 t) x q = XT (m ((c : Thread nD τ).loc main_arg0)) (m ((c : Thread nD τ).loc main_arg2)) b s k := by
  have ht := lt32 t
  unfold EX XT KT
  by_cases h8 : x.val < 8
  · rw [dif_pos h8]
    by_cases h0 : t.val % 8 = 0
    · rw [dif_pos h0, dif_pos (by omega)]
    · rw [dif_neg h0, dif_neg (by omega)]
      exact up_row m c h _ _ _ (by dsimp only; omega)
  · rw [dif_neg h8, dif_neg (by omega)]
    exact up_row m c h _ _ _ (by dsimp only; omega)

theorem cv_eq {q : Fin 5632} {k : Fin 5504} (h : Col m c q k) (t : Fin cfg0.N) (b : Fin 4) (hb : b.val = t.val / 8) (r : Fin 512) (s : Fin 4096) (hs : s.val = 512 * (t.val % 8) + r.val) :
    CV (EX (KT m c t) (iblk m c 0 t) (iblk m c 2 t)) (iblk m c 3 t) (iblk m c 4 t) r q = CC (m ((c : Thread nD τ).loc main_arg0)) (m ((c : Thread nD τ).loc main_arg2)) (m ((c : Thread nD τ).loc main_arg3)) (m ((c : Thread nD τ).loc main_arg4)) b s k := by
  unfold CV CC
  rw [ex_eq m c h t b hb ⟨r.val + 6, by omega⟩ ⟨s.val, by omega⟩ (by dsimp only; omega) (by dsimp only; omega), ex_eq m c h t b hb ⟨r.val + 7, by omega⟩ ⟨s.val + 1, by omega⟩ (by dsimp only; omega) (by dsimp only; omega),
    ex_eq m c h t b hb ⟨r.val + 8, by omega⟩ ⟨s.val + 2, by omega⟩ (by dsimp only; omega) (by dsimp only; omega), h.dw t 0, h.dw t 1, h.dw t 2, h.bi t]

theorem ff_sum (t : Fin cfg0.N) (b : Fin 4) (hb : b.val = t.val / 8) (r : Fin 512) (s : Fin 4096) (hs : s.val = 512 * (t.val % 8) + r.val) (d : Fin 1024) :
    FF (CV (EX (KT m c t) (iblk m c 0 t) (iblk m c 2 t)) (iblk m c 3 t) (iblk m c 4 t) r) (iblk m c 5 t) d = DN (m ((c : Thread nD τ).loc main_arg0)) (m ((c : Thread nD τ).loc main_arg2)) (m ((c : Thread nD τ).loc main_arg3)) (m ((c : Thread nD τ).loc main_arg4)) (m ((c : Thread nD τ).loc main_arg5)) b s d := by
  refine (sum_pad (A := 2752) (B := 64) (fun n : Fin 2816 => AC (CV (EX (KT m c t) (iblk m c 0 t) (iblk m c 2 t)) (iblk m c 3 t) (iblk m c 4 t) r) n * (show EReal from iblk m c 5 t (ix2 n d))) fun n hn => ?_).trans
    (Finset.sum_congr rfl fun n _ => ?_)
  · have h0 : (show EReal from iblk m c 5 t (ix2 n d)) = 0 := (iblk5_apply m c t n d).trans (V22_hi m c n hn d)
    exact (congrArg (_ * ·) h0).trans (mul_zero _)
  · exact congrArg₂ (· * ·) (congrArg₂ GT (cv_eq m c (col_hi m c n) t b hb r s hs) (cv_eq m c (col_lo m c n) t b hb r s hs)) ((iblk5_apply m c t _ d).trans (V22_lo m c n d))

/-- An entry of a block of results. -/
theorem block_rs (t : Fin cfg0.N) (b : Fin 4) (hb : b.val = t.val / 8) (r : Fin 512) (s : Fin 4096) (hs : s.val = 512 * (t.val % 8) + r.val) (d : Fin 1024) :
    (outsAt0 m c t.val t.isLt).1 (ix2 r d) = RS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b s d := by
  refine (block7 m c t r d).trans (congrFun (congr (congr (congrArg YY (funext fun e => ff_sum m c t b hb r s hs e)) (funext fun e => (iblk6_apply m c t 0 e).trans (V24_apply m c e))) (funext fun e => ?_)) d)
  refine (iblk1_apply m c t r e).trans (congrArg (fun R => m ((c : Thread nD τ).loc main_arg1) (ix2 R e)) (Fin.ext ?_))
  show 512 * t.val + r.val = 4096 * b.val + s.val
  omega

/-- The kernel's first result array. -/
theorem arr7 : (dats m 0 c).arrAt 7 cfg0.N = fun p : S16384x1024.Idx => RS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨(p 0).val / 4096, by have h : (p 0).val < 16384 := (p 0).isLt; omega⟩ ⟨(p 0).val % 4096, Nat.mod_lt _ (by omega)⟩ (p 1) := by
  refine (dats m 0 c).arrAt_eq_of_covers 7 _ (by decide +kernel) fun t hf y => ?_
  obtain ⟨r, d, rfl⟩ : ∃ (r : Fin 512) (d : Fin 1024), y = ix2 r d := ⟨y 0, y 1, eq_ix2 y⟩
  have ht := lt32 t
  blk_simp
  rw [after0_7]
  refine (block_rs m c t ⟨t.val / 8, by omega⟩ rfl r ⟨512 * (t.val % 8) + r.val, by omega⟩ rfl d).trans (congrArg₂ (fun (f : Fin 1024 → EReal) e => f e) (congrArg₂ (RS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (Fin.ext ?_) (Fin.ext ?_)) (Fin.ext ?_))
  all_goals
    blk_simp [idx t]
    try dsimp only
    try omega

/-- The kernel's second result array, at a column of the weights. -/
theorem arr8 {q : Fin 5632} {k : Fin 5504} (h : Col m c q k) (b : Fin 4) (j : Fin 8) :
    (dats m 0 c).arrAt 8 cfg0.N (ix3 b j q) = UP (m ((c : Thread nD τ).loc main_arg0)) (m ((c : Thread nD τ).loc main_arg2)) ⟨4096 * b.val + (4088 + j.val), by omega⟩ k := by
  have e : (dats m 0 c).arrAt 8 cfg0.N = fun p : S4x8x5632.Idx => UU (iblk m c 0 ⟨8 * (p 0).val + 7, by have h : (p 0).val < 4 := (p 0).isLt; show _ < 32; omega⟩) (iblk m c 2 ⟨8 * (p 0).val + 7, by have h : (p 0).val < 4 := (p 0).isLt; show _ < 32; omega⟩)
      ⟨504 + (p 1).val, by have h : (p 1).val < 8 := (p 1).isLt; omega⟩ (p 2) := by
    refine (dats m 0 c).arrAt_eq_of_covers 8 _ (by decide +kernel) fun t hf y => ?_
    obtain ⟨z, a, n, rfl⟩ : ∃ (z : Fin 1) (a : Fin 8) (n : Fin 5632), y = ix3 z a n := ⟨y 0, y 1, y 2, eq_ix3 y⟩
    obtain rfl : z = 0 := Subsingleton.elim _ _
    have ht := lt32 t
    have hm : t.val % 8 = 7 := (flush0_8 t).mp hf
    blk_simp
    rw [after0_8]
    refine (block8 m c t a n).trans ?_
    have hU : ∀ (t' : Fin cfg0.N) (r r' : Fin 512) (n' : Fin 5632), t = t' → r = r' → n = n' → UU (iblk m c 0 t) (iblk m c 2 t) r n = UU (iblk m c 0 t') (iblk m c 2 t') r' n' := by
      rintro _ _ _ _ rfl rfl rfl
      rfl
    refine hU _ _ _ _ (Fin.ext ?_) (Fin.ext ?_) (Fin.ext ?_)
    all_goals
      blk_simp [idx t]
      try dsimp only
      try omega
  rw [e]
  exact up_row m c h _ _ _ (by dsimp only [ix3]; show 4096 * b.val + (4088 + j.val) = 512 * (8 * b.val + 7) + (504 + j.val); omega)

end Cert.FfnIdeal.Val

end
-- ==== Proof.FfnOut.lean ====
module

public import proofs.«01_k».proof.Proof.Gen.FfnIdeal.Run
public import proofs.«01_k».proof.Proof.FfnFinal

/-! The kernel's two results, entry by entry. -/

@[expose] public section

set_option maxRecDepth 16384

noncomputable section

namespace Cert.FfnIdeal.Val

open Cert.FfnIdeal Cert.FfnIdeal.Gen
open Idealize.ShloMosaic Idealize.ShloMosaic.TcCoe Idealize.SL.Sem

open Cert.FfnSpec

/-- A block's last two rows, the padding between and after the two halves of the columns dropped. -/
def TL (X : FVec Ideal S4x8x5632 .f32) : FVec Ideal S1x4x2x5504 .f32 :=
  broadcastInDim S1x4x2x5504 ![1, 2, 3] bcast_S4x2x5504_S1x4x2x5504_1_2_3 (concatenate S4x2x5504 2 [⟨S4x2x2752, extractStridedSlice S4x2x2752 ![0, 0, 0] (extractStridedSlice S4x2x5632 ![0, 6, 0] X slices_S4x8x5632_S4x2x5632_0_6_0) slices_S4x2x5632_S4x2x2752_0_0_0⟩,
    ⟨S4x2x2752, extractStridedSlice S4x2x2752 ![0, 0, 2816] (extractStridedSlice S4x2x5632 ![0, 6, 0] X slices_S4x8x5632_S4x2x5632_0_6_0) slices_S4x2x5632_S4x2x2752_0_0_2816⟩] concatenates_S4x2x2752_S4x2x2752_S4x2x5504_d2)

theorem TL_apply (X : FVec Ideal S4x8x5632 .f32) (b : Fin 4) (j : Fin 2) (k : Fin 5504) :
    TL X (ix4 0 b j k) = if h : k.val < 2752 then X (ix3 b ⟨6 + j.val, by omega⟩ ⟨k.val, by omega⟩) else X (ix3 b ⟨6 + j.val, by omega⟩ ⟨2816 + (k.val - 2752), by omega⟩) := by
  unfold TL
  pointwise

theorem rows_apply (X : FVec Ideal S16384x1024 .f32) (b : Fin 4) (s : Fin 4096) (d : Fin 1024) : shapeCast S4x4096x1024 X shapeCasts_S16384x1024_S4x4096x1024 (ix3 b s d) = X (ix2 ⟨4096 * b.val + s.val, by omega⟩ d) := by
  pointwise
  simp only [Nat.mul_comm 4096]

variable (m : (ℓ : Loc nD τ sig) → Buf (Elt Ideal) ℓ) (c : Dev nD)

/-- The kernel's first result, entry by entry. -/
theorem out0 (b : Fin 4) (s : Fin 4096) (d : Fin 1024) :
    shapeCast S4x4096x1024 (Cert.FfnIdeal.Value.reg_main_v25_0 (F := Ideal) m c) shapeCasts_S16384x1024_S4x4096x1024 (ix3 b s d) = RS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b s d := by
  have e : Cert.FfnIdeal.Value.reg_main_v25_0 (F := Ideal) m c = _ := arr7 m c
  rw [rows_apply, e]
  exact congrFun (congrArg₂ (RS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (Fin.ext (by show (4096 * b.val + s.val) / 4096 = b.val; omega)) (Fin.ext (by show (4096 * b.val + s.val) % 4096 = s.val; omega))) d

/-- The kernel's second result, entry by entry. -/
theorem out1 (b : Fin 4) (j : Fin 2) (k : Fin 5504) : TL (Cert.FfnIdeal.Value.reg_main_v25_1 (F := Ideal) m c) (ix4 0 b j k) = XT (m ((c : Thread nD τ).loc main_arg0)) (m ((c : Thread nD τ).loc main_arg2)) b ⟨4096 + j.val, by omega⟩ k := by
  have e : Cert.FfnIdeal.Value.reg_main_v25_1 (F := Ideal) m c = (Gen.dats m 0 c).arrAt 8 cfg0.N := rfl
  have hX : XT (m ((c : Thread nD τ).loc main_arg0)) (m ((c : Thread nD τ).loc main_arg2)) b ⟨4096 + j.val, by omega⟩ k = UP (m ((c : Thread nD τ).loc main_arg0)) (m ((c : Thread nD τ).loc main_arg2)) ⟨4096 * b.val + (4088 + (6 + j.val)), by omega⟩ k := by
    unfold XT
    rw [dif_neg (by dsimp only; omega)]
    exact congrArg (fun R => UP (m ((c : Thread nD τ).loc main_arg0)) (m ((c : Thread nD τ).loc main_arg2)) R k) (Fin.ext (by dsimp only; omega))
  rw [TL_apply, e, hX]
  by_cases h : k.val < 2752
  · rw [dif_pos h]
    exact arr8 m c (col_lo m c ⟨k.val, h⟩) b ⟨6 + j.val, by omega⟩
  · rw [dif_neg h]
    have hk : (⟨2752 + (k.val - 2752), by omega⟩ : Fin 5504) = k := Fin.ext (by dsimp only; omega)
    have hc := col_hi m c ⟨k.val - 2752, by omega⟩
    rw [hk] at hc
    exact arr8 m c hc b ⟨6 + j.val, by omega⟩

end Cert.FfnIdeal.Val

end
-- ==== Proof.FfnRef.lean ====
module

public import proofs.«01_k».proof.Proof.Gen.FfnRefIdeal.Run
public import proofs.«01_k».proof.Proof.FfnSpec
public import Idealize.ShloMosaic.Lib.ValueLayout
public import Idealize.ShloMosaic.Lib.Pointwise

/-! The reference's results, stage by stage and entry by entry. -/

@[expose] public section

set_option maxRecDepth 16384

noncomputable section

namespace Cert.FfnRefIdeal.Val

open Cert.FfnRefIdeal Cert.FfnRefIdeal.Gen
open Idealize.ShloMosaic Idealize.ShloMosaic.TcCoe Idealize.SL.Sem

open Cert.FfnSpec

/-- The up-projection. -/
def FU (a0 : FVec Ideal S16384x1024 .bf16) (a2 : FVec Ideal S1x1024x5504 .f32) : FVec Ideal S4x4096x5504 .f32 :=
  Host.dotGeneral dot_S4x4096x1024_S1024x5504_S4x4096x5504_2_0_01_1_n_n none (shapeCast _ (extf .f32 a0 bitsLt_bf16_f32) shapeCasts_S16384x1024_S4x4096x1024) (shapeCast _ a2 shapeCasts_S1x1024x5504_S1024x5504)

/-- Two rows of zeros before each sequence. -/
def FE (U : FVec Ideal S4x4096x5504 .f32) : FVec Ideal S4x4098x5504 .f32 :=
  concatenate S4x4098x5504 1 [⟨S4x2x5504, (broadcastInDim S4x2x5504 ![] bcast_S_S4x2x5504 (constant S_ .f32 0x00000000#32))⟩, ⟨S4x4096x5504, U⟩] concatenates_S4x2x5504_S4x4096x5504_S4x4098x5504_d1

/-- The convolution. -/
def FC (E : FVec Ideal S4x4098x5504 .f32) (a3 : FVec Ideal S1x3x5504 .f32) (a4 : FVec Ideal S1x5504 .f32) : FVec Ideal S4x4096x5504 .f32 :=
  addf (addf (addf (broadcastInDim S4x4096x5504 ![0, 1, 2] bcast_S1x1x5504_S4x4096x5504_0_1_2 (broadcastInDim S1x1x5504 ![2] bcast_S5504_S1x1x5504_2 (shapeCast _ a4 shapeCasts_S1x5504_S5504))) (mulf (extractStridedSlice S4x4096x5504 ![0, 0, 0] E slices_S4x4098x5504_S4x4096x5504_0_0_0) (broadcastInDim S4x4096x5504 ![0, 1, 2] bcast_S1x1x5504_S4x4096x5504_0_1_2 (broadcastInDim S1x1x5504 ![2] bcast_S5504_S1x1x5504_2 (shapeCast _ (extractStridedSlice S1x1x5504 ![0, 0, 0] a3 slices_S1x3x5504_S1x1x5504_0_0_0) shapeCasts_S1x1x5504_S5504))))) (mulf (extractStridedSlice S4x4096x5504 ![0, 1, 0] E slices_S4x4098x5504_S4x4096x5504_0_1_0) (broadcastInDim S4x4096x5504 ![0, 1, 2] bcast_S1x1x5504_S4x4096x5504_0_1_2 (broadcastInDim S1x1x5504 ![2] bcast_S5504_S1x1x5504_2 (shapeCast _ (extractStridedSlice S1x1x5504 ![0, 1, 0] a3 slices_S1x3x5504_S1x1x5504_0_1_0) shapeCasts_S1x1x5504_S5504))))) (mulf (extractStridedSlice S4x4096x5504 ![0, 2, 0] E slices_S4x4098x5504_S4x4096x5504_0_2_0) (broadcastInDim S4x4096x5504 ![0, 1, 2] bcast_S1x1x5504_S4x4096x5504_0_1_2 (broadcastInDim S1x1x5504 ![2] bcast_S5504_S1x1x5504_2 (shapeCast _ (extractStridedSlice S1x1x5504 ![0, 2, 0] a3 slices_S1x3x5504_S1x1x5504_0_2_0) shapeCasts_S1x1x5504_S5504))))

/-- The gated hidden units. -/
def FG (C : FVec Ideal S4x4096x5504 .f32) : FVec Ideal S4x4096x2752 .f32 :=
  mulf (mulf (extractStridedSlice S4x4096x2752 ![0, 0, 2752] C slices_S4x4096x5504_S4x4096x2752_0_0_2752) (Host.divf (broadcastInDim S4x4096x2752 ![] bcast_S_S4x4096x2752 (constant S_ .f32 0x3F800000#32)) (addf (broadcastInDim S4x4096x2752 ![] bcast_S_S4x4096x2752 (constant S_ .f32 0x3F800000#32)) (Host.exp (Host.negf (extractStridedSlice S4x4096x2752 ![0, 0, 2752] C slices_S4x4096x5504_S4x4096x2752_0_0_2752)))))) (extractStridedSlice S4x4096x2752 ![0, 0, 0] C slices_S4x4096x5504_S4x4096x2752_0_0_0)

/-- The down-projection. -/
def FD (G : FVec Ideal S4x4096x2752 .f32) (a5 : FVec Ideal S1x2752x1024 .f32) : FVec Ideal S4x4096x1024 .f32 :=
  Host.dotGeneral dot_S4x4096x2752_S2752x1024_S4x4096x1024_2_0_01_1_n_n none G (shapeCast _ a5 shapeCasts_S1x2752x1024_S2752x1024)

/-- The rows normalised, with gains, added to the residual. -/
def FO (D : FVec Ideal S4x4096x1024 .f32) (a1 : FVec Ideal S16384x1024 .f32) (a6 : FVec Ideal S1x1024 .f32) : FVec Ideal S4x4096x1024 .f32 :=
  addf (shapeCast _ a1 shapeCasts_S16384x1024_S4x4096x1024) (mulf (mulf D (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf D D) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast _ a6 shapeCasts_S1x1024_S1024))))

variable (m : (ℓ : Loc nD τ sig) → Buf (Elt Ideal) ℓ)

/-- The reference's first result is made of the stages. -/
theorem res_eq (c : Dev nD) : Cert.FfnRefIdeal.Value.res_main_v51 (F := Ideal) m c
    = FO (FD (FG (FC (FE (FU (m ((c.tc : Thread nD τ).loc main_arg0)) (m ((c.tc : Thread nD τ).loc main_arg2)))) (m ((c.tc : Thread nD τ).loc main_arg3)) (m ((c.tc : Thread nD τ).loc main_arg4)))) (m ((c.tc : Thread nD τ).loc main_arg5))) (m ((c.tc : Thread nD τ).loc main_arg1)) (m ((c.tc : Thread nD τ).loc main_arg6)) := rfl

theorem FU_apply (a0 : FVec Ideal S16384x1024 .bf16) (a2 : FVec Ideal S1x1024x5504 .f32) (b : Fin 4) (s : Fin 4096) (k : Fin 5504) : FU a0 a2 (ix3 b s k) = UP a0 a2 ⟨4096 * b.val + s.val, by omega⟩ k := by
  unfold FU UP
  pointwise
  simp only [Nat.mul_comm 4096]

theorem FE_apply (U : FVec Ideal S4x4096x5504 .f32) (b : Fin 4) (s : Fin 4098) (k : Fin 5504) : FE U (ix3 b s k) = if h : s.val < 2 then (0 : EReal) else U (ix3 b ⟨s.val - 2, by omega⟩ k) := by
  unfold FE
  pointwise

theorem FE_eq (a0 : FVec Ideal S16384x1024 .bf16) (a2 : FVec Ideal S1x1024x5504 .f32) (b : Fin 4) (s : Fin 4098) (k : Fin 5504) : FE (FU a0 a2) (ix3 b s k) = XT a0 a2 b s k := by
  rw [FE_apply]
  unfold XT
  split
  · rfl
  · exact FU_apply _ _ _ _ _

theorem FC_apply (E : FVec Ideal S4x4098x5504 .f32) (a3 : FVec Ideal S1x3x5504 .f32) (a4 : FVec Ideal S1x5504 .f32) (b : Fin 4) (s : Fin 4096) (k : Fin 5504) : FC E a3 a4 (ix3 b s k)
    = (((show EReal from a4 (ix2 0 k)) + E (ix3 b ⟨s.val, by omega⟩ k) * a3 (ix3 0 0 k)) + E (ix3 b ⟨s.val + 1, by omega⟩ k) * a3 (ix3 0 1 k)) + E (ix3 b ⟨s.val + 2, by omega⟩ k) * a3 (ix3 0 2 k) := by
  unfold FC
  pointwise
  simp only [Nat.add_comm]

theorem FG_apply (C : FVec Ideal S4x4096x5504 .f32) (b : Fin 4) (s : Fin 4096) (n : Fin 2752) : FG C (ix3 b s n) = GT (C (ix3 b s ⟨2752 + n.val, by omega⟩)) (C (ix3 b s ⟨n.val, by omega⟩)) := by
  unfold FG GT Ideal.logistic
  pointwise

theorem FD_apply (G : FVec Ideal S4x4096x2752 .f32) (a5 : FVec Ideal S1x2752x1024 .f32) (b : Fin 4) (s : Fin 4096) (d : Fin 1024) : FD G a5 (ix3 b s d) = ∑ n : Fin 2752, (show EReal from G (ix3 b s n)) * a5 (ix3 0 n d) := by
  unfold FD
  pointwise

theorem FO_apply (D : FVec Ideal S4x4096x1024 .f32) (a1 : FVec Ideal S16384x1024 .f32) (a6 : FVec Ideal S1x1024 .f32) (b : Fin 4) (s : Fin 4096) (d : Fin 1024) :
    FO D a1 a6 (ix3 b s d) = YY (fun e => D (ix3 b s e)) (fun e => a6 (ix2 0 e)) (fun e => a1 (ix2 ⟨4096 * b.val + s.val, by omega⟩ e)) d := by
  unfold FO YY
  pointwise
  simp only [Nat.mul_comm 4096]

/-- The reference's first result, entry by entry. -/
theorem res_apply (c : Dev nD) (b : Fin 4) (s : Fin 4096) (d : Fin 1024) : Cert.FfnRefIdeal.Value.res_main_v51 (F := Ideal) m c (ix3 b s d) = RS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b s d := by
  rw [res_eq, FO_apply]
  unfold RS
  refine congrFun (congrFun (congrFun (congrArg YY (funext fun e => ?_)) _) _) d
  rw [FD_apply]
  refine Finset.sum_congr rfl fun n _ => congrArg (· * _) ?_
  have hC : ∀ k, FC (FE (FU (m ((c.tc : Thread nD τ).loc main_arg0)) (m ((c.tc : Thread nD τ).loc main_arg2)))) (m ((c.tc : Thread nD τ).loc main_arg3)) (m ((c.tc : Thread nD τ).loc main_arg4)) (ix3 b s k) = CC (m ((c.tc : Thread nD τ).loc main_arg0)) (m ((c.tc : Thread nD τ).loc main_arg2)) (m ((c.tc : Thread nD τ).loc main_arg3)) (m ((c.tc : Thread nD τ).loc main_arg4)) b s k := fun k => by
    rw [FC_apply]
    unfold CC
    simp only [FE_eq]
  rw [FG_apply, hC, hC]

/-- The last two rows of the up-projection of each sequence. -/
def FT (E : FVec Ideal S4x4098x5504 .f32) : FVec Ideal S1x4x2x5504 .f32 :=
  broadcastInDim S1x4x2x5504 ![1, 2, 3] bcast_S4x2x5504_S1x4x2x5504_1_2_3 (extractStridedSlice S4x2x5504 ![0, 4096, 0] E slices_S4x4098x5504_S4x2x5504_0_4096_0)

theorem FT_apply (E : FVec Ideal S4x4098x5504 .f32) (b : Fin 4) (j : Fin 2) (k : Fin 5504) : FT E (ix4 0 b j k) = E (ix3 b ⟨4096 + j.val, by omega⟩ k) := by
  unfold FT
  pointwise

end Cert.FfnRefIdeal.Val

end
-- ==== Proof.RowSpec.lean ====
module

public import Idealize.ShloMosaic.Lib.Pipeline.ValueKit
public import Idealize.ShloMosaic.Lib.Pointwise

/-! A normalised row against columns of weights, and buffers written in several stores. -/

@[expose] public section

set_option maxRecDepth 16384

noncomputable section

namespace Cert.RowSpec

open Idealize.ShloMosaic
open Idealize.ShloMosaic Idealize.ShloMosaic.TcCoe Idealize.SL.Sem

/-- A row scaled by its reciprocal root mean square and by the gains. -/
def HN (x g : Fin 1024 → EReal) (e : Fin 1024) : EReal :=
  (x e * Ideal.rsqrt (Ideal.div (∑ k, x k * x k) (Ideal.ofBits .f32 0x44800000#32) + Ideal.ofBits .f32 0x358637BD#32)) * g e

/-- A row of numbers against one column of weights. -/
def PJ (h w : Fin 1024 → EReal) : EReal := ∑ e, h e * w e

section
variable {S : Shape} {e : EltTy} (off size : Fin S.rank → ℕ) (inb : ∀ a, off a + size a ≤ S.size a)
  (w : (Rect.unit off size inb).shape.Idx → Elt Ideal e) (L : List (View.Piece (Elt Ideal) S e)) (y : S.Idx)

/-- What a list of stores leaves, read inside the last one … -/
theorem canon_hit (x : (Rect.unit off size inb).shape.Idx) (h : ∀ a, (y a).val = off a + (x a).val) :
    View.canon (⟨Rect.unit off size inb, w⟩ :: L) y = w x := by
  have hy : y = (Rect.unit off size inb).emb x := funext fun a => Fin.ext (by rw [h a, Rect.emb_apply]; show _ = off a + 1 * (x a).val; omega)
  rw [hy]
  exact View.canon_cons_emb _ w L x

/-- … and outside it. -/
theorem canon_miss (a : Fin S.rank) (h : (y a).val < off a ∨ off a + size a ≤ (y a).val) :
    View.canon (⟨Rect.unit off size inb, w⟩ :: L) y = View.canon L y := by
  refine View.canon_cons_of_not_mem _ L fun hm => ?_
  obtain ⟨x, rfl⟩ := (Rect.unit off size inb).exists_idx_of_mem hm
  have e : (((Rect.unit off size inb).idx x) a).val = off a + (x a).val := Rect.idx_unit_val off size inb x a
  have hx : (x a).val < size a := (x a).isLt
  omega

end

section
variable {e : EltTy} {A B C i j k p q r : ℕ} (inb : ∀ a, (![i, j, k] : Fin 3 → ℕ) a + (![p, q, r] : Fin 3 → ℕ) a ≤ (![A, B, C] : Fin 3 → ℕ) a)
  (w : Shape.Idx ⟨3, ![p, q, r]⟩ → Elt Ideal e) (L : List (View.Piece (Elt Ideal) ⟨3, ![A, B, C]⟩ e)) (x : Fin A) (y : Fin B) (z : Fin C)

theorem canon3_hit (a : Fin p) (b : Fin q) (c : Fin r) (hx : x.val = i + a.val) (hy : y.val = j + b.val) (hz : z.val = k + c.val) :
    View.canon (⟨Rect.unit (s := ⟨3, ![A, B, C]⟩) ![i, j, k] ![p, q, r] inb, w⟩ :: L) (ix3 x y z) = w (ix3 a b c) :=
  canon_hit (S := ⟨3, ![A, B, C]⟩) ![i, j, k] ![p, q, r] inb w L (ix3 x y z) (ix3 a b c) fun n => by
    match n with
    | ⟨0, _⟩ => exact hx
    | ⟨1, _⟩ => exact hy
    | ⟨2, _⟩ => exact hz

theorem canon3_miss (h : y.val < j ∨ j + q ≤ y.val) :
    View.canon (⟨Rect.unit (s := ⟨3, ![A, B, C]⟩) ![i, j, k] ![p, q, r] inb, w⟩ :: L) (ix3 x y z) = View.canon L (ix3 x y z) :=
  canon_miss (S := ⟨3, ![A, B, C]⟩) ![i, j, k] ![p, q, r] inb w L (ix3 x y z) 1 h

end

section
variable {e : EltTy} {A B i j p q : ℕ} (inb : ∀ a, (![i, j] : Fin 2 → ℕ) a + (![p, q] : Fin 2 → ℕ) a ≤ (![A, B] : Fin 2 → ℕ) a)

theorem canon2_hit (w : Shape.Idx ⟨2, ![p, q]⟩ → Elt Ideal e) (L : List (View.Piece (Elt Ideal) ⟨2, ![A, B]⟩ e)) (x : Fin A) (y : Fin B) (a : Fin p) (b : Fin q) (hx : x.val = i + a.val) (hy : y.val = j + b.val) :
    View.canon (⟨Rect.unit (s := ⟨2, ![A, B]⟩) ![i, j] ![p, q] inb, w⟩ :: L) (ix2 x y) = w (ix2 a b) :=
  canon_hit (S := ⟨2, ![A, B]⟩) ![i, j] ![p, q] inb w L (ix2 x y) (ix2 a b) fun n => by
    match n with
    | ⟨0, _⟩ => exact hx
    | ⟨1, _⟩ => exact hy

theorem canon2_miss (w : Shape.Idx ⟨2, ![p, q]⟩ → Elt Ideal e) (L : List (View.Piece (Elt Ideal) ⟨2, ![A, B]⟩ e)) (x : Fin A) (y : Fin B) (h : y.val < j ∨ j + q ≤ y.val) :
    View.canon (⟨Rect.unit (s := ⟨2, ![A, B]⟩) ![i, j] ![p, q] inb, w⟩ :: L) (ix2 x y) = View.canon L (ix2 x y) :=
  canon_miss (S := ⟨2, ![A, B]⟩) ![i, j] ![p, q] inb w L (ix2 x y) 1 h

/-- A load of a window of a matrix. -/
theorem ld2 (X : Shape.Idx ⟨2, ![A, B]⟩ → Elt Ideal e) (a : Fin p) (b : Fin q) (x : Fin A) (y : Fin B) (hx : x.val = i + a.val) (hy : y.val = j + b.val) :
    View.ld X (Rect.unit (s := ⟨2, ![A, B]⟩) ![i, j] ![p, q] inb) (ix2 a b) = X (ix2 x y) :=
  View.ld_unit_apply_of X ![i, j] ![p, q] inb (ix2 a b) (ix2 x y) fun n => by
    match n with
    | ⟨0, _⟩ => exact hx
    | ⟨1, _⟩ => exact hy

end

end Cert.RowSpec

end
-- ==== Proof.MkvVal.lean ====
module

public import proofs.«01_k».proof.Proof.Gen.MkvIdeal.Frame
public import proofs.«01_k».proof.Proof.RowSpec
public import Idealize.ShloMosaic.Lib.ValueLayout

/-! The memory projections' arrays of results, entry by entry. -/

@[expose] public section

set_option maxRecDepth 16384

noncomputable section

namespace Cert.MkvIdeal.Val

open Cert.MkvIdeal Cert.MkvIdeal.Gen
open Idealize.ShloMosaic Idealize.ShloMosaic.TcCoe Idealize.SL.Sem

open Cert.RowSpec

variable (m : (ℓ : Loc nD τ sig) → Buf (Elt Ideal) ℓ) (c : Dev nD)

/-- A tile's rows, normalised. -/
theorem pay8_apply (x : Vec Ideal S256x1024 .f32) (g : Vec Ideal S1x1024 .f32) (r : Fin 256) (e : Fin 1024) :
    k0_pay8 (F := Ideal) x g (ix2 r e) = HN (fun k => x (ix2 r k)) (fun k => g (ix2 0 k)) e := by
  unfold k0_pay8 HN
  pointwise

theorem pay9_apply (x : Vec Ideal S256x1024 .f32) (g : Vec Ideal S1x1024 .f32) (w : Vec Ideal S1024x1024 .bf16) (r : Fin 256) (n : Fin 1024) :
    k0_pay9 (F := Ideal) x g w (ix2 r n) = PJ (HN (fun k => x (ix2 r k)) (fun k => g (ix2 0 k))) (fun e => w (ix2 e n)) := by
  have h : k0_pay9 (F := Ideal) x g w (ix2 r n) = ∑ e : Fin 1024, (show EReal from k0_pay8 (F := Ideal) x g (ix2 r e)) * w (ix2 e n) := by
    unfold k0_pay9
    pointwise
  rw [h]
  exact Finset.sum_congr rfl fun e _ => congrArg (· * _) (pay8_apply x g r e)

theorem pay10_eq (x : Vec Ideal S256x1024 .f32) (g : Vec Ideal S1x1024 .f32) (w : Vec Ideal S1024x1024 .bf16) : k0_pay10 (F := Ideal) x g w = k0_pay9 (F := Ideal) x g w := rfl

/-- Four heads' columns stored one head after another. -/
theorem heads (P : FVec Ideal S256x1024 .f32) (w0 w1 w2 w3 : FVec Ideal S256x1x256 .f32)
    (h0 : ∀ (r d : Fin 256), w0 (ix3 r 0 d) = P (ix2 r ⟨d.val, by omega⟩)) (h1 : ∀ (r d : Fin 256), w1 (ix3 r 0 d) = P (ix2 r ⟨256 + d.val, by omega⟩))
    (h2 : ∀ (r d : Fin 256), w2 (ix3 r 0 d) = P (ix2 r ⟨512 + d.val, by omega⟩)) (h3 : ∀ (r d : Fin 256), w3 (ix3 r 0 d) = P (ix2 r ⟨768 + d.val, by omega⟩))
    (r : Fin 256) (h : Fin 4) (d : Fin 256) :
    View.canon (Val := Elt Ideal) (s := S256x4x256) (e := .f32) [⟨r0_6, w3⟩, ⟨r0_5, w2⟩, ⟨r0_4, w1⟩, ⟨r0_3, w0⟩] (ix3 r h d) = P (ix2 r ⟨256 * h.val + d.val, by omega⟩) := by
  match h with
  | ⟨0, _⟩ => rw [canon3_miss _ _ _ r _ d (by dsimp only; omega)]; rw [canon3_miss _ _ _ r _ d (by dsimp only; omega)]; rw [canon3_miss _ _ _ r _ d (by dsimp only; omega)]; exact (canon3_hit _ _ _ r _ d r 0 d (Nat.zero_add _).symm rfl (Nat.zero_add _).symm).trans ((h0 r d).trans (congrArg (fun q => P (ix2 r q)) (Fin.ext (by dsimp only <;> omega))))
  | ⟨1, _⟩ => rw [canon3_miss _ _ _ r _ d (by dsimp only; omega)]; rw [canon3_miss _ _ _ r _ d (by dsimp only; omega)]; exact (canon3_hit _ _ _ r _ d r 0 d (Nat.zero_add _).symm rfl (Nat.zero_add _).symm).trans ((h1 r d).trans (congrArg (fun q => P (ix2 r q)) (Fin.ext (by dsimp only <;> omega))))
  | ⟨2, _⟩ => rw [canon3_miss _ _ _ r _ d (by dsimp only; omega)]; exact (canon3_hit _ _ _ r _ d r 0 d (Nat.zero_add _).symm rfl (Nat.zero_add _).symm).trans ((h2 r d).trans (congrArg (fun q => P (ix2 r q)) (Fin.ext (by dsimp only <;> omega))))
  | ⟨3, _⟩ => exact (canon3_hit _ _ _ r _ d r 0 d (Nat.zero_add _).symm rfl (Nat.zero_add _).symm).trans ((h3 r d).trans (congrArg (fun q => P (ix2 r q)) (Fin.ext (by dsimp only <;> omega))))

theorem out4_apply (x0 : Vec Ideal S256x1024 .f32) (x1 : Vec Ideal S1x1024 .f32) (x2 x3 : Vec Ideal S1024x1024 .bf16) (r : Fin 256) (h : Fin 4) (d : Fin 256) :
    out0_4 (F := Ideal) x0 x1 x2 x3 (ix3 r h d) = PJ (HN (fun k => x0 (ix2 r k)) (fun k => x1 (ix2 0 k))) (fun e => x2 (ix2 e ⟨256 * h.val + d.val, by omega⟩)) := by
  have e0 : View.ld x0 r0_0 = x0 := View.ld_unit_lit _ _ (by decide)
  have e1 : View.ld x1 r0_1 = x1 := View.ld_unit_lit _ _ (by decide)
  have e2 : View.ld x2 r0_2 = x2 := View.ld_unit_lit _ _ (by decide)
  unfold_out out0_4
  rw [e0, e1, e2]
  rw [heads (k0_pay9 (F := Ideal) x0 x1 x2) _ _ _ _ (fun r d => ?_) (fun r d => ?_) (fun r d => ?_) (fun r d => ?_) r h d]
  · exact pay9_apply x0 x1 x2 r _
  all_goals
    try rw [show k0_pay14 x0 x1 x2 x3 = k0_pay9 x0 x1 x2 by unfold k0_pay14; rw [e0, e1, e2]]
    try unfold k0_pay11
    try unfold k0_pay13
    try unfold k0_pay2
    try unfold k0_pay4
    generalize k0_pay9 x0 x1 x2 = P
    pointwise

theorem out5_apply (x0 : Vec Ideal S256x1024 .f32) (x1 : Vec Ideal S1x1024 .f32) (x2 x3 : Vec Ideal S1024x1024 .bf16) (r : Fin 256) (h : Fin 4) (d : Fin 256) :
    out0_5 (F := Ideal) x0 x1 x2 x3 (ix3 r h d) = PJ (HN (fun k => x0 (ix2 r k)) (fun k => x1 (ix2 0 k))) (fun e => x3 (ix2 e ⟨256 * h.val + d.val, by omega⟩)) := by
  have e0 : View.ld x0 r0_0 = x0 := View.ld_unit_lit _ _ (by decide)
  have e1 : View.ld x1 r0_1 = x1 := View.ld_unit_lit _ _ (by decide)
  have e2 : View.ld x3 r0_2 = x3 := View.ld_unit_lit _ _ (by decide)
  unfold_out out0_5
  rw [e0, e1, e2]
  rw [heads (k0_pay10 (F := Ideal) x0 x1 x3) _ _ _ _ (fun r d => ?_) (fun r d => ?_) (fun r d => ?_) (fun r d => ?_) r h d]
  · rw [pay10_eq]; exact pay9_apply x0 x1 x3 r _
  all_goals
    try rw [show k0_pay15 x0 x1 x2 x3 = k0_pay10 x0 x1 x3 by unfold k0_pay15; rw [e0, e1, e2]]
    try unfold k0_pay12
    try unfold k0_pay1
    try unfold k0_pay3
    try unfold k0_pay5
    generalize k0_pay10 x0 x1 x3 = P
    pointwise

/-- Where each window stands at point `t`. -/
theorem idx : ∀ t : Fin cfg0.N, win0_0.index t = ![t.val, 0] ∧ win0_1.index t = ![0, 0] ∧ win0_2.index t = ![0, 0] ∧ win0_3.index t = ![0, 0] ∧ win0_4.index t = ![t.val, 0, 0] ∧ win0_5.index t = ![t.val, 0, 0] ∧ t.val < 4 :=
  (by decide +kernel : ∀ t : Fin grid0.N, _)

theorem lt4 (t : Fin cfg0.N) : t.val < 4 := (idx t).2.2.2.2.2.2

theorem V0_eq : V m c main_v0 = shapeCast S1024x1024 (m ((c : Thread nD τ).loc main_arg0)) shapeCasts_S4x256x1024_S1024x1024 := by
  conv => lhs; dsimp only [V, V0]; simp only [List.flatten_cons, List.flatten_nil, List.cons_append, List.nil_append, List.append_nil]
  after_results <;> rfl

theorem V2_eq : V m c main_v2 = shapeCast S1x1024 (shapeCast S1024 (m ((c : Thread nD τ).loc main_arg1)) shapeCasts_S1x1024_S1024) shapeCasts_S1024_S1x1024 := by
  conv => lhs; dsimp only [V, V0]; simp only [List.flatten_cons, List.flatten_nil, List.cons_append, List.nil_append, List.append_nil]
  after_results <;> rfl

theorem V4_eq : V m c main_v4 = (truncf (F := Ideal) .bf16 (shapeCast S1024x1024 (m ((c : Thread nD τ).loc main_arg2)) shapeCasts_S1x1024x1024_S1024x1024) bitsLt_bf16_f32 : FVec Ideal S1024x1024 .bf16) := by
  conv => lhs; dsimp only [V, V0]; simp only [List.flatten_cons, List.flatten_nil, List.cons_append, List.nil_append, List.append_nil]
  after_results <;> rfl

theorem V6_eq : V m c main_v6 = (truncf (F := Ideal) .bf16 (shapeCast S1024x1024 (m ((c : Thread nD τ).loc main_arg3)) shapeCasts_S1x1024x1024_S1024x1024) bitsLt_bf16_f32 : FVec Ideal S1024x1024 .bf16) := by
  conv => lhs; dsimp only [V, V0]; simp only [List.flatten_cons, List.flatten_nil, List.cons_append, List.nil_append, List.append_nil]
  after_results <;> rfl

theorem rows_in (X : FVec Ideal S4x256x1024 .f32) (R e : Fin 1024) : shapeCast S1024x1024 X shapeCasts_S4x256x1024_S1024x1024 (ix2 R e) = X (ix3 ⟨R.val / 256, by omega⟩ ⟨R.val % 256, Nat.mod_lt _ (by omega)⟩ e) := by
  pointwise

theorem gain_in (X : FVec Ideal S1x1024 .f32) (e : Fin 1024) : shapeCast S1x1024 (shapeCast S1024 X shapeCasts_S1x1024_S1024) shapeCasts_S1024_S1x1024 (ix2 0 e) = X (ix2 0 e) := by
  pointwise

theorem iblk0_apply (t : Fin cfg0.N) (r : Fin 256) (e : Fin 1024) : iblk m c 0 t (ix2 r e) = m ((c : Thread nD τ).loc main_arg0) (ix3 ⟨t.val, lt4 t⟩ r e) := by
  have h : iblk m c 0 t (ix2 r e) = V m c main_v0 (ix2 ⟨256 * t.val + r.val, by have := lt4 t; omega⟩ e) := by
    blk_ext [iblk, idx t]
  rw [h, V0_eq, rows_in]
  exact congrArg₂ (fun b s => m ((c : Thread nD τ).loc main_arg0) (ix3 b s e)) (Fin.ext (by show (256 * t.val + r.val) / 256 = t.val; omega)) (Fin.ext (by show (256 * t.val + r.val) % 256 = r.val; omega))

theorem iblk1_apply (t : Fin cfg0.N) (e : Fin 1024) : iblk m c 1 t (ix2 0 e) = m ((c : Thread nD τ).loc main_arg1) (ix2 0 e) := by
  have h : iblk m c 1 t (ix2 0 e) = V m c main_v2 (ix2 0 e) := by
    blk_ext [iblk, idx t]
  rw [h, V2_eq, gain_in]

theorem iblk2_apply (t : Fin cfg0.N) (e n : Fin 1024) : iblk m c 2 t (ix2 e n) = m ((c : Thread nD τ).loc main_arg2) (ix3 0 e n) := by
  have h : iblk m c 2 t (ix2 e n) = V m c main_v4 (ix2 e n) := by
    blk_ext [iblk, idx t]
  rw [h, V4_eq]
  exact ValueIdx.shapeCast_1ab_ab_apply _ _ _ _

theorem iblk3_apply (t : Fin cfg0.N) (e n : Fin 1024) : iblk m c 3 t (ix2 e n) = m ((c : Thread nD τ).loc main_arg3) (ix3 0 e n) := by
  have h : iblk m c 3 t (ix2 e n) = V m c main_v6 (ix2 e n) := by
    blk_ext [iblk, idx t]
  rw [h, V6_eq]
  exact ValueIdx.shapeCast_1ab_ab_apply _ _ _ _

/-- The projection of a memory row: entry `d` of head `h` at position `s` of sequence `b`. -/
def MP (a0 : FVec Ideal S4x256x1024 .f32) (a1 : FVec Ideal S1x1024 .f32) (a2 : FVec Ideal S1x1024x1024 .f32) (b : Fin 4) (s : Fin 256) (h : Fin 4) (d : Fin 256) : EReal :=
  PJ (HN (fun k => a0 (ix3 b s k)) (fun k => a1 (ix2 0 k))) (fun e => a2 (ix3 0 e ⟨256 * h.val + d.val, by omega⟩))

theorem arr4 : (dats m 0 c).arrAt 4 cfg0.N = fun p : S1024x4x256.Idx => MP (m ((c : Thread nD τ).loc main_arg0)) (m ((c : Thread nD τ).loc main_arg1)) (m ((c : Thread nD τ).loc main_arg2)) ⟨(p 0).val / 256, by have h : (p 0).val < 1024 := (p 0).isLt; omega⟩ ⟨(p 0).val % 256, Nat.mod_lt _ (by omega)⟩ (p 1) (p 2) := by
  refine (dats m 0 c).arrAt_eq_of_covers 4 _ (by decide +kernel) fun t hf y => ?_
  obtain ⟨r, h, d, rfl⟩ : ∃ (r : Fin 256) (h : Fin 4) (d : Fin 256), y = ix3 r h d := ⟨y 0, y 1, y 2, eq_ix3 y⟩
  have ht := lt4 t
  have hv : out0_4 (iblk m c 0 t) (iblk m c 1 t) (iblk m c 2 t) (iblk m c 3 t) (ix3 r h d) = MP (m ((c : Thread nD τ).loc main_arg0)) (m ((c : Thread nD τ).loc main_arg1)) (m ((c : Thread nD τ).loc main_arg2)) ⟨t.val, ht⟩ r h d := by
    rw [out4_apply]
    unfold MP
    rw [funext fun k => iblk0_apply m c t r k, funext fun k => iblk1_apply m c t k, funext fun e => iblk2_apply m c t e ⟨256 * h.val + d.val, by omega⟩]
  blk_simp
  rw [after0_4]
  refine hv.trans (congr (congr (congrArg₂ (MP (m ((c : Thread nD τ).loc main_arg0)) (m ((c : Thread nD τ).loc main_arg1)) (m ((c : Thread nD τ).loc main_arg2))) (Fin.ext ?_) (Fin.ext ?_)) (Fin.ext ?_)) (Fin.ext ?_))
  all_goals
    blk_simp [idx t]
    try dsimp only
    try omega

theorem arr5 : (dats m 0 c).arrAt 5 cfg0.N = fun p : S1024x4x256.Idx => MP (m ((c : Thread nD τ).loc main_arg0)) (m ((c : Thread nD τ).loc main_arg1)) (m ((c : Thread nD τ).loc main_arg3)) ⟨(p 0).val / 256, by have h : (p 0).val < 1024 := (p 0).isLt; omega⟩ ⟨(p 0).val % 256, Nat.mod_lt _ (by omega)⟩ (p 1) (p 2) := by
  refine (dats m 0 c).arrAt_eq_of_covers 5 _ (by decide +kernel) fun t hf y => ?_
  obtain ⟨r, h, d, rfl⟩ : ∃ (r : Fin 256) (h : Fin 4) (d : Fin 256), y = ix3 r h d := ⟨y 0, y 1, y 2, eq_ix3 y⟩
  have ht := lt4 t
  have hv : out0_5 (iblk m c 0 t) (iblk m c 1 t) (iblk m c 2 t) (iblk m c 3 t) (ix3 r h d) = MP (m ((c : Thread nD τ).loc main_arg0)) (m ((c : Thread nD τ).loc main_arg1)) (m ((c : Thread nD τ).loc main_arg3)) ⟨t.val, ht⟩ r h d := by
    rw [out5_apply]
    unfold MP
    rw [funext fun k => iblk0_apply m c t r k, funext fun k => iblk1_apply m c t k, funext fun e => iblk3_apply m c t e ⟨256 * h.val + d.val, by omega⟩]
  blk_simp
  rw [after0_5]
  refine hv.trans (congr (congr (congrArg₂ (MP (m ((c : Thread nD τ).loc main_arg0)) (m ((c : Thread nD τ).loc main_arg1)) (m ((c : Thread nD τ).loc main_arg3))) (Fin.ext ?_) (Fin.ext ?_)) (Fin.ext ?_)) (Fin.ext ?_))
  all_goals
    blk_simp [idx t]
    try dsimp only
    try omega

end Cert.MkvIdeal.Val

end
-- ==== Proof.MkvRef.lean ====
module

public import proofs.«01_k».proof.Proof.Gen.MkvRefIdeal.Run
public import proofs.«01_k».proof.Proof.Gen.MkvIdeal.Run
public import proofs.«01_k».proof.Proof.MkvVal

/-! The reference's memory projections, entry by entry, and the kernel's. -/

@[expose] public section

set_option maxRecDepth 16384

noncomputable section

namespace Cert.MkvRefIdeal.Val

open Cert.MkvRefIdeal Cert.MkvRefIdeal.Gen
open Idealize.ShloMosaic Idealize.ShloMosaic.TcCoe Idealize.SL.Sem

open Cert.RowSpec

/-- The reference's normalised rows. -/
def RN (a0 : FVec Ideal S4x256x1024 .f32) (a1 : FVec Ideal S1x1024 .f32) : FVec Ideal S4x256x1024 .f32 :=
  mulf (mulf a0 (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf a0 a0) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))) (broadcastInDim S4x256x1024 ![0, 1, 2] bcast_S1x1x1024_S4x256x1024_0_1_2 (broadcastInDim S1x1x1024 ![2] bcast_S1024_S1x1x1024_2 (shapeCast _ a1 shapeCasts_S1x1024_S1024)))

/-- One of the reference's results. -/
def RP (a0 : FVec Ideal S4x256x1024 .f32) (a1 : FVec Ideal S1x1024 .f32) (a2 : FVec Ideal S1x1024x1024 .f32) : FVec Ideal S1x4x256x4x256 .f32 :=
  broadcastInDim S1x4x256x4x256 ![1, 2, 3, 4] bcast_S4x256x4x256_S1x4x256x4x256_1_2_3_4 (shapeCast _ (Host.dotGeneral dot_S4x256x1024_S1024x1024_S4x256x1024_2_0_01_1_n_n none (RN a0 a1) (shapeCast _ a2 shapeCasts_S1x1024x1024_S1024x1024)) shapeCasts_S4x256x1024_S4x256x4x256)

theorem RN_apply (a0 : FVec Ideal S4x256x1024 .f32) (a1 : FVec Ideal S1x1024 .f32) (b : Fin 4) (s : Fin 256) (e : Fin 1024) :
    RN a0 a1 (ix3 b s e) = HN (fun k => a0 (ix3 b s k)) (fun k => a1 (ix2 0 k)) e := by
  unfold RN HN
  pointwise

theorem proj_apply (N : FVec Ideal S4x256x1024 .f32) (a2 : FVec Ideal S1x1024x1024 .f32) (b : Fin 4) (s : Fin 256) (h : Fin 4) (d : Fin 256) :
    (broadcastInDim S1x4x256x4x256 ![1, 2, 3, 4] bcast_S4x256x4x256_S1x4x256x4x256_1_2_3_4 (shapeCast _ (Host.dotGeneral dot_S4x256x1024_S1024x1024_S4x256x1024_2_0_01_1_n_n none N (shapeCast _ a2 shapeCasts_S1x1024x1024_S1024x1024)) shapeCasts_S4x256x1024_S4x256x4x256) : FVec Ideal S1x4x256x4x256 .f32) (ix5 0 b s h d) = PJ (fun e => N (ix3 b s e)) (fun e => a2 (ix3 0 e ⟨256 * h.val + d.val, by omega⟩)) := by
  unfold PJ
  pointwise
  try simp only [Nat.mul_comm 256]

theorem RP_apply (a0 : FVec Ideal S4x256x1024 .f32) (a1 : FVec Ideal S1x1024 .f32) (a2 : FVec Ideal S1x1024x1024 .f32) (b : Fin 4) (s : Fin 256) (h : Fin 4) (d : Fin 256) :
    RP a0 a1 a2 (ix5 0 b s h d) = Cert.MkvIdeal.Val.MP a0 a1 a2 b s h d :=
  (proj_apply (RN a0 a1) a2 b s h d).trans (congrArg (PJ · _) (funext fun e => RN_apply a0 a1 b s e))

theorem out_apply (X : FVec Ideal Cert.MkvIdeal.S1024x4x256 .f32) (b : Fin 4) (s : Fin 256) (h : Fin 4) (d : Fin 256) :
    shapeCast S1x4x256x4x256 X Cert.MkvIdeal.Gen.shapeCasts_S1024x4x256_S1x4x256x4x256 (ix5 0 b s h d) = X (ix3 ⟨256 * b.val + s.val, by omega⟩ h d) := by
  pointwise
  try simp only [Nat.mul_comm 256]

/-- The kernel's arrays of results are the reference's, entry by entry. -/
theorem outs_eq (m : (ℓ : Loc Cert.MkvIdeal.nD Cert.MkvIdeal.τ Cert.MkvIdeal.sig) → Buf (Elt Ideal) ℓ) (c : Dev Cert.MkvIdeal.nD) :
    shapeCast S1x4x256x4x256 (Cert.MkvIdeal.Value.reg_main_v7_0 (F := Ideal) m c) Cert.MkvIdeal.Gen.shapeCasts_S1024x4x256_S1x4x256x4x256
        = RP (m ((c : Thread Cert.MkvIdeal.nD Cert.MkvIdeal.τ).loc Cert.MkvIdeal.main_arg0)) (m ((c : Thread Cert.MkvIdeal.nD Cert.MkvIdeal.τ).loc Cert.MkvIdeal.main_arg1)) (m ((c : Thread Cert.MkvIdeal.nD Cert.MkvIdeal.τ).loc Cert.MkvIdeal.main_arg2))
      ∧ shapeCast S1x4x256x4x256 (Cert.MkvIdeal.Value.reg_main_v7_1 (F := Ideal) m c) Cert.MkvIdeal.Gen.shapeCasts_S1024x4x256_S1x4x256x4x256
        = RP (m ((c : Thread Cert.MkvIdeal.nD Cert.MkvIdeal.τ).loc Cert.MkvIdeal.main_arg0)) (m ((c : Thread Cert.MkvIdeal.nD Cert.MkvIdeal.τ).loc Cert.MkvIdeal.main_arg1)) (m ((c : Thread Cert.MkvIdeal.nD Cert.MkvIdeal.τ).loc Cert.MkvIdeal.main_arg3)) := by
  have e4 : Cert.MkvIdeal.Value.reg_main_v7_0 (F := Ideal) m c = _ := Cert.MkvIdeal.Val.arr4 m c
  have e5 : Cert.MkvIdeal.Value.reg_main_v7_1 (F := Ideal) m c = _ := Cert.MkvIdeal.Val.arr5 m c
  constructor
  all_goals
    funext p
    obtain ⟨z, b, s, h, d, rfl⟩ : ∃ (z : Fin 1) (b : Fin 4) (s : Fin 256) (h : Fin 4) (d : Fin 256), p = ix5 z b s h d := ⟨p 0, p 1, p 2, p 3, p 4, eq_ix5 p⟩
    obtain rfl : z = 0 := Fin.ext (by omega)
    rw [RP_apply, out_apply]
  · rw [e4]
    exact congrFun (congrFun (congrArg₂ (Cert.MkvIdeal.Val.MP _ _ _) (Fin.ext (by show (256 * b.val + s.val) / 256 = b.val; omega)) (Fin.ext (by show (256 * b.val + s.val) % 256 = s.val; omega))) h) d
  · rw [e5]
    exact congrFun (congrFun (congrArg₂ (Cert.MkvIdeal.Val.MP _ _ _) (Fin.ext (by show (256 * b.val + s.val) / 256 = b.val; omega)) (Fin.ext (by show (256 * b.val + s.val) % 256 = s.val; omega))) h) d

end Cert.MkvRefIdeal.Val

end
-- ==== Proof.InProjSpec.lean ====
module

public import Idealize.ShloMosaic.Lib.Pipeline.ValueKit
public import Idealize.ShloMosaic.Lib.Pointwise
public import proofs.«01_k».proof.Proof.RowSpec

/-! The input projection, entry by entry: normalised rows against columns of weights, heads rotated by position. -/

@[expose] public section

set_option maxRecDepth 16384

noncomputable section

namespace Cert.InProjSpec

open Idealize.ShloMosaic
open Idealize.ShloMosaic Idealize.ShloMosaic.TcCoe Idealize.SL.Sem

open Cert.RowSpec

/-- A head of two halves of 64 columns; in each the first eight columns are rotated with the next eight. -/
def RT (p : Fin 128 → EReal) (cs sn : Fin 8 → EReal) (l : Fin 128) : EReal :=
  if h : l.val % 64 < 8 then p l * cs ⟨l.val % 64, h⟩ - p ⟨l.val + 8, by omega⟩ * sn ⟨l.val % 64, h⟩
  else if h2 : l.val % 64 < 16 then p l * cs ⟨l.val % 64 - 8, by omega⟩ + p ⟨l.val - 8, by omega⟩ * sn ⟨l.val % 64 - 8, by omega⟩
  else p l

/-- The whole head against three tables: as it stands, and shifted by eight columns either way. -/
def ROT (p c a b : Fin 128 → EReal) (l : Fin 128) : EReal :=
  (p l * c l + p ⟨(l.val + 8) % 128, Nat.mod_lt _ (by omega)⟩ * a l) + p ⟨(l.val + 120) % 128, Nat.mod_lt _ (by omega)⟩ * b l

/-- The three tables, from the cosines and sines of a row. -/
def TC (cs : Fin 8 → EReal) (l : Fin 128) : EReal :=
  if h : l.val % 64 < 8 then cs ⟨l.val % 64, h⟩ else if h2 : l.val % 64 < 16 then cs ⟨l.val % 64 - 8, by omega⟩ else 1

def TA (sn : Fin 8 → EReal) (l : Fin 128) : EReal :=
  if h : l.val % 64 < 8 then -sn ⟨l.val % 64, h⟩ else 0

def TB (sn : Fin 8 → EReal) (l : Fin 128) : EReal :=
  if h : l.val % 64 < 8 then 0 else if h2 : l.val % 64 < 16 then sn ⟨l.val % 64 - 8, by omega⟩ else 0

/-- With those tables the head is rotated. -/
theorem ROT_eq (p : Fin 128 → EReal) (cs sn : Fin 8 → EReal) (l : Fin 128) : ROT p (TC cs) (TA sn) (TB sn) l = RT p cs sn l := by
  unfold ROT TC TA TB RT
  by_cases h : l.val % 64 < 8
  · simp only [dif_pos h, mul_zero, add_zero, mul_neg, sub_eq_add_neg]
    have e : (⟨(l.val + 8) % 128, Nat.mod_lt _ (by omega)⟩ : Fin 128) = ⟨l.val + 8, by omega⟩ := Fin.ext (by show (l.val + 8) % 128 = l.val + 8; omega)
    rw [e]
  · by_cases h2 : l.val % 64 < 16
    · simp only [dif_neg h, dif_pos h2, mul_zero, add_zero]
      have e : (⟨(l.val + 120) % 128, Nat.mod_lt _ (by omega)⟩ : Fin 128) = ⟨l.val - 8, by omega⟩ := Fin.ext (by show (l.val + 120) % 128 = l.val - 8; omega)
      rw [e]
    · simp only [dif_neg h, dif_neg h2, mul_zero, add_zero, mul_one]

variable (a0 : FVec Ideal ⟨3, ![4, 4096, 1024]⟩ .f32) (a1 : FVec Ideal ⟨2, ![1, 1024]⟩ .f32) (a2 : FVec Ideal ⟨3, ![1, 1024, 3592]⟩ .f32) (cs sn : FVec Ideal ⟨2, ![4096, 8]⟩ .f32)

/-- A row's projection to column `n` of the weights. -/
def ZZ (b : Fin 4) (s : Fin 4096) (n : Fin 3592) : EReal := PJ (HN (fun k => a0 (ix3 b s k)) (fun k => a1 (ix2 0 k))) (fun e => a2 (ix3 0 e n))

/-- Head `h` of 128 of the 512 columns from column `o` on. -/
def ZH (o : ℕ) (ho : o ≤ 3080) (b : Fin 4) (s : Fin 4096) (h : Fin 4) (l : Fin 128) : EReal := ZZ a0 a1 a2 b s ⟨o + (128 * h.val + l.val), by omega⟩

/-- The same head rotated by the row's position. -/
def ZR (o : ℕ) (ho : o ≤ 3080) (b : Fin 4) (s : Fin 4096) (h : Fin 4) (l : Fin 128) : EReal :=
  RT (ZH a0 a1 a2 o ho b s h) (fun j => cs (ix2 s j)) (fun j => sn (ix2 s j)) l

end Cert.InProjSpec

end
-- ==== Proof.InProjPay.lean ====
module

public import proofs.«01_k».proof.Proof.Gen.InProjIdeal.Frame
public import proofs.«01_k».proof.Proof.InProjSpec
public import Idealize.ShloMosaic.Lib.ValueLayout

/-! What a tile of the input projection computes, entry by entry. -/

@[expose] public section

set_option maxRecDepth 16384

noncomputable section

namespace Cert.InProjIdeal.Val

open Cert.InProjIdeal Cert.InProjIdeal.Gen
open Idealize.ShloMosaic Idealize.ShloMosaic.TcCoe Idealize.SL.Sem

open Cert.RowSpec Cert.InProjSpec

theorem pay6_apply (x : Vec Ideal S1024x1024 .f32) (g : Vec Ideal S1x1024 .f32) (r e : Fin 1024) :
    k0_pay6 (F := Ideal) x g (ix2 r e) = HN (fun k => x (ix2 r k)) (fun k => g (ix2 0 k)) e := by
  unfold k0_pay6 HN
  pointwise

theorem pay16_apply (h : FVec Ideal S1024x1024 .bf16) (w : Vec Ideal S1024x512 .bf16) (r : Fin 1024) (n : Fin 512) :
    k0_pay16 (F := Ideal) h w (ix2 r n) = ∑ e : Fin 1024, (show EReal from h (ix2 r e)) * w (ix2 e n) := by
  unfold k0_pay16
  pointwise

section
variable (x0 : Vec Ideal S1024x1024 .f32) (x1 : Vec Ideal S1x1024 .f32)

/-- A tile's row against a column of weights. -/
def YW (w : Fin 1024 → EReal) (r : Fin 1024) : EReal := PJ (HN (fun k => x0 (ix2 r k)) (fun k => x1 (ix2 0 k))) w

/-- The tile against 512 columns of weights, from column `j` on. -/
theorem mm_apply {B j : ℕ} (x : Vec Ideal ⟨2, ![1024, B]⟩ .bf16) (inb : ∀ a, (![0, j] : Fin 2 → ℕ) a + (![1024, 512] : Fin 2 → ℕ) a ≤ (![1024, B] : Fin 2 → ℕ) a)
    (r : Fin 1024) (n : Fin 512) (hn : j + n.val < B) :
    k0_pay16 (F := Ideal) (k0_pay6 (F := Ideal) x0 x1) (View.ld x (Rect.unit (s := ⟨2, ![1024, B]⟩) ![0, j] ![1024, 512] inb)) (ix2 r n) = YW x0 x1 (fun e => x (ix2 e ⟨j + n.val, hn⟩)) r := by
  rw [pay16_apply]
  exact Finset.sum_congr rfl fun e _ => congrArg₂ (· * ·) (pay6_apply x0 x1 r e) (RowSpec.ld2 inb x e n e ⟨j + n.val, hn⟩ (Nat.zero_add _).symm rfl)

end

section
variable (c a b : FVec Ideal S1024x128 .f32) (Z : FVec Ideal S1024x512 .f32) (r : Fin 1024) (l : Fin 128)

theorem rot0 : (addf (addf (mulf (extractStridedSlice S1024x128 ![0, 0] Z slices_S1024x512_o0_0_S1024x128) c) (mulf (dynamicRotate 1 120#32 none (extractStridedSlice S1024x128 ![0, 0] Z slices_S1024x512_o0_0_S1024x128) rotates_S1024x128_d1) a)) (mulf (dynamicRotate 1 8#32 none (extractStridedSlice S1024x128 ![0, 0] Z slices_S1024x512_o0_0_S1024x128) rotates_S1024x128_d1) b) : FVec Ideal S1024x128 .f32) (ix2 r l) = ROT (fun q => Z (ix2 r ⟨0 + q.val, by omega⟩)) (fun q => c (ix2 r q)) (fun q => a (ix2 r q)) (fun q => b (ix2 r q)) l := by
  unfold ROT
  pointwise
  simp only [show l.val + 128 - 120 = l.val + 8 by omega, show l.val + 128 - 8 = l.val + 120 by omega]

theorem rot1 : k0_pay23 (F := Ideal) c a b Z (ix2 r l) = ROT (fun q => Z (ix2 r ⟨128 + q.val, by omega⟩)) (fun q => c (ix2 r q)) (fun q => a (ix2 r q)) (fun q => b (ix2 r q)) l := by
  unfold k0_pay23 ROT
  pointwise
  simp only [show l.val + 128 - 120 = l.val + 8 by omega, show l.val + 128 - 8 = l.val + 120 by omega]

theorem rot2 : k0_pay24 (F := Ideal) c a b Z (ix2 r l) = ROT (fun q => Z (ix2 r ⟨256 + q.val, by omega⟩)) (fun q => c (ix2 r q)) (fun q => a (ix2 r q)) (fun q => b (ix2 r q)) l := by
  unfold k0_pay24 ROT
  pointwise
  simp only [show l.val + 128 - 120 = l.val + 8 by omega, show l.val + 128 - 8 = l.val + 120 by omega]

theorem rot3 : k0_pay25 (F := Ideal) c a b Z (ix2 r l) = ROT (fun q => Z (ix2 r ⟨384 + q.val, by omega⟩)) (fun q => c (ix2 r q)) (fun q => a (ix2 r q)) (fun q => b (ix2 r q)) l := by
  unfold k0_pay25 ROT
  pointwise
  simp only [show l.val + 128 - 120 = l.val + 8 by omega, show l.val + 128 - 8 = l.val + 120 by omega]

end

end Cert.InProjIdeal.Val

end
-- ==== Proof.InProjBlk.lean ====
module

public import proofs.«01_k».proof.Proof.InProjPay

/-! The blocks a tile of the input projection stores, entry by entry. -/

@[expose] public section

set_option maxRecDepth 16384

noncomputable section

namespace Cert.InProjIdeal.Val

open Cert.InProjIdeal Cert.InProjIdeal.Gen
open Idealize.ShloMosaic Idealize.ShloMosaic.TcCoe Idealize.SL.Sem

open Cert.RowSpec Cert.InProjSpec

section
variable (v : Fin 4 → Fin 1024 → Fin 128 → EReal)

/-- Four heads stored side by side … -/
theorem heads2 (w0 w1 w2 w3 : FVec Ideal S1024x128 .bf16) (h0 : ∀ r l, w0 (ix2 r l) = v 0 r l) (h1 : ∀ r l, w1 (ix2 r l) = v 1 r l) (h2 : ∀ r l, w2 (ix2 r l) = v 2 r l) (h3 : ∀ r l, w3 (ix2 r l) = v 3 r l)
    (r : Fin 1024) (n : Fin 512) :
    View.canon (Val := Elt Ideal) (s := S1024x512) (e := .bf16) [⟨r0_19, w3⟩, ⟨r0_17, w2⟩, ⟨r0_15, w1⟩, ⟨r0_13, w0⟩] (ix2 r n) = v ⟨n.val / 128, by omega⟩ r ⟨n.val % 128, Nat.mod_lt _ (by omega)⟩ := by
  by_cases c3 : 384 ≤ n.val
  · exact (canon2_hit _ _ _ r n r ⟨n.val - 384, by omega⟩ (Nat.zero_add _).symm (by dsimp only; omega)).trans ((h3 _ _).trans (congrArg₂ (fun j l => v j r l) (Fin.ext (by show 3 = n.val / 128; omega)) (Fin.ext (by show n.val - 384 = n.val % 128; omega))))
  rw [canon2_miss _ _ _ r n (by omega)]
  by_cases c2 : 256 ≤ n.val
  · exact (canon2_hit _ _ _ r n r ⟨n.val - 256, by omega⟩ (Nat.zero_add _).symm (by dsimp only; omega)).trans ((h2 _ _).trans (congrArg₂ (fun j l => v j r l) (Fin.ext (by show 2 = n.val / 128; omega)) (Fin.ext (by show n.val - 256 = n.val % 128; omega))))
  rw [canon2_miss _ _ _ r n (by omega)]
  by_cases c1 : 128 ≤ n.val
  · exact (canon2_hit _ _ _ r n r ⟨n.val - 128, by omega⟩ (Nat.zero_add _).symm (by dsimp only; omega)).trans ((h1 _ _).trans (congrArg₂ (fun j l => v j r l) (Fin.ext (by show 1 = n.val / 128; omega)) (Fin.ext (by show n.val - 128 = n.val % 128; omega))))
  rw [canon2_miss _ _ _ r n (by omega)]
  exact (canon2_hit _ _ _ r n r ⟨n.val - 0, by omega⟩ (Nat.zero_add _).symm (by dsimp only; omega)).trans ((h0 _ _).trans (congrArg₂ (fun j l => v j r l) (Fin.ext (by show 0 = n.val / 128; omega)) (Fin.ext (by show n.val - 0 = n.val % 128; omega))))

/-- … and one after another. -/
theorem heads3 (w0 w1 w2 w3 : FVec Ideal S1024x1x128 .f32) (h0 : ∀ r l, w0 (ix3 r 0 l) = v 0 r l) (h1 : ∀ r l, w1 (ix3 r 0 l) = v 1 r l) (h2 : ∀ r l, w2 (ix3 r 0 l) = v 2 r l) (h3 : ∀ r l, w3 (ix3 r 0 l) = v 3 r l)
    (r : Fin 1024) (h : Fin 4) (l : Fin 128) :
    View.canon (Val := Elt Ideal) (s := S1024x4x128) (e := .f32) [⟨r0_20, w3⟩, ⟨r0_18, w2⟩, ⟨r0_16, w1⟩, ⟨r0_14, w0⟩] (ix3 r h l) = v h r l := by
  match h with
  | ⟨0, _⟩ => rw [canon3_miss _ _ _ r _ l (by dsimp only; omega)]; rw [canon3_miss _ _ _ r _ l (by dsimp only; omega)]; rw [canon3_miss _ _ _ r _ l (by dsimp only; omega)]; exact (canon3_hit _ _ _ r _ l r 0 l (Nat.zero_add _).symm rfl (Nat.zero_add _).symm).trans (h0 r l)
  | ⟨1, _⟩ => rw [canon3_miss _ _ _ r _ l (by dsimp only; omega)]; rw [canon3_miss _ _ _ r _ l (by dsimp only; omega)]; exact (canon3_hit _ _ _ r _ l r 0 l (Nat.zero_add _).symm rfl (Nat.zero_add _).symm).trans (h1 r l)
  | ⟨2, _⟩ => rw [canon3_miss _ _ _ r _ l (by dsimp only; omega)]; exact (canon3_hit _ _ _ r _ l r 0 l (Nat.zero_add _).symm rfl (Nat.zero_add _).symm).trans (h2 r l)
  | ⟨3, _⟩ => exact (canon3_hit _ _ _ r _ l r 0 l (Nat.zero_add _).symm rfl (Nat.zero_add _).symm).trans (h3 r l)

end

section
variable (x0 : Vec Ideal S1024x1024 .f32) (x1 : Vec Ideal S1x1024 .f32) (x2 : Vec Ideal S1024x2048 .bf16) (x3 : Vec Ideal S1024x1536 .bf16) (x4 : Vec Ideal S1024x128 .bf16) (x5 : Vec Ideal S1x128 .f32) (x6 x7 x8 : Vec Ideal S1024x128 .f32)
  (r : Fin 1024)

/-- The rows are read whole. -/
theorem e0 : View.ld x0 r0_0 = x0 := View.ld_unit_lit _ _ (by decide)
/-- The gains are read whole. -/
theorem e1 : View.ld x1 r0_1 = x1 := View.ld_unit_lit _ _ (by decide)
/-- A table is read whole. -/
theorem e7 : View.ld x6 r0_7 = x6 := View.ld_unit_lit _ _ (by decide)

/-- A cast to the same shape changes nothing. -/
theorem cast128 (x : Vec Ideal S1024x128 .f32) : k0_pay13 (F := Ideal) x = x := by
  funext p
  obtain ⟨r, l, rfl⟩ : ∃ (r : Fin 1024) (l : Fin 128), p = ix2 r l := ⟨p 0, p 1, eq_ix2 p⟩
  unfold k0_pay13
  pointwise

/-- The first table as the body reads it. -/
theorem p41 : k0_pay13 (F := Ideal) (View.ld x6 r0_7) = x6 := by
  rw [e7]
  exact cast128 x6

/-- The second table as the body reads it. -/
theorem p42 : k0_pay14 (F := Ideal) (View.ld x7 r0_7) = x7 := by
  rw [e7]
  exact cast128 x7

/-- The third table as the body reads it. -/
theorem p43 : k0_pay15 (F := Ideal) (View.ld x8 r0_7) = x8 := by
  rw [e7]
  exact cast128 x8

/-- The first 512 columns of the first block of weights. -/
theorem out9_apply (n : Fin 512) : out0_9 (F := Ideal) x0 x1 x2 x3 x4 x5 x6 x7 x8 (ix2 r n) = YW x0 x1 (fun e => x2 (ix2 e ⟨0 + n.val, by omega⟩)) r := by
  unfold_out out0_9
  refine (canon2_hit _ _ _ r n r n (Nat.zero_add _).symm (Nat.zero_add _).symm).trans ?_
  rw [e0, e1]
  exact mm_apply x0 x1 x2 inb_S1024x2048_S1024x512_0_0 r n _

/-- The next 512. -/
theorem out10_apply (n : Fin 512) : out0_10 (F := Ideal) x0 x1 x2 x3 x4 x5 x6 x7 x8 (ix2 r n) = YW x0 x1 (fun e => x2 (ix2 e ⟨512 + n.val, by omega⟩)) r := by
  unfold_out out0_10
  refine (canon2_hit _ _ _ r n r n (Nat.zero_add _).symm (Nat.zero_add _).symm).trans ?_
  rw [e0, e1]
  exact mm_apply x0 x1 x2 inb_S1024x2048_S1024x512_0_512 r n _

/-- The next 512. -/
theorem out11_apply (n : Fin 512) : out0_11 (F := Ideal) x0 x1 x2 x3 x4 x5 x6 x7 x8 (ix2 r n) = YW x0 x1 (fun e => x2 (ix2 e ⟨1024 + n.val, by omega⟩)) r := by
  unfold_out out0_11
  refine (canon2_hit _ _ _ r n r n (Nat.zero_add _).symm (Nat.zero_add _).symm).trans ?_
  rw [e0, e1]
  exact mm_apply x0 x1 x2 inb_S1024x2048_S1024x512_0_1024 r n _

/-- The last 512. -/
theorem out12_apply (n : Fin 512) : out0_12 (F := Ideal) x0 x1 x2 x3 x4 x5 x6 x7 x8 (ix2 r n) = YW x0 x1 (fun e => x2 (ix2 e ⟨1536 + n.val, by omega⟩)) r := by
  unfold_out out0_12
  refine (canon2_hit _ _ _ r n r n (Nat.zero_add _).symm (Nat.zero_add _).symm).trans ?_
  rw [e0, e1]
  exact mm_apply x0 x1 x2 inb_S1024x2048_S1024x512_0_1536 r n _

/-- A head of 128 columns, from column `o + 128 * h` of the second block of weights on, rotated with the tables. -/
def HR (o : ℕ) (ho : o ≤ 1024) (h : Fin 4) (r : Fin 1024) (l : Fin 128) : EReal :=
  ROT (fun q => YW x0 x1 (fun e => x3 (ix2 e ⟨o + (128 * h.val + q.val), by omega⟩)) r) (fun q => x6 (ix2 r q)) (fun q => x7 (ix2 r q)) (fun q => x8 (ix2 r q)) l

/-- A rotated head of a product with the second block is `HR`. -/
theorem HR_of (o : ℕ) (ho : o ≤ 1024) (Z : FVec Ideal S1024x512 .f32) (hZ : ∀ (r : Fin 1024) (n : Fin 512), Z (ix2 r n) = YW x0 x1 (fun e => x3 (ix2 e ⟨o + n.val, by omega⟩)) r) (h : Fin 4) (k : ℕ) (hk : k = 128 * h.val) (l : Fin 128) :
    ROT (fun q => Z (ix2 r ⟨k + q.val, by omega⟩)) (fun q => x6 (ix2 r q)) (fun q => x7 (ix2 r q)) (fun q => x8 (ix2 r q)) l = HR x0 x1 x3 x6 x7 x8 o ho h r l := by
  subst hk
  unfold HR
  exact congrArg (fun p => ROT p (fun q => x6 (ix2 r q)) (fun q => x7 (ix2 r q)) (fun q => x8 (ix2 r q)) l) (funext fun q => hZ r ⟨128 * h.val + q.val, by omega⟩)

/-- The product with the first 512 columns of the second block. -/
theorem z_q (n : Fin 512) : k0_pay16 (F := Ideal) (k0_pay6 x0 x1) (View.ld x3 r0_10) (ix2 r n) = YW x0 x1 (fun e => x3 (ix2 e ⟨0 + n.val, by omega⟩)) r := mm_apply x0 x1 x3 inb_S1024x1536_S1024x512_0_0 r n _
/-- With the next 512. -/
theorem z_k (n : Fin 512) : k0_pay16 (F := Ideal) (k0_pay6 x0 x1) (View.ld x3 r0_11) (ix2 r n) = YW x0 x1 (fun e => x3 (ix2 e ⟨512 + n.val, by omega⟩)) r := mm_apply x0 x1 x3 inb_S1024x1536_S1024x512_0_512 r n _
/-- With the last 512. -/
theorem z_v (n : Fin 512) : k0_pay16 (F := Ideal) (k0_pay6 x0 x1) (View.ld x3 r0_12) (ix2 r n) = YW x0 x1 (fun e => x3 (ix2 e ⟨1024 + n.val, by omega⟩)) r := mm_apply x0 x1 x3 inb_S1024x1536_S1024x512_0_1024 r n _

/-- The scaled entry. -/
theorem scale0 (Z : FVec Ideal S1024x128 .f32) (l : Fin 128) : k0_pay28 (F := Ideal) Z (ix2 r l) = (show EReal from Z (ix2 r l)) * Ideal.ofBits .f32 0x3E38AA3B#32 := by
  unfold k0_pay28
  pointwise

/-- A matrix stored as one head. -/
theorem col1 (Z : FVec Ideal S1024x128 .f32) (l : Fin 128) : k0_pay29 (F := Ideal) Z (ix3 r 0 l) = Z (ix2 r l) := by
  unfold k0_pay29
  pointwise

/-- The scaled queries. -/
theorem out15_apply (n : Fin 512) : out0_15 (F := Ideal) x0 x1 x2 x3 x4 x5 x6 x7 x8 (ix2 r n) = HR x0 x1 x3 x6 x7 x8 0 (by omega) ⟨n.val / 128, by omega⟩ r ⟨n.val % 128, Nat.mod_lt _ (by omega)⟩ * Ideal.ofBits .f32 0x3E38AA3B#32 := by
  unfold_out out0_15
  refine heads2 (fun h r l => HR x0 x1 x3 x6 x7 x8 0 (by omega) h r l * Ideal.ofBits .f32 0x3E38AA3B#32) _ _ _ _ (fun r l => ?_) (fun r l => ?_) (fun r l => ?_) (fun r l => ?_) r n
  · rw [e0, e1, p41, p42, p43]
    exact (scale0 r _ l).trans (congrArg (· * _) ((rot0 x6 x7 x8 (k0_pay16 (k0_pay6 x0 x1) (View.ld x3 r0_10)) r l).trans (HR_of x0 x1 x3 x6 x7 x8 r 0 (by omega) _ (fun r n => z_q x0 x1 x3 r n) 0 0 rfl l)))
  · rw [e0, e1, p41, p42, p43]
    exact (scale0 r _ l).trans (congrArg (· * _) ((rot1 x6 x7 x8 (k0_pay16 (k0_pay6 x0 x1) (View.ld x3 r0_10)) r l).trans (HR_of x0 x1 x3 x6 x7 x8 r 0 (by omega) _ (fun r n => z_q x0 x1 x3 r n) 1 128 rfl l)))
  · rw [e0, e1, p41, p42, p43]
    exact (scale0 r _ l).trans (congrArg (· * _) ((rot2 x6 x7 x8 (k0_pay16 (k0_pay6 x0 x1) (View.ld x3 r0_10)) r l).trans (HR_of x0 x1 x3 x6 x7 x8 r 0 (by omega) _ (fun r n => z_q x0 x1 x3 r n) 2 256 rfl l)))
  · rw [e0, e1, p41, p42, p43]
    exact (scale0 r _ l).trans (congrArg (· * _) ((rot3 x6 x7 x8 (k0_pay16 (k0_pay6 x0 x1) (View.ld x3 r0_10)) r l).trans (HR_of x0 x1 x3 x6 x7 x8 r 0 (by omega) _ (fun r n => z_q x0 x1 x3 r n) 3 384 rfl l)))

/-- The keys. -/
theorem out16_apply (h : Fin 4) (l : Fin 128) : out0_16 (F := Ideal) x0 x1 x2 x3 x4 x5 x6 x7 x8 (ix3 r h l) = HR x0 x1 x3 x6 x7 x8 512 (by omega) h r l := by
  unfold_out out0_16
  refine heads3 (fun h r l => HR x0 x1 x3 x6 x7 x8 512 (by omega) h r l) _ _ _ _ (fun r l => ?_) (fun r l => ?_) (fun r l => ?_) (fun r l => ?_) r h l
  · rw [e0, e1, p41, p42, p43]
    exact (col1 r _ l).trans ((rot0 x6 x7 x8 (k0_pay16 (k0_pay6 x0 x1) (View.ld x3 r0_11)) r l).trans (HR_of x0 x1 x3 x6 x7 x8 r 512 (by omega) _ (fun r n => z_k x0 x1 x3 r n) 0 0 rfl l))
  · rw [e0, e1, p41, p42, p43]
    exact (col1 r _ l).trans ((rot1 x6 x7 x8 (k0_pay16 (k0_pay6 x0 x1) (View.ld x3 r0_11)) r l).trans (HR_of x0 x1 x3 x6 x7 x8 r 512 (by omega) _ (fun r n => z_k x0 x1 x3 r n) 1 128 rfl l))
  · rw [e0, e1, p41, p42, p43]
    exact (col1 r _ l).trans ((rot2 x6 x7 x8 (k0_pay16 (k0_pay6 x0 x1) (View.ld x3 r0_11)) r l).trans (HR_of x0 x1 x3 x6 x7 x8 r 512 (by omega) _ (fun r n => z_k x0 x1 x3 r n) 2 256 rfl l))
  · rw [e0, e1, p41, p42, p43]
    exact (col1 r _ l).trans ((rot3 x6 x7 x8 (k0_pay16 (k0_pay6 x0 x1) (View.ld x3 r0_11)) r l).trans (HR_of x0 x1 x3 x6 x7 x8 r 512 (by omega) _ (fun r n => z_k x0 x1 x3 r n) 3 384 rfl l))

/-- The values. -/
theorem out17_apply (h : Fin 4) (l : Fin 128) : out0_17 (F := Ideal) x0 x1 x2 x3 x4 x5 x6 x7 x8 (ix3 r h l) = YW x0 x1 (fun e => x3 (ix2 e ⟨1024 + (128 * h.val + l.val), by omega⟩)) r := by
  unfold_out out0_17
  refine heads3 (fun h r l => YW x0 x1 (fun e => x3 (ix2 e ⟨1024 + (128 * h.val + l.val), by omega⟩)) r) _ _ _ _ (fun r l => ?_) (fun r l => ?_) (fun r l => ?_) (fun r l => ?_) r h l
  all_goals
    rw [e0, e1]
  · refine Eq.trans ?_ (z_v x0 x1 x3 r ⟨0 + l.val, by omega⟩)
    rw [show k0_pay26 (F := Ideal) (k0_pay6 x0 x1) (View.ld x3 r0_12) = k0_pay16 (k0_pay6 x0 x1) (View.ld x3 r0_12) from rfl]
    generalize k0_pay16 (F := Ideal) (k0_pay6 x0 x1) (View.ld x3 r0_12) = Z
    unfold k0_pay31
    pointwise
  · refine Eq.trans ?_ (z_v x0 x1 x3 r ⟨128 + l.val, by omega⟩)
    rw [show k0_pay26 (F := Ideal) (k0_pay6 x0 x1) (View.ld x3 r0_12) = k0_pay16 (k0_pay6 x0 x1) (View.ld x3 r0_12) from rfl]
    generalize k0_pay16 (F := Ideal) (k0_pay6 x0 x1) (View.ld x3 r0_12) = Z
    unfold k0_pay35
    pointwise
  · refine Eq.trans ?_ (z_v x0 x1 x3 r ⟨256 + l.val, by omega⟩)
    rw [show k0_pay26 (F := Ideal) (k0_pay6 x0 x1) (View.ld x3 r0_12) = k0_pay16 (k0_pay6 x0 x1) (View.ld x3 r0_12) from rfl]
    generalize k0_pay16 (F := Ideal) (k0_pay6 x0 x1) (View.ld x3 r0_12) = Z
    unfold k0_pay1 k0_pay39
    pointwise
  · refine Eq.trans ?_ (z_v x0 x1 x3 r ⟨384 + l.val, by omega⟩)
    rw [show k0_pay26 (F := Ideal) (k0_pay6 x0 x1) (View.ld x3 r0_12) = k0_pay16 (k0_pay6 x0 x1) (View.ld x3 r0_12) from rfl]
    generalize k0_pay16 (F := Ideal) (k0_pay6 x0 x1) (View.ld x3 r0_12) = Z
    unfold k0_pay5
    pointwise

end

end Cert.InProjIdeal.Val

end
-- ==== Proof.InProjTab.lean ====
module

public import proofs.«01_k».proof.Proof.Gen.InProjIdeal.Frame
public import proofs.«01_k».proof.Proof.InProjSpec
public import Idealize.ShloMosaic.Lib.ValueLayout
public import Idealize.ShloMosaic.Lib.IdealHost
public import Idealize.ShloMosaic.Lib.Pointwise

/-! What the host hands the input projection: the rows, the weights and the tables of the rotation. -/

@[expose] public section

set_option maxRecDepth 16384

noncomputable section

namespace Cert.InProjIdeal.Val

open Cert.InProjIdeal Cert.InProjIdeal.Gen
open Idealize.ShloMosaic Idealize.ShloMosaic.TcCoe Idealize.SL.Sem

open Cert.RowSpec Cert.InProjSpec

/-- The angle of a position and a pair. -/
def ANG : FVec Ideal S4096x8 .f32 :=
  mulf (broadcastInDim S4096x8 ![0, 1] bcast_S4096x1_S4096x8_0_1 (broadcastInDim S4096x1 ![0] bcast_S4096_S4096x1_0 (sitofp .f32 (iotaInDim S4096 32 0)))) (broadcastInDim S4096x8 ![0, 1] bcast_S1x8_S4096x8_0_1 (broadcastInDim S1x8 ![1] bcast_S8_S1x8_1 (Host.exp (mulf (broadcastInDim S8 ![] bcast_S_S8 (constant S_ .f32 0xC151F533#32)) (Host.divf (mulf (broadcastInDim S8 ![] bcast_S_S8 (constant S_ .f32 0x40000000#32)) (sitofp .f32 (iotaInDim S8 32 0))) (broadcastInDim S8 ![] bcast_S_S8 (constant S_ .f32 0x41800000#32)))))))

/-- Two heads' tables: 8 columns, 8 more and 48, twice. -/
def CAT (A B : FVec Ideal S4096x8 .f32) (C : FVec Ideal S4096x48 .f32) : FVec Ideal S4096x128 .f32 :=
  concatenate S4096x128 1 [⟨S4096x8, A⟩, ⟨S4096x8, B⟩, ⟨S4096x48, C⟩, ⟨S4096x8, A⟩, ⟨S4096x8, B⟩, ⟨S4096x48, C⟩] concatenates_S4096x8_S4096x8_S4096x48_S4096x8_S4096x8_S4096x48_S4096x128_d1

/-- An entry of the tables. -/
theorem CAT_apply (A B : FVec Ideal S4096x8 .f32) (C : FVec Ideal S4096x48 .f32) (s : Fin 4096) (l : Fin 128) :
    CAT A B C (ix2 s l) = if h : l.val % 64 < 8 then (show EReal from A (ix2 s ⟨l.val % 64, h⟩)) else if h2 : l.val % 64 < 16 then (show EReal from B (ix2 s ⟨l.val % 64 - 8, by omega⟩)) else (show EReal from C (ix2 s ⟨l.val % 64 - 16, by omega⟩)) := by
  unfold CAT
  pointwise
  by_cases a : l.val % 64 < 8
  · simp only [dif_pos a]
    split_ifs
    all_goals first
      | exfalso; omega
      | exact congrArg (fun j => A (ix2 s j)) (Fin.ext (by dsimp only <;> omega))
  simp only [dif_neg a]
  by_cases b : l.val % 64 < 16
  · simp only [dif_pos b]
    split_ifs
    all_goals first
      | exfalso; omega
      | exact congrArg (fun j => B (ix2 s j)) (Fin.ext (by dsimp only <;> omega))
  simp only [dif_neg b]
  split_ifs
  all_goals first
    | exfalso; omega
    | exact congrArg (fun j => C (ix2 s j)) (Fin.ext (by dsimp only <;> omega))

/-- Forty-eight columns of one number. -/
def ONE48 (z : BitVec 32) : FVec Ideal S4096x48 .f32 := broadcastInDim S4096x48 ![] bcast_S_S4096x48 (constant S_ .f32 z)
/-- Eight columns of zeros. -/
def Z8 : FVec Ideal S4096x8 .f32 := broadcastInDim S4096x8 ![] bcast_S_S4096x8 (constant S_ .f32 0x00000000#32)

/-- Each entry is that number. -/
theorem ONE48_apply (z : BitVec 32) (s : Fin 4096) (l : Fin 48) : ONE48 z (ix2 s l) = Ideal.ofBits .f32 z := by
  unfold ONE48
  pointwise

/-- The zero bits are zero. -/
theorem ZERO : Ideal.ofBits .f32 0x00000000#32 = (0 : EReal) := by simp

/-- Each entry is zero. -/
theorem Z8_apply (s : Fin 4096) (l : Fin 8) : Z8 (ix2 s l) = (0 : EReal) := by
  unfold Z8
  pointwise

variable (m : (ℓ : Loc nD τ sig) → Buf (Elt Ideal) ℓ) (c : Dev nD)

/-- The table of cosines as the host builds it. -/
theorem V20_eq : V m c main_v20 = CAT (Host.cos ANG) (Host.cos ANG) (ONE48 0x3F800000#32) := by
  conv => lhs; dsimp only [V, V0]; simp only [List.flatten_cons, List.flatten_nil, List.cons_append, List.nil_append, List.append_nil]
  after_results <;> rfl

/-- The table of negated sines. -/
theorem V22_eq : V m c main_v22 = CAT (Host.negf (Host.sin ANG)) Z8 (ONE48 0x00000000#32) := by
  conv => lhs; dsimp only [V, V0]; simp only [List.flatten_cons, List.flatten_nil, List.cons_append, List.nil_append, List.append_nil]
  after_results <;> rfl

/-- The table of sines. -/
theorem V23_eq : V m c main_v23 = CAT Z8 (Host.sin ANG) (ONE48 0x00000000#32) := by
  conv => lhs; dsimp only [V, V0]; simp only [List.flatten_cons, List.flatten_nil, List.cons_append, List.nil_append, List.append_nil]
  after_results <;> rfl

/-- The first block of weights. -/
theorem V26_eq : V m c main_v26 = (truncf (F := Ideal) .bf16 (extractStridedSlice S1024x2048 ![0, 0] (shapeCast S1024x3592 (m ((c : Thread nD τ).loc main_arg2)) shapeCasts_S1x1024x3592_S1024x3592) slices_S1024x3592_S1024x2048_0_0) bitsLt_bf16_f32 : FVec Ideal S1024x2048 .bf16) := by
  conv => lhs; dsimp only [V, V0]; simp only [List.flatten_cons, List.flatten_nil, List.cons_append, List.nil_append, List.append_nil]
  after_results <;> rfl

/-- The second block of weights. -/
theorem V28_eq : V m c main_v28 = (truncf (F := Ideal) .bf16 (extractStridedSlice S1024x1536 ![0, 2056] (shapeCast S1024x3592 (m ((c : Thread nD τ).loc main_arg2)) shapeCasts_S1x1024x3592_S1024x3592) slices_S1024x3592_S1024x1536_0_2056) bitsLt_bf16_f32 : FVec Ideal S1024x1536 .bf16) := by
  conv => lhs; dsimp only [V, V0]; simp only [List.flatten_cons, List.flatten_nil, List.cons_append, List.nil_append, List.append_nil]
  after_results <;> rfl

/-- The rows. -/
theorem V35_eq : V m c main_v35 = shapeCast S16384x1024 (m ((c : Thread nD τ).loc main_arg0)) shapeCasts_S4x4096x1024_S16384x1024 := by
  conv => lhs; dsimp only [V, V0]; simp only [List.flatten_cons, List.flatten_nil, List.cons_append, List.nil_append, List.append_nil]
  after_results <;> rfl

/-- The gains. -/
theorem V37_eq : V m c main_v37 = shapeCast S1x1024 (shapeCast S1024 (m ((c : Thread nD τ).loc main_arg1)) shapeCasts_S1x1024_S1024) shapeCasts_S1024_S1x1024 := by
  conv => lhs; dsimp only [V, V0]; simp only [List.flatten_cons, List.flatten_nil, List.cons_append, List.nil_append, List.append_nil]
  after_results <;> rfl

/-- An entry of the first table. -/
theorem V20_apply (s : Fin 4096) (l : Fin 128) : V m c main_v20 (ix2 s l) = TC (fun j => Host.cos ANG (ix2 s j)) l := by
  rw [V20_eq, CAT_apply]
  unfold TC
  simp only [ONE48_apply]
  rw [Idealize.ShloMosaic.Ideal.ofBits_one_f32]

/-- An entry of the second table. -/
theorem V22_apply (s : Fin 4096) (l : Fin 128) : V m c main_v22 (ix2 s l) = TA (fun j => Host.sin ANG (ix2 s j)) l := by
  rw [V22_eq, CAT_apply]
  unfold TA
  simp only [ONE48_apply, Z8_apply, ZERO, ite_self, dite_eq_ite]
  rfl

/-- An entry of the third table. -/
theorem V23_apply (s : Fin 4096) (l : Fin 128) : V m c main_v23 (ix2 s l) = TB (fun j => Host.sin ANG (ix2 s j)) l := by
  rw [V23_eq, CAT_apply]
  unfold TB
  simp only [ONE48_apply, Z8_apply, ZERO]

/-- The first 2048 columns. -/
theorem cols2048 (X : FVec Ideal S1024x3592 .f32) (e : Fin 1024) (n : Fin 2048) : (truncf (F := Ideal) .bf16 (extractStridedSlice S1024x2048 ![0, 0] X slices_S1024x3592_S1024x2048_0_0) bitsLt_bf16_f32 : FVec Ideal S1024x2048 .bf16) (ix2 e n) = X (ix2 e ⟨n.val, by omega⟩) := by
  pointwise

/-- The last 1536 columns. -/
theorem cols1536 (X : FVec Ideal S1024x3592 .f32) (e : Fin 1024) (n : Fin 1536) : (truncf (F := Ideal) .bf16 (extractStridedSlice S1024x1536 ![0, 2056] X slices_S1024x3592_S1024x1536_0_2056) bitsLt_bf16_f32 : FVec Ideal S1024x1536 .bf16) (ix2 e n) = X (ix2 e ⟨2056 + n.val, by omega⟩) := by
  pointwise

/-- The rows of all sequences one after another. -/
theorem rows_in (X : FVec Ideal S4x4096x1024 .f32) (R : Fin 16384) (e : Fin 1024) : shapeCast S16384x1024 X shapeCasts_S4x4096x1024_S16384x1024 (ix2 R e) = X (ix3 ⟨R.val / 4096, by omega⟩ ⟨R.val % 4096, Nat.mod_lt _ (by omega)⟩ e) := by
  pointwise

/-- The gains, reshaped twice. -/
theorem gain_in (X : FVec Ideal S1x1024 .f32) (e : Fin 1024) : shapeCast S1x1024 (shapeCast S1024 X shapeCasts_S1x1024_S1024) shapeCasts_S1024_S1x1024 (ix2 0 e) = X (ix2 0 e) := by
  pointwise

/-- An entry of the first block of weights. -/
theorem V26_apply (e : Fin 1024) (n : Fin 2048) : V m c main_v26 (ix2 e n) = (m ((c : Thread nD τ).loc main_arg2)) (ix3 0 e ⟨n.val, by omega⟩) := by
  rw [V26_eq, cols2048]
  exact ValueIdx.shapeCast_1ab_ab_apply _ _ _ _

/-- An entry of the second. -/
theorem V28_apply (e : Fin 1024) (n : Fin 1536) : V m c main_v28 (ix2 e n) = (m ((c : Thread nD τ).loc main_arg2)) (ix3 0 e ⟨2056 + n.val, by omega⟩) := by
  rw [V28_eq, cols1536]
  exact ValueIdx.shapeCast_1ab_ab_apply _ _ _ _

/-- An entry of the rows. -/
theorem V35_apply (R : Fin 16384) (e : Fin 1024) : V m c main_v35 (ix2 R e) = (m ((c : Thread nD τ).loc main_arg0)) (ix3 ⟨R.val / 4096, by omega⟩ ⟨R.val % 4096, Nat.mod_lt _ (by omega)⟩ e) := by
  rw [V35_eq, rows_in]

/-- A gain. -/
theorem V37_apply (e : Fin 1024) : V m c main_v37 (ix2 0 e) = (m ((c : Thread nD τ).loc main_arg1)) (ix2 0 e) := by
  rw [V37_eq, gain_in]

end Cert.InProjIdeal.Val

end
-- ==== Proof.InProjArr.lean ====
module

public import proofs.«01_k».proof.Proof.InProjBlk
public import proofs.«01_k».proof.Proof.InProjTab

/-! The input projection's arrays of results, entry by entry. -/

@[expose] public section

set_option maxRecDepth 16384

noncomputable section

namespace Cert.InProjIdeal.Val

open Cert.InProjIdeal Cert.InProjIdeal.Gen
open Idealize.ShloMosaic Idealize.ShloMosaic.TcCoe Idealize.SL.Sem

open Cert.RowSpec Cert.InProjSpec

variable (m : (ℓ : Loc nD τ sig) → Buf (Elt Ideal) ℓ) (c : Dev nD)

/-- Where each window stands at point `t`. -/
theorem idx : ∀ t : Fin cfg0.N, win0_0.index t = ![t.val, 0] ∧ win0_1.index t = ![0, 0] ∧ win0_2.index t = ![0, 0] ∧ win0_3.index t = ![0, 0] ∧ win0_6.index t = ![t.val % 4, 0] ∧ win0_7.index t = ![t.val % 4, 0] ∧ win0_8.index t = ![t.val % 4, 0] ∧ win0_9.index t = ![t.val, 0] ∧ win0_10.index t = ![t.val, 0] ∧ win0_11.index t = ![t.val, 0] ∧ win0_12.index t = ![t.val, 0] ∧ win0_15.index t = ![t.val, 0] ∧ win0_16.index t = ![t.val, 0, 0] ∧ win0_17.index t = ![t.val, 0, 0] ∧ t.val < 16 :=
  (by decide +kernel : ∀ t : Fin grid0.N, _)

/-- There are sixteen points. -/
theorem lt16 (t : Fin cfg0.N) : t.val < 16 := (idx t).2.2.2.2.2.2.2.2.2.2.2.2.2.2

/-- The sequence and the position of row `r` of the tile at point `t`. -/
def SQ (t : Fin cfg0.N) : Fin 4 := ⟨t.val / 4, by have := lt16 t; omega⟩
/-- The position. -/
def PO (t : Fin cfg0.N) (r : Fin 1024) : Fin 4096 := ⟨1024 * (t.val % 4) + r.val, by omega⟩

/-- A tile's rows. -/
theorem iblk0_apply (t : Fin cfg0.N) (r e : Fin 1024) : iblk m c 0 t (ix2 r e) = (m ((c : Thread nD τ).loc main_arg0)) (ix3 (SQ t) (PO t r) e) := by
  have h : iblk m c 0 t (ix2 r e) = V m c main_v35 (ix2 ⟨1024 * t.val + r.val, by have := lt16 t; omega⟩ e) := by
    blk_ext [iblk, idx t]
  rw [h, V35_apply]
  exact congrArg₂ (fun b s => (m ((c : Thread nD τ).loc main_arg0)) (ix3 b s e)) (Fin.ext (by show (1024 * t.val + r.val) / 4096 = t.val / 4; omega)) (Fin.ext (by show (1024 * t.val + r.val) % 4096 = 1024 * (t.val % 4) + r.val; omega))

/-- The gains. -/
theorem iblk1_apply (t : Fin cfg0.N) (e : Fin 1024) : iblk m c 1 t (ix2 0 e) = (m ((c : Thread nD τ).loc main_arg1)) (ix2 0 e) := by
  have h : iblk m c 1 t (ix2 0 e) = V m c main_v37 (ix2 0 e) := by
    blk_ext [iblk, idx t]
  rw [h, V37_apply]

/-- The first block of weights. -/
theorem iblk2_apply (t : Fin cfg0.N) (e : Fin 1024) (n : Fin 2048) : iblk m c 2 t (ix2 e n) = (m ((c : Thread nD τ).loc main_arg2)) (ix3 0 e ⟨n.val, by omega⟩) := by
  have h : iblk m c 2 t (ix2 e n) = V m c main_v26 (ix2 e n) := by
    blk_ext [iblk, idx t]
  rw [h, V26_apply]

/-- The second block of weights. -/
theorem iblk3_apply (t : Fin cfg0.N) (e : Fin 1024) (n : Fin 1536) : iblk m c 3 t (ix2 e n) = (m ((c : Thread nD τ).loc main_arg2)) (ix3 0 e ⟨2056 + n.val, by omega⟩) := by
  have h : iblk m c 3 t (ix2 e n) = V m c main_v28 (ix2 e n) := by
    blk_ext [iblk, idx t]
  rw [h, V28_apply]

/-- A tile's cosines. -/
theorem iblk6_apply (t : Fin cfg0.N) (r : Fin 1024) (l : Fin 128) : iblk m c 6 t (ix2 r l) = TC (fun j => Host.cos ANG (ix2 (PO t r) j)) l := by
  have h : iblk m c 6 t (ix2 r l) = V m c main_v20 (ix2 (PO t r) l) := by
    unfold PO
    blk_ext [iblk, idx t]
  rw [h, V20_apply]

/-- A tile's negated sines. -/
theorem iblk7_apply (t : Fin cfg0.N) (r : Fin 1024) (l : Fin 128) : iblk m c 7 t (ix2 r l) = TA (fun j => Host.sin ANG (ix2 (PO t r) j)) l := by
  have h : iblk m c 7 t (ix2 r l) = V m c main_v22 (ix2 (PO t r) l) := by
    unfold PO
    blk_ext [iblk, idx t]
  rw [h, V22_apply]

/-- A tile's sines. -/
theorem iblk8_apply (t : Fin cfg0.N) (r : Fin 1024) (l : Fin 128) : iblk m c 8 t (ix2 r l) = TB (fun j => Host.sin ANG (ix2 (PO t r) j)) l := by
  have h : iblk m c 8 t (ix2 r l) = V m c main_v23 (ix2 (PO t r) l) := by
    unfold PO
    blk_ext [iblk, idx t]
  rw [h, V23_apply]

/-- A tile's product with a column of the first block is the projection on that column. -/
theorem YW_first (t : Fin cfg0.N) (r : Fin 1024) (n : Fin 2048) : YW (iblk m c 0 t) (iblk m c 1 t) (fun e => iblk m c 2 t (ix2 e n)) r = ZZ (m ((c : Thread nD τ).loc main_arg0)) (m ((c : Thread nD τ).loc main_arg1)) (m ((c : Thread nD τ).loc main_arg2)) (SQ t) (PO t r) ⟨n.val, by omega⟩ := by
  unfold YW ZZ
  rw [funext fun k => iblk0_apply m c t r k, funext fun k => iblk1_apply m c t k, funext fun e => iblk2_apply m c t e n]

/-- And with a column of the second block. -/
theorem YW_second (t : Fin cfg0.N) (r : Fin 1024) (n : Fin 1536) : YW (iblk m c 0 t) (iblk m c 1 t) (fun e => iblk m c 3 t (ix2 e n)) r = ZZ (m ((c : Thread nD τ).loc main_arg0)) (m ((c : Thread nD τ).loc main_arg1)) (m ((c : Thread nD τ).loc main_arg2)) (SQ t) (PO t r) ⟨2056 + n.val, by omega⟩ := by
  unfold YW ZZ
  rw [funext fun k => iblk0_apply m c t r k, funext fun k => iblk1_apply m c t k, funext fun e => iblk3_apply m c t e n]

/-- A tile's rotated head is the sequence's, rotated by position. -/
theorem HR_block (t : Fin cfg0.N) (o : ℕ) (ho : o ≤ 1024) (O : ℕ) (hO : O ≤ 3080) (e : O = 2056 + o) (h : Fin 4) (r : Fin 1024) (l : Fin 128) :
    HR (iblk m c 0 t) (iblk m c 1 t) (iblk m c 3 t) (iblk m c 6 t) (iblk m c 7 t) (iblk m c 8 t) o ho h r l = ZR (m ((c : Thread nD τ).loc main_arg0)) (m ((c : Thread nD τ).loc main_arg1)) (m ((c : Thread nD τ).loc main_arg2)) (Host.cos ANG) (Host.sin ANG) O hO (SQ t) (PO t r) h l := by
  subst e
  have e1 : (fun q : Fin 128 => YW (iblk m c 0 t) (iblk m c 1 t) (fun e => iblk m c 3 t (ix2 e ⟨o + (128 * h.val + q.val), by omega⟩)) r) = ZH (m ((c : Thread nD τ).loc main_arg0)) (m ((c : Thread nD τ).loc main_arg1)) (m ((c : Thread nD τ).loc main_arg2)) (2056 + o) hO (SQ t) (PO t r) h :=
    funext fun q => (YW_second m c t r _).trans (congrArg (ZZ (m ((c : Thread nD τ).loc main_arg0)) (m ((c : Thread nD τ).loc main_arg1)) (m ((c : Thread nD τ).loc main_arg2)) (SQ t) (PO t r)) (Fin.ext (by show 2056 + (o + (128 * h.val + q.val)) = 2056 + o + (128 * h.val + q.val); omega)))
  unfold HR
  rw [e1, funext fun q => iblk6_apply m c t r q, funext fun q => iblk7_apply m c t r q, funext fun q => iblk8_apply m c t r q]
  exact ROT_eq _ _ _ l

/-- The sequence and the position of row `R` of the whole. -/
def SQR (R : Fin 16384) : Fin 4 := ⟨R.val / 4096, by omega⟩
/-- The position. -/
def POR (R : Fin 16384) : Fin 4096 := ⟨R.val % 4096, Nat.mod_lt _ (by omega)⟩
/-- The head and the place in it of column `n`. -/
def HD (n : Fin 512) : Fin 4 := ⟨n.val / 128, by omega⟩
/-- The place in the head. -/
def LN (n : Fin 512) : Fin 128 := ⟨n.val % 128, Nat.mod_lt _ (by omega)⟩

/-- The array of queries of the matrix memory. -/
theorem arr9 : (dats m 0 c).arrAt 9 cfg0.N = fun p : S16384x512.Idx => ZH (m ((c : Thread nD τ).loc main_arg0)) (m ((c : Thread nD τ).loc main_arg1)) (m ((c : Thread nD τ).loc main_arg2)) 0 (by omega) (SQR (p 0)) (POR (p 0)) (HD (p 1)) (LN (p 1)) := by
  refine (dats m 0 c).arrAt_eq_of_covers 9 _ (by decide +kernel) fun t hf y => ?_
  obtain ⟨r, n, rfl⟩ : ∃ (r : Fin 1024) (n : Fin 512), y = ix2 r n := ⟨y 0, y 1, eq_ix2 y⟩
  have ht := lt16 t
  have hv : out0_9 (iblk m c 0 t) (iblk m c 1 t) (iblk m c 2 t) (iblk m c 3 t) (iblk m c 4 t) (iblk m c 5 t) (iblk m c 6 t) (iblk m c 7 t) (iblk m c 8 t) (ix2 r n) = ZH (m ((c : Thread nD τ).loc main_arg0)) (m ((c : Thread nD τ).loc main_arg1)) (m ((c : Thread nD τ).loc main_arg2)) 0 (by omega) (SQ t) (PO t r) (HD n) (LN n) := by
    rw [out9_apply]
    exact (YW_first m c t r _).trans (congrArg (ZZ (m ((c : Thread nD τ).loc main_arg0)) (m ((c : Thread nD τ).loc main_arg1)) (m ((c : Thread nD τ).loc main_arg2)) (SQ t) (PO t r)) (Fin.ext (by show 0 + n.val = 0 + (128 * (n.val / 128) + n.val % 128); omega)))
  blk_simp
  rw [after0_9]
  refine hv.trans (congr (congr (congrArg₂ (ZH (m ((c : Thread nD τ).loc main_arg0)) (m ((c : Thread nD τ).loc main_arg1)) (m ((c : Thread nD τ).loc main_arg2)) 0 (by omega)) (Fin.ext ?_) (Fin.ext ?_)) (Fin.ext ?_)) (Fin.ext ?_))
  all_goals
    simp only [SQ, PO, SQR, POR, HD, LN]
    blk_simp [idx t]
    try dsimp only
    try omega

/-- Its keys. -/
theorem arr10 : (dats m 0 c).arrAt 10 cfg0.N = fun p : S16384x512.Idx => ZH (m ((c : Thread nD τ).loc main_arg0)) (m ((c : Thread nD τ).loc main_arg1)) (m ((c : Thread nD τ).loc main_arg2)) 512 (by omega) (SQR (p 0)) (POR (p 0)) (HD (p 1)) (LN (p 1)) := by
  refine (dats m 0 c).arrAt_eq_of_covers 10 _ (by decide +kernel) fun t hf y => ?_
  obtain ⟨r, n, rfl⟩ : ∃ (r : Fin 1024) (n : Fin 512), y = ix2 r n := ⟨y 0, y 1, eq_ix2 y⟩
  have ht := lt16 t
  have hv : out0_10 (iblk m c 0 t) (iblk m c 1 t) (iblk m c 2 t) (iblk m c 3 t) (iblk m c 4 t) (iblk m c 5 t) (iblk m c 6 t) (iblk m c 7 t) (iblk m c 8 t) (ix2 r n) = ZH (m ((c : Thread nD τ).loc main_arg0)) (m ((c : Thread nD τ).loc main_arg1)) (m ((c : Thread nD τ).loc main_arg2)) 512 (by omega) (SQ t) (PO t r) (HD n) (LN n) := by
    rw [out10_apply]
    exact (YW_first m c t r _).trans (congrArg (ZZ (m ((c : Thread nD τ).loc main_arg0)) (m ((c : Thread nD τ).loc main_arg1)) (m ((c : Thread nD τ).loc main_arg2)) (SQ t) (PO t r)) (Fin.ext (by show 512 + n.val = 512 + (128 * (n.val / 128) + n.val % 128); omega)))
  blk_simp
  rw [after0_10]
  refine hv.trans (congr (congr (congrArg₂ (ZH (m ((c : Thread nD τ).loc main_arg0)) (m ((c : Thread nD τ).loc main_arg1)) (m ((c : Thread nD τ).loc main_arg2)) 512 (by omega)) (Fin.ext ?_) (Fin.ext ?_)) (Fin.ext ?_)) (Fin.ext ?_))
  all_goals
    simp only [SQ, PO, SQR, POR, HD, LN]
    blk_simp [idx t]
    try dsimp only
    try omega

/-- Its values. -/
theorem arr11 : (dats m 0 c).arrAt 11 cfg0.N = fun p : S16384x512.Idx => ZH (m ((c : Thread nD τ).loc main_arg0)) (m ((c : Thread nD τ).loc main_arg1)) (m ((c : Thread nD τ).loc main_arg2)) 1024 (by omega) (SQR (p 0)) (POR (p 0)) (HD (p 1)) (LN (p 1)) := by
  refine (dats m 0 c).arrAt_eq_of_covers 11 _ (by decide +kernel) fun t hf y => ?_
  obtain ⟨r, n, rfl⟩ : ∃ (r : Fin 1024) (n : Fin 512), y = ix2 r n := ⟨y 0, y 1, eq_ix2 y⟩
  have ht := lt16 t
  have hv : out0_11 (iblk m c 0 t) (iblk m c 1 t) (iblk m c 2 t) (iblk m c 3 t) (iblk m c 4 t) (iblk m c 5 t) (iblk m c 6 t) (iblk m c 7 t) (iblk m c 8 t) (ix2 r n) = ZH (m ((c : Thread nD τ).loc main_arg0)) (m ((c : Thread nD τ).loc main_arg1)) (m ((c : Thread nD τ).loc main_arg2)) 1024 (by omega) (SQ t) (PO t r) (HD n) (LN n) := by
    rw [out11_apply]
    exact (YW_first m c t r _).trans (congrArg (ZZ (m ((c : Thread nD τ).loc main_arg0)) (m ((c : Thread nD τ).loc main_arg1)) (m ((c : Thread nD τ).loc main_arg2)) (SQ t) (PO t r)) (Fin.ext (by show 1024 + n.val = 1024 + (128 * (n.val / 128) + n.val % 128); omega)))
  blk_simp
  rw [after0_11]
  refine hv.trans (congr (congr (congrArg₂ (ZH (m ((c : Thread nD τ).loc main_arg0)) (m ((c : Thread nD τ).loc main_arg1)) (m ((c : Thread nD τ).loc main_arg2)) 1024 (by omega)) (Fin.ext ?_) (Fin.ext ?_)) (Fin.ext ?_)) (Fin.ext ?_))
  all_goals
    simp only [SQ, PO, SQR, POR, HD, LN]
    blk_simp [idx t]
    try dsimp only
    try omega

/-- Its output gate. -/
theorem arr12 : (dats m 0 c).arrAt 12 cfg0.N = fun p : S16384x512.Idx => ZH (m ((c : Thread nD τ).loc main_arg0)) (m ((c : Thread nD τ).loc main_arg1)) (m ((c : Thread nD τ).loc main_arg2)) 1536 (by omega) (SQR (p 0)) (POR (p 0)) (HD (p 1)) (LN (p 1)) := by
  refine (dats m 0 c).arrAt_eq_of_covers 12 _ (by decide +kernel) fun t hf y => ?_
  obtain ⟨r, n, rfl⟩ : ∃ (r : Fin 1024) (n : Fin 512), y = ix2 r n := ⟨y 0, y 1, eq_ix2 y⟩
  have ht := lt16 t
  have hv : out0_12 (iblk m c 0 t) (iblk m c 1 t) (iblk m c 2 t) (iblk m c 3 t) (iblk m c 4 t) (iblk m c 5 t) (iblk m c 6 t) (iblk m c 7 t) (iblk m c 8 t) (ix2 r n) = ZH (m ((c : Thread nD τ).loc main_arg0)) (m ((c : Thread nD τ).loc main_arg1)) (m ((c : Thread nD τ).loc main_arg2)) 1536 (by omega) (SQ t) (PO t r) (HD n) (LN n) := by
    rw [out12_apply]
    exact (YW_first m c t r _).trans (congrArg (ZZ (m ((c : Thread nD τ).loc main_arg0)) (m ((c : Thread nD τ).loc main_arg1)) (m ((c : Thread nD τ).loc main_arg2)) (SQ t) (PO t r)) (Fin.ext (by show 1536 + n.val = 1536 + (128 * (n.val / 128) + n.val % 128); omega)))
  blk_simp
  rw [after0_12]
  refine hv.trans (congr (congr (congrArg₂ (ZH (m ((c : Thread nD τ).loc main_arg0)) (m ((c : Thread nD τ).loc main_arg1)) (m ((c : Thread nD τ).loc main_arg2)) 1536 (by omega)) (Fin.ext ?_) (Fin.ext ?_)) (Fin.ext ?_)) (Fin.ext ?_))
  all_goals
    simp only [SQ, PO, SQR, POR, HD, LN]
    blk_simp [idx t]
    try dsimp only
    try omega

/-- A scaled query. -/
def DQ (b : Fin 4) (s : Fin 4096) (h : Fin 4) (l : Fin 128) : EReal := ZR (m ((c : Thread nD τ).loc main_arg0)) (m ((c : Thread nD τ).loc main_arg1)) (m ((c : Thread nD τ).loc main_arg2)) (Host.cos ANG) (Host.sin ANG) 2056 (by omega) b s h l * Ideal.ofBits .f32 0x3E38AA3B#32

/-- The array of scaled queries. -/
theorem arr15 : (dats m 0 c).arrAt 15 cfg0.N = fun p : S16384x512.Idx => DQ m c (SQR (p 0)) (POR (p 0)) (HD (p 1)) (LN (p 1)) := by
  refine (dats m 0 c).arrAt_eq_of_covers 15 _ (by decide +kernel) fun t hf y => ?_
  obtain ⟨r, n, rfl⟩ : ∃ (r : Fin 1024) (n : Fin 512), y = ix2 r n := ⟨y 0, y 1, eq_ix2 y⟩
  have ht := lt16 t
  have hv : out0_15 (iblk m c 0 t) (iblk m c 1 t) (iblk m c 2 t) (iblk m c 3 t) (iblk m c 4 t) (iblk m c 5 t) (iblk m c 6 t) (iblk m c 7 t) (iblk m c 8 t) (ix2 r n) = DQ m c (SQ t) (PO t r) (HD n) (LN n) := by
    rw [out15_apply]
    exact congrArg (· * _) (HR_block m c t 0 (by omega) 2056 (by omega) rfl _ r _)
  blk_simp
  rw [after0_15]
  refine hv.trans (congr (congr (congrArg₂ (DQ m c) (Fin.ext ?_) (Fin.ext ?_)) (Fin.ext ?_)) (Fin.ext ?_))
  all_goals
    simp only [SQ, PO, SQR, POR, HD, LN]
    blk_simp [idx t]
    try dsimp only
    try omega

/-- The array of rotated keys. -/
theorem arr16 : (dats m 0 c).arrAt 16 cfg0.N = fun p : S16384x4x128.Idx => ZR (m ((c : Thread nD τ).loc main_arg0)) (m ((c : Thread nD τ).loc main_arg1)) (m ((c : Thread nD τ).loc main_arg2)) (Host.cos ANG) (Host.sin ANG) 2568 (by omega) (SQR (p 0)) (POR (p 0)) (p 1) (p 2) := by
  refine (dats m 0 c).arrAt_eq_of_covers 16 _ (by decide +kernel) fun t hf y => ?_
  obtain ⟨r, h, l, rfl⟩ : ∃ (r : Fin 1024) (h : Fin 4) (l : Fin 128), y = ix3 r h l := ⟨y 0, y 1, y 2, eq_ix3 y⟩
  have ht := lt16 t
  have hv : out0_16 (iblk m c 0 t) (iblk m c 1 t) (iblk m c 2 t) (iblk m c 3 t) (iblk m c 4 t) (iblk m c 5 t) (iblk m c 6 t) (iblk m c 7 t) (iblk m c 8 t) (ix3 r h l) = ZR (m ((c : Thread nD τ).loc main_arg0)) (m ((c : Thread nD τ).loc main_arg1)) (m ((c : Thread nD τ).loc main_arg2)) (Host.cos ANG) (Host.sin ANG) 2568 (by omega) (SQ t) (PO t r) h l := by
    rw [out16_apply]
    exact HR_block m c t 512 (by omega) 2568 (by omega) rfl h r l
  blk_simp
  rw [after0_16]
  refine hv.trans (congr (congr (congrArg₂ (ZR (m ((c : Thread nD τ).loc main_arg0)) (m ((c : Thread nD τ).loc main_arg1)) (m ((c : Thread nD τ).loc main_arg2)) (Host.cos ANG) (Host.sin ANG) 2568 (by omega)) (Fin.ext ?_) (Fin.ext ?_)) (Fin.ext ?_)) (Fin.ext ?_))
  all_goals
    simp only [SQ, PO, SQR, POR, HD, LN]
    blk_simp [idx t]
    try dsimp only
    try omega

/-- The array of values. -/
theorem arr17 : (dats m 0 c).arrAt 17 cfg0.N = fun p : S16384x4x128.Idx => ZH (m ((c : Thread nD τ).loc main_arg0)) (m ((c : Thread nD τ).loc main_arg1)) (m ((c : Thread nD τ).loc main_arg2)) 3080 (by omega) (SQR (p 0)) (POR (p 0)) (p 1) (p 2) := by
  refine (dats m 0 c).arrAt_eq_of_covers 17 _ (by decide +kernel) fun t hf y => ?_
  obtain ⟨r, h, l, rfl⟩ : ∃ (r : Fin 1024) (h : Fin 4) (l : Fin 128), y = ix3 r h l := ⟨y 0, y 1, y 2, eq_ix3 y⟩
  have ht := lt16 t
  have hv : out0_17 (iblk m c 0 t) (iblk m c 1 t) (iblk m c 2 t) (iblk m c 3 t) (iblk m c 4 t) (iblk m c 5 t) (iblk m c 6 t) (iblk m c 7 t) (iblk m c 8 t) (ix3 r h l) = ZH (m ((c : Thread nD τ).loc main_arg0)) (m ((c : Thread nD τ).loc main_arg1)) (m ((c : Thread nD τ).loc main_arg2)) 3080 (by omega) (SQ t) (PO t r) h l := by
    rw [out17_apply]
    exact (YW_second m c t r _).trans (congrArg (ZZ (m ((c : Thread nD τ).loc main_arg0)) (m ((c : Thread nD τ).loc main_arg1)) (m ((c : Thread nD τ).loc main_arg2)) (SQ t) (PO t r)) (Fin.ext (by show 2056 + (1024 + (128 * h.val + l.val)) = 3080 + (128 * h.val + l.val); omega)))
  blk_simp
  rw [after0_17]
  refine hv.trans (congr (congr (congrArg₂ (ZH (m ((c : Thread nD τ).loc main_arg0)) (m ((c : Thread nD τ).loc main_arg1)) (m ((c : Thread nD τ).loc main_arg2)) 3080 (by omega)) (Fin.ext ?_) (Fin.ext ?_)) (Fin.ext ?_)) (Fin.ext ?_))
  all_goals
    simp only [SQ, PO, SQR, POR, HD, LN]
    blk_simp [idx t]
    try dsimp only
    try omega

end Cert.InProjIdeal.Val

end
-- ==== Proof.InProjRef.lean ====
module

public import proofs.«01_k».proof.Proof.Gen.InProjRefIdeal.Run
public import proofs.«01_k».proof.Proof.InProjSpec
public import Idealize.ShloMosaic.Lib.ValueLayout
public import Idealize.ShloMosaic.Lib.Pointwise

/-! The reference's input projection, entry by entry. -/

@[expose] public section

set_option maxRecDepth 16384

noncomputable section

namespace Cert.InProjRefIdeal.Val

open Cert.InProjRefIdeal Cert.InProjRefIdeal.Gen
open Idealize.ShloMosaic Idealize.ShloMosaic.TcCoe Idealize.SL.Sem

open Cert.RowSpec Cert.InProjSpec

/-- The reference's angles. -/
def AN : FVec Ideal S4096x8 .f32 :=
  mulf (broadcastInDim S4096x8 ![0, 1] bcast_S4096x1_S4096x8_0_1 (broadcastInDim S4096x1 ![0] bcast_S4096_S4096x1_0 (sitofp .f32 (iotaInDim S4096 32 0)))) (broadcastInDim S4096x8 ![0, 1] bcast_S1x8_S4096x8_0_1 (broadcastInDim S1x8 ![1] bcast_S8_S1x8_1 (Host.exp (mulf (broadcastInDim S8 ![] bcast_S_S8 (constant S_ .f32 0xC151F533#32)) (Host.divf (mulf (broadcastInDim S8 ![] bcast_S_S8 (constant S_ .f32 0x40000000#32)) (sitofp .f32 (iotaInDim S8 32 0))) (broadcastInDim S8 ![] bcast_S_S8 (constant S_ .f32 0x41800000#32)))))))

/-- The reference's normalised rows. -/
def RN (a0 : FVec Ideal S4x4096x1024 .f32) (a1 : FVec Ideal S1x1024 .f32) : FVec Ideal S4x4096x1024 .f32 :=
  mulf (mulf a0 (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf a0 a0) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast _ a1 shapeCasts_S1x1024_S1024)))

/-- Their projection on every column. -/
def RZ (a0 : FVec Ideal S4x4096x1024 .f32) (a1 : FVec Ideal S1x1024 .f32) (a2 : FVec Ideal S1x1024x3592 .f32) : FVec Ideal S4x4096x3592 .f32 :=
  Host.dotGeneral dot_S4x4096x1024_S1024x3592_S4x4096x3592_2_0_01_1_n_n none (RN a0 a1) (shapeCast _ a2 shapeCasts_S1x1024x3592_S1024x3592)

/-- A normalised row. -/
theorem RN_apply (a0 : FVec Ideal S4x4096x1024 .f32) (a1 : FVec Ideal S1x1024 .f32) (b : Fin 4) (s : Fin 4096) (e : Fin 1024) :
    RN a0 a1 (ix3 b s e) = HN (fun k => a0 (ix3 b s k)) (fun k => a1 (ix2 0 k)) e := by
  unfold RN HN
  pointwise

/-- An entry of the product. -/
theorem dot_apply (N : FVec Ideal S4x4096x1024 .f32) (w : FVec Ideal S1024x3592 .f32) (b : Fin 4) (s : Fin 4096) (n : Fin 3592) :
    (Host.dotGeneral dot_S4x4096x1024_S1024x3592_S4x4096x3592_2_0_01_1_n_n none N w : FVec Ideal S4x4096x3592 .f32) (ix3 b s n) = PJ (fun e => N (ix3 b s e)) (fun e => w (ix2 e n)) := by
  unfold PJ
  pointwise

/-- An entry of the projection. -/
theorem RZ_apply (a0 : FVec Ideal S4x4096x1024 .f32) (a1 : FVec Ideal S1x1024 .f32) (a2 : FVec Ideal S1x1024x3592 .f32) (b : Fin 4) (s : Fin 4096) (n : Fin 3592) : RZ a0 a1 a2 (ix3 b s n) = ZZ a0 a1 a2 b s n := by
  unfold RZ ZZ
  rw [dot_apply, funext fun e => RN_apply a0 a1 b s e]
  exact congrArg (PJ _) (funext fun e => ValueIdx.shapeCast_1ab_ab_apply _ _ _ _)

section
variable (Z : FVec Ideal S4x4096x3592 .f32) (P : FVec Ideal S4x4096x512 .f32) (X : FVec Ideal S4x4096x4x2x64 .f32) (A : FVec Ideal S4096x8 .f32) (K G : FVec Ideal S1x4096x1x1x8 .f32)
  (b : Fin 4) (s : Fin 4096) (h : Fin 4)

/-- 512 columns cut out of the projection. -/
theorem part85 (n : Fin 512) : ((extractStridedSlice S4x4096x512 ![0, 0, 0] (extractStridedSlice S4x4096x2056 ![0, 0, 0] Z slices_S4x4096x3592_S4x4096x2056_0_0_0) slices_S4x4096x2056_S4x4096x512_0_0_0) : FVec Ideal S4x4096x512 .f32) (ix3 b s n) = Z (ix3 b s ⟨0 + n.val, by omega⟩) := by
  pointwise
  try exact congrArg (fun j => Z (ix3 b s j)) (Fin.ext (by dsimp only <;> omega))

/-- The next. -/
theorem part86 (n : Fin 512) : ((extractStridedSlice S4x4096x512 ![0, 0, 512] (extractStridedSlice S4x4096x2056 ![0, 0, 0] Z slices_S4x4096x3592_S4x4096x2056_0_0_0) slices_S4x4096x2056_S4x4096x512_0_0_512) : FVec Ideal S4x4096x512 .f32) (ix3 b s n) = Z (ix3 b s ⟨512 + n.val, by omega⟩) := by
  pointwise
  try exact congrArg (fun j => Z (ix3 b s j)) (Fin.ext (by dsimp only <;> omega))

/-- The next. -/
theorem part87 (n : Fin 512) : ((extractStridedSlice S4x4096x512 ![0, 0, 1024] (extractStridedSlice S4x4096x2056 ![0, 0, 0] Z slices_S4x4096x3592_S4x4096x2056_0_0_0) slices_S4x4096x2056_S4x4096x512_0_0_1024) : FVec Ideal S4x4096x512 .f32) (ix3 b s n) = Z (ix3 b s ⟨1024 + n.val, by omega⟩) := by
  pointwise
  try exact congrArg (fun j => Z (ix3 b s j)) (Fin.ext (by dsimp only <;> omega))

/-- The next. -/
theorem part88 (n : Fin 512) : ((extractStridedSlice S4x4096x512 ![0, 0, 1536] (extractStridedSlice S4x4096x2056 ![0, 0, 0] Z slices_S4x4096x3592_S4x4096x2056_0_0_0) slices_S4x4096x2056_S4x4096x512_0_0_1536) : FVec Ideal S4x4096x512 .f32) (ix3 b s n) = Z (ix3 b s ⟨1536 + n.val, by omega⟩) := by
  pointwise
  try exact congrArg (fun j => Z (ix3 b s j)) (Fin.ext (by dsimp only <;> omega))

/-- The columns of the queries. -/
theorem part89 (n : Fin 512) : ((extractStridedSlice S4x4096x512 ![0, 0, 0] (extractStridedSlice S4x4096x1536 ![0, 0, 2056] Z slices_S4x4096x3592_S4x4096x1536_0_0_2056) slices_S4x4096x1536_S4x4096x512_0_0_0) : FVec Ideal S4x4096x512 .f32) (ix3 b s n) = Z (ix3 b s ⟨2056 + n.val, by omega⟩) := by
  pointwise
  try exact congrArg (fun j => Z (ix3 b s j)) (Fin.ext (by dsimp only <;> omega))

/-- The columns of the keys. -/
theorem part90 (n : Fin 512) : ((extractStridedSlice S4x4096x512 ![0, 0, 512] (extractStridedSlice S4x4096x1536 ![0, 0, 2056] Z slices_S4x4096x3592_S4x4096x1536_0_0_2056) slices_S4x4096x1536_S4x4096x512_0_0_512) : FVec Ideal S4x4096x512 .f32) (ix3 b s n) = Z (ix3 b s ⟨2568 + n.val, by omega⟩) := by
  pointwise
  try exact congrArg (fun j => Z (ix3 b s j)) (Fin.ext (by dsimp only <;> omega))

/-- The columns of the values. -/
theorem part91 (n : Fin 512) : ((extractStridedSlice S4x4096x512 ![0, 0, 1024] (extractStridedSlice S4x4096x1536 ![0, 0, 2056] Z slices_S4x4096x3592_S4x4096x1536_0_0_2056) slices_S4x4096x1536_S4x4096x512_0_0_1024) : FVec Ideal S4x4096x512 .f32) (ix3 b s n) = Z (ix3 b s ⟨3080 + n.val, by omega⟩) := by
  pointwise
  try exact congrArg (fun j => Z (ix3 b s j)) (Fin.ext (by dsimp only <;> omega))

/-- Heads of 128 columns. -/
theorem heads_apply (l : Fin 128) : shapeCast S4x4096x4x128 P shapeCasts_S4x4096x512_S4x4096x4x128 (ix4 b s h l) = P (ix3 b s ⟨128 * h.val + l.val, by omega⟩) := by
  pointwise
  try simp only [Nat.mul_comm 128]

/-- Each head as two halves. -/
theorem halves_apply (u : Fin 2) (w : Fin 64) : shapeCast S4x4096x4x2x64 P shapeCasts_S4x4096x512_S4x4096x4x2x64 (ix5 b s h u w) = P (ix3 b s ⟨128 * h.val + (64 * u.val + w.val), by omega⟩) := by
  pointwise
  try exact congrArg (fun j => P (ix3 b s j)) (Fin.ext (by dsimp only <;> omega))

/-- The halves joined again. -/
theorem join_apply (l : Fin 128) : shapeCast S4x4096x4x128 X shapeCasts_S4x4096x4x2x64_S4x4096x4x128 (ix4 b s h l) = X (ix5 b s h ⟨l.val / 64, by omega⟩ ⟨l.val % 64, Nat.mod_lt _ (by omega)⟩) := by
  pointwise
  try exact congrArg₂ (fun u w => X (ix5 b s h u w)) (Fin.ext (by dsimp only <;> omega)) (Fin.ext (by dsimp only <;> omega))

/-- The cosine of a position and a pair. -/
theorem cos_apply (j : Fin 8) : Host.cos (shapeCast S1x4096x1x1x8 A shapeCasts_S4096x8_S1x4096x1x1x8) (ix5 0 s 0 0 j) = Host.cos A (ix2 s j) := by
  pointwise

/-- The sine. -/
theorem sin_apply (j : Fin 8) : Host.sin (shapeCast S1x4096x1x1x8 A shapeCasts_S4096x8_S1x4096x1x1x8) (ix5 0 s 0 0 j) = Host.sin A (ix2 s j) := by
  pointwise

/-- Each half's first eight columns are turned with its next eight. -/
def TURN : FVec Ideal S4x4096x4x2x64 .f32 := ((concatenate S4x4096x4x2x64 4 [⟨S4x4096x4x2x8, ((subf (mulf (extractStridedSlice S4x4096x4x2x8 ![0, 0, 0, 0, 0] X slices_S4x4096x4x2x64_S4x4096x4x2x8_0_0_0_0_0) (broadcastInDim S4x4096x4x2x8 ![0, 1, 2, 3, 4] bcast_S1x4096x1x1x8_S4x4096x4x2x8_0_1_2_3_4 K)) (mulf (extractStridedSlice S4x4096x4x2x8 ![0, 0, 0, 0, 8] X slices_S4x4096x4x2x64_S4x4096x4x2x8_0_0_0_0_8) (broadcastInDim S4x4096x4x2x8 ![0, 1, 2, 3, 4] bcast_S1x4096x1x1x8_S4x4096x4x2x8_0_1_2_3_4 G))) : (⟨S4x4096x4x2x8, .f32⟩ : BufTy).Contents (Elt Ideal))⟩, ⟨S4x4096x4x2x8, ((addf (mulf (extractStridedSlice S4x4096x4x2x8 ![0, 0, 0, 0, 8] X slices_S4x4096x4x2x64_S4x4096x4x2x8_0_0_0_0_8) (broadcastInDim S4x4096x4x2x8 ![0, 1, 2, 3, 4] bcast_S1x4096x1x1x8_S4x4096x4x2x8_0_1_2_3_4 K)) (mulf (extractStridedSlice S4x4096x4x2x8 ![0, 0, 0, 0, 0] X slices_S4x4096x4x2x64_S4x4096x4x2x8_0_0_0_0_0) (broadcastInDim S4x4096x4x2x8 ![0, 1, 2, 3, 4] bcast_S1x4096x1x1x8_S4x4096x4x2x8_0_1_2_3_4 G))) : (⟨S4x4096x4x2x8, .f32⟩ : BufTy).Contents (Elt Ideal))⟩, ⟨S4x4096x4x2x48, ((extractStridedSlice S4x4096x4x2x48 ![0, 0, 0, 0, 16] X slices_S4x4096x4x2x64_S4x4096x4x2x48_0_0_0_0_16) : (⟨S4x4096x4x2x48, .f32⟩ : BufTy).Contents (Elt Ideal))⟩] concatenates_S4x4096x4x2x8_S4x4096x4x2x8_S4x4096x4x2x48_S4x4096x4x2x64_d4 : (⟨S4x4096x4x2x64, .f32⟩ : BufTy).Contents (Elt Ideal)))

/-- An entry of it. -/
theorem TURN_apply (u : Fin 2) (w : Fin 64) : TURN X K G (ix5 b s h u w) =
    if h1 : w.val < 8 then (show EReal from X (ix5 b s h u w)) * K (ix5 0 s 0 0 ⟨w.val, h1⟩) - (show EReal from X (ix5 b s h u ⟨w.val + 8, by omega⟩)) * G (ix5 0 s 0 0 ⟨w.val, h1⟩)
    else if h2 : w.val < 16 then (show EReal from X (ix5 b s h u w)) * K (ix5 0 s 0 0 ⟨w.val - 8, by omega⟩) + (show EReal from X (ix5 b s h u ⟨w.val - 8, by omega⟩)) * G (ix5 0 s 0 0 ⟨w.val - 8, by omega⟩)
    else X (ix5 b s h u w) := by
  unfold TURN
  pointwise
  by_cases h1 : w.val < 8
  · simp only [dif_pos h1, Nat.add_comm 8]
  have h3 : ∀ q : Fin 64, w.val = q.val → X (ix5 b s h u q) = X (ix5 b s h u w) := fun q e => congrArg (fun j => X (ix5 b s h u j)) (Fin.ext e.symm)
  simp only [dif_neg h1]
  by_cases h2 : w.val < 16
  · simp only [dif_pos h2, dif_pos (show w.val - 8 < 8 by omega)]
    rw [h3 ⟨8 + (w.val - 8), by omega⟩ (by dsimp only; omega)]
  · simp only [dif_neg h2, dif_neg (show ¬ w.val - 8 < 8 by omega)]
    rw [h3 ⟨16 + (w.val - 8 - 8), by omega⟩ (by dsimp only; omega)]

/-- A head turned so is the rotated head. -/
theorem rot_apply (l : Fin 128) : shapeCast S4x4096x4x128 (TURN (shapeCast S4x4096x4x2x64 P shapeCasts_S4x4096x512_S4x4096x4x2x64) (Host.cos (shapeCast S1x4096x1x1x8 A shapeCasts_S4096x8_S1x4096x1x1x8)) (Host.sin (shapeCast S1x4096x1x1x8 A shapeCasts_S4096x8_S1x4096x1x1x8))) shapeCasts_S4x4096x4x2x64_S4x4096x4x128 (ix4 b s h l)
    = RT (fun q => P (ix3 b s ⟨128 * h.val + q.val, by omega⟩)) (fun j => Host.cos A (ix2 s j)) (fun j => Host.sin A (ix2 s j)) l := by
  have g : ∀ (i : ℕ) (hi : i < 512) (j : ℕ) (hj : j < 512), i = j → P (ix3 b s ⟨i, hi⟩) = P (ix3 b s ⟨j, hj⟩) := fun i hi j hj e => congrArg (fun k => P (ix3 b s k)) (Fin.ext e)
  rw [join_apply, TURN_apply]
  unfold RT
  simp only [halves_apply, cos_apply, sin_apply]
  by_cases h1 : l.val % 64 < 8
  · simp only [dif_pos h1]
    rw [g (128 * h.val + (64 * (l.val / 64) + l.val % 64)) (by omega) (128 * h.val + l.val) (by omega) (by omega), g (128 * h.val + (64 * (l.val / 64) + (l.val % 64 + 8))) (by omega) (128 * h.val + (l.val + 8)) (by omega) (by omega)]
  simp only [dif_neg h1]
  by_cases h2 : l.val % 64 < 16
  · simp only [dif_pos h2]
    rw [g (128 * h.val + (64 * (l.val / 64) + l.val % 64)) (by omega) (128 * h.val + l.val) (by omega) (by omega), g (128 * h.val + (64 * (l.val / 64) + (l.val % 64 - 8))) (by omega) (128 * h.val + (l.val - 8)) (by omega) (by omega)]
  · simp only [dif_neg h2]
    exact g _ _ _ _ (by omega)

/-- A scaled entry. -/
theorem scale_apply (Y : FVec Ideal S4x4096x4x128 .f32) (l : Fin 128) : (truncf .bf16 (mulf Y (broadcastInDim S4x4096x4x128 ![] bcast_S_S4x4096x4x128 (constant S_ .f32 0x3E38AA3B#32))) bitsLt_bf16_f32 : FVec Ideal S4x4096x4x128 .bf16) (ix4 b s h l) = (show EReal from Y (ix4 b s h l)) * Ideal.ofBits .f32 0x3E38AA3B#32 := by
  pointwise

/-- A leading axis of length one. -/
theorem lead_apply (Y : FVec Ideal S4x4096x4x128 .f32) (l : Fin 128) : broadcastInDim S1x4x4096x4x128 ![1, 2, 3, 4] bcast_S4x4096x4x128_S1x4x4096x4x128_1_2_3_4 Y (ix5 0 b s h l) = Y (ix4 b s h l) := by
  pointwise
end

section
variable (a0 : FVec Ideal S4x4096x1024 .f32) (a1 : FVec Ideal S1x1024 .f32) (a2 : FVec Ideal S1x1024x3592 .f32)

/-- The result of heads from column `o` on. -/
def HS (o : ℕ) (ho : o ≤ 3080) : FVec Ideal S4x4096x4x128 .bf16 := fun p => ZH a0 a1 a2 o ho (p 0) (p 1) (p 2) (p 3)
/-- The scaled, rotated queries. -/
def QS : FVec Ideal S4x4096x4x128 .bf16 := fun p => ZR a0 a1 a2 (Host.cos AN) (Host.sin AN) 2056 (by omega) (p 0) (p 1) (p 2) (p 3) * Ideal.ofBits .f32 0x3E38AA3B#32
/-- The rotated keys. -/
def KS : FVec Ideal S1x4x4096x4x128 .f32 := fun p => ZR a0 a1 a2 (Host.cos AN) (Host.sin AN) 2568 (by omega) (p 1) (p 2) (p 3) (p 4)
/-- The values. -/
def VS : FVec Ideal S1x4x4096x4x128 .f32 := fun p => ZH a0 a1 a2 3080 (by omega) (p 1) (p 2) (p 3) (p 4)

/-- An entry of a part of 512 columns. -/
theorem part_ZH (Q : FVec Ideal S4x4096x512 .f32) (o : ℕ) (ho : o ≤ 3080) (hQ : ∀ (b : Fin 4) (s : Fin 4096) (n : Fin 512), Q (ix3 b s n) = RZ a0 a1 a2 (ix3 b s ⟨o + n.val, by omega⟩)) (b : Fin 4) (s : Fin 4096) (h : Fin 4) (l : Fin 128) :
    Q (ix3 b s ⟨128 * h.val + l.val, by omega⟩) = ZH a0 a1 a2 o ho b s h l :=
  (hQ b s _).trans (RZ_apply a0 a1 a2 b s _)

/-- The same rotated. -/
theorem part_ZR (Q : FVec Ideal S4x4096x512 .f32) (o : ℕ) (ho : o ≤ 3080) (hQ : ∀ (b : Fin 4) (s : Fin 4096) (n : Fin 512), Q (ix3 b s n) = RZ a0 a1 a2 (ix3 b s ⟨o + n.val, by omega⟩)) (b : Fin 4) (s : Fin 4096) (h : Fin 4) (l : Fin 128) :
    shapeCast S4x4096x4x128 (TURN (shapeCast S4x4096x4x2x64 Q shapeCasts_S4x4096x512_S4x4096x4x2x64) (Host.cos (shapeCast S1x4096x1x1x8 AN shapeCasts_S4096x8_S1x4096x1x1x8)) (Host.sin (shapeCast S1x4096x1x1x8 AN shapeCasts_S4096x8_S1x4096x1x1x8))) shapeCasts_S4x4096x4x2x64_S4x4096x4x128 (ix4 b s h l)
      = ZR a0 a1 a2 (Host.cos AN) (Host.sin AN) o ho b s h l :=
  (rot_apply Q AN b s h l).trans (congrArg (fun p => RT p _ _ l) (funext fun q => part_ZH a0 a1 a2 Q o ho hQ b s h q))

/-- The reference's first result. -/
theorem res85 : (truncf .bf16 (shapeCast S4x4096x4x128 (extractStridedSlice S4x4096x512 ![0, 0, 0] (extractStridedSlice S4x4096x2056 ![0, 0, 0] (RZ a0 a1 a2) slices_S4x4096x3592_S4x4096x2056_0_0_0) slices_S4x4096x2056_S4x4096x512_0_0_0) shapeCasts_S4x4096x512_S4x4096x4x128) bitsLt_bf16_f32 : FVec Ideal S4x4096x4x128 .bf16) = HS a0 a1 a2 0 (by omega) := by
  funext p
  obtain ⟨b, s, h, l, rfl⟩ : ∃ (b : Fin 4) (s : Fin 4096) (h : Fin 4) (l : Fin 128), p = ix4 b s h l := ⟨p 0, p 1, p 2, p 3, eq_ix4 p⟩
  exact (heads_apply _ b s h l).trans (part_ZH a0 a1 a2 _ 0 (by omega) (part85 (RZ a0 a1 a2)) b s h l)

/-- Its second. -/
theorem res86 : (truncf .bf16 (shapeCast S4x4096x4x128 (extractStridedSlice S4x4096x512 ![0, 0, 512] (extractStridedSlice S4x4096x2056 ![0, 0, 0] (RZ a0 a1 a2) slices_S4x4096x3592_S4x4096x2056_0_0_0) slices_S4x4096x2056_S4x4096x512_0_0_512) shapeCasts_S4x4096x512_S4x4096x4x128) bitsLt_bf16_f32 : FVec Ideal S4x4096x4x128 .bf16) = HS a0 a1 a2 512 (by omega) := by
  funext p
  obtain ⟨b, s, h, l, rfl⟩ : ∃ (b : Fin 4) (s : Fin 4096) (h : Fin 4) (l : Fin 128), p = ix4 b s h l := ⟨p 0, p 1, p 2, p 3, eq_ix4 p⟩
  exact (heads_apply _ b s h l).trans (part_ZH a0 a1 a2 _ 512 (by omega) (part86 (RZ a0 a1 a2)) b s h l)

/-- Its third. -/
theorem res87 : (truncf .bf16 (shapeCast S4x4096x4x128 (extractStridedSlice S4x4096x512 ![0, 0, 1024] (extractStridedSlice S4x4096x2056 ![0, 0, 0] (RZ a0 a1 a2) slices_S4x4096x3592_S4x4096x2056_0_0_0) slices_S4x4096x2056_S4x4096x512_0_0_1024) shapeCasts_S4x4096x512_S4x4096x4x128) bitsLt_bf16_f32 : FVec Ideal S4x4096x4x128 .bf16) = HS a0 a1 a2 1024 (by omega) := by
  funext p
  obtain ⟨b, s, h, l, rfl⟩ : ∃ (b : Fin 4) (s : Fin 4096) (h : Fin 4) (l : Fin 128), p = ix4 b s h l := ⟨p 0, p 1, p 2, p 3, eq_ix4 p⟩
  exact (heads_apply _ b s h l).trans (part_ZH a0 a1 a2 _ 1024 (by omega) (part87 (RZ a0 a1 a2)) b s h l)

/-- Its fourth. -/
theorem res88 : (truncf .bf16 (shapeCast S4x4096x4x128 (extractStridedSlice S4x4096x512 ![0, 0, 1536] (extractStridedSlice S4x4096x2056 ![0, 0, 0] (RZ a0 a1 a2) slices_S4x4096x3592_S4x4096x2056_0_0_0) slices_S4x4096x2056_S4x4096x512_0_0_1536) shapeCasts_S4x4096x512_S4x4096x4x128) bitsLt_bf16_f32 : FVec Ideal S4x4096x4x128 .bf16) = HS a0 a1 a2 1536 (by omega) := by
  funext p
  obtain ⟨b, s, h, l, rfl⟩ : ∃ (b : Fin 4) (s : Fin 4096) (h : Fin 4) (l : Fin 128), p = ix4 b s h l := ⟨p 0, p 1, p 2, p 3, eq_ix4 p⟩
  exact (heads_apply _ b s h l).trans (part_ZH a0 a1 a2 _ 1536 (by omega) (part88 (RZ a0 a1 a2)) b s h l)

/-- Its scaled queries. -/
theorem res89 : (truncf .bf16 (mulf (shapeCast S4x4096x4x128 (TURN (shapeCast S4x4096x4x2x64 (extractStridedSlice S4x4096x512 ![0, 0, 0] (extractStridedSlice S4x4096x1536 ![0, 0, 2056] (RZ a0 a1 a2) slices_S4x4096x3592_S4x4096x1536_0_0_2056) slices_S4x4096x1536_S4x4096x512_0_0_0) shapeCasts_S4x4096x512_S4x4096x4x2x64) (Host.cos (shapeCast S1x4096x1x1x8 AN shapeCasts_S4096x8_S1x4096x1x1x8)) (Host.sin (shapeCast S1x4096x1x1x8 AN shapeCasts_S4096x8_S1x4096x1x1x8))) shapeCasts_S4x4096x4x2x64_S4x4096x4x128) (broadcastInDim S4x4096x4x128 ![] bcast_S_S4x4096x4x128 (constant S_ .f32 0x3E38AA3B#32))) bitsLt_bf16_f32 : FVec Ideal S4x4096x4x128 .bf16) = QS a0 a1 a2 := by
  funext p
  obtain ⟨b, s, h, l, rfl⟩ : ∃ (b : Fin 4) (s : Fin 4096) (h : Fin 4) (l : Fin 128), p = ix4 b s h l := ⟨p 0, p 1, p 2, p 3, eq_ix4 p⟩
  exact (scale_apply b s h _ l).trans (congrArg (· * _) (part_ZR a0 a1 a2 _ 2056 (by omega) (part89 (RZ a0 a1 a2)) b s h l))

/-- Its rotated keys. -/
theorem res90 : (broadcastInDim S1x4x4096x4x128 ![1, 2, 3, 4] bcast_S4x4096x4x128_S1x4x4096x4x128_1_2_3_4 (shapeCast S4x4096x4x128 (TURN (shapeCast S4x4096x4x2x64 (extractStridedSlice S4x4096x512 ![0, 0, 512] (extractStridedSlice S4x4096x1536 ![0, 0, 2056] (RZ a0 a1 a2) slices_S4x4096x3592_S4x4096x1536_0_0_2056) slices_S4x4096x1536_S4x4096x512_0_0_512) shapeCasts_S4x4096x512_S4x4096x4x2x64) (Host.cos (shapeCast S1x4096x1x1x8 AN shapeCasts_S4096x8_S1x4096x1x1x8)) (Host.sin (shapeCast S1x4096x1x1x8 AN shapeCasts_S4096x8_S1x4096x1x1x8))) shapeCasts_S4x4096x4x2x64_S4x4096x4x128) : FVec Ideal S1x4x4096x4x128 .f32) = KS a0 a1 a2 := by
  funext p
  obtain ⟨z, b, s, h, l, rfl⟩ : ∃ (z : Fin 1) (b : Fin 4) (s : Fin 4096) (h : Fin 4) (l : Fin 128), p = ix5 z b s h l := ⟨p 0, p 1, p 2, p 3, p 4, eq_ix5 p⟩
  obtain rfl : z = 0 := Subsingleton.elim _ _
  exact (lead_apply b s h _ l).trans (part_ZR a0 a1 a2 _ 2568 (by omega) (part90 (RZ a0 a1 a2)) b s h l)

/-- Its values. -/
theorem res91 : (broadcastInDim S1x4x4096x4x128 ![1, 2, 3, 4] bcast_S4x4096x4x128_S1x4x4096x4x128_1_2_3_4 (shapeCast S4x4096x4x128 (extractStridedSlice S4x4096x512 ![0, 0, 1024] (extractStridedSlice S4x4096x1536 ![0, 0, 2056] (RZ a0 a1 a2) slices_S4x4096x3592_S4x4096x1536_0_0_2056) slices_S4x4096x1536_S4x4096x512_0_0_1024) shapeCasts_S4x4096x512_S4x4096x4x128) : FVec Ideal S1x4x4096x4x128 .f32) = VS a0 a1 a2 := by
  funext p
  obtain ⟨z, b, s, h, l, rfl⟩ : ∃ (z : Fin 1) (b : Fin 4) (s : Fin 4096) (h : Fin 4) (l : Fin 128), p = ix5 z b s h l := ⟨p 0, p 1, p 2, p 3, p 4, eq_ix5 p⟩
  obtain rfl : z = 0 := Subsingleton.elim _ _
  exact (lead_apply b s h _ l).trans ((heads_apply _ b s h l).trans (part_ZH a0 a1 a2 _ 3080 (by omega) (part91 (RZ a0 a1 a2)) b s h l))

end

end Cert.InProjRefIdeal.Val

end
-- ==== Proof.InProjOut.lean ====
module

public import proofs.«01_k».proof.Proof.Gen.InProjIdeal.Run
public import proofs.«01_k».proof.Proof.InProjArr
public import proofs.«01_k».proof.Proof.InProjRef

/-! The kernel's input projection, result by result, is the reference's. -/

@[expose] public section

set_option maxRecDepth 16384

noncomputable section

namespace Cert.InProjIdeal.Val

open Cert.InProjIdeal Cert.InProjIdeal.Gen
open Idealize.ShloMosaic Idealize.ShloMosaic.TcCoe Idealize.SL.Sem

open Cert.RowSpec Cert.InProjSpec

/-- The two programs' angles are the same. -/
theorem ANG_eq : ANG = Cert.InProjRefIdeal.Val.AN := rfl

/-- Rows of 512 read as heads of 128. -/
theorem heads_out (X : FVec Ideal S16384x512 .bf16) (b : Fin 4) (s : Fin 4096) (h : Fin 4) (l : Fin 128) :
    shapeCast S4x4096x4x128 X shapeCasts_S16384x512_S4x4096x4x128 (ix4 b s h l) = X (ix2 ⟨4096 * b.val + s.val, by omega⟩ ⟨128 * h.val + l.val, by omega⟩) := by
  pointwise
  try simp only [Nat.mul_comm 4096, Nat.mul_comm 128]

/-- Rows of heads read by sequence and position. -/
theorem rows_out (X : FVec Ideal S16384x4x128 .f32) (b : Fin 4) (s : Fin 4096) (h : Fin 4) (l : Fin 128) :
    shapeCast S4x4096x4x128 X shapeCasts_S16384x4x128_S4x4096x4x128 (ix4 b s h l) = X (ix3 ⟨4096 * b.val + s.val, by omega⟩ h l) := by
  pointwise
  try simp only [Nat.mul_comm 4096]

/-- A leading axis of length one. -/
theorem lead_out (Y : FVec Ideal S4x4096x4x128 .f32) (b : Fin 4) (s : Fin 4096) (h : Fin 4) (l : Fin 128) : broadcastInDim S1x4x4096x4x128 ![1, 2, 3, 4] bcast_S4x4096x4x128_S1x4x4096x4x128_1_2_3_4 Y (ix5 0 b s h l) = Y (ix4 b s h l) := by
  pointwise

/-- The sequence of a row. -/
theorem SQR_row (b : Fin 4) (s : Fin 4096) : SQR ⟨4096 * b.val + s.val, by omega⟩ = b := Fin.ext (by show (4096 * b.val + s.val) / 4096 = b.val; omega)
/-- The position of a row. -/
theorem POR_row (b : Fin 4) (s : Fin 4096) : POR ⟨4096 * b.val + s.val, by omega⟩ = s := Fin.ext (by show (4096 * b.val + s.val) % 4096 = s.val; omega)
/-- The head of a column. -/
theorem HD_col (h : Fin 4) (l : Fin 128) : HD ⟨128 * h.val + l.val, by omega⟩ = h := Fin.ext (by show (128 * h.val + l.val) / 128 = h.val; omega)
/-- The place of a column. -/
theorem LN_col (h : Fin 4) (l : Fin 128) : LN ⟨128 * h.val + l.val, by omega⟩ = l := Fin.ext (by show (128 * h.val + l.val) % 128 = l.val; omega)

/-- A result read head by head off an array of rows of 512. -/
theorem spread (f : Fin 4 → Fin 4096 → Fin 4 → Fin 128 → EReal) (b : Fin 4) (s : Fin 4096) (h : Fin 4) (l : Fin 128) :
    shapeCast S4x4096x4x128 (fun p : S16384x512.Idx => f (SQR (p 0)) (POR (p 0)) (HD (p 1)) (LN (p 1)) : FVec Ideal S16384x512 .bf16) shapeCasts_S16384x512_S4x4096x4x128 (ix4 b s h l) = f b s h l := by
  rw [heads_out]
  show f (SQR ⟨4096 * b.val + s.val, _⟩) (POR ⟨4096 * b.val + s.val, _⟩) (HD ⟨128 * h.val + l.val, _⟩) (LN ⟨128 * h.val + l.val, _⟩) = f b s h l
  rw [SQR_row, POR_row, HD_col, LN_col]

/-- The same off an array of rows of heads. -/
theorem spread3 (f : Fin 4 → Fin 4096 → Fin 4 → Fin 128 → EReal) (b : Fin 4) (s : Fin 4096) (h : Fin 4) (l : Fin 128) :
    broadcastInDim S1x4x4096x4x128 ![1, 2, 3, 4] bcast_S4x4096x4x128_S1x4x4096x4x128_1_2_3_4 (shapeCast S4x4096x4x128 (fun p : S16384x4x128.Idx => f (SQR (p 0)) (POR (p 0)) (p 1) (p 2) : FVec Ideal S16384x4x128 .f32) shapeCasts_S16384x4x128_S4x4096x4x128) (ix5 0 b s h l) = f b s h l := by
  rw [lead_out, rows_out]
  show f (SQR ⟨4096 * b.val + s.val, _⟩) (POR ⟨4096 * b.val + s.val, _⟩) h l = f b s h l
  rw [SQR_row, POR_row]

variable (m : (ℓ : Loc nD τ sig) → Buf (Elt Ideal) ℓ) (c : Dev nD)

/-- The kernel's first result is the reference's. -/
theorem out0_eq : shapeCast S4x4096x4x128 (Cert.InProjIdeal.Value.reg_main_v38_0 (F := Ideal) m c) shapeCasts_S16384x512_S4x4096x4x128 = Cert.InProjRefIdeal.Val.HS (m ((c : Thread nD τ).loc main_arg0)) (m ((c : Thread nD τ).loc main_arg1)) (m ((c : Thread nD τ).loc main_arg2)) 0 (by omega) := by
  have e : Cert.InProjIdeal.Value.reg_main_v38_0 (F := Ideal) m c = _ := arr9 m c
  rw [e]
  funext p
  obtain ⟨b, s, h, l, rfl⟩ : ∃ (b : Fin 4) (s : Fin 4096) (h : Fin 4) (l : Fin 128), p = ix4 b s h l := ⟨p 0, p 1, p 2, p 3, eq_ix4 p⟩
  exact spread (ZH (m ((c : Thread nD τ).loc main_arg0)) (m ((c : Thread nD τ).loc main_arg1)) (m ((c : Thread nD τ).loc main_arg2)) 0 (by omega)) b s h l

/-- The second. -/
theorem out1_eq : shapeCast S4x4096x4x128 (Cert.InProjIdeal.Value.reg_main_v38_1 (F := Ideal) m c) shapeCasts_S16384x512_S4x4096x4x128 = Cert.InProjRefIdeal.Val.HS (m ((c : Thread nD τ).loc main_arg0)) (m ((c : Thread nD τ).loc main_arg1)) (m ((c : Thread nD τ).loc main_arg2)) 512 (by omega) := by
  have e : Cert.InProjIdeal.Value.reg_main_v38_1 (F := Ideal) m c = _ := arr10 m c
  rw [e]
  funext p
  obtain ⟨b, s, h, l, rfl⟩ : ∃ (b : Fin 4) (s : Fin 4096) (h : Fin 4) (l : Fin 128), p = ix4 b s h l := ⟨p 0, p 1, p 2, p 3, eq_ix4 p⟩
  exact spread (ZH (m ((c : Thread nD τ).loc main_arg0)) (m ((c : Thread nD τ).loc main_arg1)) (m ((c : Thread nD τ).loc main_arg2)) 512 (by omega)) b s h l

/-- The third. -/
theorem out2_eq : shapeCast S4x4096x4x128 (Cert.InProjIdeal.Value.reg_main_v38_2 (F := Ideal) m c) shapeCasts_S16384x512_S4x4096x4x128 = Cert.InProjRefIdeal.Val.HS (m ((c : Thread nD τ).loc main_arg0)) (m ((c : Thread nD τ).loc main_arg1)) (m ((c : Thread nD τ).loc main_arg2)) 1024 (by omega) := by
  have e : Cert.InProjIdeal.Value.reg_main_v38_2 (F := Ideal) m c = _ := arr11 m c
  rw [e]
  funext p
  obtain ⟨b, s, h, l, rfl⟩ : ∃ (b : Fin 4) (s : Fin 4096) (h : Fin 4) (l : Fin 128), p = ix4 b s h l := ⟨p 0, p 1, p 2, p 3, eq_ix4 p⟩
  exact spread (ZH (m ((c : Thread nD τ).loc main_arg0)) (m ((c : Thread nD τ).loc main_arg1)) (m ((c : Thread nD τ).loc main_arg2)) 1024 (by omega)) b s h l

/-- The fourth. -/
theorem out3_eq : shapeCast S4x4096x4x128 (Cert.InProjIdeal.Value.reg_main_v38_3 (F := Ideal) m c) shapeCasts_S16384x512_S4x4096x4x128 = Cert.InProjRefIdeal.Val.HS (m ((c : Thread nD τ).loc main_arg0)) (m ((c : Thread nD τ).loc main_arg1)) (m ((c : Thread nD τ).loc main_arg2)) 1536 (by omega) := by
  have e : Cert.InProjIdeal.Value.reg_main_v38_3 (F := Ideal) m c = _ := arr12 m c
  rw [e]
  funext p
  obtain ⟨b, s, h, l, rfl⟩ : ∃ (b : Fin 4) (s : Fin 4096) (h : Fin 4) (l : Fin 128), p = ix4 b s h l := ⟨p 0, p 1, p 2, p 3, eq_ix4 p⟩
  exact spread (ZH (m ((c : Thread nD τ).loc main_arg0)) (m ((c : Thread nD τ).loc main_arg1)) (m ((c : Thread nD τ).loc main_arg2)) 1536 (by omega)) b s h l

/-- The scaled queries. -/
theorem out6_eq : shapeCast S4x4096x4x128 (Cert.InProjIdeal.Value.reg_main_v38_6 (F := Ideal) m c) shapeCasts_S16384x512_S4x4096x4x128 = Cert.InProjRefIdeal.Val.QS (m ((c : Thread nD τ).loc main_arg0)) (m ((c : Thread nD τ).loc main_arg1)) (m ((c : Thread nD τ).loc main_arg2)) := by
  have e : Cert.InProjIdeal.Value.reg_main_v38_6 (F := Ideal) m c = _ := arr15 m c
  rw [e]
  funext p
  obtain ⟨b, s, h, l, rfl⟩ : ∃ (b : Fin 4) (s : Fin 4096) (h : Fin 4) (l : Fin 128), p = ix4 b s h l := ⟨p 0, p 1, p 2, p 3, eq_ix4 p⟩
  exact spread (DQ m c) b s h l

/-- The rotated keys. -/
theorem out7_eq : broadcastInDim S1x4x4096x4x128 ![1, 2, 3, 4] bcast_S4x4096x4x128_S1x4x4096x4x128_1_2_3_4 (shapeCast S4x4096x4x128 (Cert.InProjIdeal.Value.reg_main_v38_7 (F := Ideal) m c) shapeCasts_S16384x4x128_S4x4096x4x128) = Cert.InProjRefIdeal.Val.KS (m ((c : Thread nD τ).loc main_arg0)) (m ((c : Thread nD τ).loc main_arg1)) (m ((c : Thread nD τ).loc main_arg2)) := by
  have e : Cert.InProjIdeal.Value.reg_main_v38_7 (F := Ideal) m c = _ := arr16 m c
  rw [e]
  funext p
  obtain ⟨z, b, s, h, l, rfl⟩ : ∃ (z : Fin 1) (b : Fin 4) (s : Fin 4096) (h : Fin 4) (l : Fin 128), p = ix5 z b s h l := ⟨p 0, p 1, p 2, p 3, p 4, eq_ix5 p⟩
  obtain rfl : z = 0 := Subsingleton.elim _ _
  exact spread3 (ZR (m ((c : Thread nD τ).loc main_arg0)) (m ((c : Thread nD τ).loc main_arg1)) (m ((c : Thread nD τ).loc main_arg2)) (Host.cos ANG) (Host.sin ANG) 2568 (by omega)) b s h l

/-- The values. -/
theorem out8_eq : broadcastInDim S1x4x4096x4x128 ![1, 2, 3, 4] bcast_S4x4096x4x128_S1x4x4096x4x128_1_2_3_4 (shapeCast S4x4096x4x128 (Cert.InProjIdeal.Value.reg_main_v38_8 (F := Ideal) m c) shapeCasts_S16384x4x128_S4x4096x4x128) = Cert.InProjRefIdeal.Val.VS (m ((c : Thread nD τ).loc main_arg0)) (m ((c : Thread nD τ).loc main_arg1)) (m ((c : Thread nD τ).loc main_arg2)) := by
  have e : Cert.InProjIdeal.Value.reg_main_v38_8 (F := Ideal) m c = _ := arr17 m c
  rw [e]
  funext p
  obtain ⟨z, b, s, h, l, rfl⟩ : ∃ (z : Fin 1) (b : Fin 4) (s : Fin 4096) (h : Fin 4) (l : Fin 128), p = ix5 z b s h l := ⟨p 0, p 1, p 2, p 3, p 4, eq_ix5 p⟩
  obtain rfl : z = 0 := Subsingleton.elim _ _
  exact spread3 (ZH (m ((c : Thread nD τ).loc main_arg0)) (m ((c : Thread nD τ).loc main_arg1)) (m ((c : Thread nD τ).loc main_arg2)) 3080 (by omega)) b s h l

end Cert.InProjIdeal.Val

end
-- ==== Proof.lean ====
module

public import proofs.«01_k».proof.Defs
public import proofs.«01_k».proof.Proof.Gen.Attn
public import proofs.«01_k».proof.Proof.WordFrame
public import proofs.«01_k».proof.Proof.Gen.AttnIdeal
public import proofs.«01_k».proof.Proof.AttnBlocks
public import proofs.«01_k».proof.Proof.Gen.AttnRefIdeal
public import proofs.«01_k».proof.Proof.Gen.AttnRefIdeal.Run
public import proofs.«01_k».proof.Proof.Gen.AttnIdeal.Points
public import proofs.«01_k».proof.Proof.AttnFinal
public import proofs.«01_k».proof.Proof.AttnRefVal
public import proofs.«01_k».proof.Proof.AttnPre
public import proofs.«01_k».proof.Proof.Gen.Ffn
public import proofs.«01_k».proof.Proof.Gen.FfnIdeal
public import proofs.«01_k».proof.Proof.Gen.FfnRefIdeal
public import proofs.«01_k».proof.Proof.Gen.Ffn.Run
public import proofs.«01_k».proof.Proof.Gen.FfnIdeal.Run
public import proofs.«01_k».proof.Proof.Gen.FfnRefIdeal.Run
public import proofs.«01_k».proof.Proof.FfnOut
public import proofs.«01_k».proof.Proof.FfnRef
public import proofs.«01_k».proof.Proof.Gen.Mkv
public import proofs.«01_k».proof.Proof.Gen.Mkv.Run
public import proofs.«01_k».proof.Proof.Gen.MkvIdeal
public import proofs.«01_k».proof.Proof.Gen.MkvIdeal.Run
public import proofs.«01_k».proof.Proof.Gen.MkvRefIdeal
public import proofs.«01_k».proof.Proof.Gen.MkvRefIdeal.Run
public import proofs.«01_k».proof.Proof.Gen.InProj
public import proofs.«01_k».proof.Proof.Gen.InProj.Run
public import proofs.«01_k».proof.Proof.Gen.InProjIdeal
public import proofs.«01_k».proof.Proof.Gen.InProjIdeal.Run
public import proofs.«01_k».proof.Proof.Gen.InProjRefIdeal
public import proofs.«01_k».proof.Proof.Gen.InProjRefIdeal.Run
public import proofs.«01_k».proof.Proof.MkvRef
public import proofs.«01_k».proof.Proof.InProjOut
public import Idealize.ShloMosaic.Adequacy
public import Idealize.ShloMosaic.Init

@[expose] public section

noncomputable section

namespace Cert.Proof

open Idealize.ShloMosaic Idealize.SL.Sem Cert.Attn

/-- The kernel runs, leaves its arguments as they were, and ends with every counter at zero. -/
theorem frame_p : Cert.quiescent_Attn := fun m ρ _ => Cert.Attn.Gen.frame m ρ

/-- The same of the kernel over the extended reals. -/
theorem frame_pi : Cert.quiescent_AttnIdeal := fun m ρ _ => Cert.AttnIdeal.Gen.frame m ρ

/-- The same of the reference over the extended reals: it has no counter. -/
theorem frame_ri : Cert.quiescent_AttnRefIdeal := fun m ρ _ =>
  (θ_run Cert.AttnRefIdeal.defs _ _).mono (fun r h => ⟨fun c => (h c).2,
      Idealize.ShloMosaic.sem_eq_zero_of_no_sems (by decide) r.2⟩)
    (Cert.AttnRefIdeal.Value.run (F := Ideal) m ρ)

/-- The stand-in for −∞ in the mask and in the first row maximum is named −∞. -/
theorem preserves : Cert.preserves_Attn_AttnIdeal :=
  IdealRules.named_const.statement Cert.AttnIdeal.κ "neg" .f32 0xF149F2CA#32 ⊥ rfl

/-- The arguments the precondition lets through are real numbers, and λ comes out real. -/
theorem args [Cert.Pre_finite.Facts] (m : (ℓ : Loc Cert.AttnIdeal.nD Cert.AttnIdeal.τ Cert.AttnIdeal.sig) → Buf (Elt Ideal) ℓ) (h : Cert.Pre_AttnIdeal_finite m)
    (c : Dev Cert.AttnIdeal.nD) : ∃ q k v lam g, Cert.AttnIdeal.Val.Args m c q k v lam g := by
  obtain ⟨h0, h1, h2, h3⟩ := Cert.Pre_finite.real_of_fn _ _ _ _ _ (h c)
  obtain ⟨lam, hl⟩ := Cert.AttnIdeal.Val.lamV_real
    (fun r j => m ((c.tc : Thread Cert.AttnIdeal.nD Cert.AttnIdeal.τ).loc Cert.AttnIdeal.main_arg3) (ix3 0 r j)) _ (fun r j => h3 (ix3 0 r j))
  exact ⟨_, _, _, lam, _, ⟨fun b t h d => h0 (ix4 b t h d), fun b t h d => h1 (ix4 b t h d), fun b t h d => h2 (ix4 b t h d), hl, fun h d => rfl⟩⟩

/-- Over finite queries, keys, values and rows of λ the kernel over the extended reals ends with the reference's result. -/
theorem algebraic [Cert.Pre_finite.Facts] : Cert.algebraic_AttnIdeal_AttnRefIdeal_pre_finite := by
  intro m ρ m' ρ' hpre hargs
  refine ⟨fun c => (Cert.AttnIdeal.Gen.dats m 0 c).arrAt 5 Cert.AttnIdeal.cfg0.N, ?_, ?_⟩
  · exact Cert.AttnIdeal.Value.run_blocks m ρ
  · refine (θ_run Cert.AttnRefIdeal.defs _ _).mono (fun r h c => ⟨(h c).1.trans ?_, (h c).2⟩) (Cert.AttnRefIdeal.Value.run (F := Ideal) m' ρ')
    obtain ⟨q, k, v, lam, g, A⟩ := args m hpre c
    obtain ⟨e0, e1, e2, e3, e4⟩ := hargs c
    exact (Cert.AttnRefIdeal.Val.res_eq m' c).trans ((Cert.AttnRefIdeal.Val.ref_eq A _ _ _ _ _ e0 e1 e2 e3 e4).trans (Cert.AttnIdeal.Val.final_eq A).symm)

/-- The feed-forward kernel runs, leaves its arguments as they were, and ends with every counter at zero. -/
theorem frame_p2 : Cert.quiescent_Ffn := fun m ρ _ => Cert.Ffn.Gen.frame m ρ

/-- The same of the feed-forward kernel over the extended reals. -/
theorem frame_pi2 : Cert.quiescent_FfnIdeal := fun m ρ _ => Cert.FfnIdeal.Gen.frame m ρ

/-- The same of the feed-forward's reference over the extended reals: it has no counter. -/
theorem frame_ri2 : Cert.quiescent_FfnRefIdeal := fun m ρ _ =>
  (θ_run Cert.FfnRefIdeal.defs _ _).mono (fun r h => ⟨fun c => (h c).2.2,
      Idealize.ShloMosaic.sem_eq_zero_of_no_sems (by decide) r.2⟩)
    (Cert.FfnRefIdeal.Value.run (F := Ideal) m ρ)

/-- The layer's output of the feed-forward, a function of the arguments. -/
def y (m : (ℓ : Loc Cert.FfnIdeal.nD Cert.FfnIdeal.τ Cert.FfnIdeal.sig) → Buf (Elt Ideal) ℓ) (c : Dev Cert.FfnIdeal.nD) : FVec Ideal ⟨3, ![4, 4096, 1024]⟩ .f32 :=
  fun p => Cert.FfnSpec.RS (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (p 0) (p 1) (p 2)

/-- The rows the convolution keeps for later, a function of the arguments. -/
def pc (m : (ℓ : Loc Cert.FfnIdeal.nD Cert.FfnIdeal.τ Cert.FfnIdeal.sig) → Buf (Elt Ideal) ℓ) (c : Dev Cert.FfnIdeal.nD) : FVec Ideal ⟨4, ![1, 4, 2, 5504]⟩ .f32 :=
  fun p => Cert.FfnSpec.XT (m ((c.tc : Thread Cert.FfnIdeal.nD Cert.FfnIdeal.τ).loc Cert.FfnIdeal.main_arg0)) (m ((c.tc : Thread Cert.FfnIdeal.nD Cert.FfnIdeal.τ).loc Cert.FfnIdeal.main_arg2)) (p 1) ⟨4096 + (p 2).val, by have h : (p 2).val < 2 := (p 2).isLt; omega⟩ (p 3)

/-- Over any arguments the feed-forward kernel over the extended reals ends with the reference's two results. -/
theorem algebraic2 : Cert.algebraic_FfnIdeal_FfnRefIdeal := by
  intro m ρ m' ρ' _ hargs
  refine ⟨fun c => y m c, fun c => pc m c, ?_, ?_⟩
  · refine (θ_run Cert.FfnIdeal.defs _ _).mono (fun r h c => ⟨(h c).1.trans ?_, (h c).2.1.trans ?_, (h c).2.2⟩) (Cert.FfnIdeal.Value.run (F := Ideal) m ρ)
    · funext p
      obtain ⟨b, s, d, rfl⟩ : ∃ (b : Fin 4) (s : Fin 4096) (d : Fin 1024), p = ix3 b s d := ⟨p 0, p 1, p 2, eq_ix3 p⟩
      exact Cert.FfnIdeal.Val.out0 m c b s d
    · funext p
      obtain ⟨z, b, j, k, rfl⟩ : ∃ (z : Fin 1) (b : Fin 4) (j : Fin 2) (k : Fin 5504), p = ix4 z b j k := ⟨p 0, p 1, p 2, p 3, eq_ix4 p⟩
      obtain rfl : z = 0 := Subsingleton.elim _ _
      exact Cert.FfnIdeal.Val.out1 m c b j k
  · refine (θ_run Cert.FfnRefIdeal.defs _ _).mono (fun r h c => ⟨(h c).1.trans ?_, (h c).2.1.trans ?_, (h c).2.2⟩) (Cert.FfnRefIdeal.Value.run (F := Ideal) m' ρ')
    · obtain ⟨e0, e1, e2, e3, e4, e5, e6⟩ := hargs c
      funext p
      obtain ⟨b, s, d, rfl⟩ : ∃ (b : Fin 4) (s : Fin 4096) (d : Fin 1024), p = ix3 b s d := ⟨p 0, p 1, p 2, eq_ix3 p⟩
      refine (Cert.FfnRefIdeal.Val.res_apply m' c b s d).trans ?_
      rw [e0, e1, e2, e3, e4, e5, e6]
      rfl
    · obtain ⟨e0, e1, e2, e3, e4, e5, e6⟩ := hargs c
      funext p
      obtain ⟨z, b, j, k, rfl⟩ : ∃ (z : Fin 1) (b : Fin 4) (j : Fin 2) (k : Fin 5504), p = ix4 z b j k := ⟨p 0, p 1, p 2, p 3, eq_ix4 p⟩
      obtain rfl : z = 0 := Subsingleton.elim _ _
      refine (Cert.FfnRefIdeal.Val.FT_apply _ b j k).trans ((Cert.FfnRefIdeal.Val.FE_eq _ _ b _ k).trans ?_)
      rw [e0, e2]
      rfl

/-- The memory's kernel runs, leaves its arguments as they were, and ends with every counter at zero. -/
theorem frame_p3 : Cert.quiescent_Mkv := fun m ρ _ => Cert.Mkv.Gen.frame m ρ

/-- The same of it over the extended reals. -/
theorem frame_pi3 : Cert.quiescent_MkvIdeal := fun m ρ _ => Cert.MkvIdeal.Gen.frame m ρ

/-- The same of its reference over the extended reals: it has no counter. -/
theorem frame_ri3 : Cert.quiescent_MkvRefIdeal := fun m ρ _ =>
  (θ_run Cert.MkvRefIdeal.defs _ _).mono (fun r h => ⟨fun c => (h c).2.2,
      Idealize.ShloMosaic.sem_eq_zero_of_no_sems (by decide) r.2⟩)
    (Cert.MkvRefIdeal.Value.run (F := Ideal) m ρ)

/-- Over any arguments the memory's kernel over the extended reals ends with the reference's two results. -/
theorem algebraic3 : Cert.algebraic_MkvIdeal_MkvRefIdeal := by
  intro m ρ m' ρ' _ hargs
  refine ⟨fun c => Cert.MkvRefIdeal.Val.RP (m ((c.tc : Thread Cert.MkvIdeal.nD Cert.MkvIdeal.τ).loc Cert.MkvIdeal.main_arg0)) (m ((c.tc : Thread Cert.MkvIdeal.nD Cert.MkvIdeal.τ).loc Cert.MkvIdeal.main_arg1)) (m ((c.tc : Thread Cert.MkvIdeal.nD Cert.MkvIdeal.τ).loc Cert.MkvIdeal.main_arg2)),
    fun c => Cert.MkvRefIdeal.Val.RP (m ((c.tc : Thread Cert.MkvIdeal.nD Cert.MkvIdeal.τ).loc Cert.MkvIdeal.main_arg0)) (m ((c.tc : Thread Cert.MkvIdeal.nD Cert.MkvIdeal.τ).loc Cert.MkvIdeal.main_arg1)) (m ((c.tc : Thread Cert.MkvIdeal.nD Cert.MkvIdeal.τ).loc Cert.MkvIdeal.main_arg3)), ?_, ?_⟩
  · exact (θ_run Cert.MkvIdeal.defs _ _).mono (fun r h c => ⟨(h c).1.trans (Cert.MkvRefIdeal.Val.outs_eq m c).1, (h c).2.1.trans (Cert.MkvRefIdeal.Val.outs_eq m c).2, (h c).2.2⟩) (Cert.MkvIdeal.Value.run (F := Ideal) m ρ)
  · refine (θ_run Cert.MkvRefIdeal.defs _ _).mono (fun r h c => ⟨(h c).1.trans ?_, (h c).2.1.trans ?_, (h c).2.2⟩) (Cert.MkvRefIdeal.Value.run (F := Ideal) m' ρ')
    all_goals
      obtain ⟨e0, e1, e2, e3⟩ := hargs c
      try rw [e0, e1, e2]
      try rw [e0, e1, e3]
      rfl

/-- The input projection's kernel runs, leaves its arguments as they were, and ends with every counter at zero. -/
theorem frame_p4 : Cert.quiescent_InProj := fun m ρ _ => Cert.InProj.Gen.frame m ρ

/-- The same of it over the extended reals. -/
theorem frame_pi4 : Cert.quiescent_InProjIdeal := fun m ρ _ => Cert.InProjIdeal.Gen.frame m ρ

/-- The same of its reference over the extended reals: it has no counter. -/
theorem frame_ri4 : Cert.quiescent_InProjRefIdeal := fun m ρ _ =>
  (θ_run Cert.InProjRefIdeal.defs _ _).mono (fun r h => ⟨fun c => (h c).2.2.2.2.2.2.2,
      Idealize.ShloMosaic.sem_eq_zero_of_no_sems (by decide) r.2⟩)
    (Cert.InProjRefIdeal.Value.run (F := Ideal) m ρ)

/-- Over any arguments the input projection over the extended reals ends with the reference's seven results. -/
theorem algebraic4 : Cert.algebraic_InProjIdeal_InProjRefIdeal := by
  intro m ρ m' ρ' _ hargs
  refine ⟨fun c => Cert.InProjRefIdeal.Val.HS (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) 0 (by omega),
    fun c => Cert.InProjRefIdeal.Val.HS (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) 512 (by omega),
    fun c => Cert.InProjRefIdeal.Val.HS (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) 1024 (by omega),
    fun c => Cert.InProjRefIdeal.Val.HS (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) 1536 (by omega),
    fun c => Cert.InProjRefIdeal.Val.QS (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)),
    fun c => Cert.InProjRefIdeal.Val.KS (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)),
    fun c => Cert.InProjRefIdeal.Val.VS (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)), ?_, ?_⟩
  · exact (θ_run Cert.InProjIdeal.defs _ _).mono (fun r h c => ⟨(h c).1.trans (Cert.InProjIdeal.Val.out0_eq m c), (h c).2.1.trans (Cert.InProjIdeal.Val.out1_eq m c), (h c).2.2.1.trans (Cert.InProjIdeal.Val.out2_eq m c), (h c).2.2.2.1.trans (Cert.InProjIdeal.Val.out3_eq m c), (h c).2.2.2.2.1.trans (Cert.InProjIdeal.Val.out6_eq m c), (h c).2.2.2.2.2.1.trans (Cert.InProjIdeal.Val.out7_eq m c), (h c).2.2.2.2.2.2.1.trans (Cert.InProjIdeal.Val.out8_eq m c), (h c).2.2.2.2.2.2.2⟩) (Cert.InProjIdeal.Value.run (F := Ideal) m ρ)
  · refine (θ_run Cert.InProjRefIdeal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩) (Cert.InProjRefIdeal.Value.run (F := Ideal) m' ρ')
    · obtain ⟨e0, e1, e2, e3⟩ := hargs c
      refine Eq.trans (Cert.InProjRefIdeal.Val.res85 _ _ _) ?_
      rw [e0, e1, e2]
    · obtain ⟨e0, e1, e2, e3⟩ := hargs c
      refine Eq.trans (Cert.InProjRefIdeal.Val.res86 _ _ _) ?_
      rw [e0, e1, e2]
    · obtain ⟨e0, e1, e2, e3⟩ := hargs c
      refine Eq.trans (Cert.InProjRefIdeal.Val.res87 _ _ _) ?_
      rw [e0, e1, e2]
    · obtain ⟨e0, e1, e2, e3⟩ := hargs c
      refine Eq.trans (Cert.InProjRefIdeal.Val.res88 _ _ _) ?_
      rw [e0, e1, e2]
    · obtain ⟨e0, e1, e2, e3⟩ := hargs c
      refine Eq.trans (Cert.InProjRefIdeal.Val.res89 _ _ _) ?_
      rw [e0, e1, e2]
    · obtain ⟨e0, e1, e2, e3⟩ := hargs c
      refine Eq.trans (Cert.InProjRefIdeal.Val.res90 _ _ _) ?_
      rw [e0, e1, e2]
    · obtain ⟨e0, e1, e2, e3⟩ := hargs c
      refine Eq.trans (Cert.InProjRefIdeal.Val.res91 _ _ _) ?_
      rw [e0, e1, e2]

/-- Everything claimed. -/
theorem claim : Cert.Claim :=
  ⟨Cert.Attn.Gen.facts, Cert.AttnIdeal.Gen.facts, Cert.AttnRefIdeal.Gen.facts, Cert.Ffn.Gen.facts, Cert.FfnIdeal.Gen.facts, Cert.FfnRefIdeal.Gen.facts, Cert.Mkv.Gen.facts, Cert.MkvIdeal.Gen.facts, Cert.MkvRefIdeal.Gen.facts, Cert.InProj.Gen.facts, Cert.InProjIdeal.Gen.facts, Cert.InProjRefIdeal.Gen.facts, Cert.Pre_finite.facts,
    frame_p, frame_pi, fun m ρ _ => frame_pi m ρ trivial, frame_ri, fun m ρ _ => frame_ri m ρ trivial, frame_p2, frame_pi2, frame_ri2, frame_p3, frame_pi3, frame_ri3, frame_p4, frame_pi4, frame_ri4, preserves,
    haveI := Cert.Pre_finite.facts; algebraic, trivial, algebraic2, trivial, algebraic3, trivial, algebraic4⟩

end Cert.Proof

end
